-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .f32) (main_arg1 : FVec F S512x256 .f32) (main_arg2 : FVec F S2x128x16x64 .f32) (main_arg3 : FVec F S2x128x16x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x16x64 .f32 := Host.absf main_arg2
  let main_cst_2 : FVec F S_ .f32 := constant S_ .f32 0x7F800000#32
  let main_v10 : FVec F S2x128x16x64 .f32 := broadcastInDim S2x128x16x64 ![] bcast_S_S2x128x16x64 main_cst_2
  let main_v11 : IVec S2x128x16x64 1 := cmpf .olt main_v9 main_v10
  let main_c_3 : IVec S_ 1 := constantI S_ 1 1#1
  let main_v12 : IVec S_ 1 := (fun x v => Host.reduce IntOp.andi x v reducesTo_S2x128x16x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x512x16x64 : S_.BroadcastsInDim S2x512x16x64 (![] : Fin 0 → Fin S2x512x16x64.rank)
  reducesTo_S2x512x16x64_S_d0_1_2_3 : S2x512x16x64.ReducesTo [0, 1, 2, 3] S_

variable [Facts]

def fn {F : FTy → Type} [FloatOps F] (main_arg0 : FVec F S2x128x512 .f32) (main_arg1 : FVec F S512x1024 .f32) (main_arg2 : FVec F S2x512x16x64 .f32) (main_arg3 : FVec F S2x512x16x64 .f32) (main_arg4 : FVec F S1024x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x512x16x64 .f32 := Host.absf main_arg2
  let main_cst_2 : FVec F S_ .f32 := constant S_ .f32 0x7F800000#32
  let main_v10 : FVec F S2x512x16x64 .f32 := broadcastInDim S2x512x16x64 ![] bcast_S_S2x512x16x64 main_cst_2
  let main_v11 : IVec S2x512x16x64 1 := cmpf .olt main_v9 main_v10
  let main_c_3 : IVec S_ 1 := constantI S_ 1 1#1
  let main_v12 : IVec S_ 1 := (fun x v => Host.reduce IntOp.andi x v reducesTo_S2x512x16x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S2x16x64x128 : Shape := ⟨4, ![2, 16, 64, 128]⟩
abbrev S3x2x2x2x64x128 : Shape := ⟨6, ![3, 2, 2, 2, 64, 128]⟩
abbrev S2x128x256 : Shape := ⟨3, ![2, 128, 256]⟩
abbrev S2x2x128x512 : Shape := ⟨4, ![2, 2, 128, 512]⟩
abbrev S3 : Shape := ⟨1, ![3]⟩
abbrev S12 : Shape := ⟨1, ![12]⟩
abbrev S2x2 : Shape := ⟨2, ![2, 2]⟩
abbrev S2 : Shape := ⟨1, ![2]⟩
abbrev S2x2x2 : Shape := ⟨3, ![2, 2, 2]⟩
abbrev S1 : Shape := ⟨1, ![1]⟩
abbrev S_ : Shape := ⟨0, ![]⟩
abbrev S1x1x2x2x64x128 : Shape := ⟨6, ![1, 1, 2, 2, 64, 128]⟩
abbrev S2x2x64x128 : Shape := ⟨4, ![2, 2, 64, 128]⟩
abbrev S1x1 : Shape := ⟨2, ![1, 1]⟩
abbrev S1x128x512 : Shape := ⟨3, ![1, 128, 512]⟩
abbrev S128x512 : Shape := ⟨2, ![128, 512]⟩
abbrev S128x256 : Shape := ⟨2, ![128, 256]⟩
abbrev S1x128x256 : Shape := ⟨3, ![1, 128, 256]⟩
abbrev S1x64x64 : Shape := ⟨3, ![1, 64, 64]⟩
abbrev S64x64 : Shape := ⟨2, ![64, 64]⟩
abbrev S1x1x1x1x64x64 : Shape := ⟨6, ![1, 1, 1, 1, 64, 64]⟩
abbrev S64 : Shape := ⟨1, ![64]⟩
abbrev S64x1 : Shape := ⟨2, ![64, 1]⟩
abbrev S1x64x256 : Shape := ⟨3, ![1, 64, 256]⟩
abbrev S64x256 : Shape := ⟨2, ![64, 256]⟩
abbrev S64x512 : Shape := ⟨2, ![64, 512]⟩
abbrev S1x64x512 : Shape := ⟨3, ![1, 64, 512]⟩
abbrev S1x1x64x512 : Shape := ⟨4, ![1, 1, 64, 512]⟩
abbrev S1x1x1 : Shape := ⟨3, ![1, 1, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x16x64, .f32⟩
  | .hbm, ⟨3, _⟩ => ⟨S2x128x16x64, .f32⟩
  | .hbm, ⟨4, _⟩ => ⟨S256x512, .f32⟩
  | .hbm, ⟨5, _⟩ => ⟨S2x16x64x128, .f32⟩
  | .hbm, ⟨6, _⟩ => ⟨S2x16x64x128, .bf16⟩
  | .hbm, ⟨7, _⟩ => ⟨S2x16x64x128, .f32⟩
  | .hbm, ⟨8, _⟩ => ⟨S2x16x64x128, .bf16⟩
  | .hbm, ⟨9, _⟩ => ⟨S2x128x512, .f32⟩
  | .local _ .vmem, ⟨0, _⟩ => ⟨S2x128x512, .f32⟩
  | .local _ .vmem, ⟨1, _⟩ => ⟨S2x128x512, .f32⟩
  | .local _ .vmem, ⟨2, _⟩ => ⟨S512x256, .f32⟩
  | .local _ .vmem, ⟨3, _⟩ => ⟨S256x512, .f32⟩
  | .local _ .vmem, ⟨4, _⟩ => ⟨S3x2x2x2x64x128, .bf16⟩
  | .local _ .vmem, ⟨5, _⟩ => ⟨S2x128x256, .bf16⟩
  | .local _ .vmem, ⟨6, _⟩ => ⟨S2x128x256, .f32⟩
  | .local _ .vmem, ⟨7, _⟩ => ⟨S2x2x128x512, .bf16⟩
  | .local _ .vmem, ⟨8, _⟩ => ⟨S2x2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1 : BitVec 32 := 0#32
  let v10 : BitVec 1 := Scalar.cmpi .ne v2 c0_i32_1
  let v11 : BitVec 32 := Scalar.extui v10
  let c0_i32_2 : BitVec 32 := 0#32
  let v12 : BitVec 1 := Scalar.cmpi .ne v11 c0_i32_2
  v12

def k0_dev1 : Nat :=
  let c0_i32_1075 : BitVec 32 := 0#32
  let c0_i32_1073 : BitVec 32 := 0#32
  let c1_i32_1074 : BitVec 32 := 1#32
  let v920 : BitVec 32 := Scalar.muli c0_i32_1073 c1_i32_1074
  let v921 : BitVec 32 := Scalar.addi c0_i32_1075 v920
  v921.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v16 : BitVec 1 := Scalar.cmpi .eq v2 c0_i32_5
  let v17 : BitVec 32 := Scalar.extui v16
  let c0_i32_6 : BitVec 32 := 0#32
  let v18 : BitVec 1 := Scalar.cmpi .ne v17 c0_i32_6
  v18

def k0_dev2 : Nat :=
  let c0_i32_1078 : BitVec 32 := 0#32
  let c1_i32_1076 : BitVec 32 := 1#32
  let c1_i32_1077 : BitVec 32 := 1#32
  let v920 : BitVec 32 := Scalar.muli c1_i32_1076 c1_i32_1077
  let v921 : BitVec 32 := Scalar.addi c0_i32_1078 v920
  v921.toNat
def k0_dev3 : Nat :=
  let c0_i32_1092 : BitVec 32 := 0#32
  let c3_i32_1090 : BitVec 32 := 3#32
  let c1_i32_1091 : BitVec 32 := 1#32
  let v929 : BitVec 32 := Scalar.muli c3_i32_1090 c1_i32_1091
  let v930 : BitVec 32 := Scalar.addi c0_i32_1092 v929
  v930.toNat
def k0_dev4 : Nat :=
  let c0_i32_1108 : BitVec 32 := 0#32
  let c1_i32_1106 : BitVec 32 := 1#32
  let c1_i32_1107 : BitVec 32 := 1#32
  let v938 : BitVec 32 := Scalar.muli c1_i32_1106 c1_i32_1107
  let v939 : BitVec 32 := Scalar.addi c0_i32_1108 v938
  v939.toNat
def k0_dev5 : Nat :=
  let c0_i32_1124 : BitVec 32 := 0#32
  let c1_i32_1122 : BitVec 32 := 1#32
  let c1_i32_1123 : BitVec 32 := 1#32
  let v947 : BitVec 32 := Scalar.muli c1_i32_1122 c1_i32_1123
  let v948 : BitVec 32 := Scalar.addi c0_i32_1124 v947
  v948.toNat
def k0_dev6 : Nat :=
  let c0_i32_1140 : BitVec 32 := 0#32
  let c3_i32_1138 : BitVec 32 := 3#32
  let c1_i32_1139 : BitVec 32 := 1#32
  let v956 : BitVec 32 := Scalar.muli c3_i32_1138 c1_i32_1139
  let v957 : BitVec 32 := Scalar.addi c0_i32_1140 v956
  v957.toNat
def k0_dev7 : Nat :=
  let c0_i32_1154 : BitVec 32 := 0#32
  let c3_i32_1152 : BitVec 32 := 3#32
  let c1_i32_1153 : BitVec 32 := 1#32
  let v965 : BitVec 32 := Scalar.muli c3_i32_1152 c1_i32_1153
  let v966 : BitVec 32 := Scalar.addi c0_i32_1154 v965
  v966.toNat
def k0_dev8 : Nat :=
  let c0_i32_1168 : BitVec 32 := 0#32
  let c1_i32_1166 : BitVec 32 := 1#32
  let c1_i32_1167 : BitVec 32 := 1#32
  let v974 : BitVec 32 := Scalar.muli c1_i32_1166 c1_i32_1167
  let v975 : BitVec 32 := Scalar.addi c0_i32_1168 v974
  v975.toNat
def k0_dev9 : Nat :=
  let c0_i32_1181 : BitVec 32 := 0#32
  let c3_i32_1179 : BitVec 32 := 3#32
  let c1_i32_1180 : BitVec 32 := 1#32
  let v983 : BitVec 32 := Scalar.muli c3_i32_1179 c1_i32_1180
  let v984 : BitVec 32 := Scalar.addi c0_i32_1181 v983
  v984.toNat
def k0_dev10 : Nat :=
  let c0_i32_1197 : BitVec 32 := 0#32
  let c1_i32_1195 : BitVec 32 := 1#32
  let c1_i32_1196 : BitVec 32 := 1#32
  let v992 : BitVec 32 := Scalar.muli c1_i32_1195 c1_i32_1196
  let v993 : BitVec 32 := Scalar.addi c0_i32_1197 v992
  v993.toNat
def k0_dev11 : Nat :=
  let c0_i32_1212 : BitVec 32 := 0#32
  let c1_i32_1210 : BitVec 32 := 1#32
  let c1_i32_1211 : BitVec 32 := 1#32
  let v1001 : BitVec 32 := Scalar.muli c1_i32_1210 c1_i32_1211
  let v1002 : BitVec 32 := Scalar.addi c0_i32_1212 v1001
  v1002.toNat
def k0_dev12 : Nat :=
  let c0_i32_1228 : BitVec 32 := 0#32
  let c3_i32_1226 : BitVec 32 := 3#32
  let c1_i32_1227 : BitVec 32 := 1#32
  let v1010 : BitVec 32 := Scalar.muli c3_i32_1226 c1_i32_1227
  let v1011 : BitVec 32 := Scalar.addi c0_i32_1228 v1010
  v1011.toNat
def k0_dev13 : Nat :=
  let c0_i32_1242 : BitVec 32 := 0#32
  let c3_i32_1240 : BitVec 32 := 3#32
  let c1_i32_1241 : BitVec 32 := 1#32
  let v1019 : BitVec 32 := Scalar.muli c3_i32_1240 c1_i32_1241
  let v1020 : BitVec 32 := Scalar.addi c0_i32_1242 v1019
  v1020.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_25 : BitVec 32 := 1#32
  let v41 : BitVec 1 := Scalar.cmpi .eq v2 c1_i32_25
  let v42 : BitVec 32 := Scalar.extui v41
  let c0_i32_26 : BitVec 32 := 0#32
  let v43 : BitVec 1 := Scalar.cmpi .ne v42 c0_i32_26
  v43

def k0_dev14 : Nat :=
  let c0_i32_1098 : BitVec 32 := 0#32
  let c2_i32_1096 : BitVec 32 := 2#32
  let c1_i32_1097 : BitVec 32 := 1#32
  let v928 : BitVec 32 := Scalar.muli c2_i32_1096 c1_i32_1097
  let v929 : BitVec 32 := Scalar.addi c0_i32_1098 v928
  v929.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_27 : BitVec 32 := 3#32
  let v44 : BitVec 1 := Scalar.cmpi .eq v2 c3_i32_27
  let v45 : BitVec 32 := Scalar.extui v44
  let c0_i32_28 : BitVec 32 := 0#32
  let v46 : BitVec 1 := Scalar.cmpi .ne v45 c0_i32_28
  v46

def k0_dev15 : Nat :=
  let c0_i32_1098 : BitVec 32 := 0#32
  let c2_i32_1096 : BitVec 32 := 2#32
  let c1_i32_1097 : BitVec 32 := 1#32
  let v928 : BitVec 32 := Scalar.muli c2_i32_1096 c1_i32_1097
  let v929 : BitVec 32 := Scalar.addi c0_i32_1098 v928
  v929.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_284 : BitVec 32 := 1#32
  let v313 : BitVec 1 := Scalar.cmpi .eq v2 c1_i32_284
  let v314 : BitVec 32 := Scalar.extui v313
  let c0_i32_285 : BitVec 32 := 0#32
  let v315 : BitVec 1 := Scalar.cmpi .ne v314 c0_i32_285
  v315

def k0_dev16 : Nat :=
  let c0_i32_1098 : BitVec 32 := 0#32
  let c2_i32_1096 : BitVec 32 := 2#32
  let c1_i32_1097 : BitVec 32 := 1#32
  let v928 : BitVec 32 := Scalar.muli c2_i32_1096 c1_i32_1097
  let v929 : BitVec 32 := Scalar.addi c0_i32_1098 v928
  v929.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_286 : BitVec 32 := 3#32
  let v316 : BitVec 1 := Scalar.cmpi .eq v2 c3_i32_286
  let v317 : BitVec 32 := Scalar.extui v316
  let c0_i32_287 : BitVec 32 := 0#32
  let v318 : BitVec 1 := Scalar.cmpi .ne v317 c0_i32_287
  v318

def k0_dev17 : Nat :=
  let c0_i32_1098 : BitVec 32 := 0#32
  let c2_i32_1096 : BitVec 32 := 2#32
  let c1_i32_1097 : BitVec 32 := 1#32
  let v928 : BitVec 32 := Scalar.muli c2_i32_1096 c1_i32_1097
  let v929 : BitVec 32 := Scalar.addi c0_i32_1098 v928
  v929.toNat
def k0_dev18 (d0 : Dev nD) : Nat :=
  let c0_i32_567 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v39 : BitVec 32 := Scalar.xori v2 c1_i32_24
  let c1_i32_566 : BitVec 32 := 1#32
  let v598 : BitVec 32 := Scalar.muli v39 c1_i32_566
  let v599 : BitVec 32 := Scalar.addi c0_i32_567 v598
  v599.toNat
def k0_dev19 (d0 : Dev nD) : Nat :=
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v39 : BitVec 32 := Scalar.xori v2 c1_i32_24
  let c1_i32_595 : BitVec 32 := 1#32
  let v619 : BitVec 32 := Scalar.muli v39 c1_i32_595
  let v620 : BitVec 32 := Scalar.addi c0_i32_596 v619
  v620.toNat
def k0_dev20 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v39 : BitVec 32 := Scalar.xori v2 c1_i32_24
  let c1_i32_624 : BitVec 32 := 1#32
  let v640 : BitVec 32 := Scalar.muli v39 c1_i32_624
  let v641 : BitVec 32 := Scalar.addi c0_i32_625 v640
  v641.toNat
def k0_dev21 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v39 : BitVec 32 := Scalar.xori v2 c1_i32_24
  let c1_i32_652 : BitVec 32 := 1#32
  let v661 : BitVec 32 := Scalar.muli v39 c1_i32_652
  let v662 : BitVec 32 := Scalar.addi c0_i32_653 v661
  v662.toNat
def k0_dev22 (d0 : Dev nD) : Nat :=
  let c0_i32_720 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v40 : BitVec 32 := Scalar.subi c3_i32 v2
  let c1_i32_719 : BitVec 32 := 1#32
  let v707 : BitVec 32 := Scalar.muli v40 c1_i32_719
  let v708 : BitVec 32 := Scalar.addi c0_i32_720 v707
  v708.toNat
def k0_dev23 (d0 : Dev nD) : Nat :=
  let c0_i32_781 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v40 : BitVec 32 := Scalar.subi c3_i32 v2
  let c1_i32_780 : BitVec 32 := 1#32
  let v744 : BitVec 32 := Scalar.muli v40 c1_i32_780
  let v745 : BitVec 32 := Scalar.addi c0_i32_781 v744
  v745.toNat
def k0_dev24 (d0 : Dev nD) : Nat :=
  let c0_i32_842 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v40 : BitVec 32 := Scalar.subi c3_i32 v2
  let c1_i32_841 : BitVec 32 := 1#32
  let v781 : BitVec 32 := Scalar.muli v40 c1_i32_841
  let v782 : BitVec 32 := Scalar.addi c0_i32_842 v781
  v782.toNat
def k0_dev25 (d0 : Dev nD) : Nat :=
  let c0_i32_903 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v40 : BitVec 32 := Scalar.subi c3_i32 v2
  let c1_i32_902 : BitVec 32 := 1#32
  let v818 : BitVec 32 := Scalar.muli v40 c1_i32_902
  let v819 : BitVec 32 := Scalar.addi c0_i32_903 v818
  v819.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S2x128x1024 : Shape := ⟨3, ![2, 128, 1024]⟩
abbrev S2x128x16x64 : Shape := ⟨4, ![2, 128, 16, 64]⟩
abbrev S128 : Shape := ⟨1, ![128]⟩
abbrev S_ : Shape := ⟨0, ![]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x16x128x512 : Shape := ⟨4, ![2, 16, 128, 512]⟩
abbrev S1x1x128x512 : Shape := ⟨4, ![1, 1, 128, 512]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x1024, .f32⟩
  | .hbm, ⟨2, _⟩ => ⟨S2x512x16x64, .f32⟩
  | .hbm, ⟨3, _⟩ => ⟨S2x512x16x64, .f32⟩
  | .hbm, ⟨4, _⟩ => ⟨S1024x512, .f32⟩
  | .hbm, ⟨5, _⟩ => ⟨S2x128x1024, .f32⟩
  | .hbm, ⟨6, _⟩ => ⟨S2x128x16x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S128x512, .i32⟩
  | .hbm, ⟨48, _⟩ => ⟨S128x512, .i32⟩
  | .hbm, ⟨49, _⟩ => ⟨S128x512, .i1⟩
  | .hbm, ⟨50, _⟩ => ⟨S2x16x128x512, .f32⟩
  | .hbm, ⟨51, _⟩ => ⟨S_, .f32⟩
  | .hbm, ⟨52, _⟩ => ⟨S2x16x128x512, .f32⟩
  | .hbm, ⟨53, _⟩ => ⟨S2x16x128x512, .f32⟩
  | .hbm, ⟨54, _⟩ => ⟨S1x1x128x512, .i1⟩
  | .hbm, ⟨55, _⟩ => ⟨S_, .f32⟩
  | .hbm, ⟨56, _⟩ => ⟨S_, .f32⟩
  | .hbm, ⟨57, _⟩ => ⟨S2x16x128x512, .i1⟩
  | .hbm, ⟨58, _⟩ => ⟨S2x16x128x512, .f32⟩
  | .hbm, ⟨59, _⟩ => ⟨S2x16x128x512, .f32⟩
  | .hbm, ⟨60, _⟩ => ⟨S_, .f32⟩
  | .hbm, ⟨61, _⟩ => ⟨S2x16x128, .f32⟩
  | .hbm, ⟨62, _⟩ => ⟨S2x16x128x1, .f32⟩
  | .hbm, ⟨63, _⟩ => ⟨S2x16x128x512, .f32⟩
  | .hbm, ⟨64, _⟩ => ⟨S2x16x128x512, .f32⟩
  | .hbm, ⟨65, _⟩ => ⟨S2x16x128x512, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S2x16x128, .f32⟩
  | .hbm, ⟨71, _⟩ => ⟨S2x16x128x1, .f32⟩
  | .hbm, ⟨72, _⟩ => ⟨S_, .f32⟩
  | .hbm, ⟨73, _⟩ => ⟨S_, .f32⟩
  | .hbm, ⟨74, _⟩ => ⟨S2x16x128x1, .i1⟩
  | .hbm, ⟨75, _⟩ => ⟨S2x16x128x1, .f32⟩
  | .hbm, ⟨76, _⟩ => ⟨S2x16x128x1, .f32⟩
  | .hbm, ⟨77, _⟩ => ⟨S2x16x128x512, .f32⟩
  | .hbm, ⟨78, _⟩ => ⟨S2x16x128x512, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S2x16x128x512, .i1⟩
  | .hbm, ⟨83, _⟩ => ⟨S2x16x128x512, .f32⟩
  | .hbm, ⟨84, _⟩ => ⟨S2x16x128x512, .f32⟩
  | .hbm, ⟨85, _⟩ => ⟨S2x16x64x128, .f32⟩
  | .hbm, ⟨86, _⟩ => ⟨S2x128x16x64, .f32⟩
  | .hbm, ⟨87, _⟩ => ⟨S2x128x1024, .f32⟩
  | .hbm, ⟨88, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdeal.Base.lean ====
/- The buffers of the region, their pieces, and what each piece holds once the protocol has filled it. -/
module

public import proofs.«01_k».proof.Proof.Gen.KernelIdeal.Frame
public import proofs.«01_k».proof.Proof.Gen.KernelIdeal.Skeleton
public import Idealize.ShloMosaic.Lib.Pipeline.RegionTalk
public import Idealize.ShloMosaic.Lib.Rounds
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The rounds of the kernel's own semaphores. -/
abbrev UB : Type := URounds (GSem nD τ sig) (Fin 4)
/-- Both. -/
abbrev UU : Type := UR sig nD τ × UB

local notation "𝕄" => MT nD τ sig Unit (Elt F) ℕ UU ℕ

/-- Where the launch keeps its own resource. -/
abbrev EP : Emb (UR sig nD τ) (MT nD τ sig Unit (Elt F) ℕ UU ℕ) := embL
/-- Where the rounds of the semaphores keep theirs. -/
abbrev ER : Emb UB (MT nD τ sig Unit (Elt F) ℕ UU ℕ) := embR

/-! ## The pieces of the buffers the copies move -/

/-- Slot `(j, c)` of the key and value buffer. -/
abbrev slotM (j c : ℕ) (h : ∀ a, (![j, c, 0, 0, 0, 0] : Fin 6 → ℕ) a + S1x1x2x2x64x128.size a ≤ S3x2x2x2x64x128.size a := by decide) :
    Memref sig .tc .vmem S2x2x64x128 .bf16 :=
  ((Memref.whole cc0_scratch3).slice (Rect.unit (s := S3x2x2x2x64x128) ![j, c, 0, 0, 0, 0] S1x1x2x2x64x128.size h) (fun _ => rfl)).squeeze
    S2x2x64x128 squeezes_S1x1x2x2x64x128_S2x2x64x128

/-- Heads `o, o + 1` of the transposed keys. -/
abbrev ktM (o : ℕ) (h : ∀ a, (![0, o, 0, 0] : Fin 4 → ℕ) a + S2x2x64x128.size a ≤ S2x16x64x128.size a := by decide) :
    Memref sig .tc .hbm S2x2x64x128 .bf16 :=
  (Memref.whole main_v2).slice (Rect.unit (s := S2x16x64x128) ![0, o, 0, 0] S2x2x64x128.size h) (fun _ => rfl)

/-- Heads `o, o + 1` of the transposed values. -/
abbrev vtM (o : ℕ) (h : ∀ a, (![0, o, 0, 0] : Fin 4 → ℕ) a + S2x2x64x128.size a ≤ S2x16x64x128.size a := by decide) :
    Memref sig .tc .hbm S2x2x64x128 .bf16 :=
  (Memref.whole main_v4).slice (Rect.unit (s := S2x16x64x128) ![0, o, 0, 0] S2x2x64x128.size h) (fun _ => rfl)

/-- Chunk `(st, b)` from row `r` of the receive buffer. -/
abbrev commM (st b r : ℕ) (h : ∀ a, (![st, b, r, 0] : Fin 4 → ℕ) a + S1x1x64x512.size a ≤ S2x2x128x512.size a := by decide) :
    Memref sig .tc .vmem S64x512 .bf16 :=
  ((Memref.whole cc0_scratch6).slice (Rect.unit (s := S2x2x128x512) ![st, b, r, 0] S1x1x64x512.size h) (fun _ => rfl)).squeeze
    S64x512 squeezes_S1x1x64x512_S64x512

/-- Chunk `(st, b)` from row `r` of the send buffer. -/
abbrev sendM (st b r : ℕ) (h : ∀ a, (![st, b, r, 0] : Fin 4 → ℕ) a + S1x1x64x512.size a ≤ S2x2x128x512.size a := by decide) :
    Memref sig .tc .vmem S64x512 .bf16 :=
  ((Memref.whole cc0_scratch7).slice (Rect.unit (s := S2x2x128x512) ![st, b, r, 0] S1x1x64x512.size h) (fun _ => rfl)).squeeze
    S64x512 squeezes_S1x1x64x512_S64x512

/-- A memref's own elements on device `d`, at `f`. -/
abbrev own {sp : Space} {s : Shape} {e : EltTy} (d : Dev nD) (M : Memref sig .tc sp s e) (f : Buf (Elt F) (M.view.loc (d : Thread nD τ))) : sProp 𝕄 :=
  M.view.loc (d : Thread nD τ) ↦[M.view.set]{fullShare} f

end Cert.KernelIdeal.Attn
end
-- ==== Proof.KernelIdeal.Vals.lean ====
/- What each buffer of the region holds once it has been filled, as a function of the arrays of all four devices. -/
module

public import proofs.«01_k».proof.Proof.KernelIdeal.Base

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

variable (m : (ℓ : Loc nD τ sig) → Buf (Elt F) ℓ)

/-- The partner of the first exchange. -/
def pa (d : Dev nD) : Dev nD := match d with | 0 => 1 | 1 => 0 | 2 => 3 | 3 => 2
/-- The partner of the second exchange. -/
def pb (d : Dev nD) : Dev nD := match d with | 0 => 3 | 1 => 2 | 2 => 1 | 3 => 0

/-- The first partner of the first partner. -/
theorem pa_pa (d : Dev nD) : pa (pa d) = d := by fin_cases d <;> rfl
/-- The second partner of the second partner. -/
theorem pb_pb (d : Dev nD) : pb (pb d) = d := by fin_cases d <;> rfl

/-- The arrays as the region finds them. -/
def Xa (d : Dev nD) : S2x128x512.Idx → Elt F .f32 := V m d main_arg0
/-- The query weights. -/
def Wqa (d : Dev nD) : S512x256.Idx → Elt F .f32 := V m d main_arg1
/-- The output weights. -/
def Woa (d : Dev nD) : S256x512.Idx → Elt F .f32 := V m d main_arg4
/-- The keys, heads first and transposed. -/
def KTa (d : Dev nD) : S2x16x64x128.Idx → Elt F .bf16 := V m d main_v2
/-- The values, heads first and transposed. -/
def VTa (d : Dev nD) : S2x16x64x128.Idx → Elt F .bf16 := V m d main_v4

/-- The key and value buffer of device `d`: device 0's heads for slots 0 and 1, the heads bound for device 2 for slot 2. -/
def KVb (d : Dev nD) : S3x2x2x2x64x128.Idx → Elt F .bf16 := fun i =>
  let hd : Fin 16 := ⟨((if (i 0).val = 2 then 8 else 4 * d.val) + 2 * (i 1).val + (i 3).val) % 16, Nat.mod_lt _ (by decide)⟩
  if (i 0).val = 0 ∨ ((i 0).val = 2 ∧ d.val = 1) then KTa m 0 (ix4 (i 2) hd (i 4) (i 5)) else VTa m 0 (ix4 (i 2) hd (i 4) (i 5))

/-- Batch row `b` of the input. -/
def xBlk (d : Dev nD) (b : Fin 2) : Vec F S1x128x512 .f32 := fun y => Xa m d (ix3 b (y 1) (y 2))
/-- The queries. -/
def Qb (d : Dev nD) : S2x128x256.Idx → Elt F .bf16 := fun i =>
  k0_pay3 (k0_pay2 (xBlk m d (i 0)) (Wqa m d)) (ix3 0 (i 1) (i 2))

/-- The queries of one head and one block of rows. -/
def qBlk (q : S2x128x256.Idx → Elt F .bf16) (b qb : Fin 2) (hh : Fin 4) : Vec F S1x64x64 .bf16 :=
  fun y => q (ix3 b ⟨64 * qb.val + (y 1).val, by have h : (y 1).val < 64 := (y 1).isLt; have := qb.isLt; omega⟩
    ⟨64 * hh.val + (y 2).val, by have h : (y 2).val < 64 := (y 2).isLt; have := hh.isLt; omega⟩)

/-- One head's keys or values, one block of 64 positions. -/
def kvBlk (f : S3x2x2x2x64x128.Idx → Elt F .bf16) (j : Fin 3) (c b h kb : Fin 2) : Vec F S1x1x1x1x64x64 .bf16 :=
  fun y => f (ix6 j c b h (y 4) ⟨64 * kb.val + (y 5).val, by have h : (y 5).val < 64 := (y 5).isLt; have := kb.isLt; omega⟩)

/-- Attention of one block of query rows against the first block of keys. -/
def attn1 (q : Vec F S1x64x64 .bf16) (k v : Vec F S1x1x1x1x64x64 .bf16) : FVec F S1x64x64 .f32 := k0_pay6 (k0_pay5 q) k v
/-- Attention of one block of query rows against both blocks of keys. -/
def attn2 (q : Vec F S1x64x64 .bf16) (k0 v0 k1 v1 : Vec F S1x1x1x1x64x64 .bf16) : FVec F S1x64x64 .f32 :=
  k0_pay10 (k0_pay7 q) (k0_pay8 v0) (k0_pay9 q k0) (Scalar.ofBits .f32 0x3E000000#32) k1 v1

/-- The attention of batch row `b`, block of rows `qb`, head `2 c + h`. -/
def attn (d : Dev nD) (b qb c h : Fin 2) : FVec F S1x64x64 .f32 :=
  let q := qBlk (Qb m d) b qb ⟨2 * c.val + h.val, by have := c.isLt; have := h.isLt; omega⟩
  if qb.val = 0 then attn1 q (kvBlk (KVb m d) 0 c b h 0) (kvBlk (KVb m d) 1 c b h 0)
  else attn2 q (kvBlk (KVb m d) 0 c b h 0) (kvBlk (KVb m d) 1 c b h 0) (kvBlk (KVb m d) 0 c b h 1) (kvBlk (KVb m d) 1 c b h 1)

/-- The attention of all heads of device `d`. -/
def Ctxb (d : Dev nD) : S2x128x256.Idx → Elt F .f32 := fun i =>
  attn m d (i 0) ⟨(i 1).val / 64 % 2, Nat.mod_lt _ (by decide)⟩ ⟨(i 2).val / 128 % 2, Nat.mod_lt _ (by decide)⟩ ⟨(i 2).val / 64 % 2, Nat.mod_lt _ (by decide)⟩
    (ix3 0 ⟨(i 1).val % 64, Nat.mod_lt _ (by decide)⟩ ⟨(i 2).val % 64, Nat.mod_lt _ (by decide)⟩)

/-- A block of 64 rows of a batch row of the attention. -/
def ctxRow (f : S2x128x256.Idx → Elt F .f32) (b qb : Fin 2) : Vec F S1x64x256 .f32 :=
  fun y => f (ix3 b ⟨64 * qb.val + (y 1).val, by have h : (y 1).val < 64 := (y 1).isLt; have := qb.isLt; omega⟩ (y 2))

/-- A block of 64 rows of a batch row of the output. -/
def outBlk (f : S2x128x512.Idx → Elt F .f32) (b qb : Fin 2) : Vec F S1x64x512 .f32 :=
  fun y => f (ix3 b ⟨64 * qb.val + (y 1).val, by have h : (y 1).val < 64 := (y 1).isLt; have := qb.isLt; omega⟩ (y 2))

/-- A function of the whole output from its blocks. -/
def outOf (p : Fin 2 → Fin 2 → FVec F S1x64x512 .f32) : S2x128x512.Idx → Elt F .f32 := fun i =>
  p (i 0) ⟨(i 1).val / 64 % 2, Nat.mod_lt _ (by decide)⟩ (ix3 0 ⟨(i 1).val % 64, Nat.mod_lt _ (by decide)⟩ (i 2))

/-- Device `d`'s partial product. -/
def Ob (d : Dev nD) : S2x128x512.Idx → Elt F .f32 := outOf fun b qb => k0_pay80 (ctxRow (Ctxb m d) b qb) (Woa m d)

/-- The chunks device `d` sends in the first exchange. -/
def SC0 (d : Dev nD) (b qb : Fin 2) : FVec F S1x1x64x512 .bf16 := k0_pay82 (k0_pay81 (ctxRow (Ctxb m d) b qb) (Woa m d))

/-- Device `d`'s sum after the first exchange. -/
def O1b (d : Dev nD) : S2x128x512.Idx → Elt F .f32 := outOf fun b qb => k0_pay93 (outBlk (Ob m d) b qb) (SC0 m (pa d) b qb)

/-- The chunks device `d` sends in the second exchange. -/
def SC1 (d : Dev nD) (b qb : Fin 2) : FVec F S1x1x64x512 .bf16 := k0_pay94 (outBlk (Ob m d) b qb) (SC0 m (pa d) b qb)

/-- Device `d`'s result. -/
def O2b (d : Dev nD) : S2x128x512.Idx → Elt F .f32 := outOf fun b qb => k0_pay104 (outBlk (O1b m d) b qb) (SC1 m (pb d) b qb)

/-- A function of a whole buffer of chunks from its chunks. -/
def chunksOf (p : Fin 2 → Fin 2 → Fin 2 → FVec F S1x1x64x512 .bf16) : S2x2x128x512.Idx → Elt F .bf16 := fun i =>
  p (i 0) (i 1) ⟨(i 2).val / 64 % 2, Nat.mod_lt _ (by decide)⟩ (ix4 0 0 ⟨(i 2).val % 64, Nat.mod_lt _ (by decide)⟩ (i 3))

/-- Device `d`'s send buffer. -/
def SBb (d : Dev nD) : S2x2x128x512.Idx → Elt F .bf16 := chunksOf fun st => if st.val = 0 then SC0 m d else SC1 m d
/-- Device `d`'s receive buffer. -/
def CMb (d : Dev nD) : S2x2x128x512.Idx → Elt F .bf16 := chunksOf fun st => if st.val = 0 then SC0 m (pa d) else SC1 m (pb d)

/-! ## What the copies carry -/

local notation "𝕄" => MT nD τ sig Unit (Elt F) ℕ UU ℕ

/-- Contents that agree on a memref's elements give the same piece. -/
theorem own_congr {sp : Space} {s : Shape} {e : EltTy} (d : Dev nD) (M : Memref sig .tc sp s e) (f g : Buf (Elt F) (M.view.loc (d : Thread nD τ)))
    (h : ∀ y, M.view.read (Elt F) f y = M.view.read (Elt F) g y) : (own d M f : sProp 𝕄) = own d M g := by
  refine pointsTo_congr fun i hi => ?_
  obtain ⟨x, -, rfl⟩ := Finset.mem_map.mp hi
  have h' := h x
  rw [View.read_apply, View.read_apply] at h'
  exact cast_bijective _ |>.1 h'

/-- A piece just written holds what was written. -/
theorem own_write {sp : Space} {s : Shape} {e : EltTy} (d : Dev nD) (M : Memref sig .tc sp s e) (f g : Buf (Elt F) (M.view.loc (d : Thread nD τ))) (w : s.Idx → Elt F e)
    (h : ∀ y, w y = M.view.read (Elt F) g y) : (own d M (M.view.write (Elt F) f w Finset.univ) : sProp 𝕄) = own d M g :=
  own_congr d M _ _ fun y => by rw [View.read_write_univ]; exact h y

/-- An index of a slot, with its two unit axes put back. -/
theorem reshapeSlot (h : S2x2x64x128.numel = S1x1x2x2x64x128.numel) (y : S2x2x64x128.Idx) :
    Shape.reshapeEquiv h y = (ix6 0 0 (y 0) (y 1) (y 2) (y 3) : S1x1x2x2x64x128.Idx) :=
  Shape.reshapeEquiv_eq_of_rowMajor h (by
    rw [Shape.rowMajor_val_six, Shape.rowMajor_val_four]
    show (((((0 * 1 + 0) * 2 + (y 0).val) * 2 + (y 1).val) * 64 + (y 2).val) * 128 + (y 3).val) = ((((y 0).val * 2 + (y 1).val) * 64 + (y 2).val) * 128 + (y 3).val)
    omega)

/-- An index of a chunk, with its two unit axes put back. -/
theorem reshapeChunk (h : S64x512.numel = S1x1x64x512.numel) (y : S64x512.Idx) :
    Shape.reshapeEquiv h y = (ix4 0 0 (y 0) (y 1) : S1x1x64x512.Idx) :=
  Shape.reshapeEquiv_eq_of_rowMajor h (by
    rw [Shape.rowMajor_val_four, Shape.rowMajor_val_two]
    show (((0 * 1 + 0) * 64 + (y 0).val) * 512 + (y 1).val) = ((y 0).val * 512 + (y 1).val)
    omega)

/-- A slot read at an index. -/
theorem slot_read (j c : ℕ) (h) (f : S3x2x2x2x64x128.Idx → Elt F .bf16) (y : S2x2x64x128.Idx) (hj : j < 3) (hc : c < 2) :
    (slotM j c h).view.read (Elt F) f y = f (ix6 ⟨j, hj⟩ ⟨c, hc⟩ (y 0) (y 1) (y 2) (y 3)) := by
  show f ((Rect.unit (s := S3x2x2x2x64x128) ![j, c, 0, 0, 0, 0] S1x1x2x2x64x128.size h).emb (Shape.reshapeEquiv _ y)) = _
  rw [reshapeSlot]
  congr 1; funext a; apply Fin.ext
  fin_cases a <;> simp [Rect.emb_apply, Rect.off_unit, Rect.stride_unit]

/-- Two heads of the keys read at an index. -/
theorem kt_read (o : ℕ) (h) (f : S2x16x64x128.Idx → Elt F .bf16) (y : S2x2x64x128.Idx) (ho : o + 1 < 16) :
    (ktM o h).view.read (Elt F) f y = f (ix4 (y 0) ⟨o + (y 1).val, by have h : (y 1).val < 2 := (y 1).isLt; omega⟩ (y 2) (y 3)) := by
  show f ((Rect.unit (s := S2x16x64x128) ![0, o, 0, 0] S2x2x64x128.size h).emb y) = _
  congr 1; funext a; apply Fin.ext
  fin_cases a <;> simp [Rect.emb_apply, Rect.off_unit, Rect.stride_unit]

/-- Two heads of the values read at an index. -/
theorem vt_read (o : ℕ) (h) (f : S2x16x64x128.Idx → Elt F .bf16) (y : S2x2x64x128.Idx) (ho : o + 1 < 16) :
    (vtM o h).view.read (Elt F) f y = f (ix4 (y 0) ⟨o + (y 1).val, by have h : (y 1).val < 2 := (y 1).isLt; omega⟩ (y 2) (y 3)) := by
  show f ((Rect.unit (s := S2x16x64x128) ![0, o, 0, 0] S2x2x64x128.size h).emb y) = _
  congr 1; funext a; apply Fin.ext
  fin_cases a <;> simp [Rect.emb_apply, Rect.off_unit, Rect.stride_unit]

/-- A chunk of the receive buffer read at an index. -/
theorem comm_read (st b r : ℕ) (h) (f : S2x2x128x512.Idx → Elt F .bf16) (y : S64x512.Idx) (hs : st < 2) (hb : b < 2) (hr : r + 64 ≤ 128) :
    (commM st b r h).view.read (Elt F) f y = f (ix4 ⟨st, hs⟩ ⟨b, hb⟩ ⟨r + (y 0).val, by have h : (y 0).val < 64 := (y 0).isLt; omega⟩ (y 1)) := by
  show f ((Rect.unit (s := S2x2x128x512) ![st, b, r, 0] S1x1x64x512.size h).emb (Shape.reshapeEquiv _ y)) = _
  rw [reshapeChunk]
  congr 1; funext a; apply Fin.ext
  fin_cases a <;> simp [Rect.emb_apply, Rect.off_unit, Rect.stride_unit]

/-- A chunk of the send buffer read at an index. -/
theorem send_read (st b r : ℕ) (h) (f : S2x2x128x512.Idx → Elt F .bf16) (y : S64x512.Idx) (hs : st < 2) (hb : b < 2) (hr : r + 64 ≤ 128) :
    (sendM st b r h).view.read (Elt F) f y = f (ix4 ⟨st, hs⟩ ⟨b, hb⟩ ⟨r + (y 0).val, by have h : (y 0).val < 64 := (y 0).isLt; omega⟩ (y 1)) := by
  show f ((Rect.unit (s := S2x2x128x512) ![st, b, r, 0] S1x1x64x512.size h).emb (Shape.reshapeEquiv _ y)) = _
  rw [reshapeChunk]
  congr 1; funext a; apply Fin.ext
  fin_cases a <;> simp [Rect.emb_apply, Rect.off_unit, Rect.stride_unit]

/-- Device 0's keys, landed in a slot. -/
theorem land_kt (d : Dev nD) (j c o : ℕ) (h) (h') (fd : S3x2x2x2x64x128.Idx → Elt F .bf16) (hj : j = 0 ∨ (j = 2 ∧ d.val = 1)) (hc : c < 2)
    (ho : (if j = 2 then 8 else 4 * d.val) + 2 * c = o) :
    (own d (slotM j c h) ((slotM j c h).view.write (Elt F) fd ((ktM o h').view.read (Elt F) (KTa m 0)) Finset.univ) : sProp 𝕄)
      = own d (slotM j c h) (KVb m d) := by
  have hd : d.val < 4 := d.isLt
  have hj3 : j < 3 := by omega
  have ho' : o + 1 < 16 := by split at ho <;> omega
  refine own_write d _ _ _ _ fun y => ?_
  have h1 : (y 1).val < 2 := (y 1).isLt
  rw [slot_read j c h (KVb m d) y hj3 hc, kt_read o h' (KTa m 0) y ho']
  show _ = if j = 0 ∨ (j = 2 ∧ d.val = 1) then KTa m 0 (ix4 (y 0) ⟨((if j = 2 then 8 else 4 * d.val) + 2 * c + (y 1).val) % 16, _⟩ (y 2) (y 3)) else _
  rw [if_pos hj]
  congr 2; exact Fin.ext (by show o + (y 1).val = ((if j = 2 then 8 else 4 * d.val) + 2 * c + (y 1).val) % 16; rw [ho]; omega)

/-- Device 0's values, landed in a slot. -/
theorem land_vt (d : Dev nD) (j c o : ℕ) (h) (h') (fd : S3x2x2x2x64x128.Idx → Elt F .bf16) (hj : j = 1 ∨ (j = 2 ∧ d.val = 3)) (hc : c < 2)
    (ho : (if j = 2 then 8 else 4 * d.val) + 2 * c = o) :
    (own d (slotM j c h) ((slotM j c h).view.write (Elt F) fd ((vtM o h').view.read (Elt F) (VTa m 0)) Finset.univ) : sProp 𝕄)
      = own d (slotM j c h) (KVb m d) := by
  have hd : d.val < 4 := d.isLt
  have hj3 : j < 3 := by omega
  have ho' : o + 1 < 16 := by split at ho <;> omega
  refine own_write d _ _ _ _ fun y => ?_
  have h1 : (y 1).val < 2 := (y 1).isLt
  rw [slot_read j c h (KVb m d) y hj3 hc, vt_read o h' (VTa m 0) y ho']
  show _ = if j = 0 ∨ (j = 2 ∧ d.val = 1) then _ else VTa m 0 (ix4 (y 0) ⟨((if j = 2 then 8 else 4 * d.val) + 2 * c + (y 1).val) % 16, _⟩ (y 2) (y 3))
  rw [if_neg (by omega)]
  congr 2; exact Fin.ext (by show o + (y 1).val = ((if j = 2 then 8 else 4 * d.val) + 2 * c + (y 1).val) % 16; rw [ho]; omega)

/-- The relayed heads, landed on device 2. -/
theorem land_fwd (d : Dev nD) (j c : ℕ) (h) (h') (fd : S3x2x2x2x64x128.Idx → Elt F .bf16) (hj : (j = 0 ∧ d.val = 1) ∨ (j = 1 ∧ d.val = 3)) (hc : c < 2) :
    (own (2 : Dev nD) (slotM j c h) ((slotM j c h).view.write (Elt F) fd ((slotM 2 c h').view.read (Elt F) (KVb m d)) Finset.univ) : sProp 𝕄)
      = own (2 : Dev nD) (slotM j c h) (KVb m 2) := by
  have hj3 : j < 3 := by omega
  refine own_write _ _ _ _ _ fun y => ?_
  rw [slot_read j c h (KVb m 2) y hj3 hc, slot_read 2 c h' (KVb m d) y (by decide) hc]
  rcases hj with ⟨rfl, hd⟩ | ⟨rfl, hd⟩ <;> simp [KVb, hd] <;> congr 2

/-- A chunk of the first exchange, landed. -/
theorem land_c0 (d : Dev nD) (b r : ℕ) (h) (h') (fd : S2x2x128x512.Idx → Elt F .bf16) (hb : b < 2) (hr : r + 64 ≤ 128) :
    (own (pa d) (commM 0 b r h) ((commM 0 b r h).view.write (Elt F) fd ((sendM 0 b r h').view.read (Elt F) (SBb m d)) Finset.univ) : sProp 𝕄)
      = own (pa d) (commM 0 b r h) (CMb m (pa d)) := by
  refine own_write _ _ _ _ _ fun y => ?_
  rw [send_read 0 b r h' (SBb m d) y (by decide) hb hr, comm_read 0 b r h (CMb m (pa d)) y (by decide) hb hr]
  simp [SBb, CMb, chunksOf, pa_pa]

/-- A chunk of the second exchange, landed. -/
theorem land_c1 (d : Dev nD) (b r : ℕ) (h) (h') (fd : S2x2x128x512.Idx → Elt F .bf16) (hb : b < 2) (hr : r + 64 ≤ 128) :
    (own (pb d) (commM 1 b r h) ((commM 1 b r h).view.write (Elt F) fd ((sendM 1 b r h').view.read (Elt F) (SBb m d)) Finset.univ) : sProp 𝕄)
      = own (pb d) (commM 1 b r h) (CMb m (pb d)) := by
  refine own_write _ _ _ _ _ fun y => ?_
  rw [send_read 1 b r h' (SBb m d) y (by decide) hb hr, comm_read 1 b r h (CMb m (pb d)) y (by decide) hb hr]
  simp [SBb, CMb, chunksOf, pb_pb]

end Cert.KernelIdeal.Attn
end
-- ==== Proof.KernelIdeal.Sched.lean ====
/- The schedule of the kernel's semaphores: what each landing hands over, the order the waits may take, and one lemma for each
   kind of step. -/
module

public import proofs.«01_k».proof.Proof.KernelIdeal.Vals

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- The cell of DMA semaphore `k` on device `d`. -/
abbrev cell (d : Dev nD) (k : Fin 44) : GSem nD τ sig := ((d : Thread nD τ), SemLoc.dma k)
/-- The barrier semaphore. -/
abbrev barS : Sem sig := sig.barrier 0 rfl
/-- Device `d`'s barrier cell. -/
abbrev barC (d : Dev nD) : GSem nD τ sig := ((d : Thread nD τ), SemLoc.reg barS)

/-- A memref's own elements on device `d`, at `f`, as one name. -/
def pc {sp : Space} {s : Shape} {e : EltTy} (d : Dev nD) (M : Memref sig .tc sp s e) (f : Buf (Elt F) (M.view.loc (d : Thread nD τ))) : sProp 𝕄 := own d M f
/-- A memref's own elements on device `d`, at some contents. -/
def pcE {sp : Space} {s : Shape} {e : EltTy} (d : Dev nD) (M : Memref sig .tc sp s e) : sProp 𝕄 := iprop(∃ f, own d M f)

/-- Slot `(j, c)` filled. -/
def slotP (d : Dev nD) (j c : ℕ) (h : ∀ a, (![j, c, 0, 0, 0, 0] : Fin 6 → ℕ) a + S1x1x2x2x64x128.size a ≤ S3x2x2x2x64x128.size a := by decide) : sProp 𝕄 := pc d (slotM j c h) (KVb m d)
/-- Slot `(j, c)` free. -/
def slotE (d : Dev nD) (j c : ℕ) (h : ∀ a, (![j, c, 0, 0, 0, 0] : Fin 6 → ℕ) a + S1x1x2x2x64x128.size a ≤ S3x2x2x2x64x128.size a := by decide) : sProp 𝕄 := pcE d (slotM j c h)
/-- Two heads of the keys. -/
def ktP (d : Dev nD) (o : ℕ) (h : ∀ a, (![0, o, 0, 0] : Fin 4 → ℕ) a + S2x2x64x128.size a ≤ S2x16x64x128.size a := by decide) : sProp 𝕄 := pc d (ktM o h) (KTa m d)
/-- Two heads of the values. -/
def vtP (d : Dev nD) (o : ℕ) (h : ∀ a, (![0, o, 0, 0] : Fin 4 → ℕ) a + S2x2x64x128.size a ≤ S2x16x64x128.size a := by decide) : sProp 𝕄 := pc d (vtM o h) (VTa m d)
/-- A chunk of the send buffer filled. -/
def sendP (d : Dev nD) (st b r : ℕ) (h : ∀ a, (![st, b, r, 0] : Fin 4 → ℕ) a + S1x1x64x512.size a ≤ S2x2x128x512.size a := by decide) : sProp 𝕄 := pc d (sendM st b r h) (SBb m d)
/-- A chunk of the receive buffer filled. -/
def commP (d : Dev nD) (st b r : ℕ) (h : ∀ a, (![st, b, r, 0] : Fin 4 → ℕ) a + S1x1x64x512.size a ≤ S2x2x128x512.size a := by decide) : sProp 𝕄 := pc d (commM st b r h) (CMb m d)
/-- A chunk of the receive buffer free. -/
def commE (d : Dev nD) (st b r : ℕ) (h : ∀ a, (![st, b, r, 0] : Fin 4 → ℕ) a + S1x1x64x512.size a ≤ S2x2x128x512.size a := by decide) : sProp 𝕄 := pcE d (commM st b r h)
/-- The input, and its copy. -/
def inP (d : Dev nD) : ℕ → sProp 𝕄
  | 1 => iprop(pc d (Memref.whole cc0_scratch0) (Xa m d) ∗ pc d (Memref.whole main_arg0) (Xa m d))
  | 2 => iprop(pc d (Memref.whole cc0_scratch1) (Wqa m d) ∗ pc d (Memref.whole main_arg1) (Wqa m d))
  | 3 => iprop(pc d (Memref.whole cc0_scratch2) (Woa m d) ∗ pc d (Memref.whole main_arg4) (Woa m d))
  | _ => iprop(emp)

/-- Such a resource may be kept in an invariant. -/
instance pc_storable {sp : Space} {s : Shape} {e : EltTy} (d : Dev nD) (M : Memref sig .tc sp s e) (f : Buf (Elt F) (M.view.loc (d : Thread nD τ))) :
    BI.Storable (upEmb : UEmb _ 𝕄) (pc (F := F) d M f) := by
  unfold pc own; infer_instance
/-- Such a resource may be kept in an invariant. -/
instance pcE_storable {sp : Space} {s : Shape} {e : EltTy} (d : Dev nD) (M : Memref sig .tc sp s e) : BI.Storable (upEmb : UEmb _ 𝕄) (pcE (F := F) d M) := by
  unfold pcE own; infer_instance
/-- Such a resource may be kept in an invariant. -/
instance slotP_storable (d : Dev nD) (j c : ℕ) (h) : BI.Storable (upEmb : UEmb _ 𝕄) (slotP (F := F) m d j c h) := pc_storable _ _ _
/-- Such a resource may be kept in an invariant. -/
instance slotE_storable (d : Dev nD) (j c : ℕ) (h) : BI.Storable (upEmb : UEmb _ 𝕄) (slotE (F := F) d j c h) := pcE_storable _ _
/-- Such a resource may be kept in an invariant. -/
instance ktP_storable (d : Dev nD) (o : ℕ) (h) : BI.Storable (upEmb : UEmb _ 𝕄) (ktP (F := F) m d o h) := pc_storable _ _ _
/-- Such a resource may be kept in an invariant. -/
instance vtP_storable (d : Dev nD) (o : ℕ) (h) : BI.Storable (upEmb : UEmb _ 𝕄) (vtP (F := F) m d o h) := pc_storable _ _ _
/-- Such a resource may be kept in an invariant. -/
instance sendP_storable (d : Dev nD) (st b r : ℕ) (h) : BI.Storable (upEmb : UEmb _ 𝕄) (sendP (F := F) m d st b r h) := pc_storable _ _ _
/-- Such a resource may be kept in an invariant. -/
instance commP_storable (d : Dev nD) (st b r : ℕ) (h) : BI.Storable (upEmb : UEmb _ 𝕄) (commP (F := F) m d st b r h) := pc_storable _ _ _
/-- Such a resource may be kept in an invariant. -/
instance commE_storable (d : Dev nD) (st b r : ℕ) (h) : BI.Storable (upEmb : UEmb _ 𝕄) (commE (F := F) d st b r h) := pcE_storable _ _
/-- Such a resource may be kept in an invariant. -/
instance inP_storable (d : Dev nD) (k : ℕ) : BI.Storable (upEmb : UEmb _ 𝕄) (inP (F := F) m d k) := by
  unfold inP
  split
  · exact BI.Storable.sep _ _ _
  · exact BI.Storable.sep _ _ _
  · exact BI.Storable.sep _ _ _
  · infer_instance

/-- A chunk of the receive buffer of device `d`, free to be written, its semaphore open. -/
def chunkF (d : Dev nD) (st b r : ℕ) (k : Fin 44) (h : ∀ a, (![st, b, r, 0] : Fin 4 → ℕ) a + S1x1x64x512.size a ≤ S2x2x128x512.size a := by decide) : sProp 𝕄 :=
  iprop(commE d st b r h ∗ reached ER (cell d k) 0)
/-- A slot of the key and value buffer of device `d`, free to be written, its semaphore open. -/
def slotF (d : Dev nD) (j c : ℕ) (k : Fin 44) (h : ∀ a, (![j, c, 0, 0, 0, 0] : Fin 6 → ℕ) a + S1x1x2x2x64x128.size a ≤ S3x2x2x2x64x128.size a := by decide) : sProp 𝕄 :=
  iprop(slotE d j c h ∗ reached ER (cell d k) 0)
/-- The four chunks of the first exchange. -/
def chunks0 (d : Dev nD) : sProp 𝕄 := iprop(chunkF d 0 0 0 36 ∗ chunkF d 0 1 0 38 ∗ chunkF d 0 0 64 37 ∗ chunkF d 0 1 64 39)
/-- The four chunks of the second exchange. -/
def chunks1 (d : Dev nD) : sProp 𝕄 := iprop(chunkF d 1 0 0 40 ∗ chunkF d 1 1 0 42 ∗ chunkF d 1 0 64 41 ∗ chunkF d 1 1 64 43)

/-- What the first relayed heads bring with them: where their receiver sends later. -/
def extra20 (d : Dev nD) : sProp 𝕄 := match d with
  | 1 => iprop(slotF 2 0 0 16 ∗ slotF 2 0 1 17 ∗ chunks1 2 ∗ chunks0 0)
  | 3 => iprop(slotF 2 1 0 18 ∗ slotF 2 1 1 19 ∗ chunks0 2 ∗ chunks1 0)
  | _ => iprop(emp)
/-- What device 1's heads bring device 2. -/
def extra16 (d : Dev nD) : sProp 𝕄 := match d with
  | 2 => chunks1 1
  | _ => iprop(emp)
/-- What device 3's heads bring device 2. -/
def extra18 (d : Dev nD) : sProp 𝕄 := match d with
  | 2 => chunks0 3
  | _ => iprop(emp)

/-- What arrives at device `d`'s semaphore `k`. -/
def pay (d : Dev nD) (k : Fin 44) : sProp 𝕄 := match k.val with
  | 1 => inP m d 1
  | 2 => inP m d 2
  | 3 => inP m d 3
  | 4 => ktP m d 8
  | 5 => vtP m d 8
  | 6 => ktP m d 4
  | 7 => vtP m d 4
  | 8 => ktP m d 12
  | 9 => vtP m d 12
  | 10 => ktP m d 10
  | 11 => vtP m d 10
  | 12 => ktP m d 6
  | 13 => vtP m d 6
  | 14 => ktP m d 14
  | 15 => vtP m d 14
  | 16 => iprop(slotP m d 0 0 ∗ extra16 d)
  | 17 => slotP m d 0 1
  | 18 => iprop(slotP m d 1 0 ∗ extra18 d)
  | 19 => slotP m d 1 1
  | 20 => iprop(slotP m d 2 0 ∗ extra20 d)
  | 21 => slotP m d 2 1
  | 22 => slotP m d 2 0
  | 23 => slotP m d 2 1
  | 24 => iprop(slotP m d 0 0 ∗ ktP m d 0)
  | 25 => iprop(slotP m d 0 1 ∗ ktP m d 2)
  | 26 => iprop(slotP m d 1 0 ∗ vtP m d 0)
  | 27 => iprop(slotP m d 1 1 ∗ vtP m d 2)
  | 28 => sendP m d 0 0 0
  | 29 => sendP m d 0 0 64
  | 30 => sendP m d 0 1 0
  | 31 => sendP m d 0 1 64
  | 32 => sendP m d 1 0 0
  | 33 => sendP m d 1 0 64
  | 34 => sendP m d 1 1 0
  | 35 => sendP m d 1 1 64
  | 36 => commP m d 0 0 0
  | 37 => commP m d 0 0 64
  | 38 => commP m d 0 1 0
  | 39 => commP m d 0 1 64
  | 40 => commP m d 1 0 0
  | 41 => commP m d 1 0 64
  | 42 => commP m d 1 1 0
  | 43 => commP m d 1 1 64
  | _ => iprop(emp)

/-- What device `j` hands device 0 through its barrier. -/
def barPay (j : Fin 4) : sProp 𝕄 := match j with
  | 1 => iprop(slotF 1 0 0 16 ∗ slotF 1 0 1 17 ∗ slotF 1 1 0 18 ∗ slotF 1 1 1 19 ∗ slotF 1 2 0 20 ∗ slotF 1 2 1 21 ∗ chunks0 1)
  | 2 => iprop(slotF 2 0 0 16 ∗ slotF 2 0 1 17 ∗ slotF 2 1 0 18 ∗ slotF 2 1 1 19 ∗ chunks0 2 ∗ chunks1 2)
  | 3 => iprop(slotF 3 0 0 16 ∗ slotF 3 0 1 17 ∗ slotF 3 1 0 18 ∗ slotF 3 1 1 19 ∗ slotF 3 2 0 20 ∗ slotF 3 2 1 21 ∗ chunks1 3)
  | _ => iprop(emp)

/-- The semaphores device `d` uses. -/
def act (d : Dev nD) (k : Fin 44) : Bool :=
  (decide (1 ≤ k.val) && decide (k.val < 4)) || decide (28 ≤ k.val)
    || (decide (16 ≤ k.val) && decide (k.val < 20) && decide (d ≠ 0))
    || (((decide (4 ≤ k.val) && decide (k.val < 16)) || (decide (24 ≤ k.val) && decide (k.val < 28))) && decide (d = 0))
    || (decide (20 ≤ k.val) && decide (k.val < 24) && (decide (d = 1) || decide (d = 3)))

/-- The size of one copied piece of keys, values or chunk. -/
abbrev NC : ℕ := (slotM 0 0).view.amount (.dma (16 : DmaSem sig))

/-- What a landing adds to semaphore `k`. -/
def amtk (k : Fin 44) : ℕ := match k with
  | 1 => (Memref.whole cc0_scratch0).view.amount (.dma (1 : DmaSem sig))
  | 2 => (Memref.whole cc0_scratch1).view.amount (.dma (2 : DmaSem sig))
  | 3 => (Memref.whole cc0_scratch2).view.amount (.dma (3 : DmaSem sig))
  | _ => NC

/-- Every DMA cell expects something. -/
theorem amtk_pos (k : Fin 44) : 0 < amtk k := by
  have h : ∀ k, 0 < amtk k := by decide
  exact h k

/-- One round of every semaphore; three signals at device 0's barrier. -/
def Rd : Rounds.Schedule (GSem nD τ sig) (Fin 4) 𝕄 where
  duties g r := if r = 0 ∧ g.1.2 = .tc then (match g.2 with
    | .reg _ => if g.1.1 = 0 then {1, 2, 3} else ∅
    | .dma k => if act g.1.1 k then {0} else ∅) else ∅
  unitless _ := False
  amount g _ _ := match g.2 with | .reg _ => 1 | .dma k => amtk k
  payload g _ j := match g.2 with | .reg _ => barPay j | .dma k => pay m g.1.1 k
  amount_pos g _ _ _ := by
    cases g.2 with
    | reg s => exact Nat.one_pos
    | dma k => exact amtk_pos k

/-- Such a resource may be kept in an invariant. -/
instance chunkF_storable (d : Dev nD) (st b r : ℕ) (k : Fin 44) (h) : BI.Storable (upEmb : UEmb _ 𝕄) (chunkF (F := F) d st b r k h) := by
  unfold chunkF; infer_instance
/-- Such a resource may be kept in an invariant. -/
instance slotF_storable (d : Dev nD) (j c : ℕ) (k : Fin 44) (h) : BI.Storable (upEmb : UEmb _ 𝕄) (slotF (F := F) d j c k h) := by
  unfold slotF; infer_instance
/-- Such a resource may be kept in an invariant. -/
instance chunks0_storable (d : Dev nD) : BI.Storable (upEmb : UEmb _ 𝕄) (chunks0 (F := F) d) := by unfold chunks0; infer_instance
/-- Such a resource may be kept in an invariant. -/
instance chunks1_storable (d : Dev nD) : BI.Storable (upEmb : UEmb _ 𝕄) (chunks1 (F := F) d) := by unfold chunks1; infer_instance
/-- Such a resource may be kept in an invariant. -/
instance extra20_storable (d : Dev nD) : BI.Storable (upEmb : UEmb _ 𝕄) (extra20 (F := F) d) := by unfold extra20; split <;> infer_instance
/-- Such a resource may be kept in an invariant. -/
instance extra16_storable (d : Dev nD) : BI.Storable (upEmb : UEmb _ 𝕄) (extra16 (F := F) d) := by unfold extra16; split <;> infer_instance
/-- Such a resource may be kept in an invariant. -/
instance extra18_storable (d : Dev nD) : BI.Storable (upEmb : UEmb _ 𝕄) (extra18 (F := F) d) := by unfold extra18; split <;> infer_instance
set_option maxHeartbeats 2000000 in
/-- Such a resource may be kept in an invariant. -/
instance pay_storable (d : Dev nD) (k : Fin 44) : BI.Storable (upEmb : UEmb _ 𝕄) (pay (F := F) m d k) := by unfold pay; split <;> infer_instance
/-- Such a resource may be kept in an invariant. -/
instance barPay_storable (j : Fin 4) : BI.Storable (upEmb : UEmb _ 𝕄) (barPay (F := F) j) := by unfold barPay; split <;> infer_instance

/-- Such a resource may be kept in an invariant. -/
instance Rd_payload_storable (g : GSem nD τ sig) (r : ℕ) (j : Fin 4) : BI.Storable (upEmb : UEmb _ 𝕄) ((Rd (F := F) m).payload g r j) := by
  show BI.Storable upEmb (match g.2 with | .reg _ => barPay j | .dma k => pay m g.1.1 k)
  split <;> infer_instance

/-- A cell in use has one duty in its round. -/
theorem duties_act (d : Dev nD) (k : Fin 44) (h : act d k = true) : (Rd m).duties (cell d k) 0 = {0} := by
  show (if (0:ℕ) = 0 ∧ (cell d k).1.2 = .tc then (if act d k = true then ({0} : Finset (Fin 4)) else ∅) else ∅) = _
  rw [if_pos ⟨rfl, rfl⟩, if_pos h]
/-- A cell not in use has no duty. -/
theorem duties_idle (d : Dev nD) (k : Fin 44) (h : act d k = false) : ∀ r, 0 ≤ r → (Rd m).duties (cell d k) r = ∅ := by
  intro r _
  show (if r = 0 ∧ (cell d k).1.2 = .tc then (if act d k = true then ({0} : Finset (Fin 4)) else ∅) else ∅) = _
  rw [h]; simp
/-- There is no duty after the first round. -/
theorem duties_later (g : GSem nD τ sig) : ∀ r, 1 ≤ r → (Rd m).duties g r = ∅ := by
  intro r hr
  exact if_neg fun h => by omega
/-- Device 0's barrier has a duty for each of the other devices. -/
theorem duties_bar : (Rd m).duties (barC 0) 0 = {1, 2, 3} := rfl
/-- The barriers of the other devices have none. -/
theorem duties_bar' (d : Dev nD) (h : d ≠ 0) (r : ℕ) : (Rd m).duties (barC d) r = ∅ := by
  show (if r = 0 ∧ (barC d).1.2 = .tc then (if d = 0 then ({1, 2, 3} : Finset (Fin 4)) else ∅) else ∅) = _
  rw [if_neg h]; simp
/-- What a cell in use expects. -/
theorem expect_act (d : Dev nD) (k : Fin 44) (h : act d k = true) : (Rd m).expect (cell d k) 0 = amtk k := by
  unfold Schedule.expect Schedule.amountOf; rw [duties_act m d k h, Finset.sum_singleton]; rfl
/-- Device 0's barrier expects three signals. -/
theorem expect_bar : (Rd m).expect (barC 0) 0 = 3 := by
  unfold Schedule.expect Schedule.amountOf; rw [duties_bar]; rfl
/-- What the round of a cell in use hands over. -/
theorem rest_act (d : Dev nD) (k : Fin 44) (h : act d k = true) :
    bigSep ((Rd m).duties (cell d k) 0 \ ∅) (fun u => (Rd m).payload (cell d k) 0 u) = pay m d k := by
  rw [Finset.sdiff_empty, duties_act m d k h, bigSep_singleton]; rfl

/-- What the round of device 0's barrier hands over. -/
theorem rest_bar : bigSep ((Rd m).duties (barC 0) 0 \ ∅) (fun u => (Rd m).payload (barC 0) 0 u) = iprop(barPay 1 ∗ barPay 2 ∗ barPay 3) := by
  rw [Finset.sdiff_empty, duties_bar, bigSep_insert (by decide), bigSep_insert (by decide), bigSep_singleton]; rfl

/-! ## Levels and what is owed -/

/-- The cells that carry an index. -/
def L (g : GSem nD τ sig) : Finset Unit := if g.1.2 = .tc then {()} else ∅
/-- Cells of other cores carry no index. -/
theorem L_of_ne (g : GSem nD τ sig) (h : g.1.2 ≠ .tc) : L g = ∅ := if_neg h
/-- Cells of the tensor core carry the one index. -/
theorem L_tc (c : Dev nD) (sm : SemLoc sig) : L ((c : Thread nD τ), sm) = {()} := if_pos rfl

/-- The level of a DMA semaphore: relayed heads, then heads, then the two exchanges. -/
def lvk (k : Fin 44) : ℕ :=
  if k.val = 20 ∨ k.val = 21 then 2 else if k.val = 16 ∨ k.val = 18 then 3 else if k.val = 17 ∨ k.val = 19 then 5
  else if 40 ≤ k.val then 7 else if 36 ≤ k.val then 6 else 0
/-- The level of a cell. -/
def lv (g : GSem nD τ sig) (_ : Unit) : ℕ := match g.2 with | .reg _ => 1 | .dma k => lvk k

/-- What a debt is owed to. -/
abbrev Debt : Type := Dev nD × Option (Fin 44)
/-- The cell of a debt. -/
def gs : Debt → GSem nD τ sig | (d, none) => barC d | (d, some k) => cell d k
/-- The amount of a debt. -/
def am : Debt → ℕ | (_, none) => 1 | (_, some k) => amtk k
/-- The level of a debt. -/
def lvo : Option (Fin 44) → ℕ | none => 1 | some k => lvk k
/-- The sum of a list of debts, the first to be paid first. -/
def due : List Debt → CellTallies nD τ sig Unit
  | [] => 0
  | x :: l => due l + tallyAt (gs x) () (am x)
/-- Every debt of the list lies above level `n`. -/
def above (n : ℕ) : List (Option (Fin 44)) → Bool
  | [] => true
  | x :: l => decide (n < lvo x) && above n l

/-- Whatever a list of debts above a level owes lies above that level. -/
theorem due_pos (n : ℕ) (l : List Debt) (h : above n (l.map Prod.snd) = true) (g : GSem nD τ sig) (u : Unit) (hg : 0 < due l g u) :
    u ∈ L g ∧ n < lv g u := by
  induction l with
  | nil => exact absurd hg (Nat.lt_irrefl 0)
  | cons x l ih =>
    have h' : (decide (n < lvo x.2) && above n (l.map Prod.snd)) = true := h
    rw [Bool.and_eq_true, decide_eq_true_eq] at h'
    have hg' : 0 < due l g u + tallyAt (gs x) () (am x) g u := hg
    by_cases h0 : 0 < due l g u
    · exact ih h'.2 h0
    · have h1 : 0 < tallyAt (gs x) () (am x) g u := by omega
      rw [tallyAt_apply] at h1
      by_cases h2 : g = gs x ∧ u = ()
      · obtain ⟨rfl, rfl⟩ := h2
        obtain ⟨d, k⟩ := x
        cases k with
        | none => exact ⟨by show () ∈ L (barC d); rw [L_tc]; exact Finset.mem_singleton_self _, h'.1⟩
        | some k => exact ⟨by show () ∈ L (cell d k); rw [L_tc]; exact Finset.mem_singleton_self _, h'.1⟩
      · rw [if_neg h2] at h1; exact absurd h1 (Nat.lt_irrefl 0)

/-- A device may wait at a cell that lies below all it owes. -/
theorem mayWait (d : Dev nD) (s : SemLoc sig) (n : ℕ) (hs : lv ((d : Thread nD τ), s) () ≤ n) (l : List Debt) (h : above n (l.map Prod.snd) = true) :
    (levAts L lv : sProp 𝕄) ⊢ MayWait (d : Thread nD τ) s () (due l) :=
  MayOwe.of_cut (L := L) (lev := lv) n (fun p hp => by rw [Finset.mem_singleton.mp hp, L_tc]; exact Finset.mem_singleton_self _)
    (fun g u hg => (due_pos n l h g u hg).1)
    (fun p hp => by rw [Finset.mem_singleton.mp hp]; exact hs)
    (fun g u hg => (due_pos n l h g u hg).2)

end Cert.KernelIdeal.Attn
end
-- ==== Proof.KernelIdeal.Steps.lean ====
/- One lemma for each kind of step of the protocol: a copy to the device itself, a copy to another device, a wait, a signal. -/
module

public import proofs.«01_k».proof.Proof.KernelIdeal.Sched

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- No loop needs a variant. -/
abbrev 𝒱₀ : Variants := Variants.none

/-- What every step may use: the cells' invariants, the levels, and that device `d`'s own semaphores and the barrier are open. -/
def ctx (K : GSem nD τ sig → ℕ) (d : Dev nD) : sProp 𝕄 :=
  iprop((bigSep Finset.univ fun p : Dev nD × Fin 43 => cellInv ER (Rd m) (K (cell p.1 p.2.succ)) (cell p.1 p.2.succ))
    ∗ (bigSep Finset.univ fun p : Dev nD => cellInv ER (Rd m) (K (barC p)) (barC p))
    ∗ levAts L lv ∗ (bigSep Finset.univ fun k : Fin 43 => reached ER (cell d k.succ) 0) ∗ reached ER (barC 0) 0)

/-- What every step may use may be used again and again. -/
instance ctx_persistent (K : GSem nD τ sig → ℕ) (d : Dev nD) : BI.Persistent (ctx m K d) := by unfold ctx; infer_instance

/-- The invariant of a DMA cell. -/
theorem ctx_inv (K : GSem nD τ sig → ℕ) (d e : Dev nD) (k : Fin 44) (h0 : k ≠ 0) : ctx m K d ⊢ cellInv ER (Rd m) (K (cell e k)) (cell e k) := by
  obtain ⟨k', rfl⟩ := Fin.exists_succ_eq.mpr h0
  unfold ctx
  iintro ⟨H, -⟩
  have h : (bigSep Finset.univ (fun p : Dev nD × Fin 43 => cellInv ER (Rd m) (K (cell p.1 p.2.succ)) (cell p.1 p.2.succ)) : sProp 𝕄) ⊢ (fun p : Dev nD × Fin 43 => cellInv ER (Rd m) (K (cell p.1 p.2.succ)) (cell p.1 p.2.succ)) (e, k') := bigSep_elim (Finset.mem_univ _)
  iapply h
  iexact H

/-- The invariant of a barrier cell. -/
theorem ctx_bar (K : GSem nD τ sig → ℕ) (d e : Dev nD) : ctx m K d ⊢ cellInv ER (Rd m) (K (barC e)) (barC e) := by
  unfold ctx
  iintro ⟨-, H, -⟩
  have h : (bigSep Finset.univ (fun p : Dev nD => cellInv ER (Rd m) (K (barC p)) (barC p)) : sProp 𝕄) ⊢ (fun p : Dev nD => cellInv ER (Rd m) (K (barC p)) (barC p)) e := bigSep_elim (Finset.mem_univ _)
  iapply h
  iexact H

/-- The levels. -/
theorem ctx_lev (K : GSem nD τ sig → ℕ) (d : Dev nD) : ctx m K d ⊢ levAts L lv := by
  unfold ctx
  iintro ⟨-, -, H, -⟩
  iexact H

/-- The first round of a device's own DMA cell is open. -/
theorem ctx_reached (K : GSem nD τ sig → ℕ) (d : Dev nD) (k : Fin 44) (h0 : k ≠ 0) : ctx m K d ⊢ reached ER (cell d k) 0 := by
  obtain ⟨k', rfl⟩ := Fin.exists_succ_eq.mpr h0
  unfold ctx
  iintro ⟨-, -, -, H, -⟩
  have h : (bigSep Finset.univ (fun k : Fin 43 => reached ER (cell d k.succ) 0) : sProp 𝕄) ⊢ (fun k : Fin 43 => reached ER (cell d k.succ) 0) k' := bigSep_elim (Finset.mem_univ _)
  iapply h
  iexact H

/-- The first round of device 0's barrier is open. -/
theorem ctx_reached_bar (K : GSem nD τ sig → ℕ) (d : Dev nD) : ctx m K d ⊢ reached ER (barC 0) 0 := by
  unfold ctx
  iintro ⟨-, -, -, -, H⟩
  iexact H

/-- What device `d` still owes. -/
def ow (d : Dev nD) (l : List Debt) : sProp 𝕄 := iprop(∃ W, owes (d : Thread nD τ) (due l) W)
/-- The right to wait at semaphore `k`. -/
def wt (d : Dev nD) (k : Fin 44) : sProp 𝕄 := iprop(cred (tallyAt (cell d k) () (amtk k)) ∗ atPos ER (cell d k) 0 ∅ 0)
/-- The right to copy to device `d'`. -/
def snd (d : Dev nD) (kS : Fin 44) (d' : Dev nD) (k : Fin 44) : sProp 𝕄 :=
  iprop(dutyTok ER (cell d kS) 0 0 ∗ atPos ER (cell d kS) 0 ∅ 0 ∗ dutyTok ER (cell d' k) 0 0)
/-- The right to copy on the device. -/
def lcl (d : Dev nD) (k : Fin 44) : sProp 𝕄 := iprop(dutyTok ER (cell d k) 0 0 ∗ atPos ER (cell d k) 0 ∅ 0)
/-- Semaphore `k` is through. -/
def fin (d : Dev nD) (k : Fin 44) : sProp 𝕄 := iprop(∃ R, ⌜∀ r, R ≤ r → (Rd m).duties (cell d k) r = ∅⌝ ∗ atPos ER (cell d k) R ∅ 0)

/-- A copy to another device. -/
theorem wp_snd (K : GSem nD τ sig → ℕ) (d d' : Dev nD) (kS k : Fin 44) {e : Dev nD} (he : e = d') {sp sp' : Space} {s : Shape} {ty : EltTy}
    {src : Memref sig .tc sp s ty} {dst : Memref sig .tc sp' s ty} {sS sR : DmaSem sig} (hS : sS = kS) (hR : sR = k)
    (haS : act d kS = true) (haR : act d' k = true) (hS0 : kS ≠ 0) (hR0 : k ≠ 0)
    (hN : dst.view.amount (.dma k) = amtk k) (hA : amtk kS = amtk k) {P D : sProp 𝕄} (fs : Buf (Elt F) (src.view.loc (d : Thread nD τ))) (Fx : sProp 𝕄)
    (hP : P ⊢ own d src fs) (hP' : own d src fs ⊢ pay m d kS) (hD : D ⊢ iprop(pcE d' dst ∗ reached ER (cell d' k) 0))
    (hpay : ∀ fd, iprop(own d' dst (dst.view.write (Elt F) fd (src.view.read (Elt F) fs) Finset.univ) ∗ Fx) ⊢ pay m d' k) (l : List Debt)
    {hsc : dst.view.ref.isScScratch = false} {hsrc : src.view.WordExact} {hdst : dst.view.WordExact}
    {hsem : DmaTarget.Typed sp (.dma sR) (.remote ((e : Dev nD) : Thread nD τ) dst (.dma sS) hsc)} {α : Type} {kk : PUnit → Prog (TpuEff nD τ sig (Elt F) Λ₀ .tc) α} {Q : α → sProp 𝕄} :
    iprop(ctx m K d ∗ P ∗ D ∗ Fx ∗ snd d kS d' k ∗ ow d ((d', some k) :: l))
      ⊢ iprop(((wt d kS ∗ ow d l) -∗ wp frame (wpE (defs₀ (F := F)) 𝒱₀ (d : Thread nD τ) none) Set.univ (kk ⟨⟩) Q)
        -∗ wp frame (wpE (defs₀ (F := F)) 𝒱₀ (d : Thread nD τ) none) Set.univ
          (.op (.enqueueDma src (.remote ((e : Dev nD) : Thread nD τ) dst (.dma sS) hsc) (.dma sR) hsrc hdst hsem) kk) Q) := by
  subst he hS hR
  unfold snd ow pcE at *
  iintro ⟨#HC, HP, HD, HF, ⟨Ht1, HA, Ht2⟩, %W, HO⟩ Hk
  ihave Hs := hP $$ HP
  ihave HD' := hD $$ HD
  icases HD' with ⟨⟨%fd, Hd⟩, #Hr⟩
  iapply (Rounds.wp_send_pointsTo_with 𝒱₀ ER (Rd m) (d : Thread nD τ) none (c' := (e : Thread nD τ)) (src := src) (dst := dst)
      (sS := .dma sS) (sem := .dma sR) (q := fullShare) (fs := fs) (fd := fd) (F := Fx) (κ₁ := K (cell d sS)) (κ₂ := K (cell e sR))
      (r₁ := 0) (r₂ := 0) (d₁ := 0) (d₂ := 0)
      (by rw [duties_act m d sS haS]; exact Finset.mem_singleton_self _) (by rw [duties_act m e sR haR]; exact Finset.mem_singleton_self _)
      () () (amtk sR) hN hA rfl (due l) rfl (W := W) hP' (hpay fd)) $$ [Hs Hd HF HO Ht1 Ht2]
  · isplitr; · iapply (ctx_inv m K d d sS hS0); iexact HC
    isplitr; · iapply (ctx_inv m K d e sR hR0); iexact HC
    isplitl [Hs]; · iexact Hs
    isplitl [Hd HF]
    · isplitl [Hd]; · iexact Hd
      iexact HF
    isplitl [HO]; · iexact HO
    isplitl [Ht1]; · iexact Ht1
    isplitr; · iapply (ctx_reached m K d sS hS0); iexact HC
    isplitl [Ht2]; · iexact Ht2
    iexact Hr
  iintro ⟨Hc, HO⟩
  iapply Hk
  unfold wt
  rw [hA]
  isplitl [Hc HA]
  · isplitl [Hc]; · iexact Hc
    iexact HA
  iexists W; iexact HO

/-- A copy on the device. -/
theorem wp_lcl (K : GSem nD τ sig → ℕ) (d : Dev nD) (k : Fin 44) {sp sp' : Space} {s : Shape} {ty : EltTy}
    {src : Memref sig .tc sp s ty} {dst : Memref sig .tc sp' s ty} {sR : DmaSem sig} (hR : sR = k)
    (haR : act d k = true) (hR0 : k ≠ 0)
    (hN : dst.view.amount (.dma k) = amtk k) {P D : sProp 𝕄} (fs : Buf (Elt F) (src.view.loc (d : Thread nD τ)))
    (hP : P ⊢ own d src fs) (hD : D ⊢ pcE d dst)
    (hpay : ∀ fd, iprop(own d dst (dst.view.write (Elt F) fd (src.view.read (Elt F) fs) Finset.univ) ∗ own d src fs) ⊢ pay m d k)
    {hsrc : src.view.WordExact} {hdst : dst.view.WordExact}
    {hsem : DmaTarget.Typed (nD := nD) (τ := τ) (p := .tc) sp (.dma sR) (.here dst)} {α : Type} {kk : PUnit → Prog (TpuEff nD τ sig (Elt F) Λ₀ .tc) α} {Q : α → sProp 𝕄} :
    iprop(ctx m K d ∗ P ∗ D ∗ lcl d k)
      ⊢ iprop((wt d k -∗ wp frame (wpE (defs₀ (F := F)) 𝒱₀ (d : Thread nD τ) none) Set.univ (kk ⟨⟩) Q)
        -∗ wp frame (wpE (defs₀ (F := F)) 𝒱₀ (d : Thread nD τ) none) Set.univ
          (.op (.enqueueDma src (.here dst) (.dma sR) hsrc hdst hsem) kk) Q) := by
  subst hR
  unfold lcl pcE at *
  iintro ⟨#HC, HP, HD, Ht, HA⟩ Hk
  ihave Hs := hP $$ HP
  ihave HD' := hD $$ HD
  icases HD' with ⟨%fd, Hd⟩
  iapply (Rounds.wp_copy_pointsTo 𝒱₀ ER (Rd m) (d : Thread nD τ) none (src := src) (dst := dst) (sem := .dma sR) (q := fullShare)
      (fs := fs) (fd := fd) (r := 0) (d := 0) (κ := K (cell d sR))
      (by rw [duties_act m d sR haR]; exact Finset.mem_singleton_self _) () (amtk sR) hN rfl (hpay fd)) $$ [Hs Hd Ht]
  · isplitr; · iapply (ctx_inv m K d d sR hR0); iexact HC
    isplitl [Hs]; · iexact Hs
    isplitl [Hd]; · iexact Hd
    isplitl [Ht]; · iexact Ht
    iapply (ctx_reached m K d sR hR0); iexact HC
  iintro Hc
  iapply Hk
  unfold wt
  isplitl [Hc]; · iexact Hc
  iexact HA

/-- A wait at a DMA semaphore. -/
theorem wp_wt (K : GSem nD τ sig → ℕ) (d : Dev nD) (k : Fin 44) {sp sp' : Space} {s s' : Shape} {ty ty' : EltTy}
    {src : Memref sig .tc sp' s' ty'} {dst : Memref sig .tc sp s ty} {sR : DmaSem sig} (hR : sR = k)
    (haR : act d k = true) (hR0 : k ≠ 0) (hN : ∀ M : Memref sig .tc sp s ty, M.view.dmaCredit = amtk k) (l : List Debt) (hl : above (lvk k) (l.map Prod.snd) = true)
    {hsrc : src.view.WordExact} {hdst : dst.view.WordExact} {α : Type} {kk : PUnit → Prog (TpuEff nD τ sig (Elt F) Λ₀ .tc) α} {Q : α → sProp 𝕄} :
    iprop(ctx m K d ∗ wt d k ∗ ow d l)
      ⊢ iprop(((fin m d k ∗ pay m d k ∗ ow d l) -∗ wp frame (wpE (defs₀ (F := F)) 𝒱₀ (d : Thread nD τ) none) Set.univ (kk ⟨⟩) Q)
        -∗ wp frame (wpE (defs₀ (F := F)) 𝒱₀ (d : Thread nD τ) none) Set.univ (.op (.waitDma2 sR src dst hsrc hdst) kk) Q) := by
  subst hR
  unfold wt ow
  iintro ⟨#HC, ⟨Hc, HA⟩, %W, HO⟩ Hk
  iapply (Rounds.wp_wait_rest_token 𝒱₀ ER (Rd m) (d : Thread nD τ) none (κ := K (cell d sR)) (sm := .dma sR)
      (wpE_waitDma2_eq (src := src) (dst := dst) 𝒱₀ (d : Thread nD τ) none Set.univ) (Set.mem_univ _) () (O := due l) (W := W) (R := 0) (m := 0) (T := ∅)
      ((Nat.zero_add _).trans ((hN dst).trans (expect_act m d sR haR).symm))) $$ [Hc HO HA]
  · isplitr; · iapply (ctx_inv m K d d sR hR0); iexact HC
    isplitl [Hc]; · rw [hN dst]; iexact Hc
    isplitl [HO]; · iexact HO
    isplitr; · iapply (mayWait d (.dma sR) (lvk sR) le_rfl l hl); iapply (ctx_lev m K d); iexact HC
    iexact HA
  iintro ⟨HO, HA, -, Hp⟩
  ihave Hp' := (Entails.of_eq (rest_act m d sR haR)) $$ Hp
  iapply Hk
  unfold fin
  isplitl [HA]
  · iexists 1
    isplitr
    · ipureintro; exact duties_later m _
    iexact HA
  isplitl [Hp']; · iexact Hp'
  iexists _; iexact HO

/-- Device 0's barrier is signalled. -/
theorem wp_sig (K : GSem nD τ sig → ℕ) (d : Dev nD) (hd : d ≠ 0) {e : Dev nD} (he : e = 0) {sR : Sem sig} (hR : sR = barS) (l : List Debt)
    {α : Type} {kk : PUnit → Prog (TpuEff nD τ sig (Elt F) Λ₀ .tc) α} {Q : α → sProp 𝕄} :
    iprop(ctx m K d ∗ barPay d ∗ dutyTok ER (barC 0) 0 d ∗ ow d ((0, none) :: l))
      ⊢ iprop((ow d l -∗ wp frame (wpE (defs₀ (F := F)) 𝒱₀ (d : Thread nD τ) none) Set.univ (kk ⟨⟩) Q)
        -∗ wp frame (wpE (defs₀ (F := F)) 𝒱₀ (d : Thread nD τ) none) Set.univ (.op (.semSignal ((e : Dev nD) : Thread nD τ) sR (1#32).toInt) kk) Q) := by
  subst he hR
  unfold ow
  iintro ⟨#HC, Hp, Ht, %W, HO⟩ Hk
  iapply (Rounds.wp_signal 𝒱₀ ER (Rd m) (d : Thread nD τ) none (dst := ((0 : Dev nD) : Thread nD τ)) (sem := barS) (r := 0) (d := d) (κ := K (barC 0))
      (by
          rw [duties_bar]
          have hin : ∀ j : Fin 4, j ≠ 0 → j ∈ ({1, 2, 3} : Finset (Fin 4)) := by decide
          exact hin d hd) (rfl : (Rd m).amount (barC 0) 0 d = 1) () (due l) rfl (W := W)) $$ [Hp Ht HO]
  · isplitr; · iapply (ctx_bar m K d 0); iexact HC
    isplitl [HO]; · iexact HO
    isplitl [Ht]; · iexact Ht
    isplitl [Hp]; · rw [show (Rd m).payload (barC 0) 0 d = barPay d from rfl]; iexact Hp
    iapply (ctx_reached_bar m K d); iexact HC
  iintro HO
  iapply Hk
  iexists W; iexact HO

/-- Device 0 waits for the three signals. -/
theorem wp_bar (K : GSem nD τ sig → ℕ) {sR : Sem sig} (hR : sR = barS) (l : List Debt) (hl : above 1 (l.map Prod.snd) = true)
    {α : Type} {kk : PUnit → Prog (TpuEff nD τ sig (Elt F) Λ₀ .tc) α} {Q : α → sProp 𝕄} :
    iprop(ctx m K 0 ∗ cred (tallyAt (barC 0) () 3) ∗ atPos ER (barC 0) 0 ∅ 0 ∗ ow 0 l)
      ⊢ iprop(((atPos ER (barC 0) 1 ∅ 0 ∗ (barPay 1 ∗ barPay 2 ∗ barPay 3) ∗ ow 0 l) -∗ wp frame (wpE (defs₀ (F := F)) 𝒱₀ ((0 : Dev nD) : Thread nD τ) none) Set.univ (kk ⟨⟩) Q)
        -∗ wp frame (wpE (defs₀ (F := F)) 𝒱₀ ((0 : Dev nD) : Thread nD τ) none) Set.univ (.op (.semWait sR (3#32).toInt) kk) Q) := by
  subst hR
  unfold ow
  iintro ⟨#HC, Hc, HA, %W, HO⟩ Hk
  iapply (Rounds.wp_wait_rest_token 𝒱₀ ER (Rd m) ((0 : Dev nD) : Thread nD τ) none (κ := K (barC 0)) (sm := .reg barS)
      (wpE_semWait_eq 𝒱₀ ((0 : Dev nD) : Thread nD τ) none Set.univ) (Set.mem_univ _) () (O := due l) (W := W) (R := 0) (m := 0) (T := ∅)
      ((Nat.zero_add _).trans (expect_bar m).symm)) $$ [Hc HO HA]
  · isplitr; · iapply (ctx_bar m K 0 0); iexact HC
    isplitl [Hc]; · iexact Hc
    isplitl [HO]; · iexact HO
    isplitr; · iapply (mayWait 0 (.reg barS) 1 le_rfl l hl); iapply (ctx_lev m K 0); iexact HC
    iexact HA
  iintro ⟨HO, HA, -, Hp⟩
  ihave Hp' := (Entails.of_eq (rest_bar m)) $$ Hp
  iapply Hk
  isplitl [HA]; · iexact HA
  isplitl [Hp']; · iexact Hp'
  iexists _; iexact HO

end Cert.KernelIdeal.Attn
end
-- ==== Proof.KernelIdeal.Land.lean ====
/- What a landing hands over: the landed piece at its named contents, with whatever the sender adds. -/
module

public import proofs.«01_k».proof.Proof.KernelIdeal.Steps

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- Nothing, on the right, can be dropped. -/
theorem emp_r {P : sProp 𝕄} : iprop(P ∗ emp) ⊢ P := Laws.sep_emp.1

/-- Device 0's keys landed. -/
theorem kt_pay (d : Dev nD) (j c o : ℕ) (h) (h') (hj : j = 0 ∨ (j = 2 ∧ d.val = 1)) (hc : c < 2) (ho : (if j = 2 then 8 else 4 * d.val) + 2 * c = o)
    (fd : S3x2x2x2x64x128.Idx → Elt F .bf16) {X R : sProp 𝕄} (hR : iprop(slotP m d j c h ∗ X) ⊢ R) :
    iprop(own d (slotM j c h) ((slotM j c h).view.write (Elt F) fd ((ktM o h').view.read (Elt F) (KTa m 0)) Finset.univ) ∗ X) ⊢ R := by
  rw [land_kt m d j c o h h' fd hj hc ho]; exact hR

/-- Device 0's values landed. -/
theorem vt_pay (d : Dev nD) (j c o : ℕ) (h) (h') (hj : j = 1 ∨ (j = 2 ∧ d.val = 3)) (hc : c < 2) (ho : (if j = 2 then 8 else 4 * d.val) + 2 * c = o)
    (fd : S3x2x2x2x64x128.Idx → Elt F .bf16) {X R : sProp 𝕄} (hR : iprop(slotP m d j c h ∗ X) ⊢ R) :
    iprop(own d (slotM j c h) ((slotM j c h).view.write (Elt F) fd ((vtM o h').view.read (Elt F) (VTa m 0)) Finset.univ) ∗ X) ⊢ R := by
  rw [land_vt m d j c o h h' fd hj hc ho]; exact hR

/-- Relayed heads landed on device 2. -/
theorem fwd_pay (d : Dev nD) (j c : ℕ) (h) (h') (hj : (j = 0 ∧ d.val = 1) ∨ (j = 1 ∧ d.val = 3)) (hc : c < 2)
    (fd : S3x2x2x2x64x128.Idx → Elt F .bf16) {X R : sProp 𝕄} (hR : iprop(slotP m 2 j c h ∗ X) ⊢ R) :
    iprop(own (2 : Dev nD) (slotM j c h) ((slotM j c h).view.write (Elt F) fd ((slotM 2 c h').view.read (Elt F) (KVb m d)) Finset.univ) ∗ X) ⊢ R := by
  rw [land_fwd m d j c h h' fd hj hc]; exact hR

/-- A chunk of the first exchange landed. -/
theorem c0_pay (d : Dev nD) (b r : ℕ) (h) (h') (hb : b < 2) (hr : r + 64 ≤ 128) (fd : S2x2x128x512.Idx → Elt F .bf16) {X R : sProp 𝕄}
    (hR : iprop(commP m (pa d) 0 b r h ∗ X) ⊢ R) :
    iprop(own (pa d) (commM 0 b r h) ((commM 0 b r h).view.write (Elt F) fd ((sendM 0 b r h').view.read (Elt F) (SBb m d)) Finset.univ) ∗ X) ⊢ R := by
  rw [land_c0 m d b r h h' fd hb hr]; exact hR

/-- A chunk of the second exchange landed. -/
theorem c1_pay (d : Dev nD) (b r : ℕ) (h) (h') (hb : b < 2) (hr : r + 64 ≤ 128) (fd : S2x2x128x512.Idx → Elt F .bf16) {X R : sProp 𝕄}
    (hR : iprop(commP m (pb d) 1 b r h ∗ X) ⊢ R) :
    iprop(own (pb d) (commM 1 b r h) ((commM 1 b r h).view.write (Elt F) fd ((sendM 1 b r h').view.read (Elt F) (SBb m d)) Finset.univ) ∗ X) ⊢ R := by
  rw [land_c1 m d b r h h' fd hb hr]; exact hR

/-- A whole input landed in its copy. -/
theorem in_pay (d : Dev nD) {sp sp' : Space} {s : Shape} {e : EltTy} (dst : Memref sig .tc sp s e) (src : Memref sig .tc sp' s e)
    (f : Buf (Elt F) (src.view.loc (d : Thread nD τ))) (g : Buf (Elt F) (dst.view.loc (d : Thread nD τ)))
    (h : ∀ y, src.view.read (Elt F) f y = dst.view.read (Elt F) g y) (fd : Buf (Elt F) (dst.view.loc (d : Thread nD τ)))
    {R : sProp 𝕄} (hR : iprop(own d dst g ∗ own d src f) ⊢ R) :
    iprop(own d dst (dst.view.write (Elt F) fd (src.view.read (Elt F) f) Finset.univ) ∗ own d src f) ⊢ R := by
  rw [own_write d dst fd g _ h]; exact hR

/-! ## What the loads read -/

/-- A batch row of the input's copy. -/
theorem rd_x (o : ℕ) (h) (f : S2x128x512.Idx → Elt F .f32) (b : Fin 2) (ho : o = b.val) :
    View.readAt (Elt F) (Memref.whole cc0_scratch0).view (Rect.unit (s := S2x128x512) ![o, 0, 0] S1x128x512.size h).toLoadRect f
      = fun y => f (ix3 b (y 1) (y 2)) := by
  subst ho; funext y
  show f ((Rect.unit (s := S2x128x512) ![b.val, 0, 0] S1x128x512.size h).emb y) = _
  congr 1; funext a; apply Fin.ext
  have h0 : (y 0).val < 1 := (y 0).isLt
  fin_cases a <;> simp [Rect.emb_apply, Rect.off_unit, Rect.stride_unit]
  omega

/-- The query weights. -/
theorem rd_wq (h) (f : S512x256.Idx → Elt F .f32) :
    View.readAt (Elt F) (Memref.whole cc0_scratch1).view (Rect.unit (s := S512x256) ![0, 0] S512x256.size h).toLoadRect f = f := by
  funext y
  show f ((Rect.unit (s := S512x256) ![0, 0] S512x256.size h).emb y) = _
  congr 1; funext a; apply Fin.ext
  fin_cases a <;> simp [Rect.emb_apply, Rect.off_unit, Rect.stride_unit]

/-- The output weights. -/
theorem rd_wo (h) (f : S256x512.Idx → Elt F .f32) :
    View.readAt (Elt F) (Memref.whole cc0_scratch2).view (Rect.unit (s := S256x512) ![0, 0] S256x512.size h).toLoadRect f = f := by
  funext y
  show f ((Rect.unit (s := S256x512) ![0, 0] S256x512.size h).emb y) = _
  congr 1; funext a; apply Fin.ext
  fin_cases a <;> simp [Rect.emb_apply, Rect.off_unit, Rect.stride_unit]

/-- A block of the queries. -/
theorem rd_q (o p r : ℕ) (h) (f : S2x128x256.Idx → Elt F .bf16) (b qb : Fin 2) (hh : Fin 4) (ho : o = b.val) (hp : p = 64 * qb.val) (hr : r = 64 * hh.val) :
    View.readAt (Elt F) (Memref.whole cc0_scratch4).view (Rect.unit (s := S2x128x256) ![o, p, r] S1x64x64.size h).toLoadRect f = qBlk f b qb hh := by
  subst ho hp hr; funext y
  show f ((Rect.unit (s := S2x128x256) ![b.val, 64 * qb.val, 64 * hh.val] S1x64x64.size h).emb y) = f _
  congr 1; funext a; apply Fin.ext
  have h0 : (y 0).val < 1 := (y 0).isLt
  fin_cases a <;> simp [Rect.emb_apply, Rect.off_unit, Rect.stride_unit]
  omega

/-- A block of keys or values. -/
theorem rd_kv (j c b h p : ℕ) (hi) (f : S3x2x2x2x64x128.Idx → Elt F .bf16) (J : Fin 3) (C B H P : Fin 2) (hj : j = J.val) (hc : c = C.val) (hb : b = B.val) (hh : h = H.val) (hp : p = 64 * P.val) :
    View.readAt (Elt F) (Memref.whole cc0_scratch3).view (Rect.unit (s := S3x2x2x2x64x128) ![j, c, b, h, 0, p] S1x1x1x1x64x64.size hi).toLoadRect f = kvBlk f J C B H P := by
  subst hj hc hb hh hp; funext y
  show f ((Rect.unit (s := S3x2x2x2x64x128) ![J.val, C.val, B.val, H.val, 0, 64 * P.val] S1x1x1x1x64x64.size hi).emb y) = f _
  congr 1; funext a; apply Fin.ext
  have h0 : (y 0).val < 1 := (y 0).isLt
  have h1 : (y 1).val < 1 := (y 1).isLt
  have h2 : (y 2).val < 1 := (y 2).isLt
  have h3 : (y 3).val < 1 := (y 3).isLt
  fin_cases a <;> simp [Rect.emb_apply, Rect.off_unit, Rect.stride_unit] <;> omega

/-- A block of rows of the attention. -/
theorem rd_ctx (o p : ℕ) (h) (f : S2x128x256.Idx → Elt F .f32) (b qb : Fin 2) (ho : o = b.val) (hp : p = 64 * qb.val) :
    View.readAt (Elt F) (Memref.whole cc0_scratch5).view (Rect.unit (s := S2x128x256) ![o, p, 0] S1x64x256.size h).toLoadRect f = ctxRow f b qb := by
  subst ho hp; funext y
  show f ((Rect.unit (s := S2x128x256) ![b.val, 64 * qb.val, 0] S1x64x256.size h).emb y) = f _
  congr 1; funext a; apply Fin.ext
  have h0 : (y 0).val < 1 := (y 0).isLt
  fin_cases a <;> simp [Rect.emb_apply, Rect.off_unit, Rect.stride_unit]
  omega

/-- A received chunk. -/
theorem rd_comm (st o p : ℕ) (h) (f : S2x2x128x512.Idx → Elt F .bf16) (T B Q : Fin 2) (ht : st = T.val) (ho : o = B.val) (hp : p = 64 * Q.val) :
    View.readAt (Elt F) (Memref.whole cc0_scratch6).view (Rect.unit (s := S2x2x128x512) ![st, o, p, 0] S1x1x64x512.size h).toLoadRect f
      = fun y => f (ix4 T B ⟨64 * Q.val + (y 2).val, by have h : (y 2).val < 64 := (y 2).isLt; have := Q.isLt; omega⟩ (y 3)) := by
  subst ht ho hp; funext y
  show f ((Rect.unit (s := S2x2x128x512) ![T.val, B.val, 64 * Q.val, 0] S1x1x64x512.size h).emb y) = _
  congr 1; funext a; apply Fin.ext
  have h0 : (y 0).val < 1 := (y 0).isLt
  have h1 : (y 1).val < 1 := (y 1).isLt
  fin_cases a <;> simp [Rect.emb_apply, Rect.off_unit, Rect.stride_unit] <;> omega

/-! ## What the stores write -/

/-- One block of the attention lies where it is stored. -/
theorem ctx_at (d : Dev nD) (o p r : ℕ) (h : ∀ a, (![o, p, r] : Fin 3 → ℕ) a + S1x64x64.size a ≤ S2x128x256.size a) (b qb c hh : Fin 2) (ho : o = b.val) (hp : p = 64 * qb.val) (hr : r = 64 * (2 * c.val + hh.val)) (x : S1x64x64.Idx) :
    attn m d b qb c hh x = Ctxb m d ((Rect.unit (s := S2x128x256) ![o, p, r] S1x64x64.size h).emb x) := by
  subst ho hp hr
  have hb := b.isLt; have hq := qb.isLt; have hc := c.isLt; have hhh := hh.isLt
  have x0 : (x 0).val < 1 := (x 0).isLt
  have x1 : (x 1).val < 64 := (x 1).isLt
  have x2 : (x 2).val < 64 := (x 2).isLt
  have e0 : (((Rect.unit (s := S2x128x256) ![b.val, 64 * qb.val, 64 * (2 * c.val + hh.val)] S1x64x64.size h).emb x) 0).val = b.val + 1 * (x 0).val := rfl
  have e1 : (((Rect.unit (s := S2x128x256) ![b.val, 64 * qb.val, 64 * (2 * c.val + hh.val)] S1x64x64.size h).emb x) 1).val = 64 * qb.val + 1 * (x 1).val := rfl
  have e2 : (((Rect.unit (s := S2x128x256) ![b.val, 64 * qb.val, 64 * (2 * c.val + hh.val)] S1x64x64.size h).emb x) 2).val = 64 * (2 * c.val + hh.val) + 1 * (x 2).val := rfl
  generalize (Rect.unit (s := S2x128x256) ![b.val, 64 * qb.val, 64 * (2 * c.val + hh.val)] S1x64x64.size h).emb x = i at e0 e1 e2 ⊢
  unfold Ctxb
  have w0 : i 0 = b := Fin.ext (by rw [e0]; omega)
  have w1 : (⟨(i 1).val / 64 % 2, Nat.mod_lt _ (by decide)⟩ : Fin 2) = qb := Fin.ext (by show (i 1).val / 64 % 2 = _; rw [e1]; omega)
  have w2 : (⟨(i 2).val / 128 % 2, Nat.mod_lt _ (by decide)⟩ : Fin 2) = c := Fin.ext (by show (i 2).val / 128 % 2 = _; rw [e2]; omega)
  have w3 : (⟨(i 2).val / 64 % 2, Nat.mod_lt _ (by decide)⟩ : Fin 2) = hh := Fin.ext (by show (i 2).val / 64 % 2 = _; rw [e2]; omega)
  have w4 : (ix3 0 ⟨(i 1).val % 64, Nat.mod_lt _ (by decide)⟩ ⟨(i 2).val % 64, Nat.mod_lt _ (by decide)⟩ : S1x64x64.Idx) = x := by
    funext a; apply Fin.ext; fin_cases a
    · show 0 = (x 0).val; omega
    · show (i 1).val % 64 = (x 1).val; omega
    · show (i 2).val % 64 = (x 2).val; omega
  rw [w1, w2, w3, w4, w0]

/-- One block of an output lies where it is stored. -/
theorem out_at (f : Fin 2 → Fin 2 → FVec F S1x64x512 .f32) (o p : ℕ) (h : ∀ a, (![o, p, 0] : Fin 3 → ℕ) a + S1x64x512.size a ≤ S2x128x512.size a) (b qb : Fin 2) (ho : o = b.val) (hp : p = 64 * qb.val) (x : S1x64x512.Idx) :
    f b qb x = outOf f ((Rect.unit (s := S2x128x512) ![o, p, 0] S1x64x512.size h).emb x) := by
  subst ho hp
  have hb := b.isLt; have hq := qb.isLt
  have x0 : (x 0).val < 1 := (x 0).isLt
  have x1 : (x 1).val < 64 := (x 1).isLt
  have e0 : (((Rect.unit (s := S2x128x512) ![b.val, 64 * qb.val, 0] S1x64x512.size h).emb x) 0).val = b.val + 1 * (x 0).val := rfl
  have e1 : (((Rect.unit (s := S2x128x512) ![b.val, 64 * qb.val, 0] S1x64x512.size h).emb x) 1).val = 64 * qb.val + 1 * (x 1).val := rfl
  have e2 : (((Rect.unit (s := S2x128x512) ![b.val, 64 * qb.val, 0] S1x64x512.size h).emb x) 2).val = 0 + 1 * (x 2).val := rfl
  generalize (Rect.unit (s := S2x128x512) ![b.val, 64 * qb.val, 0] S1x64x512.size h).emb x = i at e0 e1 e2 ⊢
  unfold outOf
  have w0 : i 0 = b := Fin.ext (by rw [e0]; omega)
  have w1 : (⟨(i 1).val / 64 % 2, Nat.mod_lt _ (by decide)⟩ : Fin 2) = qb := Fin.ext (by show (i 1).val / 64 % 2 = _; rw [e1]; omega)
  have w4 : (ix3 0 ⟨(i 1).val % 64, Nat.mod_lt _ (by decide)⟩ (i 2) : S1x64x512.Idx) = x := by
    funext a; apply Fin.ext; fin_cases a
    · show 0 = (x 0).val; omega
    · show (i 1).val % 64 = (x 1).val; omega
    · show (i 2).val = (x 2).val; omega
  rw [w1, w4, w0]

/-- One chunk lies where it is stored. -/
theorem chunk_at (f : Fin 2 → Fin 2 → Fin 2 → FVec F S1x1x64x512 .bf16) (st o p : ℕ) (h : ∀ a, (![st, o, p, 0] : Fin 4 → ℕ) a + S1x1x64x512.size a ≤ S2x2x128x512.size a) (T b qb : Fin 2) (ht : st = T.val) (ho : o = b.val) (hp : p = 64 * qb.val) (x : S1x1x64x512.Idx) :
    f T b qb x = chunksOf f ((Rect.unit (s := S2x2x128x512) ![st, o, p, 0] S1x1x64x512.size h).emb x) := by
  subst ht ho hp
  have hT := T.isLt; have hb := b.isLt; have hq := qb.isLt
  have x0 : (x 0).val < 1 := (x 0).isLt
  have x1 : (x 1).val < 1 := (x 1).isLt
  have x2 : (x 2).val < 64 := (x 2).isLt
  have e0 : (((Rect.unit (s := S2x2x128x512) ![T.val, b.val, 64 * qb.val, 0] S1x1x64x512.size h).emb x) 0).val = T.val + 1 * (x 0).val := rfl
  have e1 : (((Rect.unit (s := S2x2x128x512) ![T.val, b.val, 64 * qb.val, 0] S1x1x64x512.size h).emb x) 1).val = b.val + 1 * (x 1).val := rfl
  have e2 : (((Rect.unit (s := S2x2x128x512) ![T.val, b.val, 64 * qb.val, 0] S1x1x64x512.size h).emb x) 2).val = 64 * qb.val + 1 * (x 2).val := rfl
  have e3 : (((Rect.unit (s := S2x2x128x512) ![T.val, b.val, 64 * qb.val, 0] S1x1x64x512.size h).emb x) 3).val = 0 + 1 * (x 3).val := rfl
  generalize (Rect.unit (s := S2x2x128x512) ![T.val, b.val, 64 * qb.val, 0] S1x1x64x512.size h).emb x = i at e0 e1 e2 e3 ⊢
  unfold chunksOf
  have w0 : i 0 = T := Fin.ext (by rw [e0]; omega)
  have w1 : i 1 = b := Fin.ext (by rw [e1]; omega)
  have w2 : (⟨(i 2).val / 64 % 2, Nat.mod_lt _ (by decide)⟩ : Fin 2) = qb := Fin.ext (by show (i 2).val / 64 % 2 = _; rw [e2]; omega)
  have w4 : (ix4 0 0 ⟨(i 2).val % 64, Nat.mod_lt _ (by decide)⟩ (i 3) : S1x1x64x512.Idx) = x := by
    funext a; apply Fin.ext; fin_cases a
    · show 0 = (x 0).val; omega
    · show 0 = (x 1).val; omega
    · show (i 2).val % 64 = (x 2).val; omega
    · show (i 3).val = (x 3).val; omega
  rw [w2, w4, w0, w1]

end Cert.KernelIdeal.Attn
end
-- ==== Proof.KernelIdeal.Stage.lean ====
/- What each device holds between the stages of its body. -/
module

public import proofs.«01_k».proof.Proof.KernelIdeal.Land

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- What each device starts from, besides its inputs. -/
def specA (d : Dev nD) : sProp 𝕄 := match d with
  | 0 => iprop(ktP m 0 8 ∗ ktP m 0 4 ∗ ktP m 0 12 ∗ ktP m 0 10 ∗ ktP m 0 6 ∗ ktP m 0 14 ∗ ktP m 0 0 ∗ ktP m 0 2 ∗ vtP m 0 8 ∗ vtP m 0 4 ∗ vtP m 0 12 ∗ vtP m 0 10 ∗ vtP m 0 6 ∗ vtP m 0 14 ∗ vtP m 0 0 ∗ vtP m 0 2 ∗ slotE 0 0 0 ∗ slotE 0 0 1 ∗ slotE 0 1 0 ∗ slotE 0 1 1 ∗ lcl 0 24 ∗ lcl 0 25 ∗ lcl 0 26 ∗ lcl 0 27 ∗ snd 0 4 1 20 ∗ snd 0 5 3 20 ∗ snd 0 6 1 16 ∗ snd 0 7 1 18 ∗ snd 0 8 3 16 ∗ snd 0 9 3 18 ∗ snd 0 10 1 21 ∗ snd 0 11 3 21 ∗ snd 0 12 1 17 ∗ snd 0 13 1 19 ∗ snd 0 14 3 17 ∗ snd 0 15 3 19 ∗ cred (tallyAt (barC 0) () 3) ∗ atPos ER (barC 0) 0 ∅ 0 ∗ chunks0 0 ∗ chunks1 0)
  | 1 => iprop(barPay 1 ∗ dutyTok ER (barC 0) 0 1 ∗ snd 1 22 2 16 ∗ snd 1 23 2 17 ∗ wt 1 20 ∗ wt 1 21 ∗ wt 1 16 ∗ wt 1 18 ∗ wt 1 17 ∗ wt 1 19 ∗ chunks1 1)
  | 2 => iprop(barPay 2 ∗ dutyTok ER (barC 0) 0 2 ∗ wt 2 16 ∗ wt 2 18 ∗ wt 2 17 ∗ wt 2 19)
  | 3 => iprop(barPay 3 ∗ dutyTok ER (barC 0) 0 3 ∗ snd 3 22 2 18 ∗ snd 3 23 2 19 ∗ wt 3 20 ∗ wt 3 21 ∗ wt 3 16 ∗ wt 3 18 ∗ wt 3 17 ∗ wt 3 19 ∗ chunks0 3)
/-- What each device has left after the first heads have come. -/
def restA (d : Dev nD) : sProp 𝕄 := match d with
  | 0 => iprop(ktP m 0 0 ∗ vtP m 0 0 ∗ fin m 0 24 ∗ fin m 0 26 ∗ wt 0 25 ∗ wt 0 27 ∗ wt 0 4 ∗ wt 0 5 ∗ wt 0 6 ∗ wt 0 7 ∗ wt 0 8 ∗ wt 0 9 ∗ wt 0 10 ∗ wt 0 11 ∗ wt 0 12 ∗ wt 0 13 ∗ wt 0 14 ∗ wt 0 15 ∗ atPos ER (barC 0) 1 ∅ 0)
  | 1 => iprop(slotF 2 0 1 17 ∗ snd 1 23 2 17 ∗ wt 1 21 ∗ wt 1 17 ∗ wt 1 19 ∗ wt 1 22 ∗ fin m 1 20 ∗ fin m 1 16 ∗ fin m 1 18)
  | 2 => iprop(wt 2 17 ∗ wt 2 19 ∗ fin m 2 16 ∗ fin m 2 18)
  | 3 => iprop(slotF 2 1 1 19 ∗ snd 3 23 2 19 ∗ wt 3 21 ∗ wt 3 17 ∗ wt 3 19 ∗ wt 3 22 ∗ fin m 3 20 ∗ fin m 3 16 ∗ fin m 3 18)
/-- What each device has left once all heads have come. -/
def lateC (d : Dev nD) : sProp 𝕄 := match d with
  | 0 => iprop(ktP m 0 0 ∗ vtP m 0 0 ∗ ktP m 0 2 ∗ vtP m 0 2 ∗ fin m 0 24 ∗ fin m 0 26 ∗ fin m 0 25 ∗ fin m 0 27 ∗ wt 0 4 ∗ wt 0 5 ∗ wt 0 6 ∗ wt 0 7 ∗ wt 0 8 ∗ wt 0 9 ∗ wt 0 10 ∗ wt 0 11 ∗ wt 0 12 ∗ wt 0 13 ∗ wt 0 14 ∗ wt 0 15 ∗ atPos ER (barC 0) 1 ∅ 0)
  | 1 => iprop(fin m 1 20 ∗ fin m 1 16 ∗ fin m 1 18 ∗ fin m 1 21 ∗ fin m 1 17 ∗ fin m 1 19 ∗ wt 1 22 ∗ wt 1 23)
  | 2 => iprop(fin m 2 16 ∗ fin m 2 18 ∗ fin m 2 17 ∗ fin m 2 19)
  | 3 => iprop(fin m 3 20 ∗ fin m 3 16 ∗ fin m 3 18 ∗ fin m 3 21 ∗ fin m 3 17 ∗ fin m 3 19 ∗ wt 3 22 ∗ wt 3 23)
/-- What each device has left once its sends of heads are done. -/
def lateE (d : Dev nD) : sProp 𝕄 := match d with
  | 0 => iprop(ktP m 0 0 ∗ ktP m 0 2 ∗ ktP m 0 4 ∗ ktP m 0 6 ∗ ktP m 0 8 ∗ ktP m 0 10 ∗ ktP m 0 12 ∗ ktP m 0 14 ∗ vtP m 0 0 ∗ vtP m 0 2 ∗ vtP m 0 4 ∗ vtP m 0 6 ∗ vtP m 0 8 ∗ vtP m 0 10 ∗ vtP m 0 12 ∗ vtP m 0 14 ∗ fin m 0 4 ∗ fin m 0 5 ∗ fin m 0 6 ∗ fin m 0 7 ∗ fin m 0 8 ∗ fin m 0 9 ∗ fin m 0 10 ∗ fin m 0 11 ∗ fin m 0 12 ∗ fin m 0 13 ∗ fin m 0 14 ∗ fin m 0 15 ∗ fin m 0 24 ∗ fin m 0 25 ∗ fin m 0 26 ∗ fin m 0 27 ∗ atPos ER (barC 0) 1 ∅ 0)
  | 1 => iprop(slotP m 1 2 0 ∗ slotP m 1 2 1 ∗ fin m 1 16 ∗ fin m 1 17 ∗ fin m 1 18 ∗ fin m 1 19 ∗ fin m 1 20 ∗ fin m 1 21 ∗ fin m 1 22 ∗ fin m 1 23)
  | 2 => iprop(fin m 2 16 ∗ fin m 2 17 ∗ fin m 2 18 ∗ fin m 2 19)
  | 3 => iprop(slotP m 3 2 0 ∗ slotP m 3 2 1 ∗ fin m 3 16 ∗ fin m 3 17 ∗ fin m 3 18 ∗ fin m 3 19 ∗ fin m 3 20 ∗ fin m 3 21 ∗ fin m 3 22 ∗ fin m 3 23)

/-- What a device starts from. -/
def startA (d : Dev nD) : sProp 𝕄 := iprop(pc d (Memref.whole main_arg0) (Xa m d) ∗ pcE d (Memref.whole cc0_scratch0) ∗ pc d (Memref.whole main_arg1) (Wqa m d) ∗ pcE d (Memref.whole cc0_scratch1) ∗ pc d (Memref.whole main_arg4) (Woa m d) ∗ pcE d (Memref.whole cc0_scratch2) ∗ pcE d (Memref.whole cc0_scratch4) ∗ lcl d 1 ∗ lcl d 2 ∗ lcl d 3 ∗ specA m d)
/-- What a device holds once its queries and the first heads are there. -/
def afterA (d : Dev nD) : sProp 𝕄 := iprop(slotP m d 0 0 ∗ slotP m d 1 0 ∗ pc d (Memref.whole cc0_scratch4) (Qb m d) ∗ inP m d 1 ∗ inP m d 2 ∗ wt d 3 ∗ fin m d 1 ∗ fin m d 2 ∗ chunks0 (pa d) ∗ chunks1 (pb d) ∗ restA m d)
/-- What a device is given with the second heads. -/
def afterC (d : Dev nD) : sProp 𝕄 := iprop(slotP m d 0 1 ∗ slotP m d 1 1 ∗ lateC m d)

/-- The sends of both exchanges, still owed. -/
def arL (d : Dev nD) : List Debt := [(pa d, some 36), (pa d, some 38), (pa d, some 37), (pa d, some 39), (pb d, some 40), (pb d, some 42), (pb d, some 41), (pb d, some 43)]
/-- What each device owes at the start. -/
def dA (d : Dev nD) : List Debt := match d with
  | 0 => ((1 : Dev nD), some (20 : Fin 44)) :: ((3 : Dev nD), some (20 : Fin 44)) :: ((1 : Dev nD), some (16 : Fin 44)) :: ((1 : Dev nD), some (18 : Fin 44)) :: ((3 : Dev nD), some (16 : Fin 44)) :: ((3 : Dev nD), some (18 : Fin 44)) :: ((1 : Dev nD), some (21 : Fin 44)) :: ((3 : Dev nD), some (21 : Fin 44)) :: ((1 : Dev nD), some (17 : Fin 44)) :: ((1 : Dev nD), some (19 : Fin 44)) :: ((3 : Dev nD), some (17 : Fin 44)) :: ((3 : Dev nD), some (19 : Fin 44)) :: arL 0
  | 1 => ((0 : Dev nD), none) :: ((2 : Dev nD), some (16 : Fin 44)) :: ((2 : Dev nD), some (17 : Fin 44)) :: arL 1
  | 2 => ((0 : Dev nD), none) :: arL 2
  | 3 => ((0 : Dev nD), none) :: ((2 : Dev nD), some (18 : Fin 44)) :: ((2 : Dev nD), some (19 : Fin 44)) :: arL 3
/-- What each device owes once the first heads have come. -/
def dB (d : Dev nD) : List Debt := match d with
  | 1 => ((2 : Dev nD), some (17 : Fin 44)) :: arL 1
  | 3 => ((2 : Dev nD), some (19 : Fin 44)) :: arL 3
  | 0 => arL 0
  | 2 => arL 2
/-- The position word of a device. -/
def posw (d : Dev nD) : BitVec 32 := Scalar.remsi (Scalar.divsi (Dev.word d) 1#32) 4#32

/-- A whole buffer that stores have filled with `G`. -/
theorem writes_done {s : Shape} {e : EltTy} (d : Dev nD) {sp : CoreSpace} (M : Memref sig .tc sp s e)
    (f g : Buf (Elt F) (M.view.loc (d : Thread nD τ))) (ps : List (View.Piece (Elt F) s e)) (hG : ∀ p ∈ ps, ∀ x : p.1.shape.Idx, p.2 x = M.view.read (Elt F) g (p.1.emb x))
    (hc : ∀ y, ∃ p ∈ ps, y ∈ p.1.set) : (own d M (M.view.writes (Elt F) f ps) : sProp 𝕄) = own d M g :=
  own_congr d M _ _ fun y => View.read_writes_apply_of_pieces M.view f (fun y => M.view.read (Elt F) g y) ps hG y (hc y)

/-- The queries, once stored. -/
theorem q_done (d : Dev nD) (qf : Buf (Elt F) ((Memref.whole cc0_scratch4).view.loc (d : Thread nD τ))) (h0 h1 hx0 hx1 hw) :
    (own d (Memref.whole cc0_scratch4) ((Memref.whole cc0_scratch4).view.writes (Elt F) qf
      [⟨Rect.unit (s := S2x128x256) ![1, 0, 0] S1x128x256.size h1,
          k0_pay4 (View.readAt (Elt F) (Memref.whole cc0_scratch0).view (Rect.unit (s := S2x128x512) ![1, 0, 0] S1x128x512.size hx1).toLoadRect (Xa m d))
            (View.readAt (Elt F) (Memref.whole cc0_scratch1).view (Rect.unit (s := S512x256) ![0, 0] S512x256.size hw).toLoadRect (Wqa m d))⟩,
       ⟨Rect.unit (s := S2x128x256) ![0, 0, 0] S1x128x256.size h0,
          k0_pay3 (k0_pay2 (View.readAt (Elt F) (Memref.whole cc0_scratch0).view (Rect.unit (s := S2x128x512) ![0, 0, 0] S1x128x512.size hx0).toLoadRect (Xa m d))
            (View.readAt (Elt F) (Memref.whole cc0_scratch1).view (Rect.unit (s := S512x256) ![0, 0] S512x256.size hw).toLoadRect (Wqa m d)))⟩]) : sProp 𝕄)
      ⊢ pc d (Memref.whole cc0_scratch4) (Qb m d) := by
  rw [rd_x 1 hx1 (Xa m d) 1 rfl, rd_x 0 hx0 (Xa m d) 0 rfl, rd_wq hw]
  refine Entails.of_eq (writes_done d (Memref.whole cc0_scratch4) qf (Qb m d) _ ?_ (View.cover_of_tiled _ S1x128x256.size rfl))
  intro p hp x
  have hq : ∀ (b : Fin 2) (h) (x : S1x128x256.Idx), k0_pay3 (k0_pay2 (xBlk m d b) (Wqa m d)) x = Qb m d ((Rect.unit (s := S2x128x256) ![b.val, 0, 0] S1x128x256.size h).emb x) := by
    intro b h x
    have x0 : (x 0).val < 1 := (x 0).isLt
    have e0 : (((Rect.unit (s := S2x128x256) ![b.val, 0, 0] S1x128x256.size h).emb x) 0).val = b.val + 1 * (x 0).val := rfl
    have e1 : (((Rect.unit (s := S2x128x256) ![b.val, 0, 0] S1x128x256.size h).emb x) 1).val = 0 + 1 * (x 1).val := rfl
    have e2 : (((Rect.unit (s := S2x128x256) ![b.val, 0, 0] S1x128x256.size h).emb x) 2).val = 0 + 1 * (x 2).val := rfl
    generalize (Rect.unit (s := S2x128x256) ![b.val, 0, 0] S1x128x256.size h).emb x = i at e0 e1 e2 ⊢
    unfold Qb
    have w0 : i 0 = b := Fin.ext (by rw [e0]; omega)
    have w4 : (ix3 0 (i 1) (i 2) : S1x128x256.Idx) = x := by
      funext a; apply Fin.ext; fin_cases a
      · show 0 = (x 0).val; omega
      · show (i 1).val = (x 1).val; omega
      · show (i 2).val = (x 2).val; omega
    rw [w4, w0]
  rcases List.mem_cons.mp hp with rfl | hp
  · exact hq 1 h1 x
  rcases List.mem_cons.mp hp with rfl | hp
  · exact hq 0 h0 x
  · exact absurd hp List.not_mem_nil

end Cert.KernelIdeal.Attn
end
-- ==== Proof.KernelIdeal.Sends.lean ====
/- The sends and copies of the kernel, one lemma for each kind. -/
module

public import proofs.«01_k».proof.Proof.KernelIdeal.Stage

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- Device 0 sends two heads of keys. -/
theorem snd_kt (K : GSem nD τ sig → ℕ) (d : Dev nD) (j c o : ℕ) (h) (h2) (kS k : Fin 44) (hj : j = 0 ∨ (j = 2 ∧ d.val = 1)) (hc : c < 2) (ho : (if j = 2 then 8 else 4 * d.val) + 2 * c = o)
    {e : Dev nD} (he : e = d) {sS sR : DmaSem sig} (hS : sS = kS) (hR : sR = k)
    (haS : act 0 kS = true) (haR : act d k = true) (hS0 : kS ≠ 0) (hR0 : k ≠ 0)
    (hN : (slotM j c h).view.amount (.dma k) = amtk k) (hA : amtk kS = amtk k) (Fx : sProp 𝕄)
    (hP : ktP m 0 o h2 ⊢ pay m 0 kS) (hpay : iprop(slotP m d j c h ∗ Fx) ⊢ pay m d k) (l : List Debt)
    {hsc : (slotM j c h).view.ref.isScScratch = false} {hsrc : (ktM o h2).view.WordExact} {hdst : (slotM j c h).view.WordExact}
    {hsem : DmaTarget.Typed _ (.dma sR) (.remote ((e : Dev nD) : Thread nD τ) (slotM j c h) (.dma sS) hsc)} {α : Type} {kk : PUnit → Prog (TpuEff nD τ sig (Elt F) Λ₀ .tc) α} {Q : α → sProp 𝕄} :
    iprop(ctx m K 0 ∗ ktP m 0 o h2 ∗ slotF d j c k h ∗ Fx ∗ snd 0 kS d k ∗ ow 0 ((d, some k) :: l))
      ⊢ iprop(((wt 0 kS ∗ ow 0 l) -∗ wp frame (wpE (defs₀ (F := F)) 𝒱₀ ((0 : Dev nD) : Thread nD τ) none) Set.univ (kk ⟨⟩) Q)
        -∗ wp frame (wpE (defs₀ (F := F)) 𝒱₀ ((0 : Dev nD) : Thread nD τ) none) Set.univ
          (.op (.enqueueDma (ktM o h2) (.remote ((e : Dev nD) : Thread nD τ) (slotM j c h) (.dma sS) hsc) (.dma sR) hsrc hdst hsem) kk) Q) := by
  have hq : ∀ fd, iprop(own d (slotM j c h) ((slotM j c h).view.write (Elt F) fd ((ktM o h2).view.read (Elt F) (KTa m 0)) Finset.univ) ∗ Fx) ⊢ pay m d k := fun fd => kt_pay m d j c o h h2 hj hc ho fd hpay
  exact wp_snd m K 0 d kS k (src := ktM o h2) (dst := slotM j c h) he hS hR haS haR hS0 hR0 hN hA (P := ktP m 0 o h2) (D := slotF d j c k h) (KTa m 0) Fx (Entails.refl _) hP (Entails.refl _)
    hq l

/-- Device 0 sends two heads of values. -/
theorem snd_vt (K : GSem nD τ sig → ℕ) (d : Dev nD) (j c o : ℕ) (h) (h2) (kS k : Fin 44) (hj : j = 1 ∨ (j = 2 ∧ d.val = 3)) (hc : c < 2) (ho : (if j = 2 then 8 else 4 * d.val) + 2 * c = o)
    {e : Dev nD} (he : e = d) {sS sR : DmaSem sig} (hS : sS = kS) (hR : sR = k)
    (haS : act 0 kS = true) (haR : act d k = true) (hS0 : kS ≠ 0) (hR0 : k ≠ 0)
    (hN : (slotM j c h).view.amount (.dma k) = amtk k) (hA : amtk kS = amtk k) (Fx : sProp 𝕄)
    (hP : vtP m 0 o h2 ⊢ pay m 0 kS) (hpay : iprop(slotP m d j c h ∗ Fx) ⊢ pay m d k) (l : List Debt)
    {hsc : (slotM j c h).view.ref.isScScratch = false} {hsrc : (vtM o h2).view.WordExact} {hdst : (slotM j c h).view.WordExact}
    {hsem : DmaTarget.Typed _ (.dma sR) (.remote ((e : Dev nD) : Thread nD τ) (slotM j c h) (.dma sS) hsc)} {α : Type} {kk : PUnit → Prog (TpuEff nD τ sig (Elt F) Λ₀ .tc) α} {Q : α → sProp 𝕄} :
    iprop(ctx m K 0 ∗ vtP m 0 o h2 ∗ slotF d j c k h ∗ Fx ∗ snd 0 kS d k ∗ ow 0 ((d, some k) :: l))
      ⊢ iprop(((wt 0 kS ∗ ow 0 l) -∗ wp frame (wpE (defs₀ (F := F)) 𝒱₀ ((0 : Dev nD) : Thread nD τ) none) Set.univ (kk ⟨⟩) Q)
        -∗ wp frame (wpE (defs₀ (F := F)) 𝒱₀ ((0 : Dev nD) : Thread nD τ) none) Set.univ
          (.op (.enqueueDma (vtM o h2) (.remote ((e : Dev nD) : Thread nD τ) (slotM j c h) (.dma sS) hsc) (.dma sR) hsrc hdst hsem) kk) Q) := by
  have hq : ∀ fd, iprop(own d (slotM j c h) ((slotM j c h).view.write (Elt F) fd ((vtM o h2).view.read (Elt F) (VTa m 0)) Finset.univ) ∗ Fx) ⊢ pay m d k := fun fd => vt_pay m d j c o h h2 hj hc ho fd hpay
  exact wp_snd m K 0 d kS k (src := vtM o h2) (dst := slotM j c h) he hS hR haS haR hS0 hR0 hN hA (P := vtP m 0 o h2) (D := slotF d j c k h) (VTa m 0) Fx (Entails.refl _) hP (Entails.refl _)
    hq l

/-- A neighbour passes relayed heads on to device 2. -/
theorem snd_fwd (K : GSem nD τ sig → ℕ) (d : Dev nD) (j c : ℕ) (h) (h2) (kS k : Fin 44) (hj : (j = 0 ∧ d.val = 1) ∨ (j = 1 ∧ d.val = 3)) (hc : c < 2)
    {e : Dev nD} (he : e = 2) {sS sR : DmaSem sig} (hS : sS = kS) (hR : sR = k)
    (haS : act d kS = true) (haR : act 2 k = true) (hS0 : kS ≠ 0) (hR0 : k ≠ 0)
    (hN : (slotM j c h).view.amount (.dma k) = amtk k) (hA : amtk kS = amtk k) (Fx : sProp 𝕄)
    (hP : slotP m d 2 c h2 ⊢ pay m d kS) (hpay : iprop(slotP m 2 j c h ∗ Fx) ⊢ pay m 2 k) (l : List Debt)
    {hsc : (slotM j c h).view.ref.isScScratch = false} {hsrc : (slotM 2 c h2).view.WordExact} {hdst : (slotM j c h).view.WordExact}
    {hsem : DmaTarget.Typed _ (.dma sR) (.remote ((e : Dev nD) : Thread nD τ) (slotM j c h) (.dma sS) hsc)} {α : Type} {kk : PUnit → Prog (TpuEff nD τ sig (Elt F) Λ₀ .tc) α} {Q : α → sProp 𝕄} :
    iprop(ctx m K d ∗ slotP m d 2 c h2 ∗ slotF 2 j c k h ∗ Fx ∗ snd d kS 2 k ∗ ow d ((2, some k) :: l))
      ⊢ iprop(((wt d kS ∗ ow d l) -∗ wp frame (wpE (defs₀ (F := F)) 𝒱₀ ((d : Dev nD) : Thread nD τ) none) Set.univ (kk ⟨⟩) Q)
        -∗ wp frame (wpE (defs₀ (F := F)) 𝒱₀ ((d : Dev nD) : Thread nD τ) none) Set.univ
          (.op (.enqueueDma (slotM 2 c h2) (.remote ((e : Dev nD) : Thread nD τ) (slotM j c h) (.dma sS) hsc) (.dma sR) hsrc hdst hsem) kk) Q) := by
  have hq : ∀ fd, iprop(own 2 (slotM j c h) ((slotM j c h).view.write (Elt F) fd ((slotM 2 c h2).view.read (Elt F) (KVb m d)) Finset.univ) ∗ Fx) ⊢ pay m 2 k := fun fd => fwd_pay m d j c h h2 hj hc fd hpay
  exact wp_snd m K d 2 kS k (src := slotM 2 c h2) (dst := slotM j c h) he hS hR haS haR hS0 hR0 hN hA (P := slotP m d 2 c h2) (D := slotF 2 j c k h) (KVb m d) Fx (Entails.refl _) hP (Entails.refl _)
    hq l

/-- A chunk of the first exchange goes out. -/
theorem snd_c0 (K : GSem nD τ sig → ℕ) (d : Dev nD) (b r : ℕ) (h) (h2) (kS k : Fin 44) (hb : b < 2) (hr : r + 64 ≤ 128)
    {e : Dev nD} (he : e = (pa d)) {sS sR : DmaSem sig} (hS : sS = kS) (hR : sR = k)
    (haS : act d kS = true) (haR : act (pa d) k = true) (hS0 : kS ≠ 0) (hR0 : k ≠ 0)
    (hN : (commM 0 b r h).view.amount (.dma k) = amtk k) (hA : amtk kS = amtk k) (Fx : sProp 𝕄)
    (hP : sendP m d 0 b r h2 ⊢ pay m d kS) (hpay : iprop(commP m (pa d) 0 b r h ∗ Fx) ⊢ pay m (pa d) k) (l : List Debt)
    {hsc : (commM 0 b r h).view.ref.isScScratch = false} {hsrc : (sendM 0 b r h2).view.WordExact} {hdst : (commM 0 b r h).view.WordExact}
    {hsem : DmaTarget.Typed _ (.dma sR) (.remote ((e : Dev nD) : Thread nD τ) (commM 0 b r h) (.dma sS) hsc)} {α : Type} {kk : PUnit → Prog (TpuEff nD τ sig (Elt F) Λ₀ .tc) α} {Q : α → sProp 𝕄} :
    iprop(ctx m K d ∗ sendP m d 0 b r h2 ∗ chunkF (pa d) 0 b r k h ∗ Fx ∗ snd d kS (pa d) k ∗ ow d (((pa d), some k) :: l))
      ⊢ iprop(((wt d kS ∗ ow d l) -∗ wp frame (wpE (defs₀ (F := F)) 𝒱₀ ((d : Dev nD) : Thread nD τ) none) Set.univ (kk ⟨⟩) Q)
        -∗ wp frame (wpE (defs₀ (F := F)) 𝒱₀ ((d : Dev nD) : Thread nD τ) none) Set.univ
          (.op (.enqueueDma (sendM 0 b r h2) (.remote ((e : Dev nD) : Thread nD τ) (commM 0 b r h) (.dma sS) hsc) (.dma sR) hsrc hdst hsem) kk) Q) := by
  have hq : ∀ fd, iprop(own (pa d) (commM 0 b r h) ((commM 0 b r h).view.write (Elt F) fd ((sendM 0 b r h2).view.read (Elt F) (SBb m d)) Finset.univ) ∗ Fx) ⊢ pay m (pa d) k := fun fd => c0_pay m d b r h h2 hb hr fd hpay
  exact wp_snd m K d (pa d) kS k (src := sendM 0 b r h2) (dst := commM 0 b r h) he hS hR haS haR hS0 hR0 hN hA (P := sendP m d 0 b r h2) (D := chunkF (pa d) 0 b r k h) (SBb m d) Fx (Entails.refl _) hP (Entails.refl _)
    hq l

/-- A chunk of the second exchange goes out. -/
theorem snd_c1 (K : GSem nD τ sig → ℕ) (d : Dev nD) (b r : ℕ) (h) (h2) (kS k : Fin 44) (hb : b < 2) (hr : r + 64 ≤ 128)
    {e : Dev nD} (he : e = (pb d)) {sS sR : DmaSem sig} (hS : sS = kS) (hR : sR = k)
    (haS : act d kS = true) (haR : act (pb d) k = true) (hS0 : kS ≠ 0) (hR0 : k ≠ 0)
    (hN : (commM 1 b r h).view.amount (.dma k) = amtk k) (hA : amtk kS = amtk k) (Fx : sProp 𝕄)
    (hP : sendP m d 1 b r h2 ⊢ pay m d kS) (hpay : iprop(commP m (pb d) 1 b r h ∗ Fx) ⊢ pay m (pb d) k) (l : List Debt)
    {hsc : (commM 1 b r h).view.ref.isScScratch = false} {hsrc : (sendM 1 b r h2).view.WordExact} {hdst : (commM 1 b r h).view.WordExact}
    {hsem : DmaTarget.Typed _ (.dma sR) (.remote ((e : Dev nD) : Thread nD τ) (commM 1 b r h) (.dma sS) hsc)} {α : Type} {kk : PUnit → Prog (TpuEff nD τ sig (Elt F) Λ₀ .tc) α} {Q : α → sProp 𝕄} :
    iprop(ctx m K d ∗ sendP m d 1 b r h2 ∗ chunkF (pb d) 1 b r k h ∗ Fx ∗ snd d kS (pb d) k ∗ ow d (((pb d), some k) :: l))
      ⊢ iprop(((wt d kS ∗ ow d l) -∗ wp frame (wpE (defs₀ (F := F)) 𝒱₀ ((d : Dev nD) : Thread nD τ) none) Set.univ (kk ⟨⟩) Q)
        -∗ wp frame (wpE (defs₀ (F := F)) 𝒱₀ ((d : Dev nD) : Thread nD τ) none) Set.univ
          (.op (.enqueueDma (sendM 1 b r h2) (.remote ((e : Dev nD) : Thread nD τ) (commM 1 b r h) (.dma sS) hsc) (.dma sR) hsrc hdst hsem) kk) Q) := by
  have hq : ∀ fd, iprop(own (pb d) (commM 1 b r h) ((commM 1 b r h).view.write (Elt F) fd ((sendM 1 b r h2).view.read (Elt F) (SBb m d)) Finset.univ) ∗ Fx) ⊢ pay m (pb d) k := fun fd => c1_pay m d b r h h2 hb hr fd hpay
  exact wp_snd m K d (pb d) kS k (src := sendM 1 b r h2) (dst := commM 1 b r h) he hS hR haS haR hS0 hR0 hN hA (P := sendP m d 1 b r h2) (D := chunkF (pb d) 1 b r k h) (SBb m d) Fx (Entails.refl _) hP (Entails.refl _)
    hq l

/-- Device 0 copies two heads of keys. -/
theorem lcl_kt (K : GSem nD τ sig → ℕ) (j c o : ℕ) (h) (h2) (k : Fin 44) (hj : j = 0 ∨ (j = 2 ∧ (0 : Dev nD).val = 1)) (hc : c < 2) (ho : (if j = 2 then 8 else 4 * (0 : Dev nD).val) + 2 * c = o) {sR : DmaSem sig} (hR : sR = k)
    (haR : act 0 k = true) (hR0 : k ≠ 0) (hN : (slotM j c h).view.amount (.dma k) = amtk k)
    (hpay : iprop(slotP m 0 j c h ∗ ktP m 0 o h2) ⊢ pay m 0 k)
    {hsrc : (ktM o h2).view.WordExact} {hdst : (slotM j c h).view.WordExact}
    {hsem : DmaTarget.Typed (nD := nD) (τ := τ) (p := .tc) _ (.dma sR) (.here (slotM j c h))} {α : Type} {kk : PUnit → Prog (TpuEff nD τ sig (Elt F) Λ₀ .tc) α} {Q : α → sProp 𝕄} :
    iprop(ctx m K 0 ∗ ktP m 0 o h2 ∗ slotE 0 j c h ∗ lcl 0 k)
      ⊢ iprop((wt 0 k -∗ wp frame (wpE (defs₀ (F := F)) 𝒱₀ ((0 : Dev nD) : Thread nD τ) none) Set.univ (kk ⟨⟩) Q)
        -∗ wp frame (wpE (defs₀ (F := F)) 𝒱₀ ((0 : Dev nD) : Thread nD τ) none) Set.univ
          (.op (.enqueueDma (ktM o h2) (.here (slotM j c h)) (.dma sR) hsrc hdst hsem) kk) Q) := by
  have hq : ∀ fd, iprop(own 0 (slotM j c h) ((slotM j c h).view.write (Elt F) fd ((ktM o h2).view.read (Elt F) (KTa m 0)) Finset.univ) ∗ own 0 (ktM o h2) (KTa m 0)) ⊢ pay m 0 k := fun fd => kt_pay m 0 j c o h h2 hj hc ho fd hpay
  exact wp_lcl m K 0 k (src := ktM o h2) (dst := slotM j c h) hR haR hR0 hN (P := ktP m 0 o h2) (D := slotE 0 j c h) (KTa m 0) (Entails.refl _) (Entails.refl _) hq

/-- Device 0 copies two heads of values. -/
theorem lcl_vt (K : GSem nD τ sig → ℕ) (j c o : ℕ) (h) (h2) (k : Fin 44) (hj : j = 1 ∨ (j = 2 ∧ (0 : Dev nD).val = 3)) (hc : c < 2) (ho : (if j = 2 then 8 else 4 * (0 : Dev nD).val) + 2 * c = o) {sR : DmaSem sig} (hR : sR = k)
    (haR : act 0 k = true) (hR0 : k ≠ 0) (hN : (slotM j c h).view.amount (.dma k) = amtk k)
    (hpay : iprop(slotP m 0 j c h ∗ vtP m 0 o h2) ⊢ pay m 0 k)
    {hsrc : (vtM o h2).view.WordExact} {hdst : (slotM j c h).view.WordExact}
    {hsem : DmaTarget.Typed (nD := nD) (τ := τ) (p := .tc) _ (.dma sR) (.here (slotM j c h))} {α : Type} {kk : PUnit → Prog (TpuEff nD τ sig (Elt F) Λ₀ .tc) α} {Q : α → sProp 𝕄} :
    iprop(ctx m K 0 ∗ vtP m 0 o h2 ∗ slotE 0 j c h ∗ lcl 0 k)
      ⊢ iprop((wt 0 k -∗ wp frame (wpE (defs₀ (F := F)) 𝒱₀ ((0 : Dev nD) : Thread nD τ) none) Set.univ (kk ⟨⟩) Q)
        -∗ wp frame (wpE (defs₀ (F := F)) 𝒱₀ ((0 : Dev nD) : Thread nD τ) none) Set.univ
          (.op (.enqueueDma (vtM o h2) (.here (slotM j c h)) (.dma sR) hsrc hdst hsem) kk) Q) := by
  have hq : ∀ fd, iprop(own 0 (slotM j c h) ((slotM j c h).view.write (Elt F) fd ((vtM o h2).view.read (Elt F) (VTa m 0)) Finset.univ) ∗ own 0 (vtM o h2) (VTa m 0)) ⊢ pay m 0 k := fun fd => vt_pay m 0 j c o h h2 hj hc ho fd hpay
  exact wp_lcl m K 0 k (src := vtM o h2) (dst := slotM j c h) hR haR hR0 hN (P := vtP m 0 o h2) (D := slotE 0 j c h) (VTa m 0) (Entails.refl _) (Entails.refl _) hq

end Cert.KernelIdeal.Attn
end
-- ==== Proof.KernelIdeal.Progs.lean ====
/- The body of the kernel, cut into the stretches that are run one after another. -/
module

public import proofs.«01_k».proof.Proof.KernelIdeal.Stage

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

section
variable (x0 : Memref sig .tc .hbm S2x128x512 .f32) (h0 : x0.IsWhole)
  (x1 : Memref sig .tc .hbm S512x256 .f32) (h1 : x1.IsWhole)
  (x2 : Memref sig .tc .hbm S2x16x64x128 .bf16) (h2 : x2.IsWhole)
  (x3 : Memref sig .tc .hbm S2x16x64x128 .bf16) (h3 : x3.IsWhole)
  (x4 : Memref sig .tc .hbm S256x512 .f32) (h4 : x4.IsWhole)
  (x5 : Memref sig .tc .vmem S2x128x512 .f32) (h5 : x5.IsWhole)
  (x6 : Memref sig .tc .vmem S2x128x512 .f32) (h6 : x6.IsWhole)
  (x7 : Memref sig .tc .vmem S512x256 .f32) (h7 : x7.IsWhole)
  (x8 : Memref sig .tc .vmem S256x512 .f32) (h8 : x8.IsWhole)
  (x9 : Memref sig .tc .vmem S3x2x2x2x64x128 .bf16) (h9 : x9.IsWhole)
  (x10 : Memref sig .tc .vmem S2x128x256 .bf16) (h10 : x10.IsWhole)
  (x11 : Memref sig .tc .vmem S2x128x256 .f32) (h11 : x11.IsWhole)
  (x12 : Memref sig .tc .vmem S2x2x128x512 .bf16) (h12 : x12.IsWhole)
  (x13 : Memref sig .tc .vmem S2x2x128x512 .bf16) (h13 : x13.IsWhole)
  (y0 : DmaSems sig S3) (y1 : DmaSems sig S12) (y2 : DmaSems sig S2x2) (y3 : DmaSems sig S2) (y4 : DmaSems sig S2) (y5 : DmaSems sig S2x2) (y6 : DmaSems sig S2x2x2) (y7 : DmaSems sig S2x2x2)

/-- The inputs, the queries and the first heads. On any buffers. -/
noncomputable def progAX {α : Type}  (κ : Dev nD → BitVec 32 → BitVec 32 → BitVec 32 → FVec F S64x64 .bf16 → Prog (TpuEff nD τ sig (Elt F) Λ₀ .tc) α) :
    Prog (TpuEff nD τ sig (Elt F) Λ₀ .tc) α := do
      let ⟨d0, v2, v27, v28⟩ : Σ' (d0 : Dev nD) (v2 : BitVec 32) (v27 : FVec F S128x256 .bf16), Vec F S1x128x256 .bf16 ← k0_part11 x0 h0 x1 h1 x2 h2 x3 h3 x4 h4 x5 h5 x6 h6 x7 h7 x8 h8 x9 h9 x10 h10 x11 h11 x12 h12 x13 h13 y0 y1 y2 y3 y4 y5 y6 y7
      let ⟨v39, v40, v54⟩ : Σ' (v39 : BitVec 32) (v40 : BitVec 32), FVec F S64x64 .bf16 ← k0_part12 x0 h0 x1 h1 x2 h2 x3 h3 x4 h4 x5 h5 x6 h6 x7 h7 x8 h8 x9 h9 x10 h10 x11 h11 x12 h12 x13 h13 y0 y1 y2 y3 y4 y5 y6 y7 d0 v2 v27 v28
      κ d0 v2 v39 v40 v54

/-- The attention of the first heads. On any buffers. -/
noncomputable def progBX {α : Type} (d0 : Dev nD) (v2 : BitVec 32) (v54 : FVec F S64x64 .bf16) (κ : FVec F S64x64 .bf16 → Prog (TpuEff nD τ sig (Elt F) Λ₀ .tc) α) :
    Prog (TpuEff nD τ sig (Elt F) Λ₀ .tc) α := do
      let ⟨v77, v81, v82, cst_71⟩ : Σ' (v77 : FVec F S64x64 .bf16) (v81 : FVec F S64x64 .bf16) (v82 : FVec F S64x64 .f32), F .f32 ← k0_part13 x0 h0 x1 h1 x2 h2 x3 h3 x4 h4 x5 h5 x6 h6 x7 h7 x8 h8 x9 h9 x10 h10 x11 h11 x12 h12 x13 h13 y0 y1 y2 y3 y4 y5 y6 y7 v54
      k0_part14 x0 h0 x1 h1 x2 h2 x3 h3 x4 h4 x5 h5 x6 h6 x7 h7 x8 h8 x9 h9 x10 h10 x11 h11 x12 h12 x13 h13 y0 y1 y2 y3 y4 y5 y6 y7 v77 v81 v82 cst_71
      let ⟨v142, v144⟩ : Σ' (v142 : FVec F S64x64 .bf16), FVec F S64x64 .bf16 ← k0_part15 x0 h0 x1 h1 x2 h2 x3 h3 x4 h4 x5 h5 x6 h6 x7 h7 x8 h8 x9 h9 x10 h10 x11 h11 x12 h12 x13 h13 y0 y1 y2 y3 y4 y5 y6 y7
      let ⟨v172, v177⟩ : Σ' (v172 : FVec F S64x64 .f32), FVec F S64x1 .f32 ← k0_part16 x0 h0 x1 h1 x2 h2 x3 h3 x4 h4 x5 h5 x6 h6 x7 h7 x8 h8 x9 h9 x10 h10 x11 h11 x12 h12 x13 h13 y0 y1 y2 y3 y4 y5 y6 y7 v142 v144
      let v206 : Vec F S1x64x64 .bf16 ← k0_part17 x0 h0 x1 h1 x2 h2 x3 h3 x4 h4 x5 h5 x6 h6 x7 h7 x8 h8 x9 h9 x10 h10 x11 h11 x12 h12 x13 h13 y0 y1 y2 y3 y4 y5 y6 y7 v172 v177
      let ⟨v218, v229, v232, v234, v235⟩ : Σ' (v218 : FVec F S64x64 .bf16) (v229 : FVec F S64x64 .f32) (v232 : FVec F S64x64 .f32) (v234 : FVec F S64x64 .f32), FVec F S64x64 .bf16 ← k0_part18 x0 h0 x1 h1 x2 h2 x3 h3 x4 h4 x5 h5 x6 h6 x7 h7 x8 h8 x9 h9 x10 h10 x11 h11 x12 h12 x13 h13 y0 y1 y2 y3 y4 y5 y6 y7 v206
      let v267 : FVec F S64x64 .f32 ← k0_part19 x0 h0 x1 h1 x2 h2 x3 h3 x4 h4 x5 h5 x6 h6 x7 h7 x8 h8 x9 h9 x10 h10 x11 h11 x12 h12 x13 h13 y0 y1 y2 y3 y4 y5 y6 y7 v218 v229 v232 v234 v235
      let ⟨v276, v279, v283, v286, v291⟩ : Σ' (v276 : FVec F S64x64 .bf16) (v279 : FVec F S64x64 .f32) (v283 : FVec F S64x64 .bf16) (v286 : FVec F S64x64 .f32), FVec F S64x1 .f32 ← k0_part20 x0 h0 x1 h1 x2 h2 x3 h3 x4 h4 x5 h5 x6 h6 x7 h7 x8 h8 x9 h9 x10 h10 x11 h11 x12 h12 x13 h13 y0 y1 y2 y3 y4 y5 y6 y7 v267
      k0_part21 x0 h0 x1 h1 x2 h2 x3 h3 x4 h4 x5 h5 x6 h6 x7 h7 x8 h8 x9 h9 x10 h10 x11 h11 x12 h12 x13 h13 y0 y1 y2 y3 y4 y5 y6 y7 d0 v2 v276 v279 v283 v286 v291 >>= κ

/-- The attention of the second heads, and the first chunks. On any buffers. -/
noncomputable def progCX {α : Type} (d0 : Dev nD) (v39 : BitVec 32) (v326 : FVec F S64x64 .bf16) (κ : PUnit → Prog (TpuEff nD τ sig (Elt F) Λ₀ .tc) α) :
    Prog (TpuEff nD τ sig (Elt F) Λ₀ .tc) α := do
      let ⟨v349, v351, v352⟩ : Σ' (v349 : FVec F S64x64 .bf16) (v351 : FVec F S64x64 .bf16), Vec F S1x1x1x1x64x64 .bf16 ← k0_part22 x0 h0 x1 h1 x2 h2 x3 h3 x4 h4 x5 h5 x6 h6 x7 h7 x8 h8 x9 h9 x10 h10 x11 h11 x12 h12 x13 h13 y0 y1 y2 y3 y4 y5 y6 y7 v326
      let ⟨v386, v387⟩ : Σ' (v386 : FVec F S64x64 .f32), Vec F S1x64x64 .f32 ← k0_part23 x0 h0 x1 h1 x2 h2 x3 h3 x4 h4 x5 h5 x6 h6 x7 h7 x8 h8 x9 h9 x10 h10 x11 h11 x12 h12 x13 h13 y0 y1 y2 y3 y4 y5 y6 y7 v349 v351 v352
      let v414 : FVec F S64x64 .bf16 ← k0_part24 x0 h0 x1 h1 x2 h2 x3 h3 x4 h4 x5 h5 x6 h6 x7 h7 x8 h8 x9 h9 x10 h10 x11 h11 x12 h12 x13 h13 y0 y1 y2 y3 y4 y5 y6 y7 v386 v387
      let ⟨v439, v444, v446⟩ : Σ' (v439 : FVec F S64x64 .f32) (v444 : FVec F S64x64 .f32), FVec F S64x1 .f32 ← k0_part25 x0 h0 x1 h1 x2 h2 x3 h3 x4 h4 x5 h5 x6 h6 x7 h7 x8 h8 x9 h9 x10 h10 x11 h11 x12 h12 x13 h13 y0 y1 y2 y3 y4 y5 y6 y7 v414
      k0_part26 x0 h0 x1 h1 x2 h2 x3 h3 x4 h4 x5 h5 x6 h6 x7 h7 x8 h8 x9 h9 x10 h10 x11 h11 x12 h12 x13 h13 y0 y1 y2 y3 y4 y5 y6 y7 v439 v444 v446
      let ⟨v483, v490, v501, v504⟩ : Σ' (v483 : FVec F S64x64 .bf16) (v490 : FVec F S64x64 .bf16) (v501 : FVec F S64x64 .f32), FVec F S64x64 .f32 ← k0_part27 x0 h0 x1 h1 x2 h2 x3 h3 x4 h4 x5 h5 x6 h6 x7 h7 x8 h8 x9 h9 x10 h10 x11 h11 x12 h12 x13 h13 y0 y1 y2 y3 y4 y5 y6 y7
      let ⟨v535, v536⟩ : Σ' (v535 : FVec F S64x64 .f32), FVec F S64 .f32 ← k0_part28 x0 h0 x1 h1 x2 h2 x3 h3 x4 h4 x5 h5 x6 h6 x7 h7 x8 h8 x9 h9 x10 h10 x11 h11 x12 h12 x13 h13 y0 y1 y2 y3 y4 y5 y6 y7 v483 v490 v501 v504
      let ⟨v548, v551, v555, v558, v560⟩ : Σ' (v548 : FVec F S64x64 .bf16) (v551 : FVec F S64x64 .f32) (v555 : FVec F S64x64 .bf16) (v558 : FVec F S64x64 .f32), FVec F S64x1 .f32 ← k0_part29 x0 h0 x1 h1 x2 h2 x3 h3 x4 h4 x5 h5 x6 h6 x7 h7 x8 h8 x9 h9 x10 h10 x11 h11 x12 h12 x13 h13 y0 y1 y2 y3 y4 y5 y6 y7 v535 v536
      let ⟨v594, v595⟩ : Σ' (v594 : FVec F S64x512 .bf16), Vec F S1x1x64x512 .bf16 ← k0_part30 x0 h0 x1 h1 x2 h2 x3 h3 x4 h4 x5 h5 x6 h6 x7 h7 x8 h8 x9 h9 x10 h10 x11 h11 x12 h12 x13 h13 y0 y1 y2 y3 y4 y5 y6 y7 v548 v551 v555 v558 v560
      k0_part31 x0 h0 x1 h1 x2 h2 x3 h3 x4 h4 x5 h5 x6 h6 x7 h7 x8 h8 x9 h9 x10 h10 x11 h11 x12 h12 x13 h13 y0 y1 y2 y3 y4 y5 y6 y7 d0 v39 v594 v595
      let c1_i32_624 : BitVec 32 ← k0_part32 x0 h0 x1 h1 x2 h2 x3 h3 x4 h4 x5 h5 x6 h6 x7 h7 x8 h8 x9 h9 x10 h10 x11 h11 x12 h12 x13 h13 y0 y1 y2 y3 y4 y5 y6 y7 d0 v39
      k0_part33 x0 h0 x1 h1 x2 h2 x3 h3 x4 h4 x5 h5 x6 h6 x7 h7 x8 h8 x9 h9 x10 h10 x11 h11 x12 h12 x13 h13 y0 y1 y2 y3 y4 y5 y6 y7 d0 v39 c1_i32_624 >>= κ

/-- The last of the first chunks, and the sends of heads. On any buffers. -/
noncomputable def progEX {α : Type} (d0 : Dev nD) (v2 : BitVec 32) (κ : BitVec 32 → Prog (TpuEff nD τ sig (Elt F) Λ₀ .tc) α) :
    Prog (TpuEff nD τ sig (Elt F) Λ₀ .tc) α := do
      k0_part34 x0 h0 x1 h1 x2 h2 x3 h3 x4 h4 x5 h5 x6 h6 x7 h7 x8 h8 x9 h9 x10 h10 x11 h11 x12 h12 x13 h13 y0 y1 y2 y3 y4 y5 y6 y7 d0 v2 >>= κ

/-- The first chunks added, the second exchange begun. On any buffers. -/
noncomputable def progFX {α : Type} (d0 : Dev nD) (v39 v40 c1_i32_689 : BitVec 32) (κ : PUnit → Prog (TpuEff nD τ sig (Elt F) Λ₀ .tc) α) :
    Prog (TpuEff nD τ sig (Elt F) Λ₀ .tc) α := do
      k0_part35 x0 h0 x1 h1 x2 h2 x3 h3 x4 h4 x5 h5 x6 h6 x7 h7 x8 h8 x9 h9 x10 h10 x11 h11 x12 h12 x13 h13 y0 y1 y2 y3 y4 y5 y6 y7 v39 v40 c1_i32_689
      k0_part36 x0 h0 x1 h1 x2 h2 x3 h3 x4 h4 x5 h5 x6 h6 x7 h7 x8 h8 x9 h9 x10 h10 x11 h11 x12 h12 x13 h13 y0 y1 y2 y3 y4 y5 y6 y7 d0 v39
      k0_part37 x0 h0 x1 h1 x2 h2 x3 h3 x4 h4 x5 h5 x6 h6 x7 h7 x8 h8 x9 h9 x10 h10 x11 h11 x12 h12 x13 h13 y0 y1 y2 y3 y4 y5 y6 y7 d0 v40
      let v773 : FVec F S64x512 .f32 ← k0_part38 x0 h0 x1 h1 x2 h2 x3 h3 x4 h4 x5 h5 x6 h6 x7 h7 x8 h8 x9 h9 x10 h10 x11 h11 x12 h12 x13 h13 y0 y1 y2 y3 y4 y5 y6 y7 v39
      k0_part39 x0 h0 x1 h1 x2 h2 x3 h3 x4 h4 x5 h5 x6 h6 x7 h7 x8 h8 x9 h9 x10 h10 x11 h11 x12 h12 x13 h13 y0 y1 y2 y3 y4 y5 y6 y7 d0 v40 v773
      k0_part40 x0 h0 x1 h1 x2 h2 x3 h3 x4 h4 x5 h5 x6 h6 x7 h7 x8 h8 x9 h9 x10 h10 x11 h11 x12 h12 x13 h13 y0 y1 y2 y3 y4 y5 y6 y7 v39 >>= κ

/-- The second chunks added but for the last. On any buffers. -/
noncomputable def progGX (d0 : Dev nD) (v40 : BitVec 32) :
    Prog (TpuEff nD τ sig (Elt F) Λ₀ .tc) PUnit := do
      k0_part41 x0 h0 x1 h1 x2 h2 x3 h3 x4 h4 x5 h5 x6 h6 x7 h7 x8 h8 x9 h9 x10 h10 x11 h11 x12 h12 x13 h13 y0 y1 y2 y3 y4 y5 y6 y7 d0 v40
      let v857 : BitVec 32 ← k0_part42 x0 h0 x1 h1 x2 h2 x3 h3 x4 h4 x5 h5 x6 h6 x7 h7 x8 h8 x9 h9 x10 h10 x11 h11 x12 h12 x13 h13 y0 y1 y2 y3 y4 y5 y6 y7 v40
      k0_part43 x0 h0 x1 h1 x2 h2 x3 h3 x4 h4 x5 h5 x6 h6 x7 h7 x8 h8 x9 h9 x10 h10 x11 h11 x12 h12 x13 h13 y0 y1 y2 y3 y4 y5 y6 y7 v857
      k0_part44 x0 h0 x1 h1 x2 h2 x3 h3 x4 h4 x5 h5 x6 h6 x7 h7 x8 h8 x9 h9 x10 h10 x11 h11 x12 h12 x13 h13 y0 y1 y2 y3 y4 y5 y6 y7 v40
      let v901 : Memref sig .tc .vmem S1x1x64x512 .bf16 := x12.slice (Rect.unit (s := S2x2x128x512) ![1, 1, 64, 0] S1x1x64x512.size inb_S2x2x128x512_S1x1x64x512_1_1_64_0) (fun _ => rfl)
      let v902 : Memref sig .tc .vmem S64x512 .bf16 := v901.squeeze S64x512 squeezes_S1x1x64x512_S64x512
      let v897 : DmaSems sig S1x1x1 := y6.slice (Rect.unit (s := S2x2x2) ![1, 1, 1] S1x1x1.size inb_S2x2x2_S1x1x1_1_1_1)
      let v898 : DmaSems sig S_ := v897.squeeze S_ squeezes_S1x1x1_S_
      let v899 : Memref sig .tc .vmem S1x1x64x512 .bf16 := x13.slice (Rect.unit (s := S2x2x128x512) ![1, 1, 64, 0] S1x1x64x512.size inb_S2x2x128x512_S1x1x64x512_1_1_64_0) (fun _ => rfl)
      let v900 : Memref sig .tc .vmem S64x512 .bf16 := v899.squeeze S64x512 squeezes_S1x1x64x512_S64x512
      Prog.lift (.waitDma2 v898.sem v902 v900 ((h12.wordExact_slice rfl _ wordsbf16_S2x2x128x512_S1x1x64x512_1_1_64_0).reshape _ _) ((h13.wordExact_slice rfl _ wordsbf16_S2x2x128x512_S1x1x64x512_1_1_64_0).reshape _ _))
      pure PUnit.unit

end

/-- The inputs, the queries and the first heads. -/
noncomputable def progA (a5 : Memref sig .tc .vmem S2x128x512 .f32) (ha5 : a5.IsWhole) {α : Type}  (κ : Dev nD → BitVec 32 → BitVec 32 → BitVec 32 → FVec F S64x64 .bf16 → Prog (TpuEff nD τ sig (Elt F) Λ₀ .tc) α) :
    Prog (TpuEff nD τ sig (Elt F) Λ₀ .tc) α :=
  progAX (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) a5 ha5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15  κ

/-- The attention of the first heads. -/
noncomputable def progB (a5 : Memref sig .tc .vmem S2x128x512 .f32) (ha5 : a5.IsWhole) {α : Type} (d0 : Dev nD) (v2 : BitVec 32) (v54 : FVec F S64x64 .bf16) (κ : FVec F S64x64 .bf16 → Prog (TpuEff nD τ sig (Elt F) Λ₀ .tc) α) :
    Prog (TpuEff nD τ sig (Elt F) Λ₀ .tc) α :=
  progBX (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) a5 ha5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 d0 v2 v54 κ

/-- The attention of the second heads, and the first chunks. -/
noncomputable def progC (a5 : Memref sig .tc .vmem S2x128x512 .f32) (ha5 : a5.IsWhole) {α : Type} (d0 : Dev nD) (v39 : BitVec 32) (v326 : FVec F S64x64 .bf16) (κ : PUnit → Prog (TpuEff nD τ sig (Elt F) Λ₀ .tc) α) :
    Prog (TpuEff nD τ sig (Elt F) Λ₀ .tc) α :=
  progCX (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) a5 ha5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 d0 v39 v326 κ

/-- The last of the first chunks, and the sends of heads. -/
noncomputable def progE (a5 : Memref sig .tc .vmem S2x128x512 .f32) (ha5 : a5.IsWhole) {α : Type} (d0 : Dev nD) (v2 : BitVec 32) (κ : BitVec 32 → Prog (TpuEff nD τ sig (Elt F) Λ₀ .tc) α) :
    Prog (TpuEff nD τ sig (Elt F) Λ₀ .tc) α :=
  progEX (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) a5 ha5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 d0 v2 κ

/-- The first chunks added, the second exchange begun. -/
noncomputable def progF (a5 : Memref sig .tc .vmem S2x128x512 .f32) (ha5 : a5.IsWhole) {α : Type} (d0 : Dev nD) (v39 v40 c1_i32_689 : BitVec 32) (κ : PUnit → Prog (TpuEff nD τ sig (Elt F) Λ₀ .tc) α) :
    Prog (TpuEff nD τ sig (Elt F) Λ₀ .tc) α :=
  progFX (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) a5 ha5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 d0 v39 v40 c1_i32_689 κ

/-- The second chunks added but for the last. -/
noncomputable def progG (a5 : Memref sig .tc .vmem S2x128x512 .f32) (ha5 : a5.IsWhole) (d0 : Dev nD) (v40 : BitVec 32) :
    Prog (TpuEff nD τ sig (Elt F) Λ₀ .tc) PUnit :=
  progGX (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) a5 ha5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 d0 v40

/-- The last chunk added. -/
noncomputable def progH (a5 : Memref sig .tc .vmem S2x128x512 .f32) (ha5 : a5.IsWhole) :
    Prog (TpuEff nD τ sig (Elt F) Λ₀ .tc) PUnit := do
      let v905 : DmaSems sig S1x1x1 := cc0_scratch15.slice (Rect.unit (s := S2x2x2) ![1, 1, 1] S1x1x1.size inb_S2x2x2_S1x1x1_1_1_1)
      let v906 : DmaSems sig S_ := v905.squeeze S_ squeezes_S1x1x1_S_
      let v907 : Memref sig .tc .vmem S1x1x64x512 .bf16 := (Memref.whole cc0_scratch6).slice (Rect.unit (s := S2x2x128x512) ![1, 1, 64, 0] S1x1x64x512.size inb_S2x2x128x512_S1x1x64x512_1_1_64_0) (fun _ => rfl)
      let v908 : Memref sig .tc .vmem S64x512 .bf16 := v907.squeeze S64x512 squeezes_S1x1x64x512_S64x512
      let v909 : Memref sig .tc .vmem S1x1x64x512 .bf16 := (Memref.whole cc0_scratch7).slice (Rect.unit (s := S2x2x128x512) ![1, 1, 64, 0] S1x1x64x512.size inb_S2x2x128x512_S1x1x64x512_1_1_64_0) (fun _ => rfl)
      let v910 : Memref sig .tc .vmem S64x512 .bf16 := v909.squeeze S64x512 squeezes_S1x1x64x512_S64x512
      Prog.lift (.waitDma2 v906.sem v910 v908 (((Memref.isWhole_whole _).wordExact_slice rfl _ wordsbf16_S2x2x128x512_S1x1x64x512_1_1_64_0).reshape _ _) (((Memref.isWhole_whole _).wordExact_slice rfl _ wordsbf16_S2x2x128x512_S1x1x64x512_1_1_64_0).reshape _ _))
      let v911 : Vec F S1x64x512 .f32 ← Prog.lift (.load a5 (Rect.unit (s := S2x128x512) ![1, 64, 0] S1x64x512.size inb_S2x128x512_S1x64x512_1_64_0).toLoadRect (View.loadsAt_vmem h_S1x64x512))
      let v913 : Vec F S1x1x64x512 .bf16 ← Prog.lift (.load (Memref.whole cc0_scratch6) (Rect.unit (s := S2x2x128x512) ![1, 1, 64, 0] S1x1x64x512.size inb_S2x2x128x512_S1x1x64x512_1_1_64_0).toLoadRect (View.loadsAt_vmem h_S1x1x64x512))
      let v917 : Vec F S1x64x512 .f32 ← Prog.lift (.load a5 (Rect.unit (s := S2x128x512) ![1, 64, 0] S1x64x512.size inb_S2x128x512_S1x64x512_1_64_0).toLoadRect (View.loadsAt_vmem h_S1x64x512))
      Prog.lift (.store a5 (Rect.unit (s := S2x128x512) ![1, 64, 0] S1x64x512.size inb_S2x128x512_S1x64x512_1_64_0) (k0_pay1 v911 v913) Finset.univ (View.stores_vmem_bits_univ h_S1x64x512 rfl) (.inl rfl))
      pure ⟨⟩

set_option maxRecDepth 10000 in
/-- The stretches, one after another, are the long part of the body. -/
theorem part45_eq (a5 : Memref sig .tc .vmem S2x128x512 .f32) (ha5 : a5.IsWhole) :
    k0_part45 (F := F) (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) a5 ha5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 =
      progA a5 ha5 fun d0 v2 v39 v40 v54 => progB a5 ha5 d0 v2 v54 fun v326 => progC a5 ha5 d0 v39 v326 fun _ =>
        progE a5 ha5 d0 v2 fun c => progF a5 ha5 d0 v39 v40 c fun _ => progG a5 ha5 d0 v40 := by
  rw [k0_part45_eq_skeleton]; rfl

/-- The body is the long part and then its last stretch. -/
theorem body_eq (a5 : Memref sig .tc .vmem S2x128x512 .f32) (ha5 : a5.IsWhole) :
    cc0_body (F := F) (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) a5 ha5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 =
      (progA a5 ha5 fun d0 v2 v39 v40 v54 => progB a5 ha5 d0 v2 v54 fun v326 => progC a5 ha5 d0 v39 v326 fun _ =>
        progE a5 ha5 d0 v2 fun c => progF a5 ha5 d0 v39 v40 c fun _ => progG a5 ha5 d0 v40) >>= fun _ => progH a5 ha5 := by
  rw [← part45_eq, cc0_body_eq_skeleton]; rfl

end Cert.KernelIdeal.Attn
end
-- ==== Proof.KernelIdeal.SegA0.lean ====
/- Device 0, first stage: the inputs, the queries, and the first heads. -/
module

public import proofs.«01_k».proof.Proof.KernelIdeal.Sends
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 1000000 in
/-- Device 0: its queries and the first heads. -/
theorem segA0 (K : GSem nD τ sig → ℕ) (a5 : Memref sig .tc .vmem S2x128x512 .f32) (ha5 : a5.IsWhole)
    {α : Type} (Q : α → sProp 𝕄) (κ : Dev nD → BitVec 32 → BitVec 32 → BitVec 32 → FVec F S64x64 .bf16 → Prog (TpuEff nD τ sig (Elt F) Λ₀ .tc) α) :
    iprop(ctx m K 0 ∗ startA m 0 ∗ ow 0 (dA 0)
      ∗ ((afterA m 0 ∗ ow 0 (dB 0)) -∗ wp frame (wpE (defs₀ (F := F)) 𝒱₀ ((0 : Dev nD) : Thread nD τ) none) Set.univ
          (κ (0 : Dev nD) (posw 0) (Scalar.xori (posw 0) 1#32) (Scalar.subi 3#32 (posw 0)) (k0_pay5 (qBlk (Qb m 0) 0 0 0))) Q))
     ⊢ wp frame (wpE (defs₀ (F := F)) 𝒱₀ (((0 : Dev nD)) : Thread nD τ) none) Set.univ (progA a5 ha5 κ) Q := by
  unfold startA
  rw [← rd_q 0 0 0 inb_S2x128x256_S1x64x64_0_0_0 (Qb m 0) 0 0 0 rfl rfl rfl]
  unfold progA progAX
  iintro ⟨#HC, ⟨H1, H2, H3, H4, H5, H6, H7, H8, H9, H10, H11⟩, HO, Hk⟩
  ihave ⟨H12, H13, H14, H15, H16, H17, H18, H19, H20, H21, H22, H23, H24, H25, H26, H27, H28, H29, H30, H31, H32, H33, H34, H35, H36, H37, H38, H39, H40, H41, H42, H43, H44, H45, H46, H47, H48, H49, H50, H51⟩ := (show (specA m 0 : sProp 𝕄) ⊢ iprop(ktP m 0 8 ∗ ktP m 0 4 ∗ ktP m 0 12 ∗ ktP m 0 10 ∗ ktP m 0 6 ∗ ktP m 0 14 ∗ ktP m 0 0 ∗ ktP m 0 2 ∗ vtP m 0 8 ∗ vtP m 0 4 ∗ vtP m 0 12 ∗ vtP m 0 10 ∗ vtP m 0 6 ∗ vtP m 0 14 ∗ vtP m 0 0 ∗ vtP m 0 2 ∗ slotE 0 0 0 ∗ slotE 0 0 1 ∗ slotE 0 1 0 ∗ slotE 0 1 1 ∗ lcl 0 24 ∗ lcl 0 25 ∗ lcl 0 26 ∗ lcl 0 27 ∗ snd 0 4 1 20 ∗ snd 0 5 3 20 ∗ snd 0 6 1 16 ∗ snd 0 7 1 18 ∗ snd 0 8 3 16 ∗ snd 0 9 3 18 ∗ snd 0 10 1 21 ∗ snd 0 11 3 21 ∗ snd 0 12 1 17 ∗ snd 0 13 1 19 ∗ snd 0 14 3 17 ∗ snd 0 15 3 19 ∗ cred (tallyAt (barC 0) () 3) ∗ atPos ER (barC 0) 0 ∅ 0 ∗ chunks0 0 ∗ chunks1 0) from Entails.refl _) $$ H11
  sl_exec
  iapply (wp_lcl m K 0 1 (src := (Memref.whole main_arg0)) (dst := (Memref.whole cc0_scratch0)) rfl rfl (by decide) rfl (P := pc 0 (Memref.whole main_arg0) (Xa m 0)) (D := pcE 0 (Memref.whole cc0_scratch0)) (Xa m 0) (Entails.refl _) (Entails.refl _) (fun fd => in_pay 0 (Memref.whole cc0_scratch0) (Memref.whole main_arg0) (Xa m 0) (Xa m 0) (fun _ => rfl) fd (Entails.refl _))) $$ [H1 H2 H8]
  · isplitr; · iexact HC
    isplitl [H1]; · iexact H1
    isplitl [H2]; · iexact H2
    iexact H8
  iintro H52
  sl_exec
  iapply (wp_lcl m K 0 2 (src := (Memref.whole main_arg1)) (dst := (Memref.whole cc0_scratch1)) rfl rfl (by decide) rfl (P := pc 0 (Memref.whole main_arg1) (Wqa m 0)) (D := pcE 0 (Memref.whole cc0_scratch1)) (Wqa m 0) (Entails.refl _) (Entails.refl _) (fun fd => in_pay 0 (Memref.whole cc0_scratch1) (Memref.whole main_arg1) (Wqa m 0) (Wqa m 0) (fun _ => rfl) fd (Entails.refl _))) $$ [H3 H4 H9]
  · isplitr; · iexact HC
    isplitl [H3]; · iexact H3
    isplitl [H4]; · iexact H4
    iexact H9
  iintro H53
  sl_exec
  iapply (wp_lcl m K 0 3 (src := (Memref.whole main_arg4)) (dst := (Memref.whole cc0_scratch2)) rfl rfl (by decide) rfl (P := pc 0 (Memref.whole main_arg4) (Woa m 0)) (D := pcE 0 (Memref.whole cc0_scratch2)) (Woa m 0) (Entails.refl _) (Entails.refl _) (fun fd => in_pay 0 (Memref.whole cc0_scratch2) (Memref.whole main_arg4) (Woa m 0) (Woa m 0) (fun _ => rfl) fd (Entails.refl _))) $$ [H5 H6 H10]
  · isplitr; · iexact HC
    isplitl [H5]; · iexact H5
    isplitl [H6]; · iexact H6
    iexact H10
  iintro H54
  sl_exec
  iapply (wp_bar m K rfl (List.drop 0 (dA 0)) rfl) $$ [H48 H49 HO]
  · isplitr; · iexact HC
    isplitl [H48]; · iexact H48
    isplitl [H49]; · iexact H49
    iexact HO
  iintro ⟨H55, ⟨H56, H57, H58⟩, HO⟩
  ihave ⟨H59, H60, H61, H62, H63, H64, H65⟩ := (show (barPay 1 : sProp 𝕄) ⊢ iprop(slotF 1 0 0 16 ∗ slotF 1 0 1 17 ∗ slotF 1 1 0 18 ∗ slotF 1 1 1 19 ∗ slotF 1 2 0 20 ∗ slotF 1 2 1 21 ∗ chunks0 1) from Entails.refl _) $$ H56
  ihave ⟨H66, H67, H68, H69, H70, H71⟩ := (show (barPay 2 : sProp 𝕄) ⊢ iprop(slotF 2 0 0 16 ∗ slotF 2 0 1 17 ∗ slotF 2 1 0 18 ∗ slotF 2 1 1 19 ∗ chunks0 2 ∗ chunks1 2) from Entails.refl _) $$ H57
  ihave ⟨H72, H73, H74, H75, H76, H77, H78⟩ := (show (barPay 3 : sProp 𝕄) ⊢ iprop(slotF 3 0 0 16 ∗ slotF 3 0 1 17 ∗ slotF 3 1 0 18 ∗ slotF 3 1 1 19 ∗ slotF 3 2 0 20 ∗ slotF 3 2 1 21 ∗ chunks1 3) from Entails.refl _) $$ H58
  ihave H79 := (show iprop(slotF 2 0 0 16 ∗ slotF 2 0 1 17 ∗ chunks1 2 ∗ chunks0 0) ⊢ (extra20 1 : sProp 𝕄) from Entails.refl _) $$ [H66 H67 H71 H50]
  · isplitl [H66]; · iexact H66
    isplitl [H67]; · iexact H67
    isplitl [H71]; · iexact H71
    iexact H50
  ihave H80 := (show iprop(slotF 2 1 0 18 ∗ slotF 2 1 1 19 ∗ chunks0 2 ∗ chunks1 0) ⊢ (extra20 3 : sProp 𝕄) from Entails.refl _) $$ [H68 H69 H70 H51]
  · isplitl [H68]; · iexact H68
    isplitl [H69]; · iexact H69
    isplitl [H70]; · iexact H70
    iexact H51
  sl_exec
  iapply (snd_kt m K 1 2 0 8 _ _ 4 20 (Or.inr ⟨rfl, rfl⟩) (by decide) rfl rfl rfl rfl rfl rfl (by decide) (by decide) rfl rfl (extra20 1) (Entails.refl _) (Entails.refl _) (List.drop 1 (dA 0))) $$ [H12 H63 H79 H36 HO]
  · isplitr; · iexact HC
    isplitl [H12]; · iexact H12
    isplitl [H63]; · iexact H63
    isplitl [H79]; · iexact H79
    isplitl [H36]; · iexact H36
    iexact HO
  iintro ⟨H81, HO⟩
  sl_exec
  iapply (snd_vt m K 3 2 0 8 _ _ 5 20 (Or.inr ⟨rfl, rfl⟩) (by decide) rfl rfl rfl rfl rfl rfl (by decide) (by decide) rfl rfl (extra20 3) (Entails.refl _) (Entails.refl _) (List.drop 2 (dA 0))) $$ [H20 H76 H80 H37 HO]
  · isplitr; · iexact HC
    isplitl [H20]; · iexact H20
    isplitl [H76]; · iexact H76
    isplitl [H80]; · iexact H80
    isplitl [H37]; · iexact H37
    iexact HO
  iintro ⟨H82, HO⟩
  sl_exec
  iapply (snd_kt m K 1 0 0 4 _ _ 6 16 (Or.inl rfl) (by decide) rfl rfl rfl rfl rfl rfl (by decide) (by decide) rfl rfl iprop(emp) (Entails.refl _) (Entails.refl _) (List.drop 3 (dA 0))) $$ [H13 H59  H38 HO]
  · isplitr; · iexact HC
    isplitl [H13]; · iexact H13
    isplitl [H59]; · iexact H59
    isplitr; · iempintro
    isplitl [H38]; · iexact H38
    iexact HO
  iintro ⟨H83, HO⟩
  sl_exec
  iapply (snd_vt m K 1 1 0 4 _ _ 7 18 (Or.inl rfl) (by decide) rfl rfl rfl rfl rfl rfl (by decide) (by decide) rfl rfl iprop(emp) (Entails.refl _) (Entails.refl _) (List.drop 4 (dA 0))) $$ [H21 H61  H39 HO]
  · isplitr; · iexact HC
    isplitl [H21]; · iexact H21
    isplitl [H61]; · iexact H61
    isplitr; · iempintro
    isplitl [H39]; · iexact H39
    iexact HO
  iintro ⟨H84, HO⟩
  sl_exec
  iapply (snd_kt m K 3 0 0 12 _ _ 8 16 (Or.inl rfl) (by decide) rfl rfl rfl rfl rfl rfl (by decide) (by decide) rfl rfl iprop(emp) (Entails.refl _) (Entails.refl _) (List.drop 5 (dA 0))) $$ [H14 H72  H40 HO]
  · isplitr; · iexact HC
    isplitl [H14]; · iexact H14
    isplitl [H72]; · iexact H72
    isplitr; · iempintro
    isplitl [H40]; · iexact H40
    iexact HO
  iintro ⟨H85, HO⟩
  sl_exec
  iapply (snd_vt m K 3 1 0 12 _ _ 9 18 (Or.inl rfl) (by decide) rfl rfl rfl rfl rfl rfl (by decide) (by decide) rfl rfl iprop(emp) (Entails.refl _) (Entails.refl _) (List.drop 6 (dA 0))) $$ [H22 H74  H41 HO]
  · isplitr; · iexact HC
    isplitl [H22]; · iexact H22
    isplitl [H74]; · iexact H74
    isplitr; · iempintro
    isplitl [H41]; · iexact H41
    iexact HO
  iintro ⟨H86, HO⟩
  sl_exec
  iapply (snd_kt m K 1 2 1 10 _ _ 10 21 (Or.inr ⟨rfl, rfl⟩) (by decide) rfl rfl rfl rfl rfl rfl (by decide) (by decide) rfl rfl iprop(emp) (Entails.refl _) emp_r (List.drop 7 (dA 0))) $$ [H15 H64  H42 HO]
  · isplitr; · iexact HC
    isplitl [H15]; · iexact H15
    isplitl [H64]; · iexact H64
    isplitr; · iempintro
    isplitl [H42]; · iexact H42
    iexact HO
  iintro ⟨H87, HO⟩
  sl_exec
  iapply (snd_vt m K 3 2 1 10 _ _ 11 21 (Or.inr ⟨rfl, rfl⟩) (by decide) rfl rfl rfl rfl rfl rfl (by decide) (by decide) rfl rfl iprop(emp) (Entails.refl _) emp_r (List.drop 8 (dA 0))) $$ [H23 H77  H43 HO]
  · isplitr; · iexact HC
    isplitl [H23]; · iexact H23
    isplitl [H77]; · iexact H77
    isplitr; · iempintro
    isplitl [H43]; · iexact H43
    iexact HO
  iintro ⟨H88, HO⟩
  sl_exec
  iapply (snd_kt m K 1 0 1 6 _ _ 12 17 (Or.inl rfl) (by decide) rfl rfl rfl rfl rfl rfl (by decide) (by decide) rfl rfl iprop(emp) (Entails.refl _) emp_r (List.drop 9 (dA 0))) $$ [H16 H60  H44 HO]
  · isplitr; · iexact HC
    isplitl [H16]; · iexact H16
    isplitl [H60]; · iexact H60
    isplitr; · iempintro
    isplitl [H44]; · iexact H44
    iexact HO
  iintro ⟨H89, HO⟩
  sl_exec
  iapply (snd_vt m K 1 1 1 6 _ _ 13 19 (Or.inl rfl) (by decide) rfl rfl rfl rfl rfl rfl (by decide) (by decide) rfl rfl iprop(emp) (Entails.refl _) emp_r (List.drop 10 (dA 0))) $$ [H24 H62  H45 HO]
  · isplitr; · iexact HC
    isplitl [H24]; · iexact H24
    isplitl [H62]; · iexact H62
    isplitr; · iempintro
    isplitl [H45]; · iexact H45
    iexact HO
  iintro ⟨H90, HO⟩
  sl_exec
  iapply (snd_kt m K 3 0 1 14 _ _ 14 17 (Or.inl rfl) (by decide) rfl rfl rfl rfl rfl rfl (by decide) (by decide) rfl rfl iprop(emp) (Entails.refl _) emp_r (List.drop 11 (dA 0))) $$ [H17 H73  H46 HO]
  · isplitr; · iexact HC
    isplitl [H17]; · iexact H17
    isplitl [H73]; · iexact H73
    isplitr; · iempintro
    isplitl [H46]; · iexact H46
    iexact HO
  iintro ⟨H91, HO⟩
  sl_exec
  iapply (snd_vt m K 3 1 1 14 _ _ 15 19 (Or.inl rfl) (by decide) rfl rfl rfl rfl rfl rfl (by decide) (by decide) rfl rfl iprop(emp) (Entails.refl _) emp_r (List.drop 12 (dA 0))) $$ [H25 H75  H47 HO]
  · isplitr; · iexact HC
    isplitl [H25]; · iexact H25
    isplitl [H75]; · iexact H75
    isplitr; · iempintro
    isplitl [H47]; · iexact H47
    iexact HO
  iintro ⟨H92, HO⟩
  sl_exec
  iapply (lcl_kt m K 0 0 0 _ _ 24 (Or.inl rfl) (by decide) rfl rfl rfl (by decide) rfl (Entails.refl _)) $$ [H18 H28 H32]
  · isplitr; · iexact HC
    isplitl [H18]; · iexact H18
    isplitl [H28]; · iexact H28
    iexact H32
  iintro H93
  sl_exec
  iapply (lcl_kt m K 0 1 2 _ _ 25 (Or.inl rfl) (by decide) rfl rfl rfl (by decide) rfl (Entails.refl _)) $$ [H19 H29 H33]
  · isplitr; · iexact HC
    isplitl [H19]; · iexact H19
    isplitl [H29]; · iexact H29
    iexact H33
  iintro H94
  sl_exec
  iapply (lcl_vt m K 1 0 0 _ _ 26 (Or.inl rfl) (by decide) rfl rfl rfl (by decide) rfl (Entails.refl _)) $$ [H26 H30 H34]
  · isplitr; · iexact HC
    isplitl [H26]; · iexact H26
    isplitl [H30]; · iexact H30
    iexact H34
  iintro H95
  sl_exec
  iapply (lcl_vt m K 1 1 2 _ _ 27 (Or.inl rfl) (by decide) rfl rfl rfl (by decide) rfl (Entails.refl _)) $$ [H27 H31 H35]
  · isplitr; · iexact HC
    isplitl [H27]; · iexact H27
    isplitl [H31]; · iexact H31
    iexact H35
  iintro H96
  sl_exec
  iapply (wp_wt m K 0 1 (s := S2x128x512) (ty := .f32) rfl rfl (by decide) (fun _ => rfl) (List.drop 12 (dA 0)) rfl) $$ [H52 HO]
  · isplitr; · iexact HC
    isplitl [H52]; · iexact H52
    iexact HO
  iintro ⟨H97, H98, HO⟩
  ihave ⟨H99, H100⟩ := (show (pay m 0 1 : sProp 𝕄) ⊢ iprop(pc 0 (Memref.whole cc0_scratch0) (Xa m 0) ∗ pc 0 (Memref.whole main_arg0) (Xa m 0)) from Entails.refl _) $$ H98
  sl_exec
  iapply (wp_wt m K 0 2 (s := S512x256) (ty := .f32) rfl rfl (by decide) (fun _ => rfl) (List.drop 12 (dA 0)) rfl) $$ [H53 HO]
  · isplitr; · iexact HC
    isplitl [H53]; · iexact H53
    iexact HO
  iintro ⟨H101, H102, HO⟩
  ihave ⟨H103, H104⟩ := (show (pay m 0 2 : sProp 𝕄) ⊢ iprop(pc 0 (Memref.whole cc0_scratch1) (Wqa m 0) ∗ pc 0 (Memref.whole main_arg1) (Wqa m 0)) from Entails.refl _) $$ H102
  unfold pc
  unfold pcE
  icases H7 with ⟨%qf, H7⟩
  sl_exec
  unfold segA0.sl.r_1
  ihave Hq := (q_done m 0 qf _ _ _ _ _) $$ H7
  iapply (wp_wt m K 0 24 (s := S2x2x64x128) (ty := .bf16) rfl rfl (by decide) (fun _ => rfl) (List.drop 12 (dA 0)) rfl) $$ [H93 HO]
  · isplitr; · iexact HC
    isplitl [H93]; · iexact H93
    iexact HO
  iintro ⟨H105, H106, HO⟩
  ihave ⟨H107, H108⟩ := (show (pay m 0 24 : sProp 𝕄) ⊢ iprop(slotP m 0 0 0 ∗ ktP m 0 0) from Entails.refl _) $$ H106
  sl_exec
  iapply (wp_wt m K 0 26 (s := S2x2x64x128) (ty := .bf16) rfl rfl (by decide) (fun _ => rfl) (List.drop 12 (dA 0)) rfl) $$ [H95 HO]
  · isplitr; · iexact HC
    isplitl [H95]; · iexact H95
    iexact HO
  iintro ⟨H109, H110, HO⟩
  ihave ⟨H111, H112⟩ := (show (pay m 0 26 : sProp 𝕄) ⊢ iprop(slotP m 0 1 0 ∗ vtP m 0 0) from Entails.refl _) $$ H110
  unfold pc
  sl_exec
  iapply Hk
  isplitr [HO]
  · unfold afterA pc
    isplitl [H107]; · iexact H107
    isplitl [H111]; · iexact H111
    isplitl [Hq]; · iexact Hq
    isplitl [H99 H100]
    · iapply (show iprop(own 0 (Memref.whole cc0_scratch0) (Xa m 0) ∗ own 0 (Memref.whole main_arg0) (Xa m 0)) ⊢ (inP m 0 1 : sProp 𝕄) from Entails.refl _)
      isplitl [H99]; · iexact H99
      iexact H100
    isplitl [H103 H104]
    · iapply (show iprop(own 0 (Memref.whole cc0_scratch1) (Wqa m 0) ∗ own 0 (Memref.whole main_arg1) (Wqa m 0)) ⊢ (inP m 0 2 : sProp 𝕄) from Entails.refl _)
      isplitl [H103]; · iexact H103
      iexact H104
    isplitl [H54]; · iexact H54
    isplitl [H97]; · iexact H97
    isplitl [H101]; · iexact H101
    isplitl [H65]; · iexact H65
    isplitl [H78]; · iexact H78
    unfold restA
    isplitl [H108]; · iexact H108
    isplitl [H112]; · iexact H112
    isplitl [H105]; · iexact H105
    isplitl [H109]; · iexact H109
    isplitl [H94]; · iexact H94
    isplitl [H96]; · iexact H96
    isplitl [H81]; · iexact H81
    isplitl [H82]; · iexact H82
    isplitl [H83]; · iexact H83
    isplitl [H84]; · iexact H84
    isplitl [H85]; · iexact H85
    isplitl [H86]; · iexact H86
    isplitl [H87]; · iexact H87
    isplitl [H88]; · iexact H88
    isplitl [H89]; · iexact H89
    isplitl [H90]; · iexact H90
    isplitl [H91]; · iexact H91
    isplitl [H92]; · iexact H92
    iexact H55
  · iexact HO

end Cert.KernelIdeal.Attn
end
-- ==== Proof.KernelIdeal.SegA1.lean ====
/- Device 1, first stage: the inputs, the queries, and the first heads. -/
module

public import proofs.«01_k».proof.Proof.KernelIdeal.Sends
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 1000000 in
/-- Device 1: its queries and the first heads. -/
theorem segA1 (K : GSem nD τ sig → ℕ) (a5 : Memref sig .tc .vmem S2x128x512 .f32) (ha5 : a5.IsWhole)
    {α : Type} (Q : α → sProp 𝕄) (κ : Dev nD → BitVec 32 → BitVec 32 → BitVec 32 → FVec F S64x64 .bf16 → Prog (TpuEff nD τ sig (Elt F) Λ₀ .tc) α) :
    iprop(ctx m K 1 ∗ startA m 1 ∗ ow 1 (dA 1)
      ∗ ((afterA m 1 ∗ ow 1 (dB 1)) -∗ wp frame (wpE (defs₀ (F := F)) 𝒱₀ ((1 : Dev nD) : Thread nD τ) none) Set.univ
          (κ (1 : Dev nD) (posw 1) (Scalar.xori (posw 1) 1#32) (Scalar.subi 3#32 (posw 1)) (k0_pay5 (qBlk (Qb m 1) 0 0 0))) Q))
     ⊢ wp frame (wpE (defs₀ (F := F)) 𝒱₀ (((1 : Dev nD)) : Thread nD τ) none) Set.univ (progA a5 ha5 κ) Q := by
  unfold startA
  rw [← rd_q 0 0 0 inb_S2x128x256_S1x64x64_0_0_0 (Qb m 1) 0 0 0 rfl rfl rfl]
  unfold progA progAX
  iintro ⟨#HC, ⟨H1, H2, H3, H4, H5, H6, H7, H8, H9, H10, H11⟩, HO, Hk⟩
  ihave ⟨H12, H13, H14, H15, H16, H17, H18, H19, H20, H21, H22⟩ := (show (specA m 1 : sProp 𝕄) ⊢ iprop(barPay 1 ∗ dutyTok ER (barC 0) 0 1 ∗ snd 1 22 2 16 ∗ snd 1 23 2 17 ∗ wt 1 20 ∗ wt 1 21 ∗ wt 1 16 ∗ wt 1 18 ∗ wt 1 17 ∗ wt 1 19 ∗ chunks1 1) from Entails.refl _) $$ H11
  sl_exec
  iapply (wp_lcl m K 1 1 (src := (Memref.whole main_arg0)) (dst := (Memref.whole cc0_scratch0)) rfl rfl (by decide) rfl (P := pc 1 (Memref.whole main_arg0) (Xa m 1)) (D := pcE 1 (Memref.whole cc0_scratch0)) (Xa m 1) (Entails.refl _) (Entails.refl _) (fun fd => in_pay 1 (Memref.whole cc0_scratch0) (Memref.whole main_arg0) (Xa m 1) (Xa m 1) (fun _ => rfl) fd (Entails.refl _))) $$ [H1 H2 H8]
  · isplitr; · iexact HC
    isplitl [H1]; · iexact H1
    isplitl [H2]; · iexact H2
    iexact H8
  iintro H23
  sl_exec
  iapply (wp_lcl m K 1 2 (src := (Memref.whole main_arg1)) (dst := (Memref.whole cc0_scratch1)) rfl rfl (by decide) rfl (P := pc 1 (Memref.whole main_arg1) (Wqa m 1)) (D := pcE 1 (Memref.whole cc0_scratch1)) (Wqa m 1) (Entails.refl _) (Entails.refl _) (fun fd => in_pay 1 (Memref.whole cc0_scratch1) (Memref.whole main_arg1) (Wqa m 1) (Wqa m 1) (fun _ => rfl) fd (Entails.refl _))) $$ [H3 H4 H9]
  · isplitr; · iexact HC
    isplitl [H3]; · iexact H3
    isplitl [H4]; · iexact H4
    iexact H9
  iintro H24
  sl_exec
  iapply (wp_lcl m K 1 3 (src := (Memref.whole main_arg4)) (dst := (Memref.whole cc0_scratch2)) rfl rfl (by decide) rfl (P := pc 1 (Memref.whole main_arg4) (Woa m 1)) (D := pcE 1 (Memref.whole cc0_scratch2)) (Woa m 1) (Entails.refl _) (Entails.refl _) (fun fd => in_pay 1 (Memref.whole cc0_scratch2) (Memref.whole main_arg4) (Woa m 1) (Woa m 1) (fun _ => rfl) fd (Entails.refl _))) $$ [H5 H6 H10]
  · isplitr; · iexact HC
    isplitl [H5]; · iexact H5
    isplitl [H6]; · iexact H6
    iexact H10
  iintro H25
  sl_exec
  iapply (wp_sig m K 1 (by decide) rfl rfl (List.drop 1 (dA 1))) $$ [H12 H13 HO]
  · isplitr; · iexact HC
    isplitl [H12]; · iexact H12
    isplitl [H13]; · iexact H13
    iexact HO
  iintro HO
  sl_exec
  iapply (wp_wt m K 1 1 (s := S2x128x512) (ty := .f32) rfl rfl (by decide) (fun _ => rfl) (List.drop 1 (dA 1)) rfl) $$ [H23 HO]
  · isplitr; · iexact HC
    isplitl [H23]; · iexact H23
    iexact HO
  iintro ⟨H26, H27, HO⟩
  ihave ⟨H28, H29⟩ := (show (pay m 1 1 : sProp 𝕄) ⊢ iprop(pc 1 (Memref.whole cc0_scratch0) (Xa m 1) ∗ pc 1 (Memref.whole main_arg0) (Xa m 1)) from Entails.refl _) $$ H27
  sl_exec
  iapply (wp_wt m K 1 2 (s := S512x256) (ty := .f32) rfl rfl (by decide) (fun _ => rfl) (List.drop 1 (dA 1)) rfl) $$ [H24 HO]
  · isplitr; · iexact HC
    isplitl [H24]; · iexact H24
    iexact HO
  iintro ⟨H30, H31, HO⟩
  ihave ⟨H32, H33⟩ := (show (pay m 1 2 : sProp 𝕄) ⊢ iprop(pc 1 (Memref.whole cc0_scratch1) (Wqa m 1) ∗ pc 1 (Memref.whole main_arg1) (Wqa m 1)) from Entails.refl _) $$ H31
  unfold pc
  unfold pcE
  icases H7 with ⟨%qf, H7⟩
  sl_exec
  unfold segA1.sl.r_1
  ihave Hq := (q_done m 1 qf _ _ _ _ _) $$ H7
  iapply (wp_wt m K 1 20 (s := S2x2x64x128) (ty := .bf16) rfl rfl (by decide) (fun _ => rfl) (List.drop 1 (dA 1)) rfl) $$ [H16 HO]
  · isplitr; · iexact HC
    isplitl [H16]; · iexact H16
    iexact HO
  iintro ⟨H34, H35, HO⟩
  ihave ⟨H36, H37⟩ := (show (pay m 1 20 : sProp 𝕄) ⊢ iprop(slotP m 1 2 0 ∗ extra20 1) from Entails.refl _) $$ H35
  ihave ⟨H38, H39, H40, H41⟩ := (show (extra20 1 : sProp 𝕄) ⊢ iprop(slotF 2 0 0 16 ∗ slotF 2 0 1 17 ∗ chunks1 2 ∗ chunks0 0) from Entails.refl _) $$ H37
  sl_exec
  iapply (snd_fwd m K 1 0 0 _ _ 22 16 (Or.inl ⟨rfl, rfl⟩) (by decide) rfl rfl rfl rfl rfl (by decide) (by decide) rfl rfl (chunks1 1) (Entails.refl _) (Entails.refl _) (List.drop 2 (dA 1))) $$ [H36 H38 H22 H14 HO]
  · isplitr; · iexact HC
    isplitl [H36]; · iexact H36
    isplitl [H38]; · iexact H38
    isplitl [H22]; · iexact H22
    isplitl [H14]; · iexact H14
    iexact HO
  iintro ⟨H42, HO⟩
  sl_exec
  iapply (wp_wt m K 1 16 (s := S2x2x64x128) (ty := .bf16) rfl rfl (by decide) (fun _ => rfl) (List.drop 2 (dA 1)) rfl) $$ [H18 HO]
  · isplitr; · iexact HC
    isplitl [H18]; · iexact H18
    iexact HO
  iintro ⟨H43, H44, HO⟩
  ihave ⟨H45, H46⟩ := (show (pay m 1 16 : sProp 𝕄) ⊢ iprop(slotP m 1 0 0 ∗ extra16 1) from Entails.refl _) $$ H44
  sl_exec
  iapply (wp_wt m K 1 18 (s := S2x2x64x128) (ty := .bf16) rfl rfl (by decide) (fun _ => rfl) (List.drop 2 (dA 1)) rfl) $$ [H19 HO]
  · isplitr; · iexact HC
    isplitl [H19]; · iexact H19
    iexact HO
  iintro ⟨H47, H48, HO⟩
  ihave ⟨H49, H50⟩ := (show (pay m 1 18 : sProp 𝕄) ⊢ iprop(slotP m 1 1 0 ∗ extra18 1) from Entails.refl _) $$ H48
  unfold pc
  sl_exec
  iapply Hk
  isplitr [HO]
  · unfold afterA pc
    isplitl [H45]; · iexact H45
    isplitl [H49]; · iexact H49
    isplitl [Hq]; · iexact Hq
    isplitl [H28 H29]
    · iapply (show iprop(own 1 (Memref.whole cc0_scratch0) (Xa m 1) ∗ own 1 (Memref.whole main_arg0) (Xa m 1)) ⊢ (inP m 1 1 : sProp 𝕄) from Entails.refl _)
      isplitl [H28]; · iexact H28
      iexact H29
    isplitl [H32 H33]
    · iapply (show iprop(own 1 (Memref.whole cc0_scratch1) (Wqa m 1) ∗ own 1 (Memref.whole main_arg1) (Wqa m 1)) ⊢ (inP m 1 2 : sProp 𝕄) from Entails.refl _)
      isplitl [H32]; · iexact H32
      iexact H33
    isplitl [H25]; · iexact H25
    isplitl [H26]; · iexact H26
    isplitl [H30]; · iexact H30
    isplitl [H41]; · iexact H41
    isplitl [H40]; · iexact H40
    unfold restA
    isplitl [H39]; · iexact H39
    isplitl [H15]; · iexact H15
    isplitl [H17]; · iexact H17
    isplitl [H20]; · iexact H20
    isplitl [H21]; · iexact H21
    isplitl [H42]; · iexact H42
    isplitl [H34]; · iexact H34
    isplitl [H43]; · iexact H43
    iexact H47
  · iexact HO

end Cert.KernelIdeal.Attn
end
-- ==== Proof.KernelIdeal.SegA2.lean ====
/- Device 2, first stage: the inputs, the queries, and the first heads. -/
module

public import proofs.«01_k».proof.Proof.KernelIdeal.Sends
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 1000000 in
/-- Device 2: its queries and the first heads. -/
theorem segA2 (K : GSem nD τ sig → ℕ) (a5 : Memref sig .tc .vmem S2x128x512 .f32) (ha5 : a5.IsWhole)
    {α : Type} (Q : α → sProp 𝕄) (κ : Dev nD → BitVec 32 → BitVec 32 → BitVec 32 → FVec F S64x64 .bf16 → Prog (TpuEff nD τ sig (Elt F) Λ₀ .tc) α) :
    iprop(ctx m K 2 ∗ startA m 2 ∗ ow 2 (dA 2)
      ∗ ((afterA m 2 ∗ ow 2 (dB 2)) -∗ wp frame (wpE (defs₀ (F := F)) 𝒱₀ ((2 : Dev nD) : Thread nD τ) none) Set.univ
          (κ (2 : Dev nD) (posw 2) (Scalar.xori (posw 2) 1#32) (Scalar.subi 3#32 (posw 2)) (k0_pay5 (qBlk (Qb m 2) 0 0 0))) Q))
     ⊢ wp frame (wpE (defs₀ (F := F)) 𝒱₀ (((2 : Dev nD)) : Thread nD τ) none) Set.univ (progA a5 ha5 κ) Q := by
  unfold startA
  rw [← rd_q 0 0 0 inb_S2x128x256_S1x64x64_0_0_0 (Qb m 2) 0 0 0 rfl rfl rfl]
  unfold progA progAX
  iintro ⟨#HC, ⟨H1, H2, H3, H4, H5, H6, H7, H8, H9, H10, H11⟩, HO, Hk⟩
  ihave ⟨H12, H13, H14, H15, H16, H17⟩ := (show (specA m 2 : sProp 𝕄) ⊢ iprop(barPay 2 ∗ dutyTok ER (barC 0) 0 2 ∗ wt 2 16 ∗ wt 2 18 ∗ wt 2 17 ∗ wt 2 19) from Entails.refl _) $$ H11
  sl_exec
  iapply (wp_lcl m K 2 1 (src := (Memref.whole main_arg0)) (dst := (Memref.whole cc0_scratch0)) rfl rfl (by decide) rfl (P := pc 2 (Memref.whole main_arg0) (Xa m 2)) (D := pcE 2 (Memref.whole cc0_scratch0)) (Xa m 2) (Entails.refl _) (Entails.refl _) (fun fd => in_pay 2 (Memref.whole cc0_scratch0) (Memref.whole main_arg0) (Xa m 2) (Xa m 2) (fun _ => rfl) fd (Entails.refl _))) $$ [H1 H2 H8]
  · isplitr; · iexact HC
    isplitl [H1]; · iexact H1
    isplitl [H2]; · iexact H2
    iexact H8
  iintro H18
  sl_exec
  iapply (wp_lcl m K 2 2 (src := (Memref.whole main_arg1)) (dst := (Memref.whole cc0_scratch1)) rfl rfl (by decide) rfl (P := pc 2 (Memref.whole main_arg1) (Wqa m 2)) (D := pcE 2 (Memref.whole cc0_scratch1)) (Wqa m 2) (Entails.refl _) (Entails.refl _) (fun fd => in_pay 2 (Memref.whole cc0_scratch1) (Memref.whole main_arg1) (Wqa m 2) (Wqa m 2) (fun _ => rfl) fd (Entails.refl _))) $$ [H3 H4 H9]
  · isplitr; · iexact HC
    isplitl [H3]; · iexact H3
    isplitl [H4]; · iexact H4
    iexact H9
  iintro H19
  sl_exec
  iapply (wp_lcl m K 2 3 (src := (Memref.whole main_arg4)) (dst := (Memref.whole cc0_scratch2)) rfl rfl (by decide) rfl (P := pc 2 (Memref.whole main_arg4) (Woa m 2)) (D := pcE 2 (Memref.whole cc0_scratch2)) (Woa m 2) (Entails.refl _) (Entails.refl _) (fun fd => in_pay 2 (Memref.whole cc0_scratch2) (Memref.whole main_arg4) (Woa m 2) (Woa m 2) (fun _ => rfl) fd (Entails.refl _))) $$ [H5 H6 H10]
  · isplitr; · iexact HC
    isplitl [H5]; · iexact H5
    isplitl [H6]; · iexact H6
    iexact H10
  iintro H20
  sl_exec
  iapply (wp_sig m K 2 (by decide) rfl rfl (List.drop 1 (dA 2))) $$ [H12 H13 HO]
  · isplitr; · iexact HC
    isplitl [H12]; · iexact H12
    isplitl [H13]; · iexact H13
    iexact HO
  iintro HO
  sl_exec
  iapply (wp_wt m K 2 1 (s := S2x128x512) (ty := .f32) rfl rfl (by decide) (fun _ => rfl) (List.drop 1 (dA 2)) rfl) $$ [H18 HO]
  · isplitr; · iexact HC
    isplitl [H18]; · iexact H18
    iexact HO
  iintro ⟨H21, H22, HO⟩
  ihave ⟨H23, H24⟩ := (show (pay m 2 1 : sProp 𝕄) ⊢ iprop(pc 2 (Memref.whole cc0_scratch0) (Xa m 2) ∗ pc 2 (Memref.whole main_arg0) (Xa m 2)) from Entails.refl _) $$ H22
  sl_exec
  iapply (wp_wt m K 2 2 (s := S512x256) (ty := .f32) rfl rfl (by decide) (fun _ => rfl) (List.drop 1 (dA 2)) rfl) $$ [H19 HO]
  · isplitr; · iexact HC
    isplitl [H19]; · iexact H19
    iexact HO
  iintro ⟨H25, H26, HO⟩
  ihave ⟨H27, H28⟩ := (show (pay m 2 2 : sProp 𝕄) ⊢ iprop(pc 2 (Memref.whole cc0_scratch1) (Wqa m 2) ∗ pc 2 (Memref.whole main_arg1) (Wqa m 2)) from Entails.refl _) $$ H26
  unfold pc
  unfold pcE
  icases H7 with ⟨%qf, H7⟩
  sl_exec
  unfold segA2.sl.r_1
  ihave Hq := (q_done m 2 qf _ _ _ _ _) $$ H7
  iapply (wp_wt m K 2 16 (s := S2x2x64x128) (ty := .bf16) rfl rfl (by decide) (fun _ => rfl) (List.drop 1 (dA 2)) rfl) $$ [H14 HO]
  · isplitr; · iexact HC
    isplitl [H14]; · iexact H14
    iexact HO
  iintro ⟨H29, H30, HO⟩
  ihave ⟨H31, H32⟩ := (show (pay m 2 16 : sProp 𝕄) ⊢ iprop(slotP m 2 0 0 ∗ extra16 2) from Entails.refl _) $$ H30
  sl_exec
  iapply (wp_wt m K 2 18 (s := S2x2x64x128) (ty := .bf16) rfl rfl (by decide) (fun _ => rfl) (List.drop 1 (dA 2)) rfl) $$ [H15 HO]
  · isplitr; · iexact HC
    isplitl [H15]; · iexact H15
    iexact HO
  iintro ⟨H33, H34, HO⟩
  ihave ⟨H35, H36⟩ := (show (pay m 2 18 : sProp 𝕄) ⊢ iprop(slotP m 2 1 0 ∗ extra18 2) from Entails.refl _) $$ H34
  ihave H37 := (show (extra16 2 : sProp 𝕄) ⊢ chunks1 1 from Entails.refl _) $$ H32
  ihave H38 := (show (extra18 2 : sProp 𝕄) ⊢ chunks0 3 from Entails.refl _) $$ H36
  unfold pc
  sl_exec
  iapply Hk
  isplitr [HO]
  · unfold afterA pc
    isplitl [H31]; · iexact H31
    isplitl [H35]; · iexact H35
    isplitl [Hq]; · iexact Hq
    isplitl [H23 H24]
    · iapply (show iprop(own 2 (Memref.whole cc0_scratch0) (Xa m 2) ∗ own 2 (Memref.whole main_arg0) (Xa m 2)) ⊢ (inP m 2 1 : sProp 𝕄) from Entails.refl _)
      isplitl [H23]; · iexact H23
      iexact H24
    isplitl [H27 H28]
    · iapply (show iprop(own 2 (Memref.whole cc0_scratch1) (Wqa m 2) ∗ own 2 (Memref.whole main_arg1) (Wqa m 2)) ⊢ (inP m 2 2 : sProp 𝕄) from Entails.refl _)
      isplitl [H27]; · iexact H27
      iexact H28
    isplitl [H20]; · iexact H20
    isplitl [H21]; · iexact H21
    isplitl [H25]; · iexact H25
    isplitl [H38]; · iexact H38
    isplitl [H37]; · iexact H37
    unfold restA
    isplitl [H16]; · iexact H16
    isplitl [H17]; · iexact H17
    isplitl [H29]; · iexact H29
    iexact H33
  · iexact HO

end Cert.KernelIdeal.Attn
end
-- ==== Proof.KernelIdeal.SegA3.lean ====
/- Device 3, first stage: the inputs, the queries, and the first heads. -/
module

public import proofs.«01_k».proof.Proof.KernelIdeal.Sends
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 1000000 in
/-- Device 3: its queries and the first heads. -/
theorem segA3 (K : GSem nD τ sig → ℕ) (a5 : Memref sig .tc .vmem S2x128x512 .f32) (ha5 : a5.IsWhole)
    {α : Type} (Q : α → sProp 𝕄) (κ : Dev nD → BitVec 32 → BitVec 32 → BitVec 32 → FVec F S64x64 .bf16 → Prog (TpuEff nD τ sig (Elt F) Λ₀ .tc) α) :
    iprop(ctx m K 3 ∗ startA m 3 ∗ ow 3 (dA 3)
      ∗ ((afterA m 3 ∗ ow 3 (dB 3)) -∗ wp frame (wpE (defs₀ (F := F)) 𝒱₀ ((3 : Dev nD) : Thread nD τ) none) Set.univ
          (κ (3 : Dev nD) (posw 3) (Scalar.xori (posw 3) 1#32) (Scalar.subi 3#32 (posw 3)) (k0_pay5 (qBlk (Qb m 3) 0 0 0))) Q))
     ⊢ wp frame (wpE (defs₀ (F := F)) 𝒱₀ (((3 : Dev nD)) : Thread nD τ) none) Set.univ (progA a5 ha5 κ) Q := by
  unfold startA
  rw [← rd_q 0 0 0 inb_S2x128x256_S1x64x64_0_0_0 (Qb m 3) 0 0 0 rfl rfl rfl]
  unfold progA progAX
  iintro ⟨#HC, ⟨H1, H2, H3, H4, H5, H6, H7, H8, H9, H10, H11⟩, HO, Hk⟩
  ihave ⟨H12, H13, H14, H15, H16, H17, H18, H19, H20, H21, H22⟩ := (show (specA m 3 : sProp 𝕄) ⊢ iprop(barPay 3 ∗ dutyTok ER (barC 0) 0 3 ∗ snd 3 22 2 18 ∗ snd 3 23 2 19 ∗ wt 3 20 ∗ wt 3 21 ∗ wt 3 16 ∗ wt 3 18 ∗ wt 3 17 ∗ wt 3 19 ∗ chunks0 3) from Entails.refl _) $$ H11
  sl_exec
  iapply (wp_lcl m K 3 1 (src := (Memref.whole main_arg0)) (dst := (Memref.whole cc0_scratch0)) rfl rfl (by decide) rfl (P := pc 3 (Memref.whole main_arg0) (Xa m 3)) (D := pcE 3 (Memref.whole cc0_scratch0)) (Xa m 3) (Entails.refl _) (Entails.refl _) (fun fd => in_pay 3 (Memref.whole cc0_scratch0) (Memref.whole main_arg0) (Xa m 3) (Xa m 3) (fun _ => rfl) fd (Entails.refl _))) $$ [H1 H2 H8]
  · isplitr; · iexact HC
    isplitl [H1]; · iexact H1
    isplitl [H2]; · iexact H2
    iexact H8
  iintro H23
  sl_exec
  iapply (wp_lcl m K 3 2 (src := (Memref.whole main_arg1)) (dst := (Memref.whole cc0_scratch1)) rfl rfl (by decide) rfl (P := pc 3 (Memref.whole main_arg1) (Wqa m 3)) (D := pcE 3 (Memref.whole cc0_scratch1)) (Wqa m 3) (Entails.refl _) (Entails.refl _) (fun fd => in_pay 3 (Memref.whole cc0_scratch1) (Memref.whole main_arg1) (Wqa m 3) (Wqa m 3) (fun _ => rfl) fd (Entails.refl _))) $$ [H3 H4 H9]
  · isplitr; · iexact HC
    isplitl [H3]; · iexact H3
    isplitl [H4]; · iexact H4
    iexact H9
  iintro H24
  sl_exec
  iapply (wp_lcl m K 3 3 (src := (Memref.whole main_arg4)) (dst := (Memref.whole cc0_scratch2)) rfl rfl (by decide) rfl (P := pc 3 (Memref.whole main_arg4) (Woa m 3)) (D := pcE 3 (Memref.whole cc0_scratch2)) (Woa m 3) (Entails.refl _) (Entails.refl _) (fun fd => in_pay 3 (Memref.whole cc0_scratch2) (Memref.whole main_arg4) (Woa m 3) (Woa m 3) (fun _ => rfl) fd (Entails.refl _))) $$ [H5 H6 H10]
  · isplitr; · iexact HC
    isplitl [H5]; · iexact H5
    isplitl [H6]; · iexact H6
    iexact H10
  iintro H25
  sl_exec
  iapply (wp_sig m K 3 (by decide) rfl rfl (List.drop 1 (dA 3))) $$ [H12 H13 HO]
  · isplitr; · iexact HC
    isplitl [H12]; · iexact H12
    isplitl [H13]; · iexact H13
    iexact HO
  iintro HO
  sl_exec
  iapply (wp_wt m K 3 1 (s := S2x128x512) (ty := .f32) rfl rfl (by decide) (fun _ => rfl) (List.drop 1 (dA 3)) rfl) $$ [H23 HO]
  · isplitr; · iexact HC
    isplitl [H23]; · iexact H23
    iexact HO
  iintro ⟨H26, H27, HO⟩
  ihave ⟨H28, H29⟩ := (show (pay m 3 1 : sProp 𝕄) ⊢ iprop(pc 3 (Memref.whole cc0_scratch0) (Xa m 3) ∗ pc 3 (Memref.whole main_arg0) (Xa m 3)) from Entails.refl _) $$ H27
  sl_exec
  iapply (wp_wt m K 3 2 (s := S512x256) (ty := .f32) rfl rfl (by decide) (fun _ => rfl) (List.drop 1 (dA 3)) rfl) $$ [H24 HO]
  · isplitr; · iexact HC
    isplitl [H24]; · iexact H24
    iexact HO
  iintro ⟨H30, H31, HO⟩
  ihave ⟨H32, H33⟩ := (show (pay m 3 2 : sProp 𝕄) ⊢ iprop(pc 3 (Memref.whole cc0_scratch1) (Wqa m 3) ∗ pc 3 (Memref.whole main_arg1) (Wqa m 3)) from Entails.refl _) $$ H31
  unfold pc
  unfold pcE
  icases H7 with ⟨%qf, H7⟩
  sl_exec
  unfold segA3.sl.r_1
  ihave Hq := (q_done m 3 qf _ _ _ _ _) $$ H7
  iapply (wp_wt m K 3 20 (s := S2x2x64x128) (ty := .bf16) rfl rfl (by decide) (fun _ => rfl) (List.drop 1 (dA 3)) rfl) $$ [H16 HO]
  · isplitr; · iexact HC
    isplitl [H16]; · iexact H16
    iexact HO
  iintro ⟨H34, H35, HO⟩
  ihave ⟨H36, H37⟩ := (show (pay m 3 20 : sProp 𝕄) ⊢ iprop(slotP m 3 2 0 ∗ extra20 3) from Entails.refl _) $$ H35
  ihave ⟨H38, H39, H40, H41⟩ := (show (extra20 3 : sProp 𝕄) ⊢ iprop(slotF 2 1 0 18 ∗ slotF 2 1 1 19 ∗ chunks0 2 ∗ chunks1 0) from Entails.refl _) $$ H37
  sl_exec
  iapply (snd_fwd m K 3 1 0 _ _ 22 18 (Or.inr ⟨rfl, rfl⟩) (by decide) rfl rfl rfl rfl rfl (by decide) (by decide) rfl rfl (chunks0 3) (Entails.refl _) (Entails.refl _) (List.drop 2 (dA 3))) $$ [H36 H38 H22 H14 HO]
  · isplitr; · iexact HC
    isplitl [H36]; · iexact H36
    isplitl [H38]; · iexact H38
    isplitl [H22]; · iexact H22
    isplitl [H14]; · iexact H14
    iexact HO
  iintro ⟨H42, HO⟩
  sl_exec
  iapply (wp_wt m K 3 16 (s := S2x2x64x128) (ty := .bf16) rfl rfl (by decide) (fun _ => rfl) (List.drop 2 (dA 3)) rfl) $$ [H18 HO]
  · isplitr; · iexact HC
    isplitl [H18]; · iexact H18
    iexact HO
  iintro ⟨H43, H44, HO⟩
  ihave ⟨H45, H46⟩ := (show (pay m 3 16 : sProp 𝕄) ⊢ iprop(slotP m 3 0 0 ∗ extra16 3) from Entails.refl _) $$ H44
  sl_exec
  iapply (wp_wt m K 3 18 (s := S2x2x64x128) (ty := .bf16) rfl rfl (by decide) (fun _ => rfl) (List.drop 2 (dA 3)) rfl) $$ [H19 HO]
  · isplitr; · iexact HC
    isplitl [H19]; · iexact H19
    iexact HO
  iintro ⟨H47, H48, HO⟩
  ihave ⟨H49, H50⟩ := (show (pay m 3 18 : sProp 𝕄) ⊢ iprop(slotP m 3 1 0 ∗ extra18 3) from Entails.refl _) $$ H48
  unfold pc
  sl_exec
  iapply Hk
  isplitr [HO]
  · unfold afterA pc
    isplitl [H45]; · iexact H45
    isplitl [H49]; · iexact H49
    isplitl [Hq]; · iexact Hq
    isplitl [H28 H29]
    · iapply (show iprop(own 3 (Memref.whole cc0_scratch0) (Xa m 3) ∗ own 3 (Memref.whole main_arg0) (Xa m 3)) ⊢ (inP m 3 1 : sProp 𝕄) from Entails.refl _)
      isplitl [H28]; · iexact H28
      iexact H29
    isplitl [H32 H33]
    · iapply (show iprop(own 3 (Memref.whole cc0_scratch1) (Wqa m 3) ∗ own 3 (Memref.whole main_arg1) (Wqa m 3)) ⊢ (inP m 3 2 : sProp 𝕄) from Entails.refl _)
      isplitl [H32]; · iexact H32
      iexact H33
    isplitl [H25]; · iexact H25
    isplitl [H26]; · iexact H26
    isplitl [H30]; · iexact H30
    isplitl [H40]; · iexact H40
    isplitl [H41]; · iexact H41
    unfold restA
    isplitl [H39]; · iexact H39
    isplitl [H15]; · iexact H15
    isplitl [H17]; · iexact H17
    isplitl [H20]; · iexact H20
    isplitl [H21]; · iexact H21
    isplitl [H42]; · iexact H42
    isplitl [H34]; · iexact H34
    isplitl [H43]; · iexact H43
    iexact H47
  · iexact HO

end Cert.KernelIdeal.Attn
end
-- ==== Proof.KernelIdeal.Ctx.lean ====
/- The attention blocks as they are stored. -/
module

public import proofs.«01_k».proof.Proof.KernelIdeal.Sends

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- A block of query rows against the first block of keys, as loaded. -/
theorem attn_rd0 (d : Dev nD) (o r jc jb jh : ℕ) (hq hk hv) (b c h : Fin 2) (ho : o = b.val) (hr : r = 64 * (2 * c.val + h.val)) (hc : jc = c.val) (hb : jb = b.val) (hh : jh = h.val) :
    attn1 (View.readAt (Elt F) (Memref.whole cc0_scratch4).view (Rect.unit (s := S2x128x256) ![o, 0, r] S1x64x64.size hq).toLoadRect (Qb m d))
      (View.readAt (Elt F) (Memref.whole cc0_scratch3).view (Rect.unit (s := S3x2x2x2x64x128) ![0, jc, jb, jh, 0, 0] S1x1x1x1x64x64.size hk).toLoadRect (KVb m d))
      (View.readAt (Elt F) (Memref.whole cc0_scratch3).view (Rect.unit (s := S3x2x2x2x64x128) ![1, jc, jb, jh, 0, 0] S1x1x1x1x64x64.size hv).toLoadRect (KVb m d))
     = attn m d b 0 c h := by
  rw [rd_q o 0 r hq (Qb m d) b 0 ⟨2 * c.val + h.val, by have := c.isLt; have := h.isLt; omega⟩ ho rfl hr,
    rd_kv 0 jc jb jh 0 hk (KVb m d) 0 c b h 0 rfl hc hb hh rfl, rd_kv 1 jc jb jh 0 hv (KVb m d) 1 c b h 0 rfl hc hb hh rfl]
  rfl

/-- A block of query rows against both blocks of keys, as loaded. -/
theorem attn_rd1 (d : Dev nD) (o r jc jb jh : ℕ) (hq hk hv hk' hv') (b c h : Fin 2) (ho : o = b.val) (hr : r = 64 * (2 * c.val + h.val)) (hc : jc = c.val) (hb : jb = b.val) (hh : jh = h.val) :
    attn2 (View.readAt (Elt F) (Memref.whole cc0_scratch4).view (Rect.unit (s := S2x128x256) ![o, 64, r] S1x64x64.size hq).toLoadRect (Qb m d))
      (View.readAt (Elt F) (Memref.whole cc0_scratch3).view (Rect.unit (s := S3x2x2x2x64x128) ![0, jc, jb, jh, 0, 0] S1x1x1x1x64x64.size hk).toLoadRect (KVb m d))
      (View.readAt (Elt F) (Memref.whole cc0_scratch3).view (Rect.unit (s := S3x2x2x2x64x128) ![1, jc, jb, jh, 0, 0] S1x1x1x1x64x64.size hv).toLoadRect (KVb m d))
      (View.readAt (Elt F) (Memref.whole cc0_scratch3).view (Rect.unit (s := S3x2x2x2x64x128) ![0, jc, jb, jh, 0, 64] S1x1x1x1x64x64.size hk').toLoadRect (KVb m d))
      (View.readAt (Elt F) (Memref.whole cc0_scratch3).view (Rect.unit (s := S3x2x2x2x64x128) ![1, jc, jb, jh, 0, 64] S1x1x1x1x64x64.size hv').toLoadRect (KVb m d))
     = attn m d b 1 c h := by
  rw [rd_q o 64 r hq (Qb m d) b 1 ⟨2 * c.val + h.val, by have := c.isLt; have := h.isLt; omega⟩ ho rfl hr,
    rd_kv 0 jc jb jh 0 hk (KVb m d) 0 c b h 0 rfl hc hb hh rfl, rd_kv 1 jc jb jh 0 hv (KVb m d) 1 c b h 0 rfl hc hb hh rfl,
    rd_kv 0 jc jb jh 64 hk' (KVb m d) 0 c b h 1 rfl hc hb hh rfl, rd_kv 1 jc jb jh 64 hv' (KVb m d) 1 c b h 1 rfl hc hb hh rfl]
  rfl

/-- The blocks of the first pair of heads, the latest first. -/
def ctxP0 (d : Dev nD) : List (View.Piece (Elt F) S2x128x256 .f32) :=
    [⟨Rect.unit (s := S2x128x256) ![1, 64, 64] S1x64x64.size inb_S2x128x256_S1x64x64_1_64_64, attn m d 1 1 0 1⟩,
     ⟨Rect.unit (s := S2x128x256) ![1, 0, 64] S1x64x64.size inb_S2x128x256_S1x64x64_1_0_64, attn m d 1 0 0 1⟩,
     ⟨Rect.unit (s := S2x128x256) ![1, 64, 0] S1x64x64.size inb_S2x128x256_S1x64x64_1_64_0, attn m d 1 1 0 0⟩,
     ⟨Rect.unit (s := S2x128x256) ![1, 0, 0] S1x64x64.size inb_S2x128x256_S1x64x64_1_0_0, attn m d 1 0 0 0⟩,
     ⟨Rect.unit (s := S2x128x256) ![0, 64, 64] S1x64x64.size inb_S2x128x256_S1x64x64_0_64_64, attn m d 0 1 0 1⟩,
     ⟨Rect.unit (s := S2x128x256) ![0, 0, 64] S1x64x64.size inb_S2x128x256_S1x64x64_0_0_64, attn m d 0 0 0 1⟩,
     ⟨Rect.unit (s := S2x128x256) ![0, 64, 0] S1x64x64.size inb_S2x128x256_S1x64x64_0_64_0, attn m d 0 1 0 0⟩,
     ⟨Rect.unit (s := S2x128x256) ![0, 0, 0] S1x64x64.size inb_S2x128x256_S1x64x64_0_0_0, attn m d 0 0 0 0⟩]
/-- The blocks of the second pair of heads, the latest first. -/
def ctxP1 (d : Dev nD) : List (View.Piece (Elt F) S2x128x256 .f32) :=
    [⟨Rect.unit (s := S2x128x256) ![1, 64, 192] S1x64x64.size inb_S2x128x256_S1x64x64_1_64_192, attn m d 1 1 1 1⟩,
     ⟨Rect.unit (s := S2x128x256) ![1, 0, 192] S1x64x64.size inb_S2x128x256_S1x64x64_1_0_192, attn m d 1 0 1 1⟩,
     ⟨Rect.unit (s := S2x128x256) ![1, 64, 128] S1x64x64.size inb_S2x128x256_S1x64x64_1_64_128, attn m d 1 1 1 0⟩,
     ⟨Rect.unit (s := S2x128x256) ![1, 0, 128] S1x64x64.size inb_S2x128x256_S1x64x64_1_0_128, attn m d 1 0 1 0⟩,
     ⟨Rect.unit (s := S2x128x256) ![0, 64, 192] S1x64x64.size inb_S2x128x256_S1x64x64_0_64_192, attn m d 0 1 1 1⟩,
     ⟨Rect.unit (s := S2x128x256) ![0, 0, 192] S1x64x64.size inb_S2x128x256_S1x64x64_0_0_192, attn m d 0 0 1 1⟩,
     ⟨Rect.unit (s := S2x128x256) ![0, 64, 128] S1x64x64.size inb_S2x128x256_S1x64x64_0_64_128, attn m d 0 1 1 0⟩,
     ⟨Rect.unit (s := S2x128x256) ![0, 0, 128] S1x64x64.size inb_S2x128x256_S1x64x64_0_0_128, attn m d 0 0 1 0⟩]

/-- A list of stores whose pieces agree. -/
theorem writes_eq {s : Shape} {e : EltTy} (d : Dev nD) {sp : CoreSpace} (M : Memref sig .tc sp s e)
    (f : Buf (Elt F) (M.view.loc (d : Thread nD τ))) {ps qs : List (View.Piece (Elt F) s e)} (h : ps = qs) :
    (own d M (M.view.writes (Elt F) f ps) : sProp 𝕄) ⊢ own d M (M.view.writes (Elt F) f qs) := by rw [h]
/-- Two lists of pieces agree when their first values and their tails do. -/
theorem cons_eq {s : Shape} {e : EltTy} (r : Rect s) {w w' : r.shape.Idx → Elt F e} {ps qs : List (View.Piece (Elt F) s e)} (h : w = w') (h' : ps = qs) :
    ((⟨r, w⟩ : View.Piece (Elt F) s e) :: ps) = ⟨r, w'⟩ :: qs := by rw [h, h']

/-- All blocks stored: the attention. -/
theorem ctx_done (d : Dev nD) (cf : Buf (Elt F) ((Memref.whole cc0_scratch5).view.loc (d : Thread nD τ))) :
    (own d (Memref.whole cc0_scratch5) ((Memref.whole cc0_scratch5).view.writes (Elt F) cf (ctxP1 m d ++ ctxP0 m d)) : sProp 𝕄) ⊢ pc d (Memref.whole cc0_scratch5) (Ctxb m d) := by
  refine Entails.of_eq (writes_done d (Memref.whole cc0_scratch5) cf (Ctxb m d) _ ?_ (View.cover_of_tiled _ S1x64x64.size rfl))
  intro p hp x
  simp only [ctxP0, ctxP1, List.cons_append, List.nil_append, List.mem_cons, List.not_mem_nil, or_false] at hp
  rcases hp with rfl | rfl | rfl | rfl | rfl | rfl | rfl | rfl | rfl | rfl | rfl | rfl | rfl | rfl | rfl | rfl
  · exact ctx_at m d 1 64 192 inb_S2x128x256_S1x64x64_1_64_192 1 1 1 1 rfl rfl rfl x
  · exact ctx_at m d 1 0 192 inb_S2x128x256_S1x64x64_1_0_192 1 0 1 1 rfl rfl rfl x
  · exact ctx_at m d 1 64 128 inb_S2x128x256_S1x64x64_1_64_128 1 1 1 0 rfl rfl rfl x
  · exact ctx_at m d 1 0 128 inb_S2x128x256_S1x64x64_1_0_128 1 0 1 0 rfl rfl rfl x
  · exact ctx_at m d 0 64 192 inb_S2x128x256_S1x64x64_0_64_192 0 1 1 1 rfl rfl rfl x
  · exact ctx_at m d 0 0 192 inb_S2x128x256_S1x64x64_0_0_192 0 0 1 1 rfl rfl rfl x
  · exact ctx_at m d 0 64 128 inb_S2x128x256_S1x64x64_0_64_128 0 1 1 0 rfl rfl rfl x
  · exact ctx_at m d 0 0 128 inb_S2x128x256_S1x64x64_0_0_128 0 0 1 0 rfl rfl rfl x
  · exact ctx_at m d 1 64 64 inb_S2x128x256_S1x64x64_1_64_64 1 1 0 1 rfl rfl rfl x
  · exact ctx_at m d 1 0 64 inb_S2x128x256_S1x64x64_1_0_64 1 0 0 1 rfl rfl rfl x
  · exact ctx_at m d 1 64 0 inb_S2x128x256_S1x64x64_1_64_0 1 1 0 0 rfl rfl rfl x
  · exact ctx_at m d 1 0 0 inb_S2x128x256_S1x64x64_1_0_0 1 0 0 0 rfl rfl rfl x
  · exact ctx_at m d 0 64 64 inb_S2x128x256_S1x64x64_0_64_64 0 1 0 1 rfl rfl rfl x
  · exact ctx_at m d 0 0 64 inb_S2x128x256_S1x64x64_0_0_64 0 0 0 1 rfl rfl rfl x
  · exact ctx_at m d 0 64 0 inb_S2x128x256_S1x64x64_0_64_0 0 1 0 0 rfl rfl rfl x
  · exact ctx_at m d 0 0 0 inb_S2x128x256_S1x64x64_0_0_0 0 0 0 0 rfl rfl rfl x

end Cert.KernelIdeal.Attn
end
-- ==== Proof.KernelIdeal.SegB0.lean ====
/- Device 0, second stage: the attention of the first pair of heads, and the second heads. -/
module

public import proofs.«01_k».proof.Proof.KernelIdeal.Ctx
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 4000000 in
/-- Device 0: the attention of its first pair of heads, and the second heads. -/
theorem segB0 (K : GSem nD τ sig → ℕ) (a5 : Memref sig .tc .vmem S2x128x512 .f32) (ha5 : a5.IsWhole) (cf : Buf (Elt F) ((Memref.whole cc0_scratch5).view.loc ((0 : Dev nD) : Thread nD τ)))
    {α : Type} (Q : α → sProp 𝕄) (κ : _ → Prog (TpuEff nD τ sig (Elt F) Λ₀ .tc) α) :
    iprop(ctx m K 0 ∗ iprop(slotP m 0 0 0 ∗ slotP m 0 1 0 ∗ pc 0 (Memref.whole cc0_scratch4) (Qb m 0) ∗ own 0 (Memref.whole cc0_scratch5) cf ∗ restA m 0) ∗ ow 0 (dB 0)
      ∗ ((iprop(slotP m 0 0 0 ∗ slotP m 0 1 0 ∗ pc 0 (Memref.whole cc0_scratch4) (Qb m 0) ∗ own 0 (Memref.whole cc0_scratch5) ((Memref.whole cc0_scratch5).view.writes (Elt F) cf (ctxP0 m 0)) ∗ slotP m 0 0 1 ∗ slotP m 0 1 1 ∗ lateC m 0) ∗ ow 0 (arL 0)) -∗ wp frame (wpE (defs₀ (F := F)) 𝒱₀ ((0 : Dev nD) : Thread nD τ) none) Set.univ
          (κ (k0_pay42 (qBlk (Qb m 0) 0 0 2))) Q))
     ⊢ wp frame (wpE (defs₀ (F := F)) 𝒱₀ (((0 : Dev nD)) : Thread nD τ) none) Set.univ (progB a5 ha5 (0 : Dev nD) (posw 0) (k0_pay5 (qBlk (Qb m 0) 0 0 0)) κ) Q := by
  rw [← rd_q 0 0 128 inb_S2x128x256_S1x64x64_0_0_128 (Qb m 0) 0 0 2 rfl rfl rfl, ← rd_q 0 0 0 inb_S2x128x256_S1x64x64_0_0_0 (Qb m 0) 0 0 0 rfl rfl rfl]
  unfold progB progBX
  iintro ⟨#HC, ⟨H1, H2, H3, H4, H5⟩, HO, Hk⟩
  ihave ⟨H6, H7, H8, H9, H10, H11, H12, H13, H14, H15, H16, H17, H18, H19, H20, H21, H22, H23, H24⟩ := (show (restA m 0 : sProp 𝕄) ⊢ iprop(ktP m 0 0 ∗ vtP m 0 0 ∗ fin m 0 24 ∗ fin m 0 26 ∗ wt 0 25 ∗ wt 0 27 ∗ wt 0 4 ∗ wt 0 5 ∗ wt 0 6 ∗ wt 0 7 ∗ wt 0 8 ∗ wt 0 9 ∗ wt 0 10 ∗ wt 0 11 ∗ wt 0 12 ∗ wt 0 13 ∗ wt 0 14 ∗ wt 0 15 ∗ atPos ER (barC 0) 1 ∅ 0) from Entails.refl _) $$ H5
  unfold slotP pc
  sl_exec
  iapply (wp_wt m K 0 25 (s := S2x2x64x128) (ty := .bf16) rfl rfl (by decide) (fun _ => rfl) (List.drop 0 (dB 0)) rfl) $$ [H10 HO]
  · isplitr; · iexact HC
    isplitl [H10]; · iexact H10
    iexact HO
  iintro ⟨H25, H26, HO⟩
  ihave ⟨H27, H28⟩ := (show (pay m 0 25 : sProp 𝕄) ⊢ iprop(slotP m 0 0 1 ∗ ktP m 0 2) from Entails.refl _) $$ H26
  sl_exec
  iapply (wp_wt m K 0 27 (s := S2x2x64x128) (ty := .bf16) rfl rfl (by decide) (fun _ => rfl) (List.drop 0 (dB 0)) rfl) $$ [H11 HO]
  · isplitr; · iexact HC
    isplitl [H11]; · iexact H11
    iexact HO
  iintro ⟨H29, H30, HO⟩
  ihave ⟨H31, H32⟩ := (show (pay m 0 27 : sProp 𝕄) ⊢ iprop(slotP m 0 1 1 ∗ vtP m 0 2) from Entails.refl _) $$ H30
  sl_exec
  iapply Hk
  isplitr [HO]
  · unfold slotP pc
    isplitl [H1]; · iexact H1
    isplitl [H2]; · iexact H2
    isplitl [H3]; · iexact H3
    isplitl [H4]
    · iclear HC
      istop
      refine writes_eq (F := F) 0 (Memref.whole cc0_scratch5) cf (qs := ctxP0 m 0) ?_
      unfold ctxP0
      refine cons_eq (F := F) (s := S2x128x256) (e := .f32) _ ?_ ?_
      · exact (attn_rd1 m 0 1 64 0 1 1 _ _ _ _ _ 1 0 1 rfl rfl rfl rfl rfl)
      refine cons_eq (F := F) (s := S2x128x256) (e := .f32) _ ?_ ?_
      · exact (attn_rd0 m 0 1 64 0 1 1 _ _ _ 1 0 1 rfl rfl rfl rfl rfl)
      refine cons_eq (F := F) (s := S2x128x256) (e := .f32) _ ?_ ?_
      · exact (attn_rd1 m 0 1 0 0 1 0 _ _ _ _ _ 1 0 0 rfl rfl rfl rfl rfl)
      refine cons_eq (F := F) (s := S2x128x256) (e := .f32) _ ?_ ?_
      · exact (attn_rd0 m 0 1 0 0 1 0 _ _ _ 1 0 0 rfl rfl rfl rfl rfl)
      refine cons_eq (F := F) (s := S2x128x256) (e := .f32) _ ?_ ?_
      · exact (attn_rd1 m 0 0 64 0 0 1 _ _ _ _ _ 0 0 1 rfl rfl rfl rfl rfl)
      refine cons_eq (F := F) (s := S2x128x256) (e := .f32) _ ?_ ?_
      · exact (attn_rd0 m 0 0 64 0 0 1 _ _ _ 0 0 1 rfl rfl rfl rfl rfl)
      refine cons_eq (F := F) (s := S2x128x256) (e := .f32) _ ?_ ?_
      · exact (attn_rd1 m 0 0 0 0 0 0 _ _ _ _ _ 0 0 0 rfl rfl rfl rfl rfl)
      refine cons_eq (F := F) (s := S2x128x256) (e := .f32) _ ?_ ?_
      · exact (attn_rd0 m 0 0 0 0 0 0 _ _ _ 0 0 0 rfl rfl rfl rfl rfl)
      rfl
    isplitl [H27]; · iexact H27
    isplitl [H31]; · iexact H31
    unfold lateC
    isplitl [H6]; · iexact H6
    isplitl [H7]; · iexact H7
    isplitl [H28]; · iexact H28
    isplitl [H32]; · iexact H32
    isplitl [H8]; · iexact H8
    isplitl [H9]; · iexact H9
    isplitl [H25]; · iexact H25
    isplitl [H29]; · iexact H29
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · iexact HO

end Cert.KernelIdeal.Attn
end
-- ==== Proof.KernelIdeal.SegB1.lean ====
/- Device 1, second stage: the attention of the first pair of heads, and the second heads. -/
module

public import proofs.«01_k».proof.Proof.KernelIdeal.Ctx
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 4000000 in
/-- Device 1: the attention of its first pair of heads, and the second heads. -/
theorem segB1 (K : GSem nD τ sig → ℕ) (a5 : Memref sig .tc .vmem S2x128x512 .f32) (ha5 : a5.IsWhole) (cf : Buf (Elt F) ((Memref.whole cc0_scratch5).view.loc ((1 : Dev nD) : Thread nD τ)))
    {α : Type} (Q : α → sProp 𝕄) (κ : _ → Prog (TpuEff nD τ sig (Elt F) Λ₀ .tc) α) :
    iprop(ctx m K 1 ∗ iprop(slotP m 1 0 0 ∗ slotP m 1 1 0 ∗ pc 1 (Memref.whole cc0_scratch4) (Qb m 1) ∗ own 1 (Memref.whole cc0_scratch5) cf ∗ restA m 1) ∗ ow 1 (dB 1)
      ∗ ((iprop(slotP m 1 0 0 ∗ slotP m 1 1 0 ∗ pc 1 (Memref.whole cc0_scratch4) (Qb m 1) ∗ own 1 (Memref.whole cc0_scratch5) ((Memref.whole cc0_scratch5).view.writes (Elt F) cf (ctxP0 m 1)) ∗ slotP m 1 0 1 ∗ slotP m 1 1 1 ∗ lateC m 1) ∗ ow 1 (arL 1)) -∗ wp frame (wpE (defs₀ (F := F)) 𝒱₀ ((1 : Dev nD) : Thread nD τ) none) Set.univ
          (κ (k0_pay42 (qBlk (Qb m 1) 0 0 2))) Q))
     ⊢ wp frame (wpE (defs₀ (F := F)) 𝒱₀ (((1 : Dev nD)) : Thread nD τ) none) Set.univ (progB a5 ha5 (1 : Dev nD) (posw 1) (k0_pay5 (qBlk (Qb m 1) 0 0 0)) κ) Q := by
  rw [← rd_q 0 0 128 inb_S2x128x256_S1x64x64_0_0_128 (Qb m 1) 0 0 2 rfl rfl rfl, ← rd_q 0 0 0 inb_S2x128x256_S1x64x64_0_0_0 (Qb m 1) 0 0 0 rfl rfl rfl]
  unfold progB progBX
  iintro ⟨#HC, ⟨H1, H2, H3, H4, H5⟩, HO, Hk⟩
  ihave ⟨H6, H7, H8, H9, H10, H11, H12, H13, H14⟩ := (show (restA m 1 : sProp 𝕄) ⊢ iprop(slotF 2 0 1 17 ∗ snd 1 23 2 17 ∗ wt 1 21 ∗ wt 1 17 ∗ wt 1 19 ∗ wt 1 22 ∗ fin m 1 20 ∗ fin m 1 16 ∗ fin m 1 18) from Entails.refl _) $$ H5
  unfold slotP pc
  sl_exec
  iapply (wp_wt m K 1 21 (s := S2x2x64x128) (ty := .bf16) rfl rfl (by decide) (fun _ => rfl) (List.drop 0 (dB 1)) rfl) $$ [H8 HO]
  · isplitr; · iexact HC
    isplitl [H8]; · iexact H8
    iexact HO
  iintro ⟨H15, H16, HO⟩
  ihave H17 := (show (pay m 1 21 : sProp 𝕄) ⊢ slotP m 1 2 1 from Entails.refl _) $$ H16
  sl_exec
  iapply (snd_fwd m K 1 0 1 _ _ 23 17 (Or.inl ⟨rfl, rfl⟩) (by decide) rfl rfl rfl rfl rfl (by decide) (by decide) rfl rfl (iprop(emp)) (Entails.refl _) emp_r (List.drop 1 (dB 1))) $$ [H17 H6 H7 HO]
  · isplitr; · iexact HC
    isplitl [H17]; · iexact H17
    isplitl [H6]; · iexact H6
    isplitr; · iempintro
    isplitl [H7]; · iexact H7
    iexact HO
  iintro ⟨H18, HO⟩
  sl_exec
  iapply (wp_wt m K 1 17 (s := S2x2x64x128) (ty := .bf16) rfl rfl (by decide) (fun _ => rfl) (List.drop 1 (dB 1)) rfl) $$ [H9 HO]
  · isplitr; · iexact HC
    isplitl [H9]; · iexact H9
    iexact HO
  iintro ⟨H19, H20, HO⟩
  ihave H21 := (show (pay m 1 17 : sProp 𝕄) ⊢ slotP m 1 0 1 from Entails.refl _) $$ H20
  sl_exec
  iapply (wp_wt m K 1 19 (s := S2x2x64x128) (ty := .bf16) rfl rfl (by decide) (fun _ => rfl) (List.drop 1 (dB 1)) rfl) $$ [H10 HO]
  · isplitr; · iexact HC
    isplitl [H10]; · iexact H10
    iexact HO
  iintro ⟨H22, H23, HO⟩
  ihave H24 := (show (pay m 1 19 : sProp 𝕄) ⊢ slotP m 1 1 1 from Entails.refl _) $$ H23
  sl_exec
  iapply Hk
  isplitr [HO]
  · unfold slotP pc
    isplitl [H1]; · iexact H1
    isplitl [H2]; · iexact H2
    isplitl [H3]; · iexact H3
    isplitl [H4]
    · iclear HC
      istop
      refine writes_eq (F := F) 1 (Memref.whole cc0_scratch5) cf (qs := ctxP0 m 1) ?_
      unfold ctxP0
      refine cons_eq (F := F) (s := S2x128x256) (e := .f32) _ ?_ ?_
      · exact (attn_rd1 m 1 1 64 0 1 1 _ _ _ _ _ 1 0 1 rfl rfl rfl rfl rfl)
      refine cons_eq (F := F) (s := S2x128x256) (e := .f32) _ ?_ ?_
      · exact (attn_rd0 m 1 1 64 0 1 1 _ _ _ 1 0 1 rfl rfl rfl rfl rfl)
      refine cons_eq (F := F) (s := S2x128x256) (e := .f32) _ ?_ ?_
      · exact (attn_rd1 m 1 1 0 0 1 0 _ _ _ _ _ 1 0 0 rfl rfl rfl rfl rfl)
      refine cons_eq (F := F) (s := S2x128x256) (e := .f32) _ ?_ ?_
      · exact (attn_rd0 m 1 1 0 0 1 0 _ _ _ 1 0 0 rfl rfl rfl rfl rfl)
      refine cons_eq (F := F) (s := S2x128x256) (e := .f32) _ ?_ ?_
      · exact (attn_rd1 m 1 0 64 0 0 1 _ _ _ _ _ 0 0 1 rfl rfl rfl rfl rfl)
      refine cons_eq (F := F) (s := S2x128x256) (e := .f32) _ ?_ ?_
      · exact (attn_rd0 m 1 0 64 0 0 1 _ _ _ 0 0 1 rfl rfl rfl rfl rfl)
      refine cons_eq (F := F) (s := S2x128x256) (e := .f32) _ ?_ ?_
      · exact (attn_rd1 m 1 0 0 0 0 0 _ _ _ _ _ 0 0 0 rfl rfl rfl rfl rfl)
      refine cons_eq (F := F) (s := S2x128x256) (e := .f32) _ ?_ ?_
      · exact (attn_rd0 m 1 0 0 0 0 0 _ _ _ 0 0 0 rfl rfl rfl rfl rfl)
      rfl
    isplitl [H21]; · iexact H21
    isplitl [H24]; · iexact H24
    unfold lateC
    isplitl [H12]; · iexact H12
    isplitl [H13]; · iexact H13
    isplitl [H14]; · iexact H14
    isplitl [H15]; · iexact H15
    isplitl [H19]; · iexact H19
    isplitl [H22]; · iexact H22
    isplitl [H11]; · iexact H11
    iexact H18
  · iexact HO

end Cert.KernelIdeal.Attn
end
-- ==== Proof.KernelIdeal.SegB2.lean ====
/- Device 2, second stage: the attention of the first pair of heads, and the second heads. -/
module

public import proofs.«01_k».proof.Proof.KernelIdeal.Ctx
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 4000000 in
/-- Device 2: the attention of its first pair of heads, and the second heads. -/
theorem segB2 (K : GSem nD τ sig → ℕ) (a5 : Memref sig .tc .vmem S2x128x512 .f32) (ha5 : a5.IsWhole) (cf : Buf (Elt F) ((Memref.whole cc0_scratch5).view.loc ((2 : Dev nD) : Thread nD τ)))
    {α : Type} (Q : α → sProp 𝕄) (κ : _ → Prog (TpuEff nD τ sig (Elt F) Λ₀ .tc) α) :
    iprop(ctx m K 2 ∗ iprop(slotP m 2 0 0 ∗ slotP m 2 1 0 ∗ pc 2 (Memref.whole cc0_scratch4) (Qb m 2) ∗ own 2 (Memref.whole cc0_scratch5) cf ∗ restA m 2) ∗ ow 2 (dB 2)
      ∗ ((iprop(slotP m 2 0 0 ∗ slotP m 2 1 0 ∗ pc 2 (Memref.whole cc0_scratch4) (Qb m 2) ∗ own 2 (Memref.whole cc0_scratch5) ((Memref.whole cc0_scratch5).view.writes (Elt F) cf (ctxP0 m 2)) ∗ slotP m 2 0 1 ∗ slotP m 2 1 1 ∗ lateC m 2) ∗ ow 2 (arL 2)) -∗ wp frame (wpE (defs₀ (F := F)) 𝒱₀ ((2 : Dev nD) : Thread nD τ) none) Set.univ
          (κ (k0_pay42 (qBlk (Qb m 2) 0 0 2))) Q))
     ⊢ wp frame (wpE (defs₀ (F := F)) 𝒱₀ (((2 : Dev nD)) : Thread nD τ) none) Set.univ (progB a5 ha5 (2 : Dev nD) (posw 2) (k0_pay5 (qBlk (Qb m 2) 0 0 0)) κ) Q := by
  rw [← rd_q 0 0 128 inb_S2x128x256_S1x64x64_0_0_128 (Qb m 2) 0 0 2 rfl rfl rfl, ← rd_q 0 0 0 inb_S2x128x256_S1x64x64_0_0_0 (Qb m 2) 0 0 0 rfl rfl rfl]
  unfold progB progBX
  iintro ⟨#HC, ⟨H1, H2, H3, H4, H5⟩, HO, Hk⟩
  ihave ⟨H6, H7, H8, H9⟩ := (show (restA m 2 : sProp 𝕄) ⊢ iprop(wt 2 17 ∗ wt 2 19 ∗ fin m 2 16 ∗ fin m 2 18) from Entails.refl _) $$ H5
  unfold slotP pc
  sl_exec
  iapply (wp_wt m K 2 17 (s := S2x2x64x128) (ty := .bf16) rfl rfl (by decide) (fun _ => rfl) (List.drop 0 (dB 2)) rfl) $$ [H6 HO]
  · isplitr; · iexact HC
    isplitl [H6]; · iexact H6
    iexact HO
  iintro ⟨H10, H11, HO⟩
  ihave H12 := (show (pay m 2 17 : sProp 𝕄) ⊢ slotP m 2 0 1 from Entails.refl _) $$ H11
  sl_exec
  iapply (wp_wt m K 2 19 (s := S2x2x64x128) (ty := .bf16) rfl rfl (by decide) (fun _ => rfl) (List.drop 0 (dB 2)) rfl) $$ [H7 HO]
  · isplitr; · iexact HC
    isplitl [H7]; · iexact H7
    iexact HO
  iintro ⟨H13, H14, HO⟩
  ihave H15 := (show (pay m 2 19 : sProp 𝕄) ⊢ slotP m 2 1 1 from Entails.refl _) $$ H14
  sl_exec
  iapply Hk
  isplitr [HO]
  · unfold slotP pc
    isplitl [H1]; · iexact H1
    isplitl [H2]; · iexact H2
    isplitl [H3]; · iexact H3
    isplitl [H4]
    · iclear HC
      istop
      refine writes_eq (F := F) 2 (Memref.whole cc0_scratch5) cf (qs := ctxP0 m 2) ?_
      unfold ctxP0
      refine cons_eq (F := F) (s := S2x128x256) (e := .f32) _ ?_ ?_
      · exact (attn_rd1 m 2 1 64 0 1 1 _ _ _ _ _ 1 0 1 rfl rfl rfl rfl rfl)
      refine cons_eq (F := F) (s := S2x128x256) (e := .f32) _ ?_ ?_
      · exact (attn_rd0 m 2 1 64 0 1 1 _ _ _ 1 0 1 rfl rfl rfl rfl rfl)
      refine cons_eq (F := F) (s := S2x128x256) (e := .f32) _ ?_ ?_
      · exact (attn_rd1 m 2 1 0 0 1 0 _ _ _ _ _ 1 0 0 rfl rfl rfl rfl rfl)
      refine cons_eq (F := F) (s := S2x128x256) (e := .f32) _ ?_ ?_
      · exact (attn_rd0 m 2 1 0 0 1 0 _ _ _ 1 0 0 rfl rfl rfl rfl rfl)
      refine cons_eq (F := F) (s := S2x128x256) (e := .f32) _ ?_ ?_
      · exact (attn_rd1 m 2 0 64 0 0 1 _ _ _ _ _ 0 0 1 rfl rfl rfl rfl rfl)
      refine cons_eq (F := F) (s := S2x128x256) (e := .f32) _ ?_ ?_
      · exact (attn_rd0 m 2 0 64 0 0 1 _ _ _ 0 0 1 rfl rfl rfl rfl rfl)
      refine cons_eq (F := F) (s := S2x128x256) (e := .f32) _ ?_ ?_
      · exact (attn_rd1 m 2 0 0 0 0 0 _ _ _ _ _ 0 0 0 rfl rfl rfl rfl rfl)
      refine cons_eq (F := F) (s := S2x128x256) (e := .f32) _ ?_ ?_
      · exact (attn_rd0 m 2 0 0 0 0 0 _ _ _ 0 0 0 rfl rfl rfl rfl rfl)
      rfl
    isplitl [H12]; · iexact H12
    isplitl [H15]; · iexact H15
    unfold lateC
    isplitl [H8]; · iexact H8
    isplitl [H9]; · iexact H9
    isplitl [H10]; · iexact H10
    iexact H13
  · iexact HO

end Cert.KernelIdeal.Attn
end
-- ==== Proof.KernelIdeal.SegB3.lean ====
/- Device 3, second stage: the attention of the first pair of heads, and the second heads. -/
module

public import proofs.«01_k».proof.Proof.KernelIdeal.Ctx
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 4000000 in
/-- Device 3: the attention of its first pair of heads, and the second heads. -/
theorem segB3 (K : GSem nD τ sig → ℕ) (a5 : Memref sig .tc .vmem S2x128x512 .f32) (ha5 : a5.IsWhole) (cf : Buf (Elt F) ((Memref.whole cc0_scratch5).view.loc ((3 : Dev nD) : Thread nD τ)))
    {α : Type} (Q : α → sProp 𝕄) (κ : _ → Prog (TpuEff nD τ sig (Elt F) Λ₀ .tc) α) :
    iprop(ctx m K 3 ∗ iprop(slotP m 3 0 0 ∗ slotP m 3 1 0 ∗ pc 3 (Memref.whole cc0_scratch4) (Qb m 3) ∗ own 3 (Memref.whole cc0_scratch5) cf ∗ restA m 3) ∗ ow 3 (dB 3)
      ∗ ((iprop(slotP m 3 0 0 ∗ slotP m 3 1 0 ∗ pc 3 (Memref.whole cc0_scratch4) (Qb m 3) ∗ own 3 (Memref.whole cc0_scratch5) ((Memref.whole cc0_scratch5).view.writes (Elt F) cf (ctxP0 m 3)) ∗ slotP m 3 0 1 ∗ slotP m 3 1 1 ∗ lateC m 3) ∗ ow 3 (arL 3)) -∗ wp frame (wpE (defs₀ (F := F)) 𝒱₀ ((3 : Dev nD) : Thread nD τ) none) Set.univ
          (κ (k0_pay42 (qBlk (Qb m 3) 0 0 2))) Q))
     ⊢ wp frame (wpE (defs₀ (F := F)) 𝒱₀ (((3 : Dev nD)) : Thread nD τ) none) Set.univ (progB a5 ha5 (3 : Dev nD) (posw 3) (k0_pay5 (qBlk (Qb m 3) 0 0 0)) κ) Q := by
  rw [← rd_q 0 0 128 inb_S2x128x256_S1x64x64_0_0_128 (Qb m 3) 0 0 2 rfl rfl rfl, ← rd_q 0 0 0 inb_S2x128x256_S1x64x64_0_0_0 (Qb m 3) 0 0 0 rfl rfl rfl]
  unfold progB progBX
  iintro ⟨#HC, ⟨H1, H2, H3, H4, H5⟩, HO, Hk⟩
  ihave ⟨H6, H7, H8, H9, H10, H11, H12, H13, H14⟩ := (show (restA m 3 : sProp 𝕄) ⊢ iprop(slotF 2 1 1 19 ∗ snd 3 23 2 19 ∗ wt 3 21 ∗ wt 3 17 ∗ wt 3 19 ∗ wt 3 22 ∗ fin m 3 20 ∗ fin m 3 16 ∗ fin m 3 18) from Entails.refl _) $$ H5
  unfold slotP pc
  sl_exec
  iapply (wp_wt m K 3 21 (s := S2x2x64x128) (ty := .bf16) rfl rfl (by decide) (fun _ => rfl) (List.drop 0 (dB 3)) rfl) $$ [H8 HO]
  · isplitr; · iexact HC
    isplitl [H8]; · iexact H8
    iexact HO
  iintro ⟨H15, H16, HO⟩
  ihave H17 := (show (pay m 3 21 : sProp 𝕄) ⊢ slotP m 3 2 1 from Entails.refl _) $$ H16
  sl_exec
  iapply (snd_fwd m K 3 1 1 _ _ 23 19 (Or.inr ⟨rfl, rfl⟩) (by decide) rfl rfl rfl rfl rfl (by decide) (by decide) rfl rfl (iprop(emp)) (Entails.refl _) emp_r (List.drop 1 (dB 3))) $$ [H17 H6 H7 HO]
  · isplitr; · iexact HC
    isplitl [H17]; · iexact H17
    isplitl [H6]; · iexact H6
    isplitr; · iempintro
    isplitl [H7]; · iexact H7
    iexact HO
  iintro ⟨H18, HO⟩
  sl_exec
  iapply (wp_wt m K 3 17 (s := S2x2x64x128) (ty := .bf16) rfl rfl (by decide) (fun _ => rfl) (List.drop 1 (dB 3)) rfl) $$ [H9 HO]
  · isplitr; · iexact HC
    isplitl [H9]; · iexact H9
    iexact HO
  iintro ⟨H19, H20, HO⟩
  ihave H21 := (show (pay m 3 17 : sProp 𝕄) ⊢ slotP m 3 0 1 from Entails.refl _) $$ H20
  sl_exec
  iapply (wp_wt m K 3 19 (s := S2x2x64x128) (ty := .bf16) rfl rfl (by decide) (fun _ => rfl) (List.drop 1 (dB 3)) rfl) $$ [H10 HO]
  · isplitr; · iexact HC
    isplitl [H10]; · iexact H10
    iexact HO
  iintro ⟨H22, H23, HO⟩
  ihave H24 := (show (pay m 3 19 : sProp 𝕄) ⊢ slotP m 3 1 1 from Entails.refl _) $$ H23
  sl_exec
  iapply Hk
  isplitr [HO]
  · unfold slotP pc
    isplitl [H1]; · iexact H1
    isplitl [H2]; · iexact H2
    isplitl [H3]; · iexact H3
    isplitl [H4]
    · iclear HC
      istop
      refine writes_eq (F := F) 3 (Memref.whole cc0_scratch5) cf (qs := ctxP0 m 3) ?_
      unfold ctxP0
      refine cons_eq (F := F) (s := S2x128x256) (e := .f32) _ ?_ ?_
      · exact (attn_rd1 m 3 1 64 0 1 1 _ _ _ _ _ 1 0 1 rfl rfl rfl rfl rfl)
      refine cons_eq (F := F) (s := S2x128x256) (e := .f32) _ ?_ ?_
      · exact (attn_rd0 m 3 1 64 0 1 1 _ _ _ 1 0 1 rfl rfl rfl rfl rfl)
      refine cons_eq (F := F) (s := S2x128x256) (e := .f32) _ ?_ ?_
      · exact (attn_rd1 m 3 1 0 0 1 0 _ _ _ _ _ 1 0 0 rfl rfl rfl rfl rfl)
      refine cons_eq (F := F) (s := S2x128x256) (e := .f32) _ ?_ ?_
      · exact (attn_rd0 m 3 1 0 0 1 0 _ _ _ 1 0 0 rfl rfl rfl rfl rfl)
      refine cons_eq (F := F) (s := S2x128x256) (e := .f32) _ ?_ ?_
      · exact (attn_rd1 m 3 0 64 0 0 1 _ _ _ _ _ 0 0 1 rfl rfl rfl rfl rfl)
      refine cons_eq (F := F) (s := S2x128x256) (e := .f32) _ ?_ ?_
      · exact (attn_rd0 m 3 0 64 0 0 1 _ _ _ 0 0 1 rfl rfl rfl rfl rfl)
      refine cons_eq (F := F) (s := S2x128x256) (e := .f32) _ ?_ ?_
      · exact (attn_rd1 m 3 0 0 0 0 0 _ _ _ _ _ 0 0 0 rfl rfl rfl rfl rfl)
      refine cons_eq (F := F) (s := S2x128x256) (e := .f32) _ ?_ ?_
      · exact (attn_rd0 m 3 0 0 0 0 0 _ _ _ 0 0 0 rfl rfl rfl rfl rfl)
      rfl
    isplitl [H21]; · iexact H21
    isplitl [H24]; · iexact H24
    unfold lateC
    isplitl [H12]; · iexact H12
    isplitl [H13]; · iexact H13
    isplitl [H14]; · iexact H14
    isplitl [H15]; · iexact H15
    isplitl [H19]; · iexact H19
    isplitl [H22]; · iexact H22
    isplitl [H11]; · iexact H11
    iexact H18
  · iexact HO

end Cert.KernelIdeal.Attn
end
-- ==== Proof.KernelIdeal.Out.lean ====
/- The stores of the output's blocks and of the chunks sent. -/
module

public import proofs.«01_k».proof.Proof.KernelIdeal.Ctx

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

variable (a5 : Memref sig .tc .vmem S2x128x512 .f32)

/-- The output buffer of device `d` holds `G`. -/
def oE (d : Dev nD) (a5 : Memref sig .tc .vmem S2x128x512 .f32) (G : S2x128x512.Idx → Elt F .f32) : sProp 𝕄 :=
  iprop(∃ f, ⌜∀ y, a5.view.read (Elt F) f y = G y⌝ ∗ own d a5 f)

/-- The four blocks of an output, the latest first. -/
def oP (g : Fin 2 → Fin 2 → FVec F S1x64x512 .f32) : List (View.Piece (Elt F) S2x128x512 .f32) :=
    [⟨Rect.unit (s := S2x128x512) ![1, 64, 0] S1x64x512.size inb_S2x128x512_S1x64x512_1_64_0, g 1 1⟩,
     ⟨Rect.unit (s := S2x128x512) ![0, 64, 0] S1x64x512.size inb_S2x128x512_S1x64x512_0_64_0, g 0 1⟩,
     ⟨Rect.unit (s := S2x128x512) ![1, 0, 0] S1x64x512.size inb_S2x128x512_S1x64x512_1_0_0, g 1 0⟩,
     ⟨Rect.unit (s := S2x128x512) ![0, 0, 0] S1x64x512.size inb_S2x128x512_S1x64x512_0_0_0, g 0 0⟩]

/-- All blocks stored. -/
theorem o_done (d : Dev nD) (of : Buf (Elt F) (a5.view.loc (d : Thread nD τ))) (g : Fin 2 → Fin 2 → FVec F S1x64x512 .f32) :
    (own d a5 (a5.view.writes (Elt F) of (oP g)) : sProp 𝕄) ⊢ oE d a5 (outOf g) := by
  unfold oE
  iintro H
  iexists (a5.view.writes (Elt F) of (oP g))
  isplitr [H]
  · ipureintro
    intro y
    refine View.read_writes_apply_of_pieces a5.view of (outOf g) (oP g) ?_ y (View.cover_of_tiled (oP g) S1x64x512.size rfl y)
    intro p hp x
    simp only [oP, List.mem_cons, List.not_mem_nil, or_false] at hp
    rcases hp with rfl | rfl | rfl | rfl
    · exact out_at g 1 64 inb_S2x128x512_S1x64x512_1_64_0 1 1 rfl rfl x
    · exact out_at g 0 64 inb_S2x128x512_S1x64x512_0_64_0 0 1 rfl rfl x
    · exact out_at g 1 0 inb_S2x128x512_S1x64x512_1_0_0 1 0 rfl rfl x
    · exact out_at g 0 0 inb_S2x128x512_S1x64x512_0_0_0 0 0 rfl rfl x
  · iexact H

/-- A block of the output, loaded. -/
theorem rd_out (d : Dev nD) (o p : ℕ) (h) (f : Buf (Elt F) (a5.view.loc (d : Thread nD τ))) (G : S2x128x512.Idx → Elt F .f32) (hf : ∀ y, a5.view.read (Elt F) f y = G y) (b qb : Fin 2) (ho : o = b.val) (hp : p = 64 * qb.val) :
    View.readAt (Elt F) a5.view (Rect.unit (s := S2x128x512) ![o, p, 0] S1x64x512.size h).toLoadRect f = outBlk G b qb := by
  subst ho hp; funext y
  show a5.view.read (Elt F) f ((Rect.unit (s := S2x128x512) ![b.val, 64 * qb.val, 0] S1x64x512.size h).emb y) = G _
  rw [hf]
  congr 1; funext a; apply Fin.ext
  have h0 : (y 0).val < 1 := (y 0).isLt
  fin_cases a <;> simp [Rect.emb_apply, Rect.off_unit, Rect.stride_unit]
  omega

/-- A block of the partial product, as stored. -/
theorem o0_rd (d : Dev nD) (o p : ℕ) (h h') (b qb : Fin 2) (ho : o = b.val) (hp : p = 64 * qb.val) :
    k0_pay80 (View.readAt (Elt F) (Memref.whole cc0_scratch5).view (Rect.unit (s := S2x128x256) ![o, p, 0] S1x64x256.size h).toLoadRect (Ctxb m d))
      (View.readAt (Elt F) (Memref.whole cc0_scratch2).view (Rect.unit (s := S256x512) ![0, 0] S256x512.size h').toLoadRect (Woa m d)) = k0_pay80 (ctxRow (Ctxb m d) b qb) (Woa m d) := by
  rw [rd_ctx o p h (Ctxb m d) b qb ho hp, rd_wo]

/-- A received chunk of the first exchange, loaded. -/
theorem rd_c0 (d : Dev nD) (o p : ℕ) (h) (b qb : Fin 2) (ho : o = b.val) (hp : p = 64 * qb.val) :
    View.readAt (Elt F) (Memref.whole cc0_scratch6).view (Rect.unit (s := S2x2x128x512) ![0, o, p, 0] S1x1x64x512.size h).toLoadRect (CMb m d) = SC0 m (pa d) b qb := by
  subst ho hp; funext x
  exact (chunk_at (fun st => if st.val = 0 then SC0 m (pa d) else SC1 m (pb d)) 0 b.val (64 * qb.val) h 0 b qb rfl rfl rfl x).symm
/-- A received chunk of the second exchange, loaded. -/
theorem rd_c1 (d : Dev nD) (o p : ℕ) (h) (b qb : Fin 2) (ho : o = b.val) (hp : p = 64 * qb.val) :
    View.readAt (Elt F) (Memref.whole cc0_scratch6).view (Rect.unit (s := S2x2x128x512) ![1, o, p, 0] S1x1x64x512.size h).toLoadRect (CMb m d) = SC1 m (pb d) b qb := by
  subst ho hp; funext x
  exact (chunk_at (fun st => if st.val = 0 then SC0 m (pa d) else SC1 m (pb d)) 1 b.val (64 * qb.val) h 1 b qb rfl rfl rfl x).symm

/-- A block of the first sum, as stored. -/
theorem o1_rd (d : Dev nD) (o p : ℕ) (ho1 hc) (of : Buf (Elt F) (a5.view.loc (d : Thread nD τ))) (hof : ∀ y, a5.view.read (Elt F) of y = Ob m d y) (B Q : Fin 2) (ho : o = B.val) (hp : p = 64 * Q.val) :
    k0_pay93 (View.readAt (Elt F) a5.view (Rect.unit (s := S2x128x512) ![o, p, 0] S1x64x512.size ho1).toLoadRect of)
        (View.readAt (Elt F) (Memref.whole cc0_scratch6).view (Rect.unit (s := S2x2x128x512) ![0, o, p, 0] S1x1x64x512.size hc).toLoadRect (CMb m d))
      = k0_pay93 (outBlk (Ob m d) B Q) (SC0 m (pa d) B Q) := by
  rw [rd_out a5 d o p ho1 of (Ob m d) hof B Q ho hp, rd_c0 m d o p hc B Q ho hp]
/-- A block of the result, as stored. -/
theorem o2_rd (d : Dev nD) (o p : ℕ) (ho1 hc) (of : Buf (Elt F) (a5.view.loc (d : Thread nD τ))) (hof : ∀ y, a5.view.read (Elt F) of y = O1b m d y) (B Q : Fin 2) (ho : o = B.val) (hp : p = 64 * Q.val) :
    k0_pay104 (View.readAt (Elt F) a5.view (Rect.unit (s := S2x128x512) ![o, p, 0] S1x64x512.size ho1).toLoadRect of)
        (View.readAt (Elt F) (Memref.whole cc0_scratch6).view (Rect.unit (s := S2x2x128x512) ![1, o, p, 0] S1x1x64x512.size hc).toLoadRect (CMb m d))
      = k0_pay104 (outBlk (O1b m d) B Q) (SC1 m (pb d) B Q) := by
  rw [rd_out a5 d o p ho1 of (O1b m d) hof B Q ho hp, rd_c1 m d o p hc B Q ho hp]

/-- A chunk stored in the send buffer. -/
theorem send_st (d : Dev nD) (st b r : ℕ) (h h') (f : S2x2x128x512.Idx → Elt F .bf16) (w : FVec F S1x1x64x512 .bf16)
    (hw : ∀ x, w x = SBb m d ((Rect.unit (s := S2x2x128x512) ![st, b, r, 0] S1x1x64x512.size h').emb x)) :
    (own d (sendM st b r h) (View.write (Elt F) ((Memref.whole cc0_scratch7).access (Rect.unit (s := S2x2x128x512) ![st, b, r, 0] S1x1x64x512.size h')) f w Finset.univ) : sProp 𝕄)
      ⊢ sendP m d st b r h := by
  refine Entails.of_eq (own_congr d _ _ _ fun y => ?_)
  have e := congrFun (View.read_write_univ (Val := Elt F) (v := (Memref.whole cc0_scratch7).access (Rect.unit (s := S2x2x128x512) ![st, b, r, 0] S1x1x64x512.size h')) f w)
    (Shape.reshapeEquiv (s := S1x1x64x512) (s' := S64x512) rfl y)
  exact e.trans (hw _)

/-- A chunk of the first exchange, stored. -/
theorem send_st0 (d : Dev nD) (b r o p : ℕ) (h h') (hc hw) (f : S2x2x128x512.Idx → Elt F .bf16) (B Q : Fin 2) (hb : b = B.val) (hr : r = 64 * Q.val) (ho : o = B.val) (hp : p = 64 * Q.val) :
    (own d (sendM 0 b r h) (View.write (Elt F) ((Memref.whole cc0_scratch7).access (Rect.unit (s := S2x2x128x512) ![0, b, r, 0] S1x1x64x512.size h')) f
      (k0_pay82 (k0_pay81 (View.readAt (Elt F) (Memref.whole cc0_scratch5).view (Rect.unit (s := S2x128x256) ![o, p, 0] S1x64x256.size hc).toLoadRect (Ctxb m d))
        (View.readAt (Elt F) (Memref.whole cc0_scratch2).view (Rect.unit (s := S256x512) ![0, 0] S256x512.size hw).toLoadRect (Woa m d)))) Finset.univ) : sProp 𝕄)
      ⊢ sendP m d 0 b r h := by
  rw [rd_ctx o p hc (Ctxb m d) B Q ho hp, rd_wo]
  refine send_st m d 0 b r h h' f _ fun x => ?_
  exact chunk_at (fun st => if st.val = 0 then SC0 m d else SC1 m d) 0 b r h' 0 B Q rfl hb hr x

/-- A chunk of the second exchange, stored. -/
theorem send_st1 (d : Dev nD) (b r o p : ℕ) (h h') (ho1 hc) (f : S2x2x128x512.Idx → Elt F .bf16) (of : Buf (Elt F) (a5.view.loc (d : Thread nD τ))) (hof : ∀ y, a5.view.read (Elt F) of y = Ob m d y)
    (B Q : Fin 2) (hb : b = B.val) (hr : r = 64 * Q.val) (ho : o = B.val) (hp : p = 64 * Q.val) :
    (own d (sendM 1 b r h) (View.write (Elt F) ((Memref.whole cc0_scratch7).access (Rect.unit (s := S2x2x128x512) ![1, b, r, 0] S1x1x64x512.size h')) f
      (k0_pay94 (View.readAt (Elt F) a5.view (Rect.unit (s := S2x128x512) ![o, p, 0] S1x64x512.size ho1).toLoadRect of)
        (View.readAt (Elt F) (Memref.whole cc0_scratch6).view (Rect.unit (s := S2x2x128x512) ![0, o, p, 0] S1x1x64x512.size hc).toLoadRect (CMb m d))) Finset.univ) : sProp 𝕄)
      ⊢ sendP m d 1 b r h := by
  rw [rd_out a5 d o p ho1 of (Ob m d) hof B Q ho hp, rd_c0 m d o p hc B Q ho hp]
  refine send_st m d 1 b r h h' f _ fun x => ?_
  exact chunk_at (fun st => if st.val = 0 then SC0 m d else SC1 m d) 1 b r h' 1 B Q rfl hb hr x

/-- The semaphores of both exchanges are used on every device. -/
theorem act_ar (d : Dev nD) (k : Fin 44) (h : 28 ≤ k.val) : act d k = true := by
  unfold act; simp [h]
/-- The weights' semaphore is used on every device. -/
theorem act_in (d : Dev nD) : act d 3 = true := by
  unfold act; simp
/-- The partner addressed. -/
theorem dev18 (d : Dev nD) (h) : (⟨k0_dev18 d, h⟩ : Dev nD) = pa d := by fin_cases d <;> rfl
/-- The partner addressed. -/
theorem dev19 (d : Dev nD) (h) : (⟨k0_dev19 d, h⟩ : Dev nD) = pa d := by fin_cases d <;> rfl
/-- The partner addressed. -/
theorem dev20 (d : Dev nD) (h) : (⟨k0_dev20 d, h⟩ : Dev nD) = pa d := by fin_cases d <;> rfl
/-- The partner addressed. -/
theorem dev21 (d : Dev nD) (h) : (⟨k0_dev21 d, h⟩ : Dev nD) = pa d := by fin_cases d <;> rfl
/-- The partner addressed. -/
theorem dev22 (d : Dev nD) (h) : (⟨k0_dev22 d, h⟩ : Dev nD) = pb d := by fin_cases d <;> rfl
/-- The partner addressed. -/
theorem dev23 (d : Dev nD) (h) : (⟨k0_dev23 d, h⟩ : Dev nD) = pb d := by fin_cases d <;> rfl
/-- The partner addressed. -/
theorem dev24 (d : Dev nD) (h) : (⟨k0_dev24 d, h⟩ : Dev nD) = pb d := by fin_cases d <;> rfl
/-- The partner addressed. -/
theorem dev25 (d : Dev nD) (h) : (⟨k0_dev25 d, h⟩ : Dev nD) = pb d := by fin_cases d <;> rfl

end Cert.KernelIdeal.Attn
end
-- ==== Proof.KernelIdeal.SegC.lean ====
/- The attention of the second pair of heads, and the first exchange begun. -/
module

public import proofs.«01_k».proof.Proof.KernelIdeal.Out
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 1000000 in
/-- The attention of the second pair of heads, and the first chunks on their way. -/
theorem segC (d : Dev nD) (K : GSem nD τ sig → ℕ) (a5 : Memref sig .tc .vmem S2x128x512 .f32) (ha5 : a5.IsWhole) (cf : Buf (Elt F) ((Memref.whole cc0_scratch5).view.loc (d : Thread nD τ))) (of : Buf (Elt F) (a5.view.loc (d : Thread nD τ)))
    {α : Type} (Q : α → sProp 𝕄) (κ : _ → Prog (TpuEff nD τ sig (Elt F) Λ₀ .tc) α) :
    iprop(ctx m K d ∗ iprop(slotP m d 0 0 ∗ slotP m d 1 0 ∗ pc d (Memref.whole cc0_scratch4) (Qb m d) ∗ own d (Memref.whole cc0_scratch5) ((Memref.whole cc0_scratch5).view.writes (Elt F) cf (ctxP0 m d)) ∗ slotP m d 0 1 ∗ slotP m d 1 1 ∗ own d a5 of ∗ pcE d (sendM 0 0 0) ∗ pcE d (sendM 0 1 0) ∗ pcE d (sendM 0 0 64) ∗ pcE d (sendM 0 1 64) ∗ wt d 3 ∗ chunks0 (pa d) ∗ snd d 28 (pa d) 36 ∗ snd d 30 (pa d) 38 ∗ snd d 29 (pa d) 37) ∗ ow d (arL d)
      ∗ ((iprop(slotP m d 0 0 ∗ slotP m d 1 0 ∗ slotP m d 0 1 ∗ slotP m d 1 1 ∗ pc d (Memref.whole cc0_scratch4) (Qb m d) ∗ pc d (Memref.whole cc0_scratch5) (Ctxb m d) ∗ pc d (Memref.whole cc0_scratch2) (Woa m d) ∗ pc d (Memref.whole main_arg4) (Woa m d) ∗ fin m d 3 ∗ oE d a5 (Ob m d) ∗ wt d 28 ∗ wt d 30 ∗ wt d 29 ∗ sendP m d 0 1 64 ∗ chunkF (pa d) 0 1 64 39) ∗ ow d (List.drop 3 (arL d))) -∗ wp frame (wpE (defs₀ (F := F)) 𝒱₀ ((d : Dev nD) : Thread nD τ) none) Set.univ
          (κ ⟨⟩) Q))
     ⊢ wp frame (wpE (defs₀ (F := F)) 𝒱₀ (((d : Dev nD)) : Thread nD τ) none) Set.univ (progC a5 ha5 d (Scalar.xori (posw d) 1#32) (k0_pay42 (qBlk (Qb m d) 0 0 2)) κ) Q := by
  rw [← rd_q 0 0 128 inb_S2x128x256_S1x64x64_0_0_128 (Qb m d) 0 0 2 rfl rfl rfl]
  unfold progC progCX
  iintro ⟨#HC, ⟨H1, H2, H3, H4, H5, H6, H7, H8, H9, H10, H11, H12, H13, H14, H15, H16⟩, HO, Hk⟩
  unfold slotP pc
  sl_exec
  ihave H17 : own d (Memref.whole cc0_scratch5) (Ctxb m d) $$ [H4]
  · iclear HC
    istop
    refine BIBase.Entails.trans (writes_eq (F := F) d (Memref.whole cc0_scratch5) cf (qs := ctxP1 m d ++ ctxP0 m d) ?_) (ctx_done m d cf)
    unfold ctxP1
    refine cons_eq (F := F) (s := S2x128x256) (e := .f32) _ ?_ ?_
    · exact (attn_rd1 m d 1 192 1 1 1 _ _ _ _ _ 1 1 1 rfl rfl rfl rfl rfl)
    refine cons_eq (F := F) (s := S2x128x256) (e := .f32) _ ?_ ?_
    · exact (attn_rd0 m d 1 192 1 1 1 _ _ _ 1 1 1 rfl rfl rfl rfl rfl)
    refine cons_eq (F := F) (s := S2x128x256) (e := .f32) _ ?_ ?_
    · exact (attn_rd1 m d 1 128 1 1 0 _ _ _ _ _ 1 1 0 rfl rfl rfl rfl rfl)
    refine cons_eq (F := F) (s := S2x128x256) (e := .f32) _ ?_ ?_
    · exact (attn_rd0 m d 1 128 1 1 0 _ _ _ 1 1 0 rfl rfl rfl rfl rfl)
    refine cons_eq (F := F) (s := S2x128x256) (e := .f32) _ ?_ ?_
    · exact (attn_rd1 m d 0 192 1 0 1 _ _ _ _ _ 0 1 1 rfl rfl rfl rfl rfl)
    refine cons_eq (F := F) (s := S2x128x256) (e := .f32) _ ?_ ?_
    · exact (attn_rd0 m d 0 192 1 0 1 _ _ _ 0 1 1 rfl rfl rfl rfl rfl)
    refine cons_eq (F := F) (s := S2x128x256) (e := .f32) _ ?_ ?_
    · exact (attn_rd1 m d 0 128 1 0 0 _ _ _ _ _ 0 1 0 rfl rfl rfl rfl rfl)
    refine cons_eq (F := F) (s := S2x128x256) (e := .f32) _ ?_ ?_
    · exact (attn_rd0 m d 0 128 1 0 0 _ _ _ 0 1 0 rfl rfl rfl rfl rfl)
    rfl
  iapply (wp_wt m K d 3 (s := S256x512) (ty := .f32) rfl (act_in d) (by decide) (fun _ => rfl) (List.drop 0 (arL d)) rfl) $$ [H12 HO]
  · isplitr; · iexact HC
    isplitl [H12]; · iexact H12
    iexact HO
  iintro ⟨H18, H19, HO⟩
  ihave ⟨H20, H21⟩ := (show (pay m d 3 : sProp 𝕄) ⊢ iprop(pc d (Memref.whole cc0_scratch2) (Woa m d) ∗ pc d (Memref.whole main_arg4) (Woa m d)) from Entails.refl _) $$ H19
  ihave ⟨H22, H23, H24, H25⟩ := (show (chunks0 (pa d) : sProp 𝕄) ⊢ iprop(chunkF (pa d) 0 0 0 36 ∗ chunkF (pa d) 0 1 0 38 ∗ chunkF (pa d) 0 0 64 37 ∗ chunkF (pa d) 0 1 64 39) from Entails.refl _) $$ H13
  unfold pc
  unfold pcE
  icases H8 with ⟨%sf0, H8⟩
  icases H9 with ⟨%sf1, H9⟩
  icases H10 with ⟨%sf2, H10⟩
  icases H11 with ⟨%sf3, H11⟩
  sl_exec
  ihave H26 : sendP m d 0 0 0 $$ [H8]
  · iclear HC
    istop
    exact (send_st0 m d 0 0 0 0 (by decide) inb_S2x2x128x512_S1x1x64x512_0_0_0_0 inb_S2x128x256_S1x64x256_0_0_0 inb_S256x512_S256x512_0_0 sf0 0 0 rfl rfl rfl rfl)
  iapply (snd_c0 m K d 0 0 _ _ 28 36 (by decide) (by decide) (dev18 d _) rfl rfl (act_ar d _ (by decide)) (act_ar _ _ (by decide)) (by decide) (by decide) rfl rfl (iprop(emp)) (Entails.refl _) emp_r (List.drop 1 (arL d))) $$ [H26 H22 H14 HO]
  · isplitr; · iexact HC
    isplitl [H26]; · iexact H26
    isplitl [H22]; · iexact H22
    isplitr; · iempintro
    isplitl [H14]; · iexact H14
    iexact HO
  iintro ⟨H27, HO⟩
  sl_exec
  ihave H28 : sendP m d 0 1 0 $$ [H9]
  · iclear HC
    istop
    exact (send_st0 m d 1 0 1 0 (by decide) inb_S2x2x128x512_S1x1x64x512_0_1_0_0 inb_S2x128x256_S1x64x256_1_0_0 inb_S256x512_S256x512_0_0 sf1 1 0 rfl rfl rfl rfl)
  iapply (snd_c0 m K d 1 0 _ _ 30 38 (by decide) (by decide) (dev19 d _) rfl rfl (act_ar d _ (by decide)) (act_ar _ _ (by decide)) (by decide) (by decide) rfl rfl (iprop(emp)) (Entails.refl _) emp_r (List.drop 2 (arL d))) $$ [H28 H23 H15 HO]
  · isplitr; · iexact HC
    isplitl [H28]; · iexact H28
    isplitl [H23]; · iexact H23
    isplitr; · iempintro
    isplitl [H15]; · iexact H15
    iexact HO
  iintro ⟨H29, HO⟩
  sl_exec
  ihave H30 : sendP m d 0 0 64 $$ [H10]
  · iclear HC
    istop
    exact (send_st0 m d 0 64 0 64 (by decide) inb_S2x2x128x512_S1x1x64x512_0_0_64_0 inb_S2x128x256_S1x64x256_0_64_0 inb_S256x512_S256x512_0_0 sf2 0 1 rfl rfl rfl rfl)
  iapply (snd_c0 m K d 0 64 _ _ 29 37 (by decide) (by decide) (dev20 d _) rfl rfl (act_ar d _ (by decide)) (act_ar _ _ (by decide)) (by decide) (by decide) rfl rfl (iprop(emp)) (Entails.refl _) emp_r (List.drop 3 (arL d))) $$ [H30 H24 H16 HO]
  · isplitr; · iexact HC
    isplitl [H30]; · iexact H30
    isplitl [H24]; · iexact H24
    isplitr; · iempintro
    isplitl [H16]; · iexact H16
    iexact HO
  iintro ⟨H31, HO⟩
  sl_exec
  ihave H32 : sendP m d 0 1 64 $$ [H11]
  · iclear HC
    istop
    exact (send_st0 m d 1 64 1 64 (by decide) inb_S2x2x128x512_S1x1x64x512_0_1_64_0 inb_S2x128x256_S1x64x256_1_64_0 inb_S256x512_S256x512_0_0 sf3 1 1 rfl rfl rfl rfl)
  iapply Hk
  isplitr [HO]
  · isplitl [H1]; · iexact H1
    isplitl [H2]; · iexact H2
    isplitl [H5]; · iexact H5
    isplitl [H6]; · iexact H6
    isplitl [H3]; · iexact H3
    isplitl [H17]; · iexact H17
    isplitl [H20]; · iexact H20
    isplitl [H21]; · iexact H21
    isplitl [H18]; · iexact H18
    isplitl [H7]
    · iclear HC
      istop
      refine BIBase.Entails.trans (writes_eq (F := F) d a5 of (qs := oP fun b qb => k0_pay80 (ctxRow (Ctxb m d) b qb) (Woa m d)) ?_) (o_done a5 d of _)
      unfold oP
      refine cons_eq (F := F) (s := S2x128x512) (e := .f32) _ ?_ ?_
      · exact (o0_rd m d 1 64 _ _ 1 1 rfl rfl)
      refine cons_eq (F := F) (s := S2x128x512) (e := .f32) _ ?_ ?_
      · exact (o0_rd m d 0 64 _ _ 0 1 rfl rfl)
      refine cons_eq (F := F) (s := S2x128x512) (e := .f32) _ ?_ ?_
      · exact (o0_rd m d 1 0 _ _ 1 0 rfl rfl)
      refine cons_eq (F := F) (s := S2x128x512) (e := .f32) _ ?_ ?_
      · exact (o0_rd m d 0 0 _ _ 0 0 rfl rfl)
      rfl
    isplitl [H27]; · iexact H27
    isplitl [H29]; · iexact H29
    isplitl [H31]; · iexact H31
    isplitl [H32]; · iexact H32
    iexact H25
  · iexact HO

end Cert.KernelIdeal.Attn
end
-- ==== Proof.KernelIdeal.SegE.lean ====
/- The last chunk of the first exchange, and the heads' sends arrived. -/
module

public import proofs.«01_k».proof.Proof.KernelIdeal.Out
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 4000000 in
/-- Device 0: its last chunk of the first exchange goes out, and its sends of heads have arrived. -/
theorem segE0 (K : GSem nD τ sig → ℕ) (a5 : Memref sig .tc .vmem S2x128x512 .f32) (ha5 : a5.IsWhole)
    {α : Type} (Q : α → sProp 𝕄) (κ : _ → Prog (TpuEff nD τ sig (Elt F) Λ₀ .tc) α) :
    iprop(ctx m K 0 ∗ iprop(sendP m 0 0 1 64 ∗ chunkF (pa 0) 0 1 64 39 ∗ snd 0 31 (pa 0) 39 ∗ wt 0 28 ∗ lateC m 0) ∗ ow 0 (List.drop 3 (arL 0))
      ∗ ((iprop(wt 0 31 ∗ fin m 0 28 ∗ sendP m 0 0 0 0 ∗ lateE m 0) ∗ ow 0 (List.drop 4 (arL 0))) -∗ wp frame (wpE (defs₀ (F := F)) 𝒱₀ ((0 : Dev nD) : Thread nD τ) none) Set.univ
          (κ 1#32) Q))
     ⊢ wp frame (wpE (defs₀ (F := F)) 𝒱₀ (((0 : Dev nD)) : Thread nD τ) none) Set.univ (progE a5 ha5 (0 : Dev nD) (posw 0) κ) Q := by
  unfold progE progEX
  iintro ⟨#HC, ⟨H1, H2, H3, H4, H5⟩, HO, Hk⟩
  ihave ⟨H6, H7, H8, H9, H10, H11, H12, H13, H14, H15, H16, H17, H18, H19, H20, H21, H22, H23, H24, H25, H26⟩ := (show (lateC m 0 : sProp 𝕄) ⊢ iprop(ktP m 0 0 ∗ vtP m 0 0 ∗ ktP m 0 2 ∗ vtP m 0 2 ∗ fin m 0 24 ∗ fin m 0 26 ∗ fin m 0 25 ∗ fin m 0 27 ∗ wt 0 4 ∗ wt 0 5 ∗ wt 0 6 ∗ wt 0 7 ∗ wt 0 8 ∗ wt 0 9 ∗ wt 0 10 ∗ wt 0 11 ∗ wt 0 12 ∗ wt 0 13 ∗ wt 0 14 ∗ wt 0 15 ∗ atPos ER (barC 0) 1 ∅ 0) from Entails.refl _) $$ H5
  sl_exec
  iapply (snd_c0 m K 0 1 64 _ _ 31 39 (by decide) (by decide) rfl rfl rfl (act_ar 0 _ (by decide)) (act_ar _ _ (by decide)) (by decide) (by decide) rfl rfl (iprop(emp)) (Entails.refl _) emp_r (List.drop 4 (arL 0))) $$ [H1 H2 H3 HO]
  · isplitr; · iexact HC
    isplitl [H1]; · iexact H1
    isplitl [H2]; · iexact H2
    isplitr; · iempintro
    isplitl [H3]; · iexact H3
    iexact HO
  iintro ⟨H27, HO⟩
  sl_exec
  iapply (wp_wt m K 0 4 (s := S2x2x64x128) (ty := .bf16) rfl rfl (by decide) (fun _ => rfl) (List.drop 4 (arL 0)) rfl) $$ [H14 HO]
  · isplitr; · iexact HC
    isplitl [H14]; · iexact H14
    iexact HO
  iintro ⟨H28, H29, HO⟩
  ihave H30 := (show (pay m 0 4 : sProp 𝕄) ⊢ ktP m 0 8 from Entails.refl _) $$ H29
  sl_exec
  iapply (wp_wt m K 0 5 (s := S2x2x64x128) (ty := .bf16) rfl rfl (by decide) (fun _ => rfl) (List.drop 4 (arL 0)) rfl) $$ [H15 HO]
  · isplitr; · iexact HC
    isplitl [H15]; · iexact H15
    iexact HO
  iintro ⟨H31, H32, HO⟩
  ihave H33 := (show (pay m 0 5 : sProp 𝕄) ⊢ vtP m 0 8 from Entails.refl _) $$ H32
  sl_exec
  iapply (wp_wt m K 0 6 (s := S2x2x64x128) (ty := .bf16) rfl rfl (by decide) (fun _ => rfl) (List.drop 4 (arL 0)) rfl) $$ [H16 HO]
  · isplitr; · iexact HC
    isplitl [H16]; · iexact H16
    iexact HO
  iintro ⟨H34, H35, HO⟩
  ihave H36 := (show (pay m 0 6 : sProp 𝕄) ⊢ ktP m 0 4 from Entails.refl _) $$ H35
  sl_exec
  iapply (wp_wt m K 0 7 (s := S2x2x64x128) (ty := .bf16) rfl rfl (by decide) (fun _ => rfl) (List.drop 4 (arL 0)) rfl) $$ [H17 HO]
  · isplitr; · iexact HC
    isplitl [H17]; · iexact H17
    iexact HO
  iintro ⟨H37, H38, HO⟩
  ihave H39 := (show (pay m 0 7 : sProp 𝕄) ⊢ vtP m 0 4 from Entails.refl _) $$ H38
  sl_exec
  iapply (wp_wt m K 0 8 (s := S2x2x64x128) (ty := .bf16) rfl rfl (by decide) (fun _ => rfl) (List.drop 4 (arL 0)) rfl) $$ [H18 HO]
  · isplitr; · iexact HC
    isplitl [H18]; · iexact H18
    iexact HO
  iintro ⟨H40, H41, HO⟩
  ihave H42 := (show (pay m 0 8 : sProp 𝕄) ⊢ ktP m 0 12 from Entails.refl _) $$ H41
  sl_exec
  iapply (wp_wt m K 0 9 (s := S2x2x64x128) (ty := .bf16) rfl rfl (by decide) (fun _ => rfl) (List.drop 4 (arL 0)) rfl) $$ [H19 HO]
  · isplitr; · iexact HC
    isplitl [H19]; · iexact H19
    iexact HO
  iintro ⟨H43, H44, HO⟩
  ihave H45 := (show (pay m 0 9 : sProp 𝕄) ⊢ vtP m 0 12 from Entails.refl _) $$ H44
  sl_exec
  iapply (wp_wt m K 0 10 (s := S2x2x64x128) (ty := .bf16) rfl rfl (by decide) (fun _ => rfl) (List.drop 4 (arL 0)) rfl) $$ [H20 HO]
  · isplitr; · iexact HC
    isplitl [H20]; · iexact H20
    iexact HO
  iintro ⟨H46, H47, HO⟩
  ihave H48 := (show (pay m 0 10 : sProp 𝕄) ⊢ ktP m 0 10 from Entails.refl _) $$ H47
  sl_exec
  iapply (wp_wt m K 0 11 (s := S2x2x64x128) (ty := .bf16) rfl rfl (by decide) (fun _ => rfl) (List.drop 4 (arL 0)) rfl) $$ [H21 HO]
  · isplitr; · iexact HC
    isplitl [H21]; · iexact H21
    iexact HO
  iintro ⟨H49, H50, HO⟩
  ihave H51 := (show (pay m 0 11 : sProp 𝕄) ⊢ vtP m 0 10 from Entails.refl _) $$ H50
  sl_exec
  iapply (wp_wt m K 0 12 (s := S2x2x64x128) (ty := .bf16) rfl rfl (by decide) (fun _ => rfl) (List.drop 4 (arL 0)) rfl) $$ [H22 HO]
  · isplitr; · iexact HC
    isplitl [H22]; · iexact H22
    iexact HO
  iintro ⟨H52, H53, HO⟩
  ihave H54 := (show (pay m 0 12 : sProp 𝕄) ⊢ ktP m 0 6 from Entails.refl _) $$ H53
  sl_exec
  iapply (wp_wt m K 0 13 (s := S2x2x64x128) (ty := .bf16) rfl rfl (by decide) (fun _ => rfl) (List.drop 4 (arL 0)) rfl) $$ [H23 HO]
  · isplitr; · iexact HC
    isplitl [H23]; · iexact H23
    iexact HO
  iintro ⟨H55, H56, HO⟩
  ihave H57 := (show (pay m 0 13 : sProp 𝕄) ⊢ vtP m 0 6 from Entails.refl _) $$ H56
  sl_exec
  iapply (wp_wt m K 0 14 (s := S2x2x64x128) (ty := .bf16) rfl rfl (by decide) (fun _ => rfl) (List.drop 4 (arL 0)) rfl) $$ [H24 HO]
  · isplitr; · iexact HC
    isplitl [H24]; · iexact H24
    iexact HO
  iintro ⟨H58, H59, HO⟩
  ihave H60 := (show (pay m 0 14 : sProp 𝕄) ⊢ ktP m 0 14 from Entails.refl _) $$ H59
  sl_exec
  iapply (wp_wt m K 0 15 (s := S2x2x64x128) (ty := .bf16) rfl rfl (by decide) (fun _ => rfl) (List.drop 4 (arL 0)) rfl) $$ [H25 HO]
  · isplitr; · iexact HC
    isplitl [H25]; · iexact H25
    iexact HO
  iintro ⟨H61, H62, HO⟩
  ihave H63 := (show (pay m 0 15 : sProp 𝕄) ⊢ vtP m 0 14 from Entails.refl _) $$ H62
  sl_exec
  iapply (wp_wt m K 0 28 (s := S64x512) (ty := .bf16) rfl rfl (by decide) (fun _ => rfl) (List.drop 4 (arL 0)) rfl) $$ [H4 HO]
  · isplitr; · iexact HC
    isplitl [H4]; · iexact H4
    iexact HO
  iintro ⟨H64, H65, HO⟩
  ihave H66 := (show (pay m 0 28 : sProp 𝕄) ⊢ sendP m 0 0 0 0 from Entails.refl _) $$ H65
  sl_exec
  iapply Hk
  isplitr [HO]
  · isplitl [H27]; · iexact H27
    isplitl [H64]; · iexact H64
    isplitl [H66]; · iexact H66
    unfold lateE
    isplitl [H6]; · iexact H6
    isplitl [H8]; · iexact H8
    isplitl [H36]; · iexact H36
    isplitl [H54]; · iexact H54
    isplitl [H30]; · iexact H30
    isplitl [H48]; · iexact H48
    isplitl [H42]; · iexact H42
    isplitl [H60]; · iexact H60
    isplitl [H7]; · iexact H7
    isplitl [H9]; · iexact H9
    isplitl [H39]; · iexact H39
    isplitl [H57]; · iexact H57
    isplitl [H33]; · iexact H33
    isplitl [H51]; · iexact H51
    isplitl [H45]; · iexact H45
    isplitl [H63]; · iexact H63
    isplitl [H28]; · iexact H28
    isplitl [H31]; · iexact H31
    isplitl [H34]; · iexact H34
    isplitl [H37]; · iexact H37
    isplitl [H40]; · iexact H40
    isplitl [H43]; · iexact H43
    isplitl [H46]; · iexact H46
    isplitl [H49]; · iexact H49
    isplitl [H52]; · iexact H52
    isplitl [H55]; · iexact H55
    isplitl [H58]; · iexact H58
    isplitl [H61]; · iexact H61
    isplitl [H10]; · iexact H10
    isplitl [H12]; · iexact H12
    isplitl [H11]; · iexact H11
    isplitl [H13]; · iexact H13
    iexact H26
  · iexact HO

set_option maxHeartbeats 4000000 in
/-- Device 1: its last chunk of the first exchange goes out, and its sends of heads have arrived. -/
theorem segE1 (K : GSem nD τ sig → ℕ) (a5 : Memref sig .tc .vmem S2x128x512 .f32) (ha5 : a5.IsWhole)
    {α : Type} (Q : α → sProp 𝕄) (κ : _ → Prog (TpuEff nD τ sig (Elt F) Λ₀ .tc) α) :
    iprop(ctx m K 1 ∗ iprop(sendP m 1 0 1 64 ∗ chunkF (pa 1) 0 1 64 39 ∗ snd 1 31 (pa 1) 39 ∗ wt 1 28 ∗ lateC m 1) ∗ ow 1 (List.drop 3 (arL 1))
      ∗ ((iprop(wt 1 31 ∗ fin m 1 28 ∗ sendP m 1 0 0 0 ∗ lateE m 1) ∗ ow 1 (List.drop 4 (arL 1))) -∗ wp frame (wpE (defs₀ (F := F)) 𝒱₀ ((1 : Dev nD) : Thread nD τ) none) Set.univ
          (κ 1#32) Q))
     ⊢ wp frame (wpE (defs₀ (F := F)) 𝒱₀ (((1 : Dev nD)) : Thread nD τ) none) Set.univ (progE a5 ha5 (1 : Dev nD) (posw 1) κ) Q := by
  unfold progE progEX
  iintro ⟨#HC, ⟨H1, H2, H3, H4, H5⟩, HO, Hk⟩
  ihave ⟨H6, H7, H8, H9, H10, H11, H12, H13⟩ := (show (lateC m 1 : sProp 𝕄) ⊢ iprop(fin m 1 20 ∗ fin m 1 16 ∗ fin m 1 18 ∗ fin m 1 21 ∗ fin m 1 17 ∗ fin m 1 19 ∗ wt 1 22 ∗ wt 1 23) from Entails.refl _) $$ H5
  sl_exec
  iapply (snd_c0 m K 1 1 64 _ _ 31 39 (by decide) (by decide) rfl rfl rfl (act_ar 1 _ (by decide)) (act_ar _ _ (by decide)) (by decide) (by decide) rfl rfl (iprop(emp)) (Entails.refl _) emp_r (List.drop 4 (arL 1))) $$ [H1 H2 H3 HO]
  · isplitr; · iexact HC
    isplitl [H1]; · iexact H1
    isplitl [H2]; · iexact H2
    isplitr; · iempintro
    isplitl [H3]; · iexact H3
    iexact HO
  iintro ⟨H14, HO⟩
  sl_exec
  iapply (wp_wt m K 1 22 (s := S2x2x64x128) (ty := .bf16) rfl rfl (by decide) (fun _ => rfl) (List.drop 4 (arL 1)) rfl) $$ [H12 HO]
  · isplitr; · iexact HC
    isplitl [H12]; · iexact H12
    iexact HO
  iintro ⟨H15, H16, HO⟩
  ihave H17 := (show (pay m 1 22 : sProp 𝕄) ⊢ slotP m 1 2 0 from Entails.refl _) $$ H16
  sl_exec
  iapply (wp_wt m K 1 23 (s := S2x2x64x128) (ty := .bf16) rfl rfl (by decide) (fun _ => rfl) (List.drop 4 (arL 1)) rfl) $$ [H13 HO]
  · isplitr; · iexact HC
    isplitl [H13]; · iexact H13
    iexact HO
  iintro ⟨H18, H19, HO⟩
  ihave H20 := (show (pay m 1 23 : sProp 𝕄) ⊢ slotP m 1 2 1 from Entails.refl _) $$ H19
  sl_exec
  iapply (wp_wt m K 1 28 (s := S64x512) (ty := .bf16) rfl rfl (by decide) (fun _ => rfl) (List.drop 4 (arL 1)) rfl) $$ [H4 HO]
  · isplitr; · iexact HC
    isplitl [H4]; · iexact H4
    iexact HO
  iintro ⟨H21, H22, HO⟩
  ihave H23 := (show (pay m 1 28 : sProp 𝕄) ⊢ sendP m 1 0 0 0 from Entails.refl _) $$ H22
  sl_exec
  iapply Hk
  isplitr [HO]
  · isplitl [H14]; · iexact H14
    isplitl [H21]; · iexact H21
    isplitl [H23]; · iexact H23
    unfold lateE
    isplitl [H17]; · iexact H17
    isplitl [H20]; · iexact H20
    isplitl [H7]; · iexact H7
    isplitl [H10]; · iexact H10
    isplitl [H8]; · iexact H8
    isplitl [H11]; · iexact H11
    isplitl [H6]; · iexact H6
    isplitl [H9]; · iexact H9
    isplitl [H15]; · iexact H15
    iexact H18
  · iexact HO

set_option maxHeartbeats 4000000 in
/-- Device 2: its last chunk of the first exchange goes out, and its sends of heads have arrived. -/
theorem segE2 (K : GSem nD τ sig → ℕ) (a5 : Memref sig .tc .vmem S2x128x512 .f32) (ha5 : a5.IsWhole)
    {α : Type} (Q : α → sProp 𝕄) (κ : _ → Prog (TpuEff nD τ sig (Elt F) Λ₀ .tc) α) :
    iprop(ctx m K 2 ∗ iprop(sendP m 2 0 1 64 ∗ chunkF (pa 2) 0 1 64 39 ∗ snd 2 31 (pa 2) 39 ∗ wt 2 28 ∗ lateC m 2) ∗ ow 2 (List.drop 3 (arL 2))
      ∗ ((iprop(wt 2 31 ∗ fin m 2 28 ∗ sendP m 2 0 0 0 ∗ lateE m 2) ∗ ow 2 (List.drop 4 (arL 2))) -∗ wp frame (wpE (defs₀ (F := F)) 𝒱₀ ((2 : Dev nD) : Thread nD τ) none) Set.univ
          (κ 1#32) Q))
     ⊢ wp frame (wpE (defs₀ (F := F)) 𝒱₀ (((2 : Dev nD)) : Thread nD τ) none) Set.univ (progE a5 ha5 (2 : Dev nD) (posw 2) κ) Q := by
  unfold progE progEX
  iintro ⟨#HC, ⟨H1, H2, H3, H4, H5⟩, HO, Hk⟩
  ihave ⟨H6, H7, H8, H9⟩ := (show (lateC m 2 : sProp 𝕄) ⊢ iprop(fin m 2 16 ∗ fin m 2 18 ∗ fin m 2 17 ∗ fin m 2 19) from Entails.refl _) $$ H5
  sl_exec
  iapply (snd_c0 m K 2 1 64 _ _ 31 39 (by decide) (by decide) rfl rfl rfl (act_ar 2 _ (by decide)) (act_ar _ _ (by decide)) (by decide) (by decide) rfl rfl (iprop(emp)) (Entails.refl _) emp_r (List.drop 4 (arL 2))) $$ [H1 H2 H3 HO]
  · isplitr; · iexact HC
    isplitl [H1]; · iexact H1
    isplitl [H2]; · iexact H2
    isplitr; · iempintro
    isplitl [H3]; · iexact H3
    iexact HO
  iintro ⟨H10, HO⟩
  sl_exec
  iapply (wp_wt m K 2 28 (s := S64x512) (ty := .bf16) rfl rfl (by decide) (fun _ => rfl) (List.drop 4 (arL 2)) rfl) $$ [H4 HO]
  · isplitr; · iexact HC
    isplitl [H4]; · iexact H4
    iexact HO
  iintro ⟨H11, H12, HO⟩
  ihave H13 := (show (pay m 2 28 : sProp 𝕄) ⊢ sendP m 2 0 0 0 from Entails.refl _) $$ H12
  sl_exec
  iapply Hk
  isplitr [HO]
  · isplitl [H10]; · iexact H10
    isplitl [H11]; · iexact H11
    isplitl [H13]; · iexact H13
    unfold lateE
    isplitl [H6]; · iexact H6
    isplitl [H8]; · iexact H8
    isplitl [H7]; · iexact H7
    iexact H9
  · iexact HO

set_option maxHeartbeats 4000000 in
/-- Device 3: its last chunk of the first exchange goes out, and its sends of heads have arrived. -/
theorem segE3 (K : GSem nD τ sig → ℕ) (a5 : Memref sig .tc .vmem S2x128x512 .f32) (ha5 : a5.IsWhole)
    {α : Type} (Q : α → sProp 𝕄) (κ : _ → Prog (TpuEff nD τ sig (Elt F) Λ₀ .tc) α) :
    iprop(ctx m K 3 ∗ iprop(sendP m 3 0 1 64 ∗ chunkF (pa 3) 0 1 64 39 ∗ snd 3 31 (pa 3) 39 ∗ wt 3 28 ∗ lateC m 3) ∗ ow 3 (List.drop 3 (arL 3))
      ∗ ((iprop(wt 3 31 ∗ fin m 3 28 ∗ sendP m 3 0 0 0 ∗ lateE m 3) ∗ ow 3 (List.drop 4 (arL 3))) -∗ wp frame (wpE (defs₀ (F := F)) 𝒱₀ ((3 : Dev nD) : Thread nD τ) none) Set.univ
          (κ 1#32) Q))
     ⊢ wp frame (wpE (defs₀ (F := F)) 𝒱₀ (((3 : Dev nD)) : Thread nD τ) none) Set.univ (progE a5 ha5 (3 : Dev nD) (posw 3) κ) Q := by
  unfold progE progEX
  iintro ⟨#HC, ⟨H1, H2, H3, H4, H5⟩, HO, Hk⟩
  ihave ⟨H6, H7, H8, H9, H10, H11, H12, H13⟩ := (show (lateC m 3 : sProp 𝕄) ⊢ iprop(fin m 3 20 ∗ fin m 3 16 ∗ fin m 3 18 ∗ fin m 3 21 ∗ fin m 3 17 ∗ fin m 3 19 ∗ wt 3 22 ∗ wt 3 23) from Entails.refl _) $$ H5
  sl_exec
  iapply (snd_c0 m K 3 1 64 _ _ 31 39 (by decide) (by decide) rfl rfl rfl (act_ar 3 _ (by decide)) (act_ar _ _ (by decide)) (by decide) (by decide) rfl rfl (iprop(emp)) (Entails.refl _) emp_r (List.drop 4 (arL 3))) $$ [H1 H2 H3 HO]
  · isplitr; · iexact HC
    isplitl [H1]; · iexact H1
    isplitl [H2]; · iexact H2
    isplitr; · iempintro
    isplitl [H3]; · iexact H3
    iexact HO
  iintro ⟨H14, HO⟩
  sl_exec
  iapply (wp_wt m K 3 22 (s := S2x2x64x128) (ty := .bf16) rfl rfl (by decide) (fun _ => rfl) (List.drop 4 (arL 3)) rfl) $$ [H12 HO]
  · isplitr; · iexact HC
    isplitl [H12]; · iexact H12
    iexact HO
  iintro ⟨H15, H16, HO⟩
  ihave H17 := (show (pay m 3 22 : sProp 𝕄) ⊢ slotP m 3 2 0 from Entails.refl _) $$ H16
  sl_exec
  iapply (wp_wt m K 3 23 (s := S2x2x64x128) (ty := .bf16) rfl rfl (by decide) (fun _ => rfl) (List.drop 4 (arL 3)) rfl) $$ [H13 HO]
  · isplitr; · iexact HC
    isplitl [H13]; · iexact H13
    iexact HO
  iintro ⟨H18, H19, HO⟩
  ihave H20 := (show (pay m 3 23 : sProp 𝕄) ⊢ slotP m 3 2 1 from Entails.refl _) $$ H19
  sl_exec
  iapply (wp_wt m K 3 28 (s := S64x512) (ty := .bf16) rfl rfl (by decide) (fun _ => rfl) (List.drop 4 (arL 3)) rfl) $$ [H4 HO]
  · isplitr; · iexact HC
    isplitl [H4]; · iexact H4
    iexact HO
  iintro ⟨H21, H22, HO⟩
  ihave H23 := (show (pay m 3 28 : sProp 𝕄) ⊢ sendP m 3 0 0 0 from Entails.refl _) $$ H22
  sl_exec
  iapply Hk
  isplitr [HO]
  · isplitl [H14]; · iexact H14
    isplitl [H21]; · iexact H21
    isplitl [H23]; · iexact H23
    unfold lateE
    isplitl [H17]; · iexact H17
    isplitl [H20]; · iexact H20
    isplitl [H7]; · iexact H7
    isplitl [H10]; · iexact H10
    isplitl [H8]; · iexact H8
    isplitl [H11]; · iexact H11
    isplitl [H6]; · iexact H6
    isplitl [H9]; · iexact H9
    isplitl [H15]; · iexact H15
    iexact H18
  · iexact HO

end Cert.KernelIdeal.Attn
end
-- ==== Proof.KernelIdeal.SegF.lean ====
/- The first exchange's chunks added, the second exchange begun. -/
module

public import proofs.«01_k».proof.Proof.KernelIdeal.Out
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

set_option maxHeartbeats 1000000 in
/-- The chunks of the first exchange are added, and the second exchange begins. -/
theorem segF (d : Dev nD) (K : GSem nD τ sig → ℕ) (a5 : Memref sig .tc .vmem S2x128x512 .f32) (ha5 : a5.IsWhole)
    {α : Type} (Q : α → sProp 𝕄) (κ : _ → Prog (TpuEff nD τ sig (Elt F) Λ₀ .tc) α) :
    iprop(ctx m K d ∗ iprop(oE d a5 (Ob m d) ∗ pcE d (sendM 1 0 0) ∗ pcE d (sendM 1 1 0) ∗ pcE d (sendM 1 0 64) ∗ pcE d (sendM 1 1 64) ∗ wt d 30 ∗ wt d 29 ∗ wt d 31 ∗ wt d 36 ∗ wt d 38 ∗ wt d 37 ∗ wt d 39 ∗ chunks1 (pb d) ∗ snd d 32 (pb d) 40 ∗ snd d 34 (pb d) 42 ∗ snd d 33 (pb d) 41) ∗ ow d (List.drop 4 (arL d))
      ∗ ((iprop(oE d a5 (O1b m d) ∗ commP m d 0 0 0 ∗ commP m d 0 1 0 ∗ commP m d 0 0 64 ∗ commP m d 0 1 64 ∗ sendP m d 0 1 0 ∗ sendP m d 0 0 64 ∗ sendP m d 0 1 64 ∗ fin m d 30 ∗ fin m d 29 ∗ fin m d 31 ∗ fin m d 36 ∗ fin m d 38 ∗ fin m d 37 ∗ fin m d 39 ∗ wt d 32 ∗ wt d 34 ∗ wt d 33 ∗ sendP m d 1 1 64 ∗ chunkF (pb d) 1 1 64 43) ∗ ow d (List.drop 7 (arL d))) -∗ wp frame (wpE (defs₀ (F := F)) 𝒱₀ ((d : Dev nD) : Thread nD τ) none) Set.univ
          (κ ⟨⟩) Q))
     ⊢ wp frame (wpE (defs₀ (F := F)) 𝒱₀ (((d : Dev nD)) : Thread nD τ) none) Set.univ (progF a5 ha5 d (Scalar.xori (posw d) 1#32) (Scalar.subi 3#32 (posw d)) 1#32 κ) Q := by
  unfold progF progFX
  iintro ⟨#HC, ⟨H1, H2, H3, H4, H5, H6, H7, H8, H9, H10, H11, H12, H13, H14, H15, H16⟩, HO, Hk⟩
  ihave ⟨H17, H18, H19, H20⟩ := (show (chunks1 (pb d) : sProp 𝕄) ⊢ iprop(chunkF (pb d) 1 0 0 40 ∗ chunkF (pb d) 1 1 0 42 ∗ chunkF (pb d) 1 0 64 41 ∗ chunkF (pb d) 1 1 64 43) from Entails.refl _) $$ H13
  unfold pcE
  icases H2 with ⟨%sf0, H2⟩
  icases H3 with ⟨%sf1, H3⟩
  icases H4 with ⟨%sf2, H4⟩
  icases H5 with ⟨%sf3, H5⟩
  unfold oE
  icases H1 with ⟨%of, %hof, H1⟩
  sl_exec
  iapply (wp_wt m K d 36 (s := S64x512) (ty := .bf16) rfl (act_ar d _ (by decide)) (by decide) (fun _ => rfl) (List.drop 4 (arL d)) rfl) $$ [H9 HO]
  · isplitr; · iexact HC
    isplitl [H9]; · iexact H9
    iexact HO
  iintro ⟨H21, H22, HO⟩
  ihave H23 := (show (pay m d 36 : sProp 𝕄) ⊢ commP m d 0 0 0 from Entails.refl _) $$ H22
  unfold commP pc
  sl_exec
  ihave H24 : sendP m d 1 0 0 $$ [H2]
  · iclear HC
    istop
    exact (send_st1 m a5 d 0 0 0 0 (by decide) inb_S2x2x128x512_S1x1x64x512_1_0_0_0 inb_S2x128x512_S1x64x512_0_0_0 inb_S2x2x128x512_S1x1x64x512_0_0_0_0 sf0 of hof 0 0 rfl rfl rfl rfl)
  iapply (snd_c1 m K d 0 0 _ _ 32 40 (by decide) (by decide) (dev22 d _) rfl rfl (act_ar d _ (by decide)) (act_ar _ _ (by decide)) (by decide) (by decide) rfl rfl (iprop(emp)) (Entails.refl _) emp_r (List.drop 5 (arL d))) $$ [H24 H17 H14 HO]
  · isplitr; · iexact HC
    isplitl [H24]; · iexact H24
    isplitl [H17]; · iexact H17
    isplitr; · iempintro
    isplitl [H14]; · iexact H14
    iexact HO
  iintro ⟨H25, HO⟩
  sl_exec
  iapply (wp_wt m K d 30 (s := S64x512) (ty := .bf16) rfl (act_ar d _ (by decide)) (by decide) (fun _ => rfl) (List.drop 5 (arL d)) rfl) $$ [H6 HO]
  · isplitr; · iexact HC
    isplitl [H6]; · iexact H6
    iexact HO
  iintro ⟨H26, H27, HO⟩
  ihave H28 := (show (pay m d 30 : sProp 𝕄) ⊢ sendP m d 0 1 0 from Entails.refl _) $$ H27
  sl_exec
  iapply (wp_wt m K d 38 (s := S64x512) (ty := .bf16) rfl (act_ar d _ (by decide)) (by decide) (fun _ => rfl) (List.drop 5 (arL d)) rfl) $$ [H10 HO]
  · isplitr; · iexact HC
    isplitl [H10]; · iexact H10
    iexact HO
  iintro ⟨H29, H30, HO⟩
  ihave H31 := (show (pay m d 38 : sProp 𝕄) ⊢ commP m d 0 1 0 from Entails.refl _) $$ H30
  unfold commP pc
  sl_exec
  ihave H32 : sendP m d 1 1 0 $$ [H3]
  · iclear HC
    istop
    exact (send_st1 m a5 d 1 0 1 0 (by decide) inb_S2x2x128x512_S1x1x64x512_1_1_0_0 inb_S2x128x512_S1x64x512_1_0_0 inb_S2x2x128x512_S1x1x64x512_0_1_0_0 sf1 of hof 1 0 rfl rfl rfl rfl)
  iapply (snd_c1 m K d 1 0 _ _ 34 42 (by decide) (by decide) (dev23 d _) rfl rfl (act_ar d _ (by decide)) (act_ar _ _ (by decide)) (by decide) (by decide) rfl rfl (iprop(emp)) (Entails.refl _) emp_r (List.drop 6 (arL d))) $$ [H32 H18 H15 HO]
  · isplitr; · iexact HC
    isplitl [H32]; · iexact H32
    isplitl [H18]; · iexact H18
    isplitr; · iempintro
    isplitl [H15]; · iexact H15
    iexact HO
  iintro ⟨H33, HO⟩
  sl_exec
  iapply (wp_wt m K d 29 (s := S64x512) (ty := .bf16) rfl (act_ar d _ (by decide)) (by decide) (fun _ => rfl) (List.drop 6 (arL d)) rfl) $$ [H7 HO]
  · isplitr; · iexact HC
    isplitl [H7]; · iexact H7
    iexact HO
  iintro ⟨H34, H35, HO⟩
  ihave H36 := (show (pay m d 29 : sProp 𝕄) ⊢ sendP m d 0 0 64 from Entails.refl _) $$ H35
  sl_exec
  iapply (wp_wt m K d 37 (s := S64x512) (ty := .bf16) rfl (act_ar d _ (by decide)) (by decide) (fun _ => rfl) (List.drop 6 (arL d)) rfl) $$ [H11 HO]
  · isplitr; · iexact HC
    isplitl [H11]; · iexact H11
    iexact HO
  iintro ⟨H37, H38, HO⟩
  ihave H39 := (show (pay m d 37 : sProp 𝕄) ⊢ commP m d 0 0 64 from Entails.refl _) $$ H38
  unfold commP pc
  sl_exec
  ihave H40 : sendP m d 1 0 64 $$ [H4]
  · iclear HC
    istop
    exact (send_st1 m a5 d 0 64 0 64 (by decide) inb_S2x2x128x512_S1x1x64x512_1_0_64_0 inb_S2x128x512_S1x64x512_0_64_0 inb_S2x2x128x512_S1x1x64x512_0_0_64_0 sf2 of hof 0 1 rfl rfl rfl rfl)
  iapply (snd_c1 m K d 0 64 _ _ 33 41 (by decide) (by decide) (dev24 d _) rfl rfl (act_ar d _ (by decide)) (act_ar _ _ (by decide)) (by decide) (by decide) rfl rfl (iprop(emp)) (Entails.refl _) emp_r (List.drop 7 (arL d))) $$ [H40 H19 H16 HO]
  · isplitr; · iexact HC
    isplitl [H40]; · iexact H40
    isplitl [H19]; · iexact H19
    isplitr; · iempintro
    isplitl [H16]; · iexact H16
    iexact HO
  iintro ⟨H41, HO⟩
  sl_exec
  iapply (wp_wt m K d 31 (s := S64x512) (ty := .bf16) rfl (act_ar d _ (by decide)) (by decide) (fun _ => rfl) (List.drop 7 (arL d)) rfl) $$ [H8 HO]
  · isplitr; · iexact HC
    isplitl [H8]; · iexact H8
    iexact HO
  iintro ⟨H42, H43, HO⟩
  ihave H44 := (show (pay m d 31 : sProp 𝕄) ⊢ sendP m d 0 1 64 from Entails.refl _) $$ H43
  sl_exec
  iapply (wp_wt m K d 39 (s := S64x512) (ty := .bf16) rfl (act_ar d _ (by decide)) (by decide) (fun _ => rfl) (List.drop 7 (arL d)) rfl) $$ [H12 HO]
  · isplitr; · iexact HC
    isplitl [H12]; · iexact H12
    iexact HO
  iintro ⟨H45, H46, HO⟩
  ihave H47 := (show (pay m d 39 : sProp 𝕄) ⊢ commP m d 0 1 64 from Entails.refl _) $$ H46
  unfold commP pc
  sl_exec
  ihave H48 : sendP m d 1 1 64 $$ [H5]
  · iclear HC
    istop
    exact (send_st1 m a5 d 1 64 1 64 (by decide) inb_S2x2x128x512_S1x1x64x512_1_1_64_0 inb_S2x128x512_S1x64x512_1_64_0 inb_S2x2x128x512_S1x1x64x512_0_1_64_0 sf3 of hof 1 1 rfl rfl rfl rfl)
  iapply Hk
  isplitr [HO]
  · isplitl [H1]
    · iclear HC
      istop
      refine BIBase.Entails.trans (writes_eq (F := F) d a5 of (qs := oP fun b qb => k0_pay93 (outBlk (Ob m d) b qb) (SC0 m (pa d) b qb)) ?_) (o_done a5 d of _)
      unfold oP
      refine cons_eq (F := F) (s := S2x128x512) (e := .f32) _ ?_ ?_
      · exact (o1_rd m a5 d 1 64 _ _ of hof 1 1 rfl rfl)
      refine cons_eq (F := F) (s := S2x128x512) (e := .f32) _ ?_ ?_
      · exact (o1_rd m a5 d 0 64 _ _ of hof 0 1 rfl rfl)
      refine cons_eq (F := F) (s := S2x128x512) (e := .f32) _ ?_ ?_
      · exact (o1_rd m a5 d 1 0 _ _ of hof 1 0 rfl rfl)
      refine cons_eq (F := F) (s := S2x128x512) (e := .f32) _ ?_ ?_
      · exact (o1_rd m a5 d 0 0 _ _ of hof 0 0 rfl rfl)
      rfl
    isplitl [H23]; · iexact H23
    isplitl [H31]; · iexact H31
    isplitl [H39]; · iexact H39
    isplitl [H47]; · iexact H47
    isplitl [H28]; · iexact H28
    isplitl [H36]; · iexact H36
    isplitl [H44]; · iexact H44
    isplitl [H26]; · iexact H26
    isplitl [H34]; · iexact H34
    isplitl [H42]; · iexact H42
    isplitl [H21]; · iexact H21
    isplitl [H29]; · iexact H29
    isplitl [H37]; · iexact H37
    isplitl [H45]; · iexact H45
    isplitl [H25]; · iexact H25
    isplitl [H33]; · iexact H33
    isplitl [H41]; · iexact H41
    isplitl [H48]; · iexact H48
    iexact H20
  · iexact HO

end Cert.KernelIdeal.Attn
end
-- ==== Proof.KernelIdeal.SegG.lean ====
/- The second exchange's chunks added. -/
module

public import proofs.«01_k».proof.Proof.KernelIdeal.Out
public import proofs.«01_k».proof.Proof.KernelIdeal.Progs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- The first three blocks of the result, the latest first. -/
def oQ (d : Dev nD) : List (View.Piece (Elt F) S2x128x512 .f32) :=
    [⟨Rect.unit (s := S2x128x512) ![0, 64, 0] S1x64x512.size inb_S2x128x512_S1x64x512_0_64_0, k0_pay104 (outBlk (O1b m d) 0 1) (SC1 m (pb d) 0 1)⟩,
     ⟨Rect.unit (s := S2x128x512) ![1, 0, 0] S1x64x512.size inb_S2x128x512_S1x64x512_1_0_0, k0_pay104 (outBlk (O1b m d) 1 0) (SC1 m (pb d) 1 0)⟩,
     ⟨Rect.unit (s := S2x128x512) ![0, 0, 0] S1x64x512.size inb_S2x128x512_S1x64x512_0_0_0, k0_pay104 (outBlk (O1b m d) 0 0) (SC1 m (pb d) 0 0)⟩]

set_option maxHeartbeats 1000000 in
/-- Three chunks of the second exchange are added. -/
theorem segG (d : Dev nD) (K : GSem nD τ sig → ℕ) (a5 : Memref sig .tc .vmem S2x128x512 .f32) (ha5 : a5.IsWhole) (of : Buf (Elt F) (a5.view.loc (d : Thread nD τ))) (hof : ∀ y, a5.view.read (Elt F) of y = O1b m d y) (Q : PUnit → sProp 𝕄) :
    iprop(ctx m K d ∗ iprop(own d a5 of ∗ sendP m d 1 1 64 ∗ chunkF (pb d) 1 1 64 43 ∗ snd d 35 (pb d) 43 ∗ wt d 32 ∗ wt d 34 ∗ wt d 33 ∗ wt d 40 ∗ wt d 42 ∗ wt d 41) ∗ ow d (List.drop 7 (arL d))
      ∗ ((iprop(own d a5 (a5.view.writes (Elt F) of (oQ m d)) ∗ commP m d 1 0 0 ∗ commP m d 1 1 0 ∗ commP m d 1 0 64 ∗ sendP m d 1 0 0 ∗ sendP m d 1 1 0 ∗ sendP m d 1 0 64 ∗ sendP m d 1 1 64 ∗ fin m d 32 ∗ fin m d 34 ∗ fin m d 33 ∗ fin m d 35 ∗ fin m d 40 ∗ fin m d 42 ∗ fin m d 41) ∗ ow d []) -∗ wp frame (wpE (defs₀ (F := F)) 𝒱₀ ((d : Dev nD) : Thread nD τ) none) Set.univ (Prog.ret PUnit.unit) Q))
     ⊢ wp frame (wpE (defs₀ (F := F)) 𝒱₀ (((d : Dev nD)) : Thread nD τ) none) Set.univ (progG a5 ha5 d (Scalar.subi 3#32 (posw d))) Q := by
  unfold progG progGX
  iintro ⟨#HC, ⟨H1, H2, H3, H4, H5, H6, H7, H8, H9, H10⟩, HO, Hk⟩
  sl_exec
  iapply (snd_c1 m K d 1 64 _ _ 35 43 (by decide) (by decide) (dev25 d _) rfl rfl (act_ar d _ (by decide)) (act_ar _ _ (by decide)) (by decide) (by decide) rfl rfl (iprop(emp)) (Entails.refl _) emp_r (List.drop 8 (arL d))) $$ [H2 H3 H4 HO]
  · isplitr; · iexact HC
    isplitl [H2]; · iexact H2
    isplitl [H3]; · iexact H3
    isplitr; · iempintro
    isplitl [H4]; · iexact H4
    iexact HO
  iintro ⟨H11, HO⟩
  sl_exec
  iapply (wp_wt m K d 32 (s := S64x512) (ty := .bf16) rfl (act_ar d _ (by decide)) (by decide) (fun _ => rfl) (List.drop 8 (arL d)) rfl) $$ [H5 HO]
  · isplitr; · iexact HC
    isplitl [H5]; · iexact H5
    iexact HO
  iintro ⟨H12, H13, HO⟩
  ihave H14 := (show (pay m d 32 : sProp 𝕄) ⊢ sendP m d 1 0 0 from Entails.refl _) $$ H13
  sl_exec
  iapply (wp_wt m K d 40 (s := S64x512) (ty := .bf16) rfl (act_ar d _ (by decide)) (by decide) (fun _ => rfl) (List.drop 8 (arL d)) rfl) $$ [H8 HO]
  · isplitr; · iexact HC
    isplitl [H8]; · iexact H8
    iexact HO
  iintro ⟨H15, H16, HO⟩
  ihave H17 := (show (pay m d 40 : sProp 𝕄) ⊢ commP m d 1 0 0 from Entails.refl _) $$ H16
  unfold commP pc
  sl_exec
  iapply (wp_wt m K d 34 (s := S64x512) (ty := .bf16) rfl (act_ar d _ (by decide)) (by decide) (fun _ => rfl) (List.drop 8 (arL d)) rfl) $$ [H6 HO]
  · isplitr; · iexact HC
    isplitl [H6]; · iexact H6
    iexact HO
  iintro ⟨H18, H19, HO⟩
  ihave H20 := (show (pay m d 34 : sProp 𝕄) ⊢ sendP m d 1 1 0 from Entails.refl _) $$ H19
  sl_exec
  iapply (wp_wt m K d 42 (s := S64x512) (ty := .bf16) rfl (act_ar d _ (by decide)) (by decide) (fun _ => rfl) (List.drop 8 (arL d)) rfl) $$ [H9 HO]
  · isplitr; · iexact HC
    isplitl [H9]; · iexact H9
    iexact HO
  iintro ⟨H21, H22, HO⟩
  ihave H23 := (show (pay m d 42 : sProp 𝕄) ⊢ commP m d 1 1 0 from Entails.refl _) $$ H22
  unfold commP pc
  sl_exec
  iapply (wp_wt m K d 33 (s := S64x512) (ty := .bf16) rfl (act_ar d _ (by decide)) (by decide) (fun _ => rfl) (List.drop 8 (arL d)) rfl) $$ [H7 HO]
  · isplitr; · iexact HC
    isplitl [H7]; · iexact H7
    iexact HO
  iintro ⟨H24, H25, HO⟩
  ihave H26 := (show (pay m d 33 : sProp 𝕄) ⊢ sendP m d 1 0 64 from Entails.refl _) $$ H25
  sl_exec
  iapply (wp_wt m K d 41 (s := S64x512) (ty := .bf16) rfl (act_ar d _ (by decide)) (by decide) (fun _ => rfl) (List.drop 8 (arL d)) rfl) $$ [H10 HO]
  · isplitr; · iexact HC
    isplitl [H10]; · iexact H10
    iexact HO
  iintro ⟨H27, H28, HO⟩
  ihave H29 := (show (pay m d 41 : sProp 𝕄) ⊢ commP m d 1 0 64 from Entails.refl _) $$ H28
  unfold commP pc
  sl_exec
  iapply (wp_wt m K d 35 (s := S64x512) (ty := .bf16) rfl (act_ar d _ (by decide)) (by decide) (fun _ => rfl) (List.drop 8 (arL d)) rfl) $$ [H11 HO]
  · isplitr; · iexact HC
    isplitl [H11]; · iexact H11
    iexact HO
  iintro ⟨H30, H31, HO⟩
  ihave H32 := (show (pay m d 35 : sProp 𝕄) ⊢ sendP m d 1 1 64 from Entails.refl _) $$ H31
  sl_exec
  iapply Hk
  isplitr [HO]
  · isplitl [H1]
    · iclear HC
      istop
      refine writes_eq (F := F) d a5 of (qs := oQ m d) ?_
      unfold oQ
      refine cons_eq (F := F) (s := S2x128x512) (e := .f32) _ ?_ ?_
      · exact (o2_rd m a5 d 0 64 _ _ of hof 0 1 rfl rfl)
      refine cons_eq (F := F) (s := S2x128x512) (e := .f32) _ ?_ ?_
      · exact (o2_rd m a5 d 1 0 _ _ of hof 1 0 rfl rfl)
      refine cons_eq (F := F) (s := S2x128x512) (e := .f32) _ ?_ ?_
      · exact (o2_rd m a5 d 0 0 _ _ of hof 0 0 rfl rfl)
      rfl
    isplitl [H17]; · iexact H17
    isplitl [H23]; · iexact H23
    isplitl [H29]; · iexact H29
    isplitl [H14]; · iexact H14
    isplitl [H20]; · iexact H20
    isplitl [H26]; · iexact H26
    isplitl [H32]; · iexact H32
    isplitl [H12]; · iexact H12
    isplitl [H18]; · iexact H18
    isplitl [H24]; · iexact H24
    isplitl [H30]; · iexact H30
    isplitl [H15]; · iexact H15
    isplitl [H21]; · iexact H21
    iexact H27
  · iexact HO

set_option maxHeartbeats 1000000 in
/-- The last chunk of the second exchange is added. -/
theorem segH (d : Dev nD) (K : GSem nD τ sig → ℕ) (a5 : Memref sig .tc .vmem S2x128x512 .f32) (ha5 : a5.IsWhole) (of : Buf (Elt F) (a5.view.loc (d : Thread nD τ))) (hof : ∀ y, a5.view.read (Elt F) of y = O1b m d y) (Q : PUnit → sProp 𝕄) :
    iprop(ctx m K d ∗ iprop(own d a5 (a5.view.writes (Elt F) of (oQ m d)) ∗ wt d 43) ∗ ow d []
      ∗ ((iprop(oE d a5 (O2b m d) ∗ commP m d 1 1 64 ∗ fin m d 43) ∗ ow d []) -∗ wp frame (wpE (defs₀ (F := F)) 𝒱₀ ((d : Dev nD) : Thread nD τ) none) Set.univ (Prog.ret PUnit.unit) Q))
     ⊢ wp frame (wpE (defs₀ (F := F)) 𝒱₀ (((d : Dev nD)) : Thread nD τ) none) Set.univ (progH a5 ha5) Q := by
  unfold progH
  iintro ⟨#HC, ⟨H1, H2⟩, HO, Hk⟩
  sl_exec
  iapply (wp_wt m K d 43 (s := S64x512) (ty := .bf16) rfl (act_ar d _ (by decide)) (by decide) (fun _ => rfl) (List.drop 0 ([])) rfl) $$ [H2 HO]
  · isplitr; · iexact HC
    isplitl [H2]; · iexact H2
    iexact HO
  iintro ⟨H3, H4, HO⟩
  ihave H5 := (show (pay m d 43 : sProp 𝕄) ⊢ commP m d 1 1 64 from Entails.refl _) $$ H4
  unfold commP pc
  sl_exec
  iapply Hk
  isplitr [HO]
  · isplitl [H1]
    · iclear HC
      istop
      refine BIBase.Entails.trans (writes_eq (F := F) d a5 of (qs := oP fun b qb => k0_pay104 (outBlk (O1b m d) b qb) (SC1 m (pb d) b qb)) ?_) (o_done a5 d of _)
      unfold oP oQ
      refine cons_eq (F := F) (s := S2x128x512) (e := .f32) _ ?_ ?_
      · exact (o2_rd m a5 d 1 64 _ _ of hof 1 1 rfl rfl)
      rfl
    isplitl [H5]; · iexact H5
    iexact H3
  · iexact HO

end Cert.KernelIdeal.Attn
end
-- ==== Proof.KernelIdeal.Body.lean ====
/- The whole body of each device. -/
module

public import proofs.«01_k».proof.Proof.KernelIdeal.SegA0
public import proofs.«01_k».proof.Proof.KernelIdeal.SegA1
public import proofs.«01_k».proof.Proof.KernelIdeal.SegA2
public import proofs.«01_k».proof.Proof.KernelIdeal.SegA3
public import proofs.«01_k».proof.Proof.KernelIdeal.SegB0
public import proofs.«01_k».proof.Proof.KernelIdeal.SegB1
public import proofs.«01_k».proof.Proof.KernelIdeal.SegB2
public import proofs.«01_k».proof.Proof.KernelIdeal.SegB3
public import proofs.«01_k».proof.Proof.KernelIdeal.SegC
public import proofs.«01_k».proof.Proof.KernelIdeal.SegE
public import proofs.«01_k».proof.Proof.KernelIdeal.SegF
public import proofs.«01_k».proof.Proof.KernelIdeal.SegG

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- What a device starts from besides: its scratch and its turns in the exchanges. -/
def moreA (d : Dev nD) (a5 : Memref sig .tc .vmem S2x128x512 .f32) : sProp 𝕄 := iprop(pcE d (Memref.whole cc0_scratch5) ∗ pcE d a5 ∗ pcE d (sendM 0 0 0) ∗ pcE d (sendM 0 1 0) ∗ pcE d (sendM 0 0 64) ∗ pcE d (sendM 0 1 64) ∗ pcE d (sendM 1 0 0) ∗ pcE d (sendM 1 1 0) ∗ pcE d (sendM 1 0 64) ∗ pcE d (sendM 1 1 64) ∗ snd d 28 (pa d) 36 ∗ snd d 30 (pa d) 38 ∗ snd d 29 (pa d) 37 ∗ snd d 31 (pa d) 39 ∗ snd d 32 (pb d) 40 ∗ snd d 34 (pb d) 42 ∗ snd d 33 (pb d) 41 ∗ snd d 35 (pb d) 43 ∗ wt d 36 ∗ wt d 38 ∗ wt d 37 ∗ wt d 39 ∗ wt d 40 ∗ wt d 42 ∗ wt d 41 ∗ wt d 43)
/-- What a device ends with. -/
def endA (d : Dev nD) (a5 : Memref sig .tc .vmem S2x128x512 .f32) : sProp 𝕄 := iprop(slotP m d 0 0 ∗ slotP m d 0 1 ∗ slotP m d 1 0 ∗ slotP m d 1 1 ∗ pc d (Memref.whole cc0_scratch4) (Qb m d) ∗ pc d (Memref.whole cc0_scratch5) (Ctxb m d) ∗ inP m d 1 ∗ inP m d 2 ∗ inP m d 3 ∗ commP m d 0 0 0 ∗ commP m d 0 1 0 ∗ commP m d 0 0 64 ∗ commP m d 0 1 64 ∗ commP m d 1 0 0 ∗ commP m d 1 1 0 ∗ commP m d 1 0 64 ∗ commP m d 1 1 64 ∗ sendP m d 0 0 0 ∗ sendP m d 0 1 0 ∗ sendP m d 0 0 64 ∗ sendP m d 0 1 64 ∗ sendP m d 1 0 0 ∗ sendP m d 1 1 0 ∗ sendP m d 1 0 64 ∗ sendP m d 1 1 64 ∗ fin m d 1 ∗ fin m d 2 ∗ fin m d 3 ∗ fin m d 28 ∗ fin m d 29 ∗ fin m d 30 ∗ fin m d 31 ∗ fin m d 32 ∗ fin m d 33 ∗ fin m d 34 ∗ fin m d 35 ∗ fin m d 36 ∗ fin m d 37 ∗ fin m d 38 ∗ fin m d 39 ∗ fin m d 40 ∗ fin m d 41 ∗ fin m d 42 ∗ fin m d 43 ∗ oE d a5 (O2b m d) ∗ lateE m d)

/-- A program that is over has its result. -/
theorem ret_intro (t : Thread nD τ) (Q : PUnit → sProp 𝕄) :
    Q PUnit.unit ⊢ wp frame (wpE (defs₀ (F := F)) 𝒱₀ t none) Set.univ (Prog.ret PUnit.unit) Q := by
  iintro H
  rw [wp_ret]
  imodintro
  iexact H

/-- The queries and the first heads, on any device. -/
theorem segA (d : Dev nD) (K : GSem nD τ sig → ℕ) (a5 : Memref sig .tc .vmem S2x128x512 .f32) (ha5 : a5.IsWhole)
    {α : Type} (Q : α → sProp 𝕄) (κ : Dev nD → BitVec 32 → BitVec 32 → BitVec 32 → FVec F S64x64 .bf16 → Prog (TpuEff nD τ sig (Elt F) Λ₀ .tc) α) :
    iprop(ctx m K d ∗ iprop(startA m d) ∗ ow d (dA d)
      ∗ ((iprop(afterA m d) ∗ ow d (dB d)) -∗ wp frame (wpE (defs₀ (F := F)) 𝒱₀ (d : Thread nD τ) none) Set.univ
          (κ d (posw d) (Scalar.xori (posw d) 1#32) (Scalar.subi 3#32 (posw d)) (k0_pay5 (qBlk (Qb m d) 0 0 0))) Q))
     ⊢ wp frame (wpE (defs₀ (F := F)) 𝒱₀ (d : Thread nD τ) none) Set.univ (progA a5 ha5 κ) Q :=
  match d with
  | 0 => segA0 m K a5 ha5 Q κ
  | 1 => segA1 m K a5 ha5 Q κ
  | 2 => segA2 m K a5 ha5 Q κ
  | 3 => segA3 m K a5 ha5 Q κ

/-- The attention of the first heads, on any device. -/
theorem segB (d : Dev nD) (K : GSem nD τ sig → ℕ) (a5 : Memref sig .tc .vmem S2x128x512 .f32) (ha5 : a5.IsWhole) (cf : Buf (Elt F) ((Memref.whole cc0_scratch5).view.loc (d : Thread nD τ)))
    {α : Type} (Q : α → sProp 𝕄) (κ : FVec F S64x64 .bf16 → Prog (TpuEff nD τ sig (Elt F) Λ₀ .tc) α) :
    iprop(ctx m K d ∗ iprop(slotP m d 0 0 ∗ slotP m d 1 0 ∗ pc d (Memref.whole cc0_scratch4) (Qb m d) ∗ own d (Memref.whole cc0_scratch5) cf ∗ restA m d) ∗ ow d (dB d)
      ∗ ((iprop(slotP m d 0 0 ∗ slotP m d 1 0 ∗ pc d (Memref.whole cc0_scratch4) (Qb m d) ∗ own d (Memref.whole cc0_scratch5) ((Memref.whole cc0_scratch5).view.writes (Elt F) cf (ctxP0 m d)) ∗ slotP m d 0 1 ∗ slotP m d 1 1 ∗ lateC m d) ∗ ow d (arL d)) -∗ wp frame (wpE (defs₀ (F := F)) 𝒱₀ (d : Thread nD τ) none) Set.univ
          (κ (k0_pay42 (qBlk (Qb m d) 0 0 2))) Q))
     ⊢ wp frame (wpE (defs₀ (F := F)) 𝒱₀ (d : Thread nD τ) none) Set.univ (progB a5 ha5 d (posw d) (k0_pay5 (qBlk (Qb m d) 0 0 0)) κ) Q :=
  match d with
  | 0 => segB0 m K a5 ha5 cf Q κ
  | 1 => segB1 m K a5 ha5 cf Q κ
  | 2 => segB2 m K a5 ha5 cf Q κ
  | 3 => segB3 m K a5 ha5 cf Q κ

/-- The last of the first chunks, on any device. -/
theorem segE (d : Dev nD) (K : GSem nD τ sig → ℕ) (a5 : Memref sig .tc .vmem S2x128x512 .f32) (ha5 : a5.IsWhole)
    {α : Type} (Q : α → sProp 𝕄) (κ : BitVec 32 → Prog (TpuEff nD τ sig (Elt F) Λ₀ .tc) α) :
    iprop(ctx m K d ∗ iprop(sendP m d 0 1 64 ∗ chunkF (pa d) 0 1 64 39 ∗ snd d 31 (pa d) 39 ∗ wt d 28 ∗ lateC m d) ∗ ow d (List.drop 3 (arL d))
      ∗ ((iprop(wt d 31 ∗ fin m d 28 ∗ sendP m d 0 0 0 ∗ lateE m d) ∗ ow d (List.drop 4 (arL d))) -∗ wp frame (wpE (defs₀ (F := F)) 𝒱₀ (d : Thread nD τ) none) Set.univ
          (κ 1#32) Q))
     ⊢ wp frame (wpE (defs₀ (F := F)) 𝒱₀ (d : Thread nD τ) none) Set.univ (progE a5 ha5 d (posw d) κ) Q :=
  match d with
  | 0 => segE0 m K a5 ha5 Q κ
  | 1 => segE1 m K a5 ha5 Q κ
  | 2 => segE2 m K a5 ha5 Q κ
  | 3 => segE3 m K a5 ha5 Q κ

set_option maxHeartbeats 1000000 in
/-- Every device runs its body. -/
theorem body (d : Dev nD) (K : GSem nD τ sig → ℕ) (a5 : Memref sig .tc .vmem S2x128x512 .f32) (ha5 : a5.IsWhole) (Q : PUnit → sProp 𝕄) :
    iprop(ctx m K d ∗ startA m d ∗ moreA d a5 ∗ ow d (dA d)
      ∗ ((endA m d a5 ∗ ow d []) -∗ wp frame (wpE (defs₀ (F := F)) 𝒱₀ (d : Thread nD τ) none) Set.univ (Prog.ret PUnit.unit) Q))
     ⊢ wp frame (wpE (defs₀ (F := F)) 𝒱₀ (d : Thread nD τ) none) Set.univ (cc0_body (Memref.whole main_arg0) (Memref.isWhole_whole _) (Memref.whole main_arg1) (Memref.isWhole_whole _) (Memref.whole main_v2) (Memref.isWhole_whole _) (Memref.whole main_v4) (Memref.isWhole_whole _) (Memref.whole main_arg4) (Memref.isWhole_whole _) a5 ha5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) Q := by
  rw [body_eq, wp_bind]
  unfold moreA
  iintro ⟨#HC, H1, ⟨H2, H3, H4, H5, H6, H7, H8, H9, H10, H11, H12, H13, H14, H15, H16, H17, H18, H19, H20, H21, H22, H23, H24, H25, H26, H27⟩, HO, Hk⟩
  ihave H2 := (show (pcE d (Memref.whole cc0_scratch5) : sProp 𝕄) ⊢ iprop(∃ f, own d (Memref.whole cc0_scratch5) f) from Entails.refl _) $$ H2
  icases H2 with ⟨%cf, H2⟩
  ihave H3 := (show (pcE d a5 : sProp 𝕄) ⊢ iprop(∃ f, own d a5 f) from Entails.refl _) $$ H3
  icases H3 with ⟨%of, H3⟩
  iapply (segA m d K a5 ha5 _ _)
  isplitr; · iexact HC
  isplitl [H1]
  · iexact H1
  isplitl [HO]; · iexact HO
  iintro ⟨⟨H28⟩, HO⟩
  ihave ⟨H29, H30, H31, H32, H33, H34, H35, H36, H37, H38, H39⟩ := (show (afterA m d : sProp 𝕄) ⊢ iprop(slotP m d 0 0 ∗ slotP m d 1 0 ∗ pc d (Memref.whole cc0_scratch4) (Qb m d) ∗ inP m d 1 ∗ inP m d 2 ∗ wt d 3 ∗ fin m d 1 ∗ fin m d 2 ∗ chunks0 (pa d) ∗ chunks1 (pb d) ∗ restA m d) from Entails.refl _) $$ H28
  iapply (segB m d K a5 ha5 cf _ _)
  isplitr; · iexact HC
  isplitl [H29 H30 H31 H2 H39]
  · isplitl [H29]; · iexact H29
    isplitl [H30]; · iexact H30
    isplitl [H31]; · iexact H31
    isplitl [H2]; · iexact H2
    iexact H39
  isplitl [HO]; · iexact HO
  iintro ⟨⟨H40, H41, H42, H43, H44, H45, H46⟩, HO⟩
  iapply (segC m d K a5 ha5 cf of _ _)
  isplitr; · iexact HC
  isplitl [H40 H41 H42 H43 H44 H45 H3 H4 H5 H6 H7 H34 H37 H12 H13 H14]
  · isplitl [H40]; · iexact H40
    isplitl [H41]; · iexact H41
    isplitl [H42]; · iexact H42
    isplitl [H43]; · iexact H43
    isplitl [H44]; · iexact H44
    isplitl [H45]; · iexact H45
    isplitl [H3]; · iexact H3
    isplitl [H4]; · iexact H4
    isplitl [H5]; · iexact H5
    isplitl [H6]; · iexact H6
    isplitl [H7]; · iexact H7
    isplitl [H34]; · iexact H34
    isplitl [H37]; · iexact H37
    isplitl [H12]; · iexact H12
    isplitl [H13]; · iexact H13
    iexact H14
  isplitl [HO]; · iexact HO
  iintro ⟨⟨H47, H48, H49, H50, H51, H52, H53, H54, H55, H56, H57, H58, H59, H60, H61⟩, HO⟩
  iapply (segE m d K a5 ha5 _ _)
  isplitr; · iexact HC
  isplitl [H60 H61 H15 H57 H46]
  · isplitl [H60]; · iexact H60
    isplitl [H61]; · iexact H61
    isplitl [H15]; · iexact H15
    isplitl [H57]; · iexact H57
    iexact H46
  isplitl [HO]; · iexact HO
  iintro ⟨⟨H62, H63, H64, H65⟩, HO⟩
  iapply (segF m d K a5 ha5 _ _)
  isplitr; · iexact HC
  isplitl [H56 H8 H9 H10 H11 H58 H59 H62 H20 H21 H22 H23 H38 H16 H17 H18]
  · isplitl [H56]; · iexact H56
    isplitl [H8]; · iexact H8
    isplitl [H9]; · iexact H9
    isplitl [H10]; · iexact H10
    isplitl [H11]; · iexact H11
    isplitl [H58]; · iexact H58
    isplitl [H59]; · iexact H59
    isplitl [H62]; · iexact H62
    isplitl [H20]; · iexact H20
    isplitl [H21]; · iexact H21
    isplitl [H22]; · iexact H22
    isplitl [H23]; · iexact H23
    isplitl [H38]; · iexact H38
    isplitl [H16]; · iexact H16
    isplitl [H17]; · iexact H17
    iexact H18
  isplitl [HO]; · iexact HO
  iintro ⟨⟨H66, H67, H68, H69, H70, H71, H72, H73, H74, H75, H76, H77, H78, H79, H80, H81, H82, H83, H84, H85⟩, HO⟩
  unfold oE
  icases H66 with ⟨%of2, %hof, H66⟩
  iapply (segG m d K a5 ha5 of2 hof _)
  isplitr; · iexact HC
  isplitl [H66 H84 H85 H19 H81 H82 H83 H24 H25 H26]
  · isplitl [H66]; · iexact H66
    isplitl [H84]; · iexact H84
    isplitl [H85]; · iexact H85
    isplitl [H19]; · iexact H19
    isplitl [H81]; · iexact H81
    isplitl [H82]; · iexact H82
    isplitl [H83]; · iexact H83
    isplitl [H24]; · iexact H24
    isplitl [H25]; · iexact H25
    iexact H26
  isplitl [HO]; · iexact HO
  iintro ⟨⟨H86, H87, H88, H89, H90, H91, H92, H93, H94, H95, H96, H97, H98, H99, H100⟩, HO⟩
  iapply ret_intro
  iapply (segH m d K a5 ha5 of2 hof _)
  isplitr; · iexact HC
  isplitl [H86 H27]
  · isplitl [H86]; · iexact H86
    iexact H27
  isplitl [HO]; · iexact HO
  iintro ⟨⟨H101, H102, H103⟩, HO⟩
  iapply Hk
  isplitr [HO]
  · unfold endA
    isplitl [H47]; · iexact H47
    isplitl [H49]; · iexact H49
    isplitl [H48]; · iexact H48
    isplitl [H50]; · iexact H50
    isplitl [H51]; · iexact H51
    isplitl [H52]; · iexact H52
    isplitl [H32]; · iexact H32
    isplitl [H33]; · iexact H33
    isplitl [H53 H54]
    · iapply (show iprop(pc d (Memref.whole cc0_scratch2) (Woa m d) ∗ pc d (Memref.whole main_arg4) (Woa m d)) ⊢ (inP m d 3 : sProp 𝕄) from Entails.refl _)
      isplitl [H53]; · iexact H53
      iexact H54
    isplitl [H67]; · iexact H67
    isplitl [H68]; · iexact H68
    isplitl [H69]; · iexact H69
    isplitl [H70]; · iexact H70
    isplitl [H87]; · iexact H87
    isplitl [H88]; · iexact H88
    isplitl [H89]; · iexact H89
    isplitl [H102]; · iexact H102
    isplitl [H64]; · iexact H64
    isplitl [H71]; · iexact H71
    isplitl [H72]; · iexact H72
    isplitl [H73]; · iexact H73
    isplitl [H90]; · iexact H90
    isplitl [H91]; · iexact H91
    isplitl [H92]; · iexact H92
    isplitl [H93]; · iexact H93
    isplitl [H35]; · iexact H35
    isplitl [H36]; · iexact H36
    isplitl [H55]; · iexact H55
    isplitl [H63]; · iexact H63
    isplitl [H75]; · iexact H75
    isplitl [H74]; · iexact H74
    isplitl [H76]; · iexact H76
    isplitl [H94]; · iexact H94
    isplitl [H96]; · iexact H96
    isplitl [H95]; · iexact H95
    isplitl [H97]; · iexact H97
    isplitl [H77]; · iexact H77
    isplitl [H79]; · iexact H79
    isplitl [H78]; · iexact H78
    isplitl [H80]; · iexact H80
    isplitl [H98]; · iexact H98
    isplitl [H100]; · iexact H100
    isplitl [H99]; · iexact H99
    isplitl [H103]; · iexact H103
    isplitl [H101]; · iexact H101
    iexact H65
  · iexact HO

end Cert.KernelIdeal.Attn
end
-- ==== Proof.KernelIdeal.Cells.lean ====
/- The cells of the protocol at the launch: opened, closed, and what each device is dealt. -/
module

public import proofs.«01_k».proof.Proof.KernelIdeal.Body

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-! ## Opening and closing -/

/-- The DMA semaphores the region scopes for itself. -/
abbrev osem : Fin 43 → SemLoc sig := fun k => .dma k.succ

/-- Every cell's invariant. -/
def invs (K : GSem nD τ sig → ℕ) : sProp 𝕄 :=
  iprop((bigSep Finset.univ fun p : Dev nD × Fin 43 => cellInv ER (Rd m) (K (cell p.1 p.2.succ)) (cell p.1 p.2.succ))
    ∗ bigSep Finset.univ fun p : Dev nD => cellInv ER (Rd m) (K (barC p)) (barC p))
/-- The invariants may be used again and again. -/
instance invs_persistent (K : GSem nD τ sig → ℕ) : BI.Persistent (invs m K) := by unfold invs; infer_instance

/-- The invariant of one DMA cell, out of them all. -/
theorem invs_cell (K : GSem nD τ sig → ℕ) (d : Dev nD) (k : Fin 43) : invs m K ⊢ cellInv ER (Rd m) (K (cell d k.succ)) (cell d k.succ) := by
  unfold invs
  iintro ⟨H, -⟩
  have h : (bigSep Finset.univ (fun p : Dev nD × Fin 43 => cellInv ER (Rd m) (K (cell p.1 p.2.succ)) (cell p.1 p.2.succ)) : sProp 𝕄) ⊢ (fun p : Dev nD × Fin 43 => cellInv ER (Rd m) (K (cell p.1 p.2.succ)) (cell p.1 p.2.succ)) (d, k) := bigSep_elim (Finset.mem_univ _)
  iapply h
  iexact H
/-- The invariant of one barrier cell, out of them all. -/
theorem invs_bar (K : GSem nD τ sig → ℕ) (d : Dev nD) : invs m K ⊢ cellInv ER (Rd m) (K (barC d)) (barC d) := by
  unfold invs
  iintro ⟨-, H⟩
  have h : (bigSep Finset.univ (fun p : Dev nD => cellInv ER (Rd m) (K (barC p)) (barC p)) : sProp 𝕄) ⊢ (fun p : Dev nD => cellInv ER (Rd m) (K (barC p)) (barC p)) d := bigSep_elim (Finset.mem_univ _)
  iapply h
  iexact H
/-- What every step may use has the invariants in it. -/
theorem ctx_invs (K : GSem nD τ sig → ℕ) (d : Dev nD) : ctx m K d ⊢ invs m K := by
  unfold ctx invs
  iintro ⟨H1, H2, -⟩
  isplitl [H1]; · iexact H1
  iexact H2

/-- A device opens its own cells. -/
theorem open_all (K : GSem nD τ sig → ℕ) (d : Dev nD) :
    iprop(invs m K ∗ (bigSep Finset.univ fun k : Fin 43 => openTok ER (cell d k.succ)) ∗ bigSep Finset.univ fun k : Fin 43 => semVal (cell d k.succ) 0)
      ⊢ (|={Set.univ}=> iprop((bigSep Finset.univ fun k : Fin 43 => atPos ER (cell d k.succ) 0 ∅ 0) ∗ bigSep Finset.univ fun k : Fin 43 => reached ER (cell d k.succ) 0) : sProp 𝕄) := by
  have h1 (k : Fin 43) : iprop(invs m K ∗ (openTok ER (cell d k.succ) ∗ semVal (cell d k.succ) 0))
      ⊢ (iprop(|={Set.univ}=> (atPos ER (cell d k.succ) 0 ∅ 0 ∗ reached ER (cell d k.succ) 0)) : sProp 𝕄) := by
    iintro ⟨#HI, Ho, Hs⟩
    iapply (Rounds.cell_open ER (Rd m) (g := cell d k.succ) (Set.mem_univ (K (cell d k.succ))))
    isplitr; · iapply (invs_cell m K d k); iexact HI
    isplitl [Ho]; · iexact Ho
    iexact Hs
  rw [← bigSep_sep', ← bigSep_sep']
  exact (bigSep_with_persistent fun k _ => h1 k).trans (bigSep_fupd _ _)

/-- A device closes its own cells. -/
theorem close_all (K : GSem nD τ sig → ℕ) (d : Dev nD) :
    iprop(invs m K ∗ bigSep Finset.univ fun k : Fin 43 => fin m d k.succ)
      ⊢ (|={Set.univ}=> bigSep Finset.univ fun k : Fin 43 => semVal (cell d k.succ) 0 : sProp 𝕄) := by
  have h1 (k : Fin 43) : iprop(invs m K ∗ fin m d k.succ) ⊢ (iprop(|={Set.univ}=> semVal (cell d k.succ) 0) : sProp 𝕄) := by
    unfold fin
    iintro ⟨#HI, ⟨%R, %hR, H⟩⟩
    iapply (Rounds.cell_close ER (Rd m) (Set.mem_univ (K (cell d k.succ))) (fun h => h) (R := R) hR)
    isplitr; · iapply (invs_cell m K d k); iexact HI
    iexact H
  exact (bigSep_with_persistent fun k _ => h1 k).trans (bigSep_fupd _ _)

/-- A barrier with no more duties. -/
def finB (d : Dev nD) : sProp 𝕄 := iprop(∃ R, ⌜∀ r, R ≤ r → (Rd m).duties (barC d) r = ∅⌝ ∗ atPos ER (barC d) R ∅ 0)
/-- A barrier that is over stands at zero. -/
theorem close_bar (K : GSem nD τ sig → ℕ) (d : Dev nD) : iprop(invs m K ∗ finB m d) ⊢ (iprop(|={Set.univ}=> semVal (barC d) 0) : sProp 𝕄) := by
  unfold finB
  iintro ⟨#HI, ⟨%R, %hR, H⟩⟩
  iapply (Rounds.cell_close ER (Rd m) (Set.mem_univ (K (barC d))) (fun h => h) (R := R) hR)
  isplitr; · iapply (invs_bar m K d); iexact HI
  iexact H
/-- Device 0's barrier is over after its one round. -/
theorem finB_later : atPos ER (barC 0) 1 ∅ 0 ⊢ finB m 0 := by
  unfold finB
  iintro H; iexists 1; isplitr; · ipureintro; exact duties_later m _
  iexact H
/-- The barriers of the other devices have no round. -/
theorem finB_idle (d : Dev nD) (h : d ≠ 0) : atPos ER (barC d) 0 ∅ 0 ⊢ finB m d := by
  unfold finB
  iintro H; iexists 0; isplitr; · ipureintro; exact fun r _ => duties_bar' m d h r
  iexact H
/-- A cell nobody uses is over from the start. -/
theorem fin_idle (d : Dev nD) (k : Fin 44) (h : act d k = false) : atPos ER (cell d k) 0 ∅ 0 ⊢ fin m d k := by
  unfold fin
  iintro H; iexists 0; isplitr; · ipureintro; exact duties_idle m d k h
  iexact H

/-! ## Tokens -/

/-- Who pays the duty of a DMA cell. -/
def payer (p : Dev nD × Fin 43) : Dev nD :=
  if 35 ≤ p.2.val ∧ p.2.val < 39 then pa p.1 else if 39 ≤ p.2.val then pb p.1
  else if 15 ≤ p.2.val ∧ p.2.val < 21 then (if p.1 = 2 then (if p.2.val < 17 then 1 else 3) else 0) else p.1
/-- What a device pays in every run. -/
def genT (d : Dev nD) : List (Dev nD × Fin 43) :=
  [(d, 0), (d, 1), (d, 2), (d, 27), (d, 28), (d, 29), (d, 30), (d, 31), (d, 32), (d, 33), (d, 34), (pa d, 35), (pa d, 36), (pa d, 37), (pa d, 38), (pb d, 39), (pb d, 40), (pb d, 41), (pb d, 42)]
/-- What each device pays besides. -/
def specT (d : Dev nD) : List (Dev nD × Fin 43) := match d with
  | 0 => [(0, 3), (0, 4), (0, 5), (0, 6), (0, 7), (0, 8), (0, 9), (0, 10), (0, 11), (0, 12), (0, 13), (0, 14), (0, 23), (0, 24), (0, 25), (0, 26), (1, 15), (1, 16), (1, 17), (1, 18), (1, 19), (1, 20), (3, 15), (3, 16), (3, 17), (3, 18), (3, 19), (3, 20)]
  | 1 => [(1, 21), (1, 22), (2, 15), (2, 16)]
  | 2 => []
  | 3 => [(3, 21), (3, 22), (2, 17), (2, 18)]

/-- The lists of duties name each duty once, and each under the device that pays it. -/
theorem lists_ok : ∀ d, (genT d ++ specT d).Nodup ∧ ∀ p ∈ genT d ++ specT d, payer p = d := by decide +kernel

/-- The token of a DMA cell. -/
abbrev tokOf (p : Dev nD × Fin 43) : sProp 𝕄 := dutyTok ER (cell p.1 p.2.succ) 0 0

/-- All tokens, by who pays. -/
theorem toks_deal : (bigSep Finset.univ fun p : Dev nD × Fin 43 => (tokOf p : sProp 𝕄))
    ⊢ (bigSep Finset.univ fun d : Dev nD => bigSep (genT d ++ specT d).toFinset fun p => (tokOf p : sProp 𝕄) : sProp 𝕄) := by
  have hU : (Finset.univ : Finset (Dev nD × Fin 43)) = Finset.univ.biUnion fun d : Dev nD => Finset.univ.filter fun p => payer p = d := by
    ext p; simp
  rw [hU, BI.bigSep_biUnion_eq]
  · refine bigSep_mono fun d _ => BI.bigSep_subset fun p hp => ?_
    exact Finset.mem_filter.mpr ⟨Finset.mem_univ _, (lists_ok d).2 p (List.mem_toFinset.mp hp)⟩
  · intro d _ d' _ hne
    exact Finset.disjoint_left.mpr fun p hp hp' => hne ((Finset.mem_filter.mp hp).2.symm.trans (Finset.mem_filter.mp hp').2)

/-- The tokens every device has. -/
def TG (d : Dev nD) : sProp 𝕄 := iprop(dutyTok ER (cell d 1) 0 0 ∗ dutyTok ER (cell d 2) 0 0 ∗ dutyTok ER (cell d 3) 0 0 ∗ dutyTok ER (cell d 28) 0 0 ∗ dutyTok ER (cell d 29) 0 0 ∗ dutyTok ER (cell d 30) 0 0 ∗ dutyTok ER (cell d 31) 0 0 ∗ dutyTok ER (cell d 32) 0 0 ∗ dutyTok ER (cell d 33) 0 0 ∗ dutyTok ER (cell d 34) 0 0 ∗ dutyTok ER (cell d 35) 0 0 ∗ dutyTok ER (cell (pa d) 36) 0 0 ∗ dutyTok ER (cell (pa d) 37) 0 0 ∗ dutyTok ER (cell (pa d) 38) 0 0 ∗ dutyTok ER (cell (pa d) 39) 0 0 ∗ dutyTok ER (cell (pb d) 40) 0 0 ∗ dutyTok ER (cell (pb d) 41) 0 0 ∗ dutyTok ER (cell (pb d) 42) 0 0 ∗ dutyTok ER (cell (pb d) 43) 0 0)
/-- The tokens each device has besides. -/
def TS (d : Dev nD) : sProp 𝕄 := match d with
  | 0 => iprop(dutyTok ER (cell 0 4) 0 0 ∗ dutyTok ER (cell 0 5) 0 0 ∗ dutyTok ER (cell 0 6) 0 0 ∗ dutyTok ER (cell 0 7) 0 0 ∗ dutyTok ER (cell 0 8) 0 0 ∗ dutyTok ER (cell 0 9) 0 0 ∗ dutyTok ER (cell 0 10) 0 0 ∗ dutyTok ER (cell 0 11) 0 0 ∗ dutyTok ER (cell 0 12) 0 0 ∗ dutyTok ER (cell 0 13) 0 0 ∗ dutyTok ER (cell 0 14) 0 0 ∗ dutyTok ER (cell 0 15) 0 0 ∗ dutyTok ER (cell 0 24) 0 0 ∗ dutyTok ER (cell 0 25) 0 0 ∗ dutyTok ER (cell 0 26) 0 0 ∗ dutyTok ER (cell 0 27) 0 0 ∗ dutyTok ER (cell 1 16) 0 0 ∗ dutyTok ER (cell 1 17) 0 0 ∗ dutyTok ER (cell 1 18) 0 0 ∗ dutyTok ER (cell 1 19) 0 0 ∗ dutyTok ER (cell 1 20) 0 0 ∗ dutyTok ER (cell 1 21) 0 0 ∗ dutyTok ER (cell 3 16) 0 0 ∗ dutyTok ER (cell 3 17) 0 0 ∗ dutyTok ER (cell 3 18) 0 0 ∗ dutyTok ER (cell 3 19) 0 0 ∗ dutyTok ER (cell 3 20) 0 0 ∗ dutyTok ER (cell 3 21) 0 0)
  | 1 => iprop(dutyTok ER (cell 1 22) 0 0 ∗ dutyTok ER (cell 1 23) 0 0 ∗ dutyTok ER (cell 2 16) 0 0 ∗ dutyTok ER (cell 2 17) 0 0)
  | 2 => iprop(emp)
  | 3 => iprop(dutyTok ER (cell 3 22) 0 0 ∗ dutyTok ER (cell 3 23) 0 0 ∗ dutyTok ER (cell 2 18) 0 0 ∗ dutyTok ER (cell 2 19) 0 0)

set_option maxHeartbeats 1000000 in
/-- The listed further tokens are those each device has besides. -/
theorem toks_spec : ∀ d : Dev nD, bigSepL (specT d) (fun p => (tokOf p : sProp 𝕄)) ⊢ TS d
  | 0 => Entails.refl _
  | 1 => Entails.refl _
  | 2 => Entails.refl _
  | 3 => Entails.refl _
/-- The tokens of the duties a device pays, split in the two groups. -/
theorem toks_dev (d : Dev nD) : (bigSep (genT d ++ specT d).toFinset fun p => (tokOf p : sProp 𝕄)) ⊢ iprop(TG d ∗ TS d) := by
  rw [List.toFinset_append, BI.bigSep_union]
  · have h1 : (bigSep (genT d).toFinset fun p => (tokOf p : sProp 𝕄)) ⊢ TG d := by
      rw [bigSep_eq_bigSepL_of_eq (genT d) rfl ((List.nodup_append.mp (lists_ok d).1).1)]
      exact Entails.refl _
    have h2 : (bigSep (specT d).toFinset fun p => (tokOf p : sProp 𝕄)) ⊢ TS d := by
      rw [bigSep_eq_bigSepL_of_eq (specT d) rfl ((List.nodup_append.mp (lists_ok d).1).2.1)]
      exact toks_spec d
    exact BI.sep_mono h1 h2
  · rw [List.disjoint_toFinset_iff_disjoint]
    exact (List.nodup_append'.mp (lists_ok d).1).2.2

/-! ## Credits -/

/-- How many debts of all devices a cell has. -/
def cnt (x : Debt) : ℕ := ∑ d : Dev nD, (dA d).count x

/-- Different debts are owed to different cells. -/
theorem gs_inj : Function.Injective gs := by
  rintro ⟨d, k⟩ ⟨d', k'⟩ h
  have h1 : d = d' := by
    cases k <;> cases k' <;> exact congrArg (fun g : GSem nD τ sig => g.1.1) h
  subst h1
  cases k with
  | none => cases k' with
    | none => rfl
    | some k' => exact nomatch (congrArg Prod.snd h : (SemLoc.reg barS : SemLoc sig) = SemLoc.dma k')
  | some k => cases k' with
    | none => exact nomatch (congrArg Prod.snd h : (SemLoc.dma k : SemLoc sig) = SemLoc.reg barS)
    | some k' =>
      have h2 : (SemLoc.dma k : SemLoc sig) = SemLoc.dma k' := congrArg Prod.snd h
      injection h2 with h3
      rw [h3]

/-- How much a list of debts owes to one cell. -/
theorem due_count (l : List Debt) (x : Debt) : due l (gs x) () = l.count x * am x := by
  induction l with
  | nil => rw [List.count_nil, zero_mul]; rfl
  | cons y l ih =>
    have e : due (y :: l) (gs x) () = due l (gs x) () + tallyAt (gs y) () (am y) (gs x) () := rfl
    rw [e, ih, tallyAt_apply, List.count_cons]
    by_cases h : y = x
    · subst h; rw [if_pos ⟨rfl, rfl⟩, beq_self_eq_true, if_pos rfl, add_mul, one_mul]
    · rw [if_neg fun hh => h (gs_inj hh.1.symm), beq_eq_false_iff_ne.mpr h]; simp

/-- What the launch credits a cell. -/
theorem launch_cnt (x : Debt) : tallyOn (gs x) (launchCredit (Pipeline.owing fun d => due (dA d)) 0 (gs x)) = (tallyAt (gs x) () (cnt x * am x) : CellTallies nD τ sig Unit) := by
  unfold tallyAt; refine congrArg _ (Finsupp.ext fun u => ?_); cases u
  rw [Pipeline.launchCredit_owing, Finsupp.single_eq_same, Finset.sum_congr rfl fun d _ => due_count (dA d) x, ← Finset.sum_mul]; rfl

/-- The cells each device is credited for besides. -/
def lcS (d : Dev nD) : List (Fin 44) := match d with
  | 0 => []
  | 1 => [20, 21, 16, 18, 17, 19]
  | 2 => [16, 18, 17, 19]
  | 3 => [20, 21, 16, 18, 17, 19]

/-- The cells each device is credited for. -/
def lc (d : Dev nD) : List (Fin 44) := [36, 37, 38, 39, 40, 41, 42, 43] ++ lcS d

/-- Each credited cell is listed once, and owed once. -/
theorem lc_ok : ∀ d, (lc d).Nodup ∧ ∀ k ∈ lc d, cnt (d, some k) = 1 := by decide +kernel

/-- The credits every device has. -/
def CG (d : Dev nD) : sProp 𝕄 := iprop(cred (tallyAt (cell d 36) () (amtk 36)) ∗ cred (tallyAt (cell d 37) () (amtk 37)) ∗ cred (tallyAt (cell d 38) () (amtk 38)) ∗ cred (tallyAt (cell d 39) () (amtk 39)) ∗ cred (tallyAt (cell d 40) () (amtk 40)) ∗ cred (tallyAt (cell d 41) () (amtk 41)) ∗ cred (tallyAt (cell d 42) () (amtk 42)) ∗ cred (tallyAt (cell d 43) () (amtk 43)))
/-- The credits each device has besides. -/
def CS (d : Dev nD) : sProp 𝕄 := match d with
  | 0 => cred (tallyAt (barC 0) () 3)
  | 1 => iprop(cred (tallyAt (cell 1 20) () (amtk 20)) ∗ cred (tallyAt (cell 1 21) () (amtk 21)) ∗ cred (tallyAt (cell 1 16) () (amtk 16)) ∗ cred (tallyAt (cell 1 18) () (amtk 18)) ∗ cred (tallyAt (cell 1 17) () (amtk 17)) ∗ cred (tallyAt (cell 1 19) () (amtk 19)))
  | 2 => iprop(cred (tallyAt (cell 2 16) () (amtk 16)) ∗ cred (tallyAt (cell 2 18) () (amtk 18)) ∗ cred (tallyAt (cell 2 17) () (amtk 17)) ∗ cred (tallyAt (cell 2 19) () (amtk 19)))
  | 3 => iprop(cred (tallyAt (cell 3 20) () (amtk 20)) ∗ cred (tallyAt (cell 3 21) () (amtk 21)) ∗ cred (tallyAt (cell 3 16) () (amtk 16)) ∗ cred (tallyAt (cell 3 18) () (amtk 18)) ∗ cred (tallyAt (cell 3 17) () (amtk 17)) ∗ cred (tallyAt (cell 3 19) () (amtk 19)))

/-- The embedding of the DMA semaphores. -/
def dmaEmb : Fin 44 ↪ SemLoc sig := ⟨fun k => .dma k, fun _ _ h => by injection h⟩

/-- The credits a device gets at launch, split in the two groups. -/
theorem creds (d : Dev nD) : (Pipeline.launchCred (fun d => due (dA d)) d : sProp 𝕄) ⊢ iprop(CG d ∗ CS d) := by
  unfold Pipeline.launchCred
  rw [bigSep_univ_at _ (SemLoc.reg barS)]
  have hb : cred (tallyOn ((d : Thread nD τ), SemLoc.reg barS) (launchCredit (Pipeline.owing fun d => due (dA d)) 0 ((d : Thread nD τ), SemLoc.reg barS)))
      ⊢ (cred (tallyAt (barC d) () (cnt (d, none) * 1)) : sProp 𝕄) := Entails.of_eq (congrArg cred (launch_cnt (d, none)))
  have hs : (lc d).toFinset.map dmaEmb ⊆ Finset.univ.erase (SemLoc.reg barS : SemLoc sig) := fun s hs => by
    obtain ⟨k, -, rfl⟩ := Finset.mem_map.mp hs
    exact Finset.mem_erase.mpr ⟨fun h => (nomatch (h : (SemLoc.dma k : SemLoc sig) = SemLoc.reg barS)), Finset.mem_univ _⟩
  have hc : (bigSep (Finset.univ.erase (SemLoc.reg barS : SemLoc sig)) fun sm => cred (tallyOn ((d : Thread nD τ), sm) (launchCredit (Pipeline.owing fun d => due (dA d)) 0 ((d : Thread nD τ), sm))) : sProp 𝕄)
      ⊢ bigSepL (lc d) fun k => (cred (tallyAt (cell d k) () (amtk k)) : sProp 𝕄) := by
    refine (BI.bigSep_subset hs).trans ?_
    rw [bigSep_map, ← bigSep_eq_bigSepL_of_eq (lc d) rfl (lc_ok d).1]
    refine bigSep_mono fun k hk => Entails.of_eq (congrArg cred ?_)
    have h := launch_cnt (d, some k)
    rw [(lc_ok d).2 k (List.mem_toFinset.mp hk), one_mul] at h
    exact h
  refine (BI.sep_mono hb hc).trans ?_
  clear hb hc hs
  match d with
  | 0 =>
    rw [show cnt ((0 : Dev nD), none) * 1 = 3 from by decide +kernel]
    show iprop(_ ∗ cred (tallyAt (cell 0 36) () (amtk 36)) ∗ cred (tallyAt (cell 0 37) () (amtk 37)) ∗ cred (tallyAt (cell 0 38) () (amtk 38)) ∗ cred (tallyAt (cell 0 39) () (amtk 39)) ∗ cred (tallyAt (cell 0 40) () (amtk 40)) ∗ cred (tallyAt (cell 0 41) () (amtk 41)) ∗ cred (tallyAt (cell 0 42) () (amtk 42)) ∗ cred (tallyAt (cell 0 43) () (amtk 43))) ⊢ _
    unfold CG CS
    iintro ⟨HB, H0, H1, H2, H3, H4, H5, H6, H7⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact HB
  | 1 =>
    show iprop(_ ∗ cred (tallyAt (cell 1 36) () (amtk 36)) ∗ cred (tallyAt (cell 1 37) () (amtk 37)) ∗ cred (tallyAt (cell 1 38) () (amtk 38)) ∗ cred (tallyAt (cell 1 39) () (amtk 39)) ∗ cred (tallyAt (cell 1 40) () (amtk 40)) ∗ cred (tallyAt (cell 1 41) () (amtk 41)) ∗ cred (tallyAt (cell 1 42) () (amtk 42)) ∗ cred (tallyAt (cell 1 43) () (amtk 43)) ∗ cred (tallyAt (cell 1 20) () (amtk 20)) ∗ cred (tallyAt (cell 1 21) () (amtk 21)) ∗ cred (tallyAt (cell 1 16) () (amtk 16)) ∗ cred (tallyAt (cell 1 18) () (amtk 18)) ∗ cred (tallyAt (cell 1 17) () (amtk 17)) ∗ cred (tallyAt (cell 1 19) () (amtk 19))) ⊢ _
    unfold CG CS
    iintro ⟨HB, H0, H1, H2, H3, H4, H5, H6, H7, H8, H9, H10, H11, H12, H13⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexact H9
    isplitl [H10]; · iexact H10
    isplitl [H11]; · iexact H11
    isplitl [H12]; · iexact H12
    iexact H13
  | 2 =>
    show iprop(_ ∗ cred (tallyAt (cell 2 36) () (amtk 36)) ∗ cred (tallyAt (cell 2 37) () (amtk 37)) ∗ cred (tallyAt (cell 2 38) () (amtk 38)) ∗ cred (tallyAt (cell 2 39) () (amtk 39)) ∗ cred (tallyAt (cell 2 40) () (amtk 40)) ∗ cred (tallyAt (cell 2 41) () (amtk 41)) ∗ cred (tallyAt (cell 2 42) () (amtk 42)) ∗ cred (tallyAt (cell 2 43) () (amtk 43)) ∗ cred (tallyAt (cell 2 16) () (amtk 16)) ∗ cred (tallyAt (cell 2 18) () (amtk 18)) ∗ cred (tallyAt (cell 2 17) () (amtk 17)) ∗ cred (tallyAt (cell 2 19) () (amtk 19))) ⊢ _
    unfold CG CS
    iintro ⟨HB, H0, H1, H2, H3, H4, H5, H6, H7, H8, H9, H10, H11⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexact H9
    isplitl [H10]; · iexact H10
    iexact H11
  | 3 =>
    show iprop(_ ∗ cred (tallyAt (cell 3 36) () (amtk 36)) ∗ cred (tallyAt (cell 3 37) () (amtk 37)) ∗ cred (tallyAt (cell 3 38) () (amtk 38)) ∗ cred (tallyAt (cell 3 39) () (amtk 39)) ∗ cred (tallyAt (cell 3 40) () (amtk 40)) ∗ cred (tallyAt (cell 3 41) () (amtk 41)) ∗ cred (tallyAt (cell 3 42) () (amtk 42)) ∗ cred (tallyAt (cell 3 43) () (amtk 43)) ∗ cred (tallyAt (cell 3 20) () (amtk 20)) ∗ cred (tallyAt (cell 3 21) () (amtk 21)) ∗ cred (tallyAt (cell 3 16) () (amtk 16)) ∗ cred (tallyAt (cell 3 18) () (amtk 18)) ∗ cred (tallyAt (cell 3 17) () (amtk 17)) ∗ cred (tallyAt (cell 3 19) () (amtk 19))) ⊢ _
    unfold CG CS
    iintro ⟨HB, H0, H1, H2, H3, H4, H5, H6, H7, H8, H9, H10, H11, H12, H13⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexact H9
    isplitl [H10]; · iexact H10
    isplitl [H11]; · iexact H11
    isplitl [H12]; · iexact H12
    iexact H13

/-! ## Positions -/

/-- The positions at every device's cells that every device uses. -/
def PG (d : Dev nD) : sProp 𝕄 := iprop(atPos ER (cell d 1) 0 ∅ 0 ∗ atPos ER (cell d 2) 0 ∅ 0 ∗ atPos ER (cell d 3) 0 ∅ 0 ∗ atPos ER (cell d 28) 0 ∅ 0 ∗ atPos ER (cell d 29) 0 ∅ 0 ∗ atPos ER (cell d 30) 0 ∅ 0 ∗ atPos ER (cell d 31) 0 ∅ 0 ∗ atPos ER (cell d 32) 0 ∅ 0 ∗ atPos ER (cell d 33) 0 ∅ 0 ∗ atPos ER (cell d 34) 0 ∅ 0 ∗ atPos ER (cell d 35) 0 ∅ 0 ∗ atPos ER (cell d 36) 0 ∅ 0 ∗ atPos ER (cell d 37) 0 ∅ 0 ∗ atPos ER (cell d 38) 0 ∅ 0 ∗ atPos ER (cell d 39) 0 ∅ 0 ∗ atPos ER (cell d 40) 0 ∅ 0 ∗ atPos ER (cell d 41) 0 ∅ 0 ∗ atPos ER (cell d 42) 0 ∅ 0 ∗ atPos ER (cell d 43) 0 ∅ 0)
/-- The positions at the rest. -/
def PS (d : Dev nD) : sProp 𝕄 := iprop(atPos ER (cell d 4) 0 ∅ 0 ∗ atPos ER (cell d 5) 0 ∅ 0 ∗ atPos ER (cell d 6) 0 ∅ 0 ∗ atPos ER (cell d 7) 0 ∅ 0 ∗ atPos ER (cell d 8) 0 ∅ 0 ∗ atPos ER (cell d 9) 0 ∅ 0 ∗ atPos ER (cell d 10) 0 ∅ 0 ∗ atPos ER (cell d 11) 0 ∅ 0 ∗ atPos ER (cell d 12) 0 ∅ 0 ∗ atPos ER (cell d 13) 0 ∅ 0 ∗ atPos ER (cell d 14) 0 ∅ 0 ∗ atPos ER (cell d 15) 0 ∅ 0 ∗ atPos ER (cell d 16) 0 ∅ 0 ∗ atPos ER (cell d 17) 0 ∅ 0 ∗ atPos ER (cell d 18) 0 ∅ 0 ∗ atPos ER (cell d 19) 0 ∅ 0 ∗ atPos ER (cell d 20) 0 ∅ 0 ∗ atPos ER (cell d 21) 0 ∅ 0 ∗ atPos ER (cell d 22) 0 ∅ 0 ∗ atPos ER (cell d 23) 0 ∅ 0 ∗ atPos ER (cell d 24) 0 ∅ 0 ∗ atPos ER (cell d 25) 0 ∅ 0 ∗ atPos ER (cell d 26) 0 ∅ 0 ∗ atPos ER (cell d 27) 0 ∅ 0)
/-- The positions at the cells of a device, split in the two groups. -/
theorem pos_dev (d : Dev nD) : (bigSep Finset.univ fun k : Fin 43 => (atPos ER (cell d k.succ) 0 ∅ 0 : sProp 𝕄)) ⊢ iprop(PS d ∗ PG d) := by
  rw [bigSep_univ_eq_bigSepL [3, 4, 5, 6, 7, 8, 9, 10, 11, 12, 13, 14, 15, 16, 17, 18, 19, 20, 21, 22, 23, 24, 25, 26, 0, 1, 2, 27, 28, 29, 30, 31, 32, 33, 34, 35, 36, 37, 38, 39, 40, 41, 42] (by decide) (by decide)]
  show iprop(atPos ER (cell d 4) 0 ∅ 0 ∗ atPos ER (cell d 5) 0 ∅ 0 ∗ atPos ER (cell d 6) 0 ∅ 0 ∗ atPos ER (cell d 7) 0 ∅ 0 ∗ atPos ER (cell d 8) 0 ∅ 0 ∗ atPos ER (cell d 9) 0 ∅ 0 ∗ atPos ER (cell d 10) 0 ∅ 0 ∗ atPos ER (cell d 11) 0 ∅ 0 ∗ atPos ER (cell d 12) 0 ∅ 0 ∗ atPos ER (cell d 13) 0 ∅ 0 ∗ atPos ER (cell d 14) 0 ∅ 0 ∗ atPos ER (cell d 15) 0 ∅ 0 ∗ atPos ER (cell d 16) 0 ∅ 0 ∗ atPos ER (cell d 17) 0 ∅ 0 ∗ atPos ER (cell d 18) 0 ∅ 0 ∗ atPos ER (cell d 19) 0 ∅ 0 ∗ atPos ER (cell d 20) 0 ∅ 0 ∗ atPos ER (cell d 21) 0 ∅ 0 ∗ atPos ER (cell d 22) 0 ∅ 0 ∗ atPos ER (cell d 23) 0 ∅ 0 ∗ atPos ER (cell d 24) 0 ∅ 0 ∗ atPos ER (cell d 25) 0 ∅ 0 ∗ atPos ER (cell d 26) 0 ∅ 0 ∗ atPos ER (cell d 27) 0 ∅ 0 ∗ PG d) ⊢ _
  unfold PS
  iintro ⟨H4, H5, H6, H7, H8, H9, H10, H11, H12, H13, H14, H15, H16, H17, H18, H19, H20, H21, H22, H23, H24, H25, H26, H27, HG⟩
  isplitr [HG]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iexact HG

/-- The cells every device uses, over. -/
def FG (d : Dev nD) : sProp 𝕄 := iprop(fin m d 1 ∗ fin m d 2 ∗ fin m d 3 ∗ fin m d 28 ∗ fin m d 29 ∗ fin m d 30 ∗ fin m d 31 ∗ fin m d 32 ∗ fin m d 33 ∗ fin m d 34 ∗ fin m d 35 ∗ fin m d 36 ∗ fin m d 37 ∗ fin m d 38 ∗ fin m d 39 ∗ fin m d 40 ∗ fin m d 41 ∗ fin m d 42 ∗ fin m d 43)
/-- The rest, over. -/
def FS (d : Dev nD) : sProp 𝕄 := iprop(fin m d 4 ∗ fin m d 5 ∗ fin m d 6 ∗ fin m d 7 ∗ fin m d 8 ∗ fin m d 9 ∗ fin m d 10 ∗ fin m d 11 ∗ fin m d 12 ∗ fin m d 13 ∗ fin m d 14 ∗ fin m d 15 ∗ fin m d 16 ∗ fin m d 17 ∗ fin m d 18 ∗ fin m d 19 ∗ fin m d 20 ∗ fin m d 21 ∗ fin m d 22 ∗ fin m d 23 ∗ fin m d 24 ∗ fin m d 25 ∗ fin m d 26 ∗ fin m d 27)
/-- The two groups of finished cells are all the cells of a device. -/
theorem fin_dev (d : Dev nD) : iprop(FS m d ∗ FG m d) ⊢ (bigSep Finset.univ fun k : Fin 43 => (fin m d k.succ : sProp 𝕄)) := by
  rw [bigSep_univ_eq_bigSepL [3, 4, 5, 6, 7, 8, 9, 10, 11, 12, 13, 14, 15, 16, 17, 18, 19, 20, 21, 22, 23, 24, 25, 26, 0, 1, 2, 27, 28, 29, 30, 31, 32, 33, 34, 35, 36, 37, 38, 39, 40, 41, 42] (by decide) (by decide)]
  show _ ⊢ iprop(fin m d 4 ∗ fin m d 5 ∗ fin m d 6 ∗ fin m d 7 ∗ fin m d 8 ∗ fin m d 9 ∗ fin m d 10 ∗ fin m d 11 ∗ fin m d 12 ∗ fin m d 13 ∗ fin m d 14 ∗ fin m d 15 ∗ fin m d 16 ∗ fin m d 17 ∗ fin m d 18 ∗ fin m d 19 ∗ fin m d 20 ∗ fin m d 21 ∗ fin m d 22 ∗ fin m d 23 ∗ fin m d 24 ∗ fin m d 25 ∗ fin m d 26 ∗ fin m d 27 ∗ FG m d)
  unfold FS
  iintro ⟨⟨H4, H5, H6, H7, H8, H9, H10, H11, H12, H13, H14, H15, H16, H17, H18, H19, H20, H21, H22, H23, H24, H25, H26, H27⟩, HG⟩
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact HG

end Cert.KernelIdeal.Attn
end
-- ==== Proof.KernelIdeal.Pieces.lean ====
/- Each buffer that travels in pieces is its pieces. -/
module

public import proofs.«01_k».proof.Proof.KernelIdeal.Steps

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- The elements a map sends to `t`. -/
def fib {ℓ : Loc nD τ sig} (φ : Idx ℓ → ℕ) (t : ℕ) : Finset (Idx ℓ) := Finset.univ.filter fun i => φ i = t

/-- Membership in a piece, by its number. -/
theorem mem_fib {ℓ : Loc nD τ sig} (φ : Idx ℓ → ℕ) (t : ℕ) (i : Idx ℓ) : i ∈ fib φ t ↔ φ i = t := by simp [fib]

/-- Different pieces do not meet. -/
theorem fib_disjoint {n : ℕ} {ℓ : Loc nD τ sig} (φ : Idx ℓ → ℕ) (t t' : Fin n) (hne : t ≠ t') : Disjoint (fib φ t.val) (fib φ t'.val) :=
  Finset.disjoint_left.mpr fun i hi hi' => hne (Fin.ext (by rw [← (mem_fib φ t i).mp hi, ← (mem_fib φ t' i).mp hi']))

/-- The pieces cover the buffer. -/
theorem fib_cover {n : ℕ} {ℓ : Loc nD τ sig} (φ : Idx ℓ → ℕ) (h : ∀ i, φ i < n) :
    (Finset.univ : Finset (Idx ℓ)) = Finset.univ.biUnion fun t : Fin n => fib φ t.val := by
  ext i
  simp only [Finset.mem_univ, Finset.mem_biUnion, true_and, true_iff]
  exact ⟨⟨φ i, h i⟩, (mem_fib _ _ _).mpr rfl⟩

/-- A buffer is the fibres of any map of its indices into a finite type. -/
theorem split_fibres {n : ℕ} {ℓ : Loc nD τ sig} (φ : Idx ℓ → ℕ) (h : ∀ i, φ i < n) (f : Buf (Elt F) ℓ) :
    (ℓ ↦{fullShare} f : sProp 𝕄) = bigSep Finset.univ fun t : Fin n => ℓ ↦[fib φ t.val]{fullShare} f := by
  rw [show (ℓ ↦{fullShare} f : sProp 𝕄) = ℓ ↦[Finset.univ]{fullShare} f from rfl, fib_cover φ h]
  exact pointsTo_biUnion _ _ fun t _ t' _ hne => fib_disjoint φ t t' hne

/-- A fibre at some contents. -/
def fibE (ℓ : Loc nD τ sig) (φ : Idx ℓ → ℕ) (t : ℕ) : sProp 𝕄 := iprop(∃ f : Buf (Elt F) ℓ, ℓ ↦[fib φ t]{fullShare} f)
/-- A buffer at some contents. -/
def bufE (ℓ : Loc nD τ sig) : sProp 𝕄 := iprop(∃ f : Buf (Elt F) ℓ, ℓ ↦{fullShare} f)

/-- A buffer comes apart into its fibres. -/
theorem apart {n : ℕ} {ℓ : Loc nD τ sig} (φ : Idx ℓ → ℕ) (h : ∀ i, φ i < n) :
    (bufE (F := F) ℓ) ⊢ bigSep Finset.univ fun t : Fin n => fibE (F := F) ℓ φ t.val := by
  have h1 (f : Buf (Elt F) ℓ) (t : Fin n) : (ℓ ↦[fib φ t.val]{fullShare} f : sProp 𝕄) ⊢ fibE (F := F) ℓ φ t.val := by
    unfold fibE; iintro H; iexists f; iexact H
  unfold bufE
  iintro ⟨%f, H⟩
  ihave H' := ((Entails.of_eq (split_fibres φ h f)).trans (bigSep_mono fun t _ => h1 f t)) $$ H
  iexact H'

/-- Fibres at any contents are the buffer at some contents. -/
theorem together {n : ℕ} {ℓ : Loc nD τ sig} (φ : Idx ℓ → ℕ) (h : ∀ i, φ i < n) (f₀ : Buf (Elt F) ℓ) :
    (bigSep Finset.univ fun t : Fin n => fibE (F := F) ℓ φ t.val) ⊢ bufE (F := F) ℓ := by
  haveI : Nonempty (Buf (Elt F) ℓ) := ⟨f₀⟩
  unfold fibE bufE
  iintro H
  ihave H' := (BI.bigSep_exists_pi Finset.univ (fun (t : Fin n) (f : Buf (Elt F) ℓ) => (ℓ ↦[fib φ t.val]{fullShare} f : sProp 𝕄))) $$ H
  icases H' with ⟨%fs, H⟩
  ihave H' := (pointsTo_biUnion_join Finset.univ (fun t : Fin n => fib φ t.val) fs f₀ fun t _ t' _ hne => fib_disjoint φ t t' hne) $$ H
  icases H' with ⟨%g, -, H⟩
  iexists g
  rw [show (ℓ ↦{fullShare} g : sProp 𝕄) = ℓ ↦[Finset.univ]{fullShare} g from rfl, fib_cover φ h]
  iexact H

/-- A piece at given contents is one at some. -/
theorem pc_pcE {sp : Space} {s : Shape} {e : EltTy} (d : Dev nD) (M : Memref sig .tc sp s e) (f : Buf (Elt F) (M.view.loc (d : Thread nD τ))) :
    pc d M f ⊢ (pcE d M : sProp 𝕄) := by
  unfold pc pcE; iintro H; iexists f; iexact H

/-! ## The slots of the key and value buffer -/

/-- Which piece of `cc0_scratch3` an element is in. -/
def slotsφ (i : S3x2x2x2x64x128.Idx) : ℕ := 2 * (i 0).val + (i 1).val
/-- Every element of the key and value buffer is in a numbered piece. -/
theorem slotsφ_lt (i : S3x2x2x2x64x128.Idx) : slotsφ i < 6 := by
  have h0 := (i 0).isLt; have h1 := (i 1).isLt; have h2 := (i 2).isLt
  simp [S3x2x2x2x64x128] at h0 h1 h2
  unfold slotsφ
  omega
/-- The elements of a piece of the key and value buffer, by number. -/
theorem slots_set (j c : ℕ) (h) (hc : c < 2) (i : S3x2x2x2x64x128.Idx) : i ∈ (slotM j c h).view.set ↔ slotsφ i = 2 * j + c := by
  rw [show (slotM j c h).view.set = ((View.whole cc0_scratch3).slice (Rect.unit (s := S3x2x2x2x64x128) ![j, c, 0, 0, 0, 0] S1x1x2x2x64x128.size h)).set from View.set_reshape _ _]
  refine (Eq.to_iff (congrArg (i ∈ ·) (View.set_slice_whole cc0_scratch3 _))).trans (Rect.mem_set_unit.trans ⟨fun H => ?_, fun H a => ?_⟩)
  · have h0 := H 0; have h1 := H 1; have h2 := H 2
    simp [S1x1x2x2x64x128] at h0 h1 h2
    unfold slotsφ
    omega
  · unfold slotsφ at H
    have h0 := (i 0).isLt; have h1 := (i 1).isLt; have h2 := (i 2).isLt
    have hb := (i a).isLt
    simp [S3x2x2x2x64x128] at h0 h1 h2
    fin_cases a <;> simp [S1x1x2x2x64x128, S3x2x2x2x64x128] at hb ⊢ <;> omega
/-- Owning a piece of the key and value buffer is owning the elements of its number. -/
theorem slots_eq (d : Dev nD) (j c : ℕ) (h) (hc : c < 2) : (pcE d (slotM j c h) : sProp 𝕄) = fibE (F := F) (((d : Dev nD) : Thread nD τ).loc cc0_scratch3) slotsφ (2 * j + c) := by
  unfold pcE fibE own
  exact congrArg (fun S : Finset S3x2x2x2x64x128.Idx => (iprop(∃ f : Buf (Elt F) (((d : Dev nD) : Thread nD τ).loc cc0_scratch3), (((d : Dev nD) : Thread nD τ).loc cc0_scratch3) ↦[S]{fullShare} f) : sProp 𝕄)) (Finset.ext fun i => (slots_set j c h hc i).trans (mem_fib (ℓ := (((d : Dev nD) : Thread nD τ).loc cc0_scratch3)) slotsφ (2 * j + c) i).symm)
/-- The pieces of the key and value buffer, one by one. -/
theorem slots_all (d : Dev nD) : (bigSep Finset.univ fun t : Fin 6 => fibE (F := F) (((d : Dev nD) : Thread nD τ).loc cc0_scratch3) slotsφ t.val) = iprop(pcE d (slotM 0 0) ∗ pcE d (slotM 0 1) ∗ pcE d (slotM 1 0) ∗ pcE d (slotM 1 1) ∗ pcE d (slotM 2 0) ∗ pcE d (slotM 2 1)) := by
  rw [slots_eq d 0 0 _ (by decide), slots_eq d 0 1 _ (by decide), slots_eq d 1 0 _ (by decide), slots_eq d 1 1 _ (by decide), slots_eq d 2 0 _ (by decide), slots_eq d 2 1 _ (by decide)]
  exact bigSep_univ_eq_bigSepL [0, 1, 2, 3, 4, 5] (by decide) (by decide) _
/-- `cc0_scratch3` comes apart into its pieces. -/
theorem slots_split (d : Dev nD) : bufE (F := F) (((d : Dev nD) : Thread nD τ).loc cc0_scratch3) ⊢ iprop(pcE d (slotM 0 0) ∗ pcE d (slotM 0 1) ∗ pcE d (slotM 1 0) ∗ pcE d (slotM 1 1) ∗ pcE d (slotM 2 0) ∗ pcE d (slotM 2 1)) :=
  (apart (ℓ := (((d : Dev nD) : Thread nD τ).loc cc0_scratch3)) (n := 6) slotsφ slotsφ_lt).trans (Entails.of_eq (slots_all d))
/-- The pieces of `cc0_scratch3` go back together. -/
theorem slots_join (d : Dev nD) (f₀ : Buf (Elt F) (((d : Dev nD) : Thread nD τ).loc cc0_scratch3)) : (iprop(pcE d (slotM 0 0) ∗ pcE d (slotM 0 1) ∗ pcE d (slotM 1 0) ∗ pcE d (slotM 1 1) ∗ pcE d (slotM 2 0) ∗ pcE d (slotM 2 1)) : sProp 𝕄) ⊢ bufE (F := F) (((d : Dev nD) : Thread nD τ).loc cc0_scratch3) :=
  (Entails.of_eq (slots_all d).symm).trans (together (ℓ := (((d : Dev nD) : Thread nD τ).loc cc0_scratch3)) (n := 6) slotsφ slotsφ_lt f₀)

/-! ## The chunks of the receive buffer -/

/-- Which piece of `cc0_scratch6` an element is in. -/
def commsφ (i : S2x2x128x512.Idx) : ℕ := 4 * (i 0).val + 2 * (i 1).val + (i 2).val / 64
/-- Every element of the receive buffer is in a numbered piece. -/
theorem commsφ_lt (i : S2x2x128x512.Idx) : commsφ i < 8 := by
  have h0 := (i 0).isLt; have h1 := (i 1).isLt; have h2 := (i 2).isLt
  simp [S2x2x128x512] at h0 h1 h2
  unfold commsφ
  omega
/-- The elements of a piece of the receive buffer, by number. -/
theorem comms_set (st b r : ℕ) (h) (hb : b < 2 ∧ (r = 0 ∨ r = 64)) (i : S2x2x128x512.Idx) : i ∈ (commM st b r h).view.set ↔ commsφ i = 4 * st + 2 * b + r / 64 := by
  rw [show (commM st b r h).view.set = ((View.whole cc0_scratch6).slice (Rect.unit (s := S2x2x128x512) ![st, b, r, 0] S1x1x64x512.size h)).set from View.set_reshape _ _]
  refine (Eq.to_iff (congrArg (i ∈ ·) (View.set_slice_whole cc0_scratch6 _))).trans (Rect.mem_set_unit.trans ⟨fun H => ?_, fun H a => ?_⟩)
  · have h0 := H 0; have h1 := H 1; have h2 := H 2
    simp [S1x1x64x512] at h0 h1 h2
    unfold commsφ
    omega
  · unfold commsφ at H
    have h0 := (i 0).isLt; have h1 := (i 1).isLt; have h2 := (i 2).isLt
    have hb := (i a).isLt
    have e2 : (i ⟨2, by decide⟩).val = (i 2).val := rfl
    simp [S2x2x128x512] at h0 h1 h2
    fin_cases a <;> simp [S1x1x64x512, S2x2x128x512] at hb ⊢ <;> omega
/-- Owning a piece of the receive buffer is owning the elements of its number. -/
theorem comms_eq (d : Dev nD) (st b r : ℕ) (h) (hb : b < 2 ∧ (r = 0 ∨ r = 64)) : (pcE d (commM st b r h) : sProp 𝕄) = fibE (F := F) (((d : Dev nD) : Thread nD τ).loc cc0_scratch6) commsφ (4 * st + 2 * b + r / 64) := by
  unfold pcE fibE own
  exact congrArg (fun S : Finset S2x2x128x512.Idx => (iprop(∃ f : Buf (Elt F) (((d : Dev nD) : Thread nD τ).loc cc0_scratch6), (((d : Dev nD) : Thread nD τ).loc cc0_scratch6) ↦[S]{fullShare} f) : sProp 𝕄)) (Finset.ext fun i => (comms_set st b r h hb i).trans (mem_fib (ℓ := (((d : Dev nD) : Thread nD τ).loc cc0_scratch6)) commsφ (4 * st + 2 * b + r / 64) i).symm)
/-- The pieces of the receive buffer, one by one. -/
theorem comms_all (d : Dev nD) : (bigSep Finset.univ fun t : Fin 8 => fibE (F := F) (((d : Dev nD) : Thread nD τ).loc cc0_scratch6) commsφ t.val) = iprop(pcE d (commM 0 0 0) ∗ pcE d (commM 0 0 64) ∗ pcE d (commM 0 1 0) ∗ pcE d (commM 0 1 64) ∗ pcE d (commM 1 0 0) ∗ pcE d (commM 1 0 64) ∗ pcE d (commM 1 1 0) ∗ pcE d (commM 1 1 64)) := by
  rw [comms_eq d 0 0 0 _ (by decide), comms_eq d 0 0 64 _ (by decide), comms_eq d 0 1 0 _ (by decide), comms_eq d 0 1 64 _ (by decide), comms_eq d 1 0 0 _ (by decide), comms_eq d 1 0 64 _ (by decide), comms_eq d 1 1 0 _ (by decide), comms_eq d 1 1 64 _ (by decide)]
  exact bigSep_univ_eq_bigSepL [0, 1, 2, 3, 4, 5, 6, 7] (by decide) (by decide) _
/-- `cc0_scratch6` comes apart into its pieces. -/
theorem comms_split (d : Dev nD) : bufE (F := F) (((d : Dev nD) : Thread nD τ).loc cc0_scratch6) ⊢ iprop(pcE d (commM 0 0 0) ∗ pcE d (commM 0 0 64) ∗ pcE d (commM 0 1 0) ∗ pcE d (commM 0 1 64) ∗ pcE d (commM 1 0 0) ∗ pcE d (commM 1 0 64) ∗ pcE d (commM 1 1 0) ∗ pcE d (commM 1 1 64)) :=
  (apart (ℓ := (((d : Dev nD) : Thread nD τ).loc cc0_scratch6)) (n := 8) commsφ commsφ_lt).trans (Entails.of_eq (comms_all d))
/-- The pieces of `cc0_scratch6` go back together. -/
theorem comms_join (d : Dev nD) (f₀ : Buf (Elt F) (((d : Dev nD) : Thread nD τ).loc cc0_scratch6)) : (iprop(pcE d (commM 0 0 0) ∗ pcE d (commM 0 0 64) ∗ pcE d (commM 0 1 0) ∗ pcE d (commM 0 1 64) ∗ pcE d (commM 1 0 0) ∗ pcE d (commM 1 0 64) ∗ pcE d (commM 1 1 0) ∗ pcE d (commM 1 1 64)) : sProp 𝕄) ⊢ bufE (F := F) (((d : Dev nD) : Thread nD τ).loc cc0_scratch6) :=
  (Entails.of_eq (comms_all d).symm).trans (together (ℓ := (((d : Dev nD) : Thread nD τ).loc cc0_scratch6)) (n := 8) commsφ commsφ_lt f₀)

/-! ## The chunks of the send buffer -/

/-- Which piece of `cc0_scratch7` an element is in. -/
def sendsφ (i : S2x2x128x512.Idx) : ℕ := 4 * (i 0).val + 2 * (i 1).val + (i 2).val / 64
/-- Every element of the send buffer is in a numbered piece. -/
theorem sendsφ_lt (i : S2x2x128x512.Idx) : sendsφ i < 8 := by
  have h0 := (i 0).isLt; have h1 := (i 1).isLt; have h2 := (i 2).isLt
  simp [S2x2x128x512] at h0 h1 h2
  unfold sendsφ
  omega
/-- The elements of a piece of the send buffer, by number. -/
theorem sends_set (st b r : ℕ) (h) (hb : b < 2 ∧ (r = 0 ∨ r = 64)) (i : S2x2x128x512.Idx) : i ∈ (sendM st b r h).view.set ↔ sendsφ i = 4 * st + 2 * b + r / 64 := by
  rw [show (sendM st b r h).view.set = ((View.whole cc0_scratch7).slice (Rect.unit (s := S2x2x128x512) ![st, b, r, 0] S1x1x64x512.size h)).set from View.set_reshape _ _]
  refine (Eq.to_iff (congrArg (i ∈ ·) (View.set_slice_whole cc0_scratch7 _))).trans (Rect.mem_set_unit.trans ⟨fun H => ?_, fun H a => ?_⟩)
  · have h0 := H 0; have h1 := H 1; have h2 := H 2
    simp [S1x1x64x512] at h0 h1 h2
    unfold sendsφ
    omega
  · unfold sendsφ at H
    have h0 := (i 0).isLt; have h1 := (i 1).isLt; have h2 := (i 2).isLt
    have hb := (i a).isLt
    have e2 : (i ⟨2, by decide⟩).val = (i 2).val := rfl
    simp [S2x2x128x512] at h0 h1 h2
    fin_cases a <;> simp [S1x1x64x512, S2x2x128x512] at hb ⊢ <;> omega
/-- Owning a piece of the send buffer is owning the elements of its number. -/
theorem sends_eq (d : Dev nD) (st b r : ℕ) (h) (hb : b < 2 ∧ (r = 0 ∨ r = 64)) : (pcE d (sendM st b r h) : sProp 𝕄) = fibE (F := F) (((d : Dev nD) : Thread nD τ).loc cc0_scratch7) sendsφ (4 * st + 2 * b + r / 64) := by
  unfold pcE fibE own
  exact congrArg (fun S : Finset S2x2x128x512.Idx => (iprop(∃ f : Buf (Elt F) (((d : Dev nD) : Thread nD τ).loc cc0_scratch7), (((d : Dev nD) : Thread nD τ).loc cc0_scratch7) ↦[S]{fullShare} f) : sProp 𝕄)) (Finset.ext fun i => (sends_set st b r h hb i).trans (mem_fib (ℓ := (((d : Dev nD) : Thread nD τ).loc cc0_scratch7)) sendsφ (4 * st + 2 * b + r / 64) i).symm)
/-- The pieces of the send buffer, one by one. -/
theorem sends_all (d : Dev nD) : (bigSep Finset.univ fun t : Fin 8 => fibE (F := F) (((d : Dev nD) : Thread nD τ).loc cc0_scratch7) sendsφ t.val) = iprop(pcE d (sendM 0 0 0) ∗ pcE d (sendM 0 0 64) ∗ pcE d (sendM 0 1 0) ∗ pcE d (sendM 0 1 64) ∗ pcE d (sendM 1 0 0) ∗ pcE d (sendM 1 0 64) ∗ pcE d (sendM 1 1 0) ∗ pcE d (sendM 1 1 64)) := by
  rw [sends_eq d 0 0 0 _ (by decide), sends_eq d 0 0 64 _ (by decide), sends_eq d 0 1 0 _ (by decide), sends_eq d 0 1 64 _ (by decide), sends_eq d 1 0 0 _ (by decide), sends_eq d 1 0 64 _ (by decide), sends_eq d 1 1 0 _ (by decide), sends_eq d 1 1 64 _ (by decide)]
  exact bigSep_univ_eq_bigSepL [0, 1, 2, 3, 4, 5, 6, 7] (by decide) (by decide) _
/-- `cc0_scratch7` comes apart into its pieces. -/
theorem sends_split (d : Dev nD) : bufE (F := F) (((d : Dev nD) : Thread nD τ).loc cc0_scratch7) ⊢ iprop(pcE d (sendM 0 0 0) ∗ pcE d (sendM 0 0 64) ∗ pcE d (sendM 0 1 0) ∗ pcE d (sendM 0 1 64) ∗ pcE d (sendM 1 0 0) ∗ pcE d (sendM 1 0 64) ∗ pcE d (sendM 1 1 0) ∗ pcE d (sendM 1 1 64)) :=
  (apart (ℓ := (((d : Dev nD) : Thread nD τ).loc cc0_scratch7)) (n := 8) sendsφ sendsφ_lt).trans (Entails.of_eq (sends_all d))
/-- The pieces of `cc0_scratch7` go back together. -/
theorem sends_join (d : Dev nD) (f₀ : Buf (Elt F) (((d : Dev nD) : Thread nD τ).loc cc0_scratch7)) : (iprop(pcE d (sendM 0 0 0) ∗ pcE d (sendM 0 0 64) ∗ pcE d (sendM 0 1 0) ∗ pcE d (sendM 0 1 64) ∗ pcE d (sendM 1 0 0) ∗ pcE d (sendM 1 0 64) ∗ pcE d (sendM 1 1 0) ∗ pcE d (sendM 1 1 64)) : sProp 𝕄) ⊢ bufE (F := F) (((d : Dev nD) : Thread nD τ).loc cc0_scratch7) :=
  (Entails.of_eq (sends_all d).symm).trans (together (ℓ := (((d : Dev nD) : Thread nD τ).loc cc0_scratch7)) (n := 8) sendsφ sendsφ_lt f₀)

/-! ## The heads of the keys -/

/-- Which piece of `main_v2` an element is in. -/
def ktsφ (i : S2x16x64x128.Idx) : ℕ := (i 1).val / 2
/-- Every element of the key buffer is in a numbered piece. -/
theorem ktsφ_lt (i : S2x16x64x128.Idx) : ktsφ i < 8 := by
  have h0 := (i 0).isLt; have h1 := (i 1).isLt; have h2 := (i 2).isLt
  simp [S2x16x64x128] at h0 h1 h2
  unfold ktsφ
  omega
/-- The elements of a piece of the key buffer, by number. -/
theorem kts_set (o : ℕ) (h) (ho : 2 * (o / 2) = o) (i : S2x16x64x128.Idx) : i ∈ (ktM o h).view.set ↔ ktsφ i = o / 2 := by
  refine (Eq.to_iff (congrArg (i ∈ ·) (View.set_slice_whole main_v2 _))).trans (Rect.mem_set_unit.trans ⟨fun H => ?_, fun H a => ?_⟩)
  · have h0 := H 0; have h1 := H 1; have h2 := H 2
    simp [S2x2x64x128] at h0 h1 h2
    unfold ktsφ
    omega
  · unfold ktsφ at H
    have h0 := (i 0).isLt; have h1 := (i 1).isLt; have h2 := (i 2).isLt
    have hb := (i a).isLt
    simp [S2x16x64x128] at h0 h1 h2
    fin_cases a <;> simp [S2x2x64x128, S2x16x64x128] at hb ⊢ <;> omega
/-- Owning a piece of the key buffer is owning the elements of its number. -/
theorem kts_eq (d : Dev nD) (o : ℕ) (h) (ho : 2 * (o / 2) = o) (f : Buf (Elt F) (((d : Dev nD) : Thread nD τ).loc main_v2)) :
    (pc d (ktM o h) f : sProp 𝕄) = ((((d : Dev nD) : Thread nD τ).loc main_v2) ↦[fib (ℓ := (((d : Dev nD) : Thread nD τ).loc main_v2)) ktsφ (o / 2)]{fullShare} f) := by
  unfold pc own
  exact congrArg (fun S : Finset S2x16x64x128.Idx => ((((d : Dev nD) : Thread nD τ).loc main_v2) ↦[S]{fullShare} f : sProp 𝕄)) (Finset.ext fun i => (kts_set o h ho i).trans (mem_fib (ℓ := (((d : Dev nD) : Thread nD τ).loc main_v2)) ktsφ (o / 2) i).symm)
/-- `main_v2` is its pieces. -/
theorem kts_split (d : Dev nD) : ((((d : Dev nD) : Thread nD τ).loc main_v2) ↦{fullShare} KTa m d : sProp 𝕄) = iprop(ktP m d 0 ∗ ktP m d 2 ∗ ktP m d 4 ∗ ktP m d 6 ∗ ktP m d 8 ∗ ktP m d 10 ∗ ktP m d 12 ∗ ktP m d 14) := by
  have e0 : (ktP m d 0 : sProp 𝕄) = ((((d : Dev nD) : Thread nD τ).loc main_v2) ↦[fib (ℓ := (((d : Dev nD) : Thread nD τ).loc main_v2)) ktsφ 0]{fullShare} KTa m d) := kts_eq d 0 _ (by decide) (KTa m d)
  have e1 : (ktP m d 2 : sProp 𝕄) = ((((d : Dev nD) : Thread nD τ).loc main_v2) ↦[fib (ℓ := (((d : Dev nD) : Thread nD τ).loc main_v2)) ktsφ 1]{fullShare} KTa m d) := kts_eq d 2 _ (by decide) (KTa m d)
  have e2 : (ktP m d 4 : sProp 𝕄) = ((((d : Dev nD) : Thread nD τ).loc main_v2) ↦[fib (ℓ := (((d : Dev nD) : Thread nD τ).loc main_v2)) ktsφ 2]{fullShare} KTa m d) := kts_eq d 4 _ (by decide) (KTa m d)
  have e3 : (ktP m d 6 : sProp 𝕄) = ((((d : Dev nD) : Thread nD τ).loc main_v2) ↦[fib (ℓ := (((d : Dev nD) : Thread nD τ).loc main_v2)) ktsφ 3]{fullShare} KTa m d) := kts_eq d 6 _ (by decide) (KTa m d)
  have e4 : (ktP m d 8 : sProp 𝕄) = ((((d : Dev nD) : Thread nD τ).loc main_v2) ↦[fib (ℓ := (((d : Dev nD) : Thread nD τ).loc main_v2)) ktsφ 4]{fullShare} KTa m d) := kts_eq d 8 _ (by decide) (KTa m d)
  have e5 : (ktP m d 10 : sProp 𝕄) = ((((d : Dev nD) : Thread nD τ).loc main_v2) ↦[fib (ℓ := (((d : Dev nD) : Thread nD τ).loc main_v2)) ktsφ 5]{fullShare} KTa m d) := kts_eq d 10 _ (by decide) (KTa m d)
  have e6 : (ktP m d 12 : sProp 𝕄) = ((((d : Dev nD) : Thread nD τ).loc main_v2) ↦[fib (ℓ := (((d : Dev nD) : Thread nD τ).loc main_v2)) ktsφ 6]{fullShare} KTa m d) := kts_eq d 12 _ (by decide) (KTa m d)
  have e7 : (ktP m d 14 : sProp 𝕄) = ((((d : Dev nD) : Thread nD τ).loc main_v2) ↦[fib (ℓ := (((d : Dev nD) : Thread nD τ).loc main_v2)) ktsφ 7]{fullShare} KTa m d) := kts_eq d 14 _ (by decide) (KTa m d)
  rw [e0, e1, e2, e3, e4, e5, e6, e7]
  exact (split_fibres (ℓ := (((d : Dev nD) : Thread nD τ).loc main_v2)) (n := 8) ktsφ ktsφ_lt (KTa m d)).trans (bigSep_univ_eq_bigSepL [0, 1, 2, 3, 4, 5, 6, 7] (by decide) (by decide) _)

/-! ## The heads of the values -/

/-- Which piece of `main_v4` an element is in. -/
def vtsφ (i : S2x16x64x128.Idx) : ℕ := (i 1).val / 2
/-- Every element of the value buffer is in a numbered piece. -/
theorem vtsφ_lt (i : S2x16x64x128.Idx) : vtsφ i < 8 := by
  have h0 := (i 0).isLt; have h1 := (i 1).isLt; have h2 := (i 2).isLt
  simp [S2x16x64x128] at h0 h1 h2
  unfold vtsφ
  omega
/-- The elements of a piece of the value buffer, by number. -/
theorem vts_set (o : ℕ) (h) (ho : 2 * (o / 2) = o) (i : S2x16x64x128.Idx) : i ∈ (vtM o h).view.set ↔ vtsφ i = o / 2 := by
  refine (Eq.to_iff (congrArg (i ∈ ·) (View.set_slice_whole main_v4 _))).trans (Rect.mem_set_unit.trans ⟨fun H => ?_, fun H a => ?_⟩)
  · have h0 := H 0; have h1 := H 1; have h2 := H 2
    simp [S2x2x64x128] at h0 h1 h2
    unfold vtsφ
    omega
  · unfold vtsφ at H
    have h0 := (i 0).isLt; have h1 := (i 1).isLt; have h2 := (i 2).isLt
    have hb := (i a).isLt
    simp [S2x16x64x128] at h0 h1 h2
    fin_cases a <;> simp [S2x2x64x128, S2x16x64x128] at hb ⊢ <;> omega
/-- Owning a piece of the value buffer is owning the elements of its number. -/
theorem vts_eq (d : Dev nD) (o : ℕ) (h) (ho : 2 * (o / 2) = o) (f : Buf (Elt F) (((d : Dev nD) : Thread nD τ).loc main_v4)) :
    (pc d (vtM o h) f : sProp 𝕄) = ((((d : Dev nD) : Thread nD τ).loc main_v4) ↦[fib (ℓ := (((d : Dev nD) : Thread nD τ).loc main_v4)) vtsφ (o / 2)]{fullShare} f) := by
  unfold pc own
  exact congrArg (fun S : Finset S2x16x64x128.Idx => ((((d : Dev nD) : Thread nD τ).loc main_v4) ↦[S]{fullShare} f : sProp 𝕄)) (Finset.ext fun i => (vts_set o h ho i).trans (mem_fib (ℓ := (((d : Dev nD) : Thread nD τ).loc main_v4)) vtsφ (o / 2) i).symm)
/-- `main_v4` is its pieces. -/
theorem vts_split (d : Dev nD) : ((((d : Dev nD) : Thread nD τ).loc main_v4) ↦{fullShare} VTa m d : sProp 𝕄) = iprop(vtP m d 0 ∗ vtP m d 2 ∗ vtP m d 4 ∗ vtP m d 6 ∗ vtP m d 8 ∗ vtP m d 10 ∗ vtP m d 12 ∗ vtP m d 14) := by
  have e0 : (vtP m d 0 : sProp 𝕄) = ((((d : Dev nD) : Thread nD τ).loc main_v4) ↦[fib (ℓ := (((d : Dev nD) : Thread nD τ).loc main_v4)) vtsφ 0]{fullShare} VTa m d) := vts_eq d 0 _ (by decide) (VTa m d)
  have e1 : (vtP m d 2 : sProp 𝕄) = ((((d : Dev nD) : Thread nD τ).loc main_v4) ↦[fib (ℓ := (((d : Dev nD) : Thread nD τ).loc main_v4)) vtsφ 1]{fullShare} VTa m d) := vts_eq d 2 _ (by decide) (VTa m d)
  have e2 : (vtP m d 4 : sProp 𝕄) = ((((d : Dev nD) : Thread nD τ).loc main_v4) ↦[fib (ℓ := (((d : Dev nD) : Thread nD τ).loc main_v4)) vtsφ 2]{fullShare} VTa m d) := vts_eq d 4 _ (by decide) (VTa m d)
  have e3 : (vtP m d 6 : sProp 𝕄) = ((((d : Dev nD) : Thread nD τ).loc main_v4) ↦[fib (ℓ := (((d : Dev nD) : Thread nD τ).loc main_v4)) vtsφ 3]{fullShare} VTa m d) := vts_eq d 6 _ (by decide) (VTa m d)
  have e4 : (vtP m d 8 : sProp 𝕄) = ((((d : Dev nD) : Thread nD τ).loc main_v4) ↦[fib (ℓ := (((d : Dev nD) : Thread nD τ).loc main_v4)) vtsφ 4]{fullShare} VTa m d) := vts_eq d 8 _ (by decide) (VTa m d)
  have e5 : (vtP m d 10 : sProp 𝕄) = ((((d : Dev nD) : Thread nD τ).loc main_v4) ↦[fib (ℓ := (((d : Dev nD) : Thread nD τ).loc main_v4)) vtsφ 5]{fullShare} VTa m d) := vts_eq d 10 _ (by decide) (VTa m d)
  have e6 : (vtP m d 12 : sProp 𝕄) = ((((d : Dev nD) : Thread nD τ).loc main_v4) ↦[fib (ℓ := (((d : Dev nD) : Thread nD τ).loc main_v4)) vtsφ 6]{fullShare} VTa m d) := vts_eq d 12 _ (by decide) (VTa m d)
  have e7 : (vtP m d 14 : sProp 𝕄) = ((((d : Dev nD) : Thread nD τ).loc main_v4) ↦[fib (ℓ := (((d : Dev nD) : Thread nD τ).loc main_v4)) vtsφ 7]{fullShare} VTa m d) := vts_eq d 14 _ (by decide) (VTa m d)
  rw [e0, e1, e2, e3, e4, e5, e6, e7]
  exact (split_fibres (ℓ := (((d : Dev nD) : Thread nD τ).loc main_v4)) (n := 8) vtsφ vtsφ_lt (VTa m d)).trans (bigSep_univ_eq_bigSepL [0, 1, 2, 3, 4, 5, 6, 7] (by decide) (by decide) _)

end Cert.KernelIdeal.Attn
end
-- ==== Proof.KernelIdeal.Deal.lean ====
/- What each device is dealt makes what its body starts from, and what its body ends with makes what it gives back. -/
module

public import proofs.«01_k».proof.Proof.KernelIdeal.Cells
public import proofs.«01_k».proof.Proof.KernelIdeal.Pieces

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- A device's turns in the exchanges. -/
def MG (d : Dev nD) : sProp 𝕄 := iprop(snd d 28 (pa d) 36 ∗ snd d 30 (pa d) 38 ∗ snd d 29 (pa d) 37 ∗ snd d 31 (pa d) 39 ∗ snd d 32 (pb d) 40 ∗ snd d 34 (pb d) 42 ∗ snd d 33 (pb d) 41 ∗ snd d 35 (pb d) 43 ∗ wt d 36 ∗ wt d 38 ∗ wt d 37 ∗ wt d 39 ∗ wt d 40 ∗ wt d 42 ∗ wt d 41 ∗ wt d 43)

/-- The inputs' turns and the exchanges' turns, made of what every device is dealt. -/
theorem deal_gen (d : Dev nD) : (iprop(PG d ∗ TG d ∗ CG d) : sProp 𝕄) ⊢ iprop((lcl d 1 ∗ lcl d 2 ∗ lcl d 3) ∗ MG d) := by
  unfold PG TG CG MG
  iintro ⟨⟨P1, P2, P3, P28, P29, P30, P31, P32, P33, P34, P35, P36, P37, P38, P39, P40, P41, P42, P43⟩, ⟨Td_1, Td_2, Td_3, Td_28, Td_29, Td_30, Td_31, Td_32, Td_33, Td_34, Td_35, Ta_36, Ta_37, Ta_38, Ta_39, Tb_40, Tb_41, Tb_42, Tb_43⟩, C36, C37, C38, C39, C40, C41, C42, C43⟩
  isplitl [Td_1 P1 Td_2 P2 Td_3 P3]
  · isplitl [Td_1 P1]
    · unfold lcl
      isplitl [Td_1]; · iexact Td_1
      iexact P1
    isplitl [Td_2 P2]
    · unfold lcl
      isplitl [Td_2]; · iexact Td_2
      iexact P2
    unfold lcl
    isplitl [Td_3]; · iexact Td_3
    iexact P3
  isplitl [Td_28 P28 Ta_36]
  · unfold snd
    isplitl [Td_28]; · iexact Td_28
    isplitl [P28]; · iexact P28
    iexact Ta_36
  isplitl [Td_30 P30 Ta_38]
  · unfold snd
    isplitl [Td_30]; · iexact Td_30
    isplitl [P30]; · iexact P30
    iexact Ta_38
  isplitl [Td_29 P29 Ta_37]
  · unfold snd
    isplitl [Td_29]; · iexact Td_29
    isplitl [P29]; · iexact P29
    iexact Ta_37
  isplitl [Td_31 P31 Ta_39]
  · unfold snd
    isplitl [Td_31]; · iexact Td_31
    isplitl [P31]; · iexact P31
    iexact Ta_39
  isplitl [Td_32 P32 Tb_40]
  · unfold snd
    isplitl [Td_32]; · iexact Td_32
    isplitl [P32]; · iexact P32
    iexact Tb_40
  isplitl [Td_34 P34 Tb_42]
  · unfold snd
    isplitl [Td_34]; · iexact Td_34
    isplitl [P34]; · iexact P34
    iexact Tb_42
  isplitl [Td_33 P33 Tb_41]
  · unfold snd
    isplitl [Td_33]; · iexact Td_33
    isplitl [P33]; · iexact P33
    iexact Tb_41
  isplitl [Td_35 P35 Tb_43]
  · unfold snd
    isplitl [Td_35]; · iexact Td_35
    isplitl [P35]; · iexact P35
    iexact Tb_43
  isplitl [C36 P36]
  · unfold wt
    isplitl [C36]; · iexact C36
    iexact P36
  isplitl [C38 P38]
  · unfold wt
    isplitl [C38]; · iexact C38
    iexact P38
  isplitl [C37 P37]
  · unfold wt
    isplitl [C37]; · iexact C37
    iexact P37
  isplitl [C39 P39]
  · unfold wt
    isplitl [C39]; · iexact C39
    iexact P39
  isplitl [C40 P40]
  · unfold wt
    isplitl [C40]; · iexact C40
    iexact P40
  isplitl [C42 P42]
  · unfold wt
    isplitl [C42]; · iexact C42
    iexact P42
  isplitl [C41 P41]
  · unfold wt
    isplitl [C41]; · iexact C41
    iexact P41
  unfold wt
  isplitl [C43]; · iexact C43
  iexact P43

/-- A slot at hand may be handed over to be written by a copy. -/
theorem slotF_of (K : GSem nD τ sig → ℕ) (d : Dev nD) (j c : ℕ) (k : Fin 44) (h0 : k ≠ 0) (h) : iprop(ctx m K d ∗ pcE d (slotM j c h)) ⊢ (slotF d j c k h : sProp 𝕄) := by
  unfold slotF slotE
  iintro ⟨#HC, H⟩
  isplitl [H]; · iexact H
  iapply (ctx_reached m K d k h0); iexact HC
/-- A chunk of the receive buffer at hand may be handed over to be written by a copy. -/
theorem chunkF_of (K : GSem nD τ sig → ℕ) (d : Dev nD) (st b r : ℕ) (k : Fin 44) (h0 : k ≠ 0) (h) : iprop(ctx m K d ∗ pcE d (commM st b r h)) ⊢ (chunkF d st b r k h : sProp 𝕄) := by
  unfold chunkF commE
  iintro ⟨#HC, H⟩
  isplitl [H]; · iexact H
  iapply (ctx_reached m K d k h0); iexact HC
/-- The four chunks of the first exchange, handed over together. -/
theorem chunks0_of (K : GSem nD τ sig → ℕ) (d : Dev nD) : iprop(ctx m K d ∗ pcE d (commM 0 0 0) ∗ pcE d (commM 0 1 0) ∗ pcE d (commM 0 0 64) ∗ pcE d (commM 0 1 64)) ⊢ (chunks0 d : sProp 𝕄) := by
  unfold chunks0
  iintro ⟨#HC, H0, H1, H2, H3⟩
  isplitl [H0]
  · iapply (chunkF_of m K d 0 0 0 36 (by decide) _)
    isplitr; · iexact HC
    iexact H0
  isplitl [H1]
  · iapply (chunkF_of m K d 0 1 0 38 (by decide) _)
    isplitr; · iexact HC
    iexact H1
  isplitl [H2]
  · iapply (chunkF_of m K d 0 0 64 37 (by decide) _)
    isplitr; · iexact HC
    iexact H2
  iapply (chunkF_of m K d 0 1 64 39 (by decide) _)
  isplitr; · iexact HC
  iexact H3
/-- The four chunks of the second exchange, handed over together. -/
theorem chunks1_of (K : GSem nD τ sig → ℕ) (d : Dev nD) : iprop(ctx m K d ∗ pcE d (commM 1 0 0) ∗ pcE d (commM 1 1 0) ∗ pcE d (commM 1 0 64) ∗ pcE d (commM 1 1 64)) ⊢ (chunks1 d : sProp 𝕄) := by
  unfold chunks1
  iintro ⟨#HC, H0, H1, H2, H3⟩
  isplitl [H0]
  · iapply (chunkF_of m K d 1 0 0 40 (by decide) _)
    isplitr; · iexact HC
    iexact H0
  isplitl [H1]
  · iapply (chunkF_of m K d 1 1 0 42 (by decide) _)
    isplitr; · iexact HC
    iexact H1
  isplitl [H2]
  · iapply (chunkF_of m K d 1 0 64 41 (by decide) _)
    isplitr; · iexact HC
    iexact H2
  iapply (chunkF_of m K d 1 1 64 43 (by decide) _)
  isplitr; · iexact HC
  iexact H3

/-- What a device's body leaves alone, besides the buffers the region never touches. -/
def keepS (d : Dev nD) : sProp 𝕄 := match d with
  | 0 => iprop(pcE 0 (slotM 2 0) ∗ pcE 0 (slotM 2 1) ∗ atPos ER (cell 0 16) 0 ∅ 0 ∗ atPos ER (cell 0 17) 0 ∅ 0 ∗ atPos ER (cell 0 18) 0 ∅ 0 ∗ atPos ER (cell 0 19) 0 ∅ 0 ∗ atPos ER (cell 0 20) 0 ∅ 0 ∗ atPos ER (cell 0 21) 0 ∅ 0 ∗ atPos ER (cell 0 22) 0 ∅ 0 ∗ atPos ER (cell 0 23) 0 ∅ 0)
  | 1 => iprop(atPos ER (cell 1 4) 0 ∅ 0 ∗ atPos ER (cell 1 5) 0 ∅ 0 ∗ atPos ER (cell 1 6) 0 ∅ 0 ∗ atPos ER (cell 1 7) 0 ∅ 0 ∗ atPos ER (cell 1 8) 0 ∅ 0 ∗ atPos ER (cell 1 9) 0 ∅ 0 ∗ atPos ER (cell 1 10) 0 ∅ 0 ∗ atPos ER (cell 1 11) 0 ∅ 0 ∗ atPos ER (cell 1 12) 0 ∅ 0 ∗ atPos ER (cell 1 13) 0 ∅ 0 ∗ atPos ER (cell 1 14) 0 ∅ 0 ∗ atPos ER (cell 1 15) 0 ∅ 0 ∗ atPos ER (cell 1 24) 0 ∅ 0 ∗ atPos ER (cell 1 25) 0 ∅ 0 ∗ atPos ER (cell 1 26) 0 ∅ 0 ∗ atPos ER (cell 1 27) 0 ∅ 0 ∗ atPos ER (barC 1) 0 ∅ 0 ∗ (((1 : Dev nD) : Thread nD τ).loc main_v2 ↦{fullShare} KTa m 1) ∗ (((1 : Dev nD) : Thread nD τ).loc main_v4 ↦{fullShare} VTa m 1))
  | 2 => iprop(pcE 2 (slotM 2 0) ∗ pcE 2 (slotM 2 1) ∗ atPos ER (cell 2 4) 0 ∅ 0 ∗ atPos ER (cell 2 5) 0 ∅ 0 ∗ atPos ER (cell 2 6) 0 ∅ 0 ∗ atPos ER (cell 2 7) 0 ∅ 0 ∗ atPos ER (cell 2 8) 0 ∅ 0 ∗ atPos ER (cell 2 9) 0 ∅ 0 ∗ atPos ER (cell 2 10) 0 ∅ 0 ∗ atPos ER (cell 2 11) 0 ∅ 0 ∗ atPos ER (cell 2 12) 0 ∅ 0 ∗ atPos ER (cell 2 13) 0 ∅ 0 ∗ atPos ER (cell 2 14) 0 ∅ 0 ∗ atPos ER (cell 2 15) 0 ∅ 0 ∗ atPos ER (cell 2 20) 0 ∅ 0 ∗ atPos ER (cell 2 21) 0 ∅ 0 ∗ atPos ER (cell 2 22) 0 ∅ 0 ∗ atPos ER (cell 2 23) 0 ∅ 0 ∗ atPos ER (cell 2 24) 0 ∅ 0 ∗ atPos ER (cell 2 25) 0 ∅ 0 ∗ atPos ER (cell 2 26) 0 ∅ 0 ∗ atPos ER (cell 2 27) 0 ∅ 0 ∗ atPos ER (barC 2) 0 ∅ 0 ∗ (((2 : Dev nD) : Thread nD τ).loc main_v2 ↦{fullShare} KTa m 2) ∗ (((2 : Dev nD) : Thread nD τ).loc main_v4 ↦{fullShare} VTa m 2))
  | 3 => iprop(atPos ER (cell 3 4) 0 ∅ 0 ∗ atPos ER (cell 3 5) 0 ∅ 0 ∗ atPos ER (cell 3 6) 0 ∅ 0 ∗ atPos ER (cell 3 7) 0 ∅ 0 ∗ atPos ER (cell 3 8) 0 ∅ 0 ∗ atPos ER (cell 3 9) 0 ∅ 0 ∗ atPos ER (cell 3 10) 0 ∅ 0 ∗ atPos ER (cell 3 11) 0 ∅ 0 ∗ atPos ER (cell 3 12) 0 ∅ 0 ∗ atPos ER (cell 3 13) 0 ∅ 0 ∗ atPos ER (cell 3 14) 0 ∅ 0 ∗ atPos ER (cell 3 15) 0 ∅ 0 ∗ atPos ER (cell 3 24) 0 ∅ 0 ∗ atPos ER (cell 3 25) 0 ∅ 0 ∗ atPos ER (cell 3 26) 0 ∅ 0 ∗ atPos ER (cell 3 27) 0 ∅ 0 ∗ atPos ER (barC 3) 0 ∅ 0 ∗ (((3 : Dev nD) : Thread nD τ).loc main_v2 ↦{fullShare} KTa m 3) ∗ (((3 : Dev nD) : Thread nD τ).loc main_v4 ↦{fullShare} VTa m 3))

/-- What a device is dealt besides. -/
def dealt (d : Dev nD) : sProp 𝕄 := iprop(PS d ∗ TS d ∗ CS d ∗ atPos ER (barC d) 0 ∅ 0 ∗ dutyTok ER (barC 0) 0 (d : Fin 4) ∗ (pcE d (slotM 0 0) ∗ pcE d (slotM 0 1) ∗ pcE d (slotM 1 0) ∗ pcE d (slotM 1 1) ∗ pcE d (slotM 2 0) ∗ pcE d (slotM 2 1)) ∗ (pcE d (commM 0 0 0) ∗ pcE d (commM 0 0 64) ∗ pcE d (commM 0 1 0) ∗ pcE d (commM 0 1 64) ∗ pcE d (commM 1 0 0) ∗ pcE d (commM 1 0 64) ∗ pcE d (commM 1 1 0) ∗ pcE d (commM 1 1 64)) ∗ (((d : Dev nD) : Thread nD τ).loc main_v2 ↦{fullShare} KTa m d) ∗ (((d : Dev nD) : Thread nD τ).loc main_v4 ↦{fullShare} VTa m d))

set_option maxHeartbeats 2000000 in
/-- Device 0's share. -/
theorem deal_spec0 (K : GSem nD τ sig → ℕ) : iprop(ctx m K 0 ∗ dealt m 0) ⊢ (iprop(specA m 0 ∗ keepS m 0) : sProp 𝕄) := by
  unfold dealt PS TS CS specA keepS
  iintro ⟨#HC, ⟨P4, P5, P6, P7, P8, P9, P10, P11, P12, P13, P14, P15, P16, P17, P18, P19, P20, P21, P22, P23, P24, P25, P26, P27⟩, ⟨T0_4, T0_5, T0_6, T0_7, T0_8, T0_9, T0_10, T0_11, T0_12, T0_13, T0_14, T0_15, T0_24, T0_25, T0_26, T0_27, T1_16, T1_17, T1_18, T1_19, T1_20, T1_21, T3_16, T3_17, T3_18, T3_19, T3_20, T3_21⟩, CB, PB, TB, ⟨S00, S01, S10, S11, S20, S21⟩, ⟨R000, R0064, R010, R0164, R100, R1064, R110, R1164⟩, K, V⟩
  ihave K := (Entails.of_eq (kts_split m 0)) $$ K
  icases K with ⟨K0, K2, K4, K6, K8, K10, K12, K14⟩
  ihave V := (Entails.of_eq (vts_split m 0)) $$ V
  icases V with ⟨V0, V2, V4, V6, V8, V10, V12, V14⟩
  isplitl [K8 K4 K12 K10 K6 K14 K0 K2 V8 V4 V12 V10 V6 V14 V0 V2 S00 S01 S10 S11 T0_24 P24 T0_25 P25 T0_26 P26 T0_27 P27 T0_4 P4 T1_20 T0_5 P5 T3_20 T0_6 P6 T1_16 T0_7 P7 T1_18 T0_8 P8 T3_16 T0_9 P9 T3_18 T0_10 P10 T1_21 T0_11 P11 T3_21 T0_12 P12 T1_17 T0_13 P13 T1_19 T0_14 P14 T3_17 T0_15 P15 T3_19 CB PB R000 R010 R0064 R0164 R100 R110 R1064 R1164]
  · isplitl [K8]
    · iexact K8
    isplitl [K4]
    · iexact K4
    isplitl [K12]
    · iexact K12
    isplitl [K10]
    · iexact K10
    isplitl [K6]
    · iexact K6
    isplitl [K14]
    · iexact K14
    isplitl [K0]
    · iexact K0
    isplitl [K2]
    · iexact K2
    isplitl [V8]
    · iexact V8
    isplitl [V4]
    · iexact V4
    isplitl [V12]
    · iexact V12
    isplitl [V10]
    · iexact V10
    isplitl [V6]
    · iexact V6
    isplitl [V14]
    · iexact V14
    isplitl [V0]
    · iexact V0
    isplitl [V2]
    · iexact V2
    isplitl [S00]
    · unfold slotE; iexact S00
    isplitl [S01]
    · unfold slotE; iexact S01
    isplitl [S10]
    · unfold slotE; iexact S10
    isplitl [S11]
    · unfold slotE; iexact S11
    isplitl [T0_24 P24]
    · unfold lcl
      isplitl [T0_24]; · iexact T0_24
      iexact P24
    isplitl [T0_25 P25]
    · unfold lcl
      isplitl [T0_25]; · iexact T0_25
      iexact P25
    isplitl [T0_26 P26]
    · unfold lcl
      isplitl [T0_26]; · iexact T0_26
      iexact P26
    isplitl [T0_27 P27]
    · unfold lcl
      isplitl [T0_27]; · iexact T0_27
      iexact P27
    isplitl [T0_4 P4 T1_20]
    · unfold snd
      isplitl [T0_4]; · iexact T0_4
      isplitl [P4]; · iexact P4
      iexact T1_20
    isplitl [T0_5 P5 T3_20]
    · unfold snd
      isplitl [T0_5]; · iexact T0_5
      isplitl [P5]; · iexact P5
      iexact T3_20
    isplitl [T0_6 P6 T1_16]
    · unfold snd
      isplitl [T0_6]; · iexact T0_6
      isplitl [P6]; · iexact P6
      iexact T1_16
    isplitl [T0_7 P7 T1_18]
    · unfold snd
      isplitl [T0_7]; · iexact T0_7
      isplitl [P7]; · iexact P7
      iexact T1_18
    isplitl [T0_8 P8 T3_16]
    · unfold snd
      isplitl [T0_8]; · iexact T0_8
      isplitl [P8]; · iexact P8
      iexact T3_16
    isplitl [T0_9 P9 T3_18]
    · unfold snd
      isplitl [T0_9]; · iexact T0_9
      isplitl [P9]; · iexact P9
      iexact T3_18
    isplitl [T0_10 P10 T1_21]
    · unfold snd
      isplitl [T0_10]; · iexact T0_10
      isplitl [P10]; · iexact P10
      iexact T1_21
    isplitl [T0_11 P11 T3_21]
    · unfold snd
      isplitl [T0_11]; · iexact T0_11
      isplitl [P11]; · iexact P11
      iexact T3_21
    isplitl [T0_12 P12 T1_17]
    · unfold snd
      isplitl [T0_12]; · iexact T0_12
      isplitl [P12]; · iexact P12
      iexact T1_17
    isplitl [T0_13 P13 T1_19]
    · unfold snd
      isplitl [T0_13]; · iexact T0_13
      isplitl [P13]; · iexact P13
      iexact T1_19
    isplitl [T0_14 P14 T3_17]
    · unfold snd
      isplitl [T0_14]; · iexact T0_14
      isplitl [P14]; · iexact P14
      iexact T3_17
    isplitl [T0_15 P15 T3_19]
    · unfold snd
      isplitl [T0_15]; · iexact T0_15
      isplitl [P15]; · iexact P15
      iexact T3_19
    isplitl [CB]
    · iexact CB
    isplitl [PB]
    · iexact PB
    isplitl [R000 R010 R0064 R0164]
    · iapply (chunks0_of m K 0)
      isplitr; · iexact HC
      isplitl [R000]; · iexact R000
      isplitl [R010]; · iexact R010
      isplitl [R0064]; · iexact R0064
      iexact R0164
    iapply (chunks1_of m K 0)
    isplitr; · iexact HC
    isplitl [R100]; · iexact R100
    isplitl [R110]; · iexact R110
    isplitl [R1064]; · iexact R1064
    iexact R1164
  isplitl [S20]
  · iexact S20
  isplitl [S21]
  · iexact S21
  isplitl [P16]
  · iexact P16
  isplitl [P17]
  · iexact P17
  isplitl [P18]
  · iexact P18
  isplitl [P19]
  · iexact P19
  isplitl [P20]
  · iexact P20
  isplitl [P21]
  · iexact P21
  isplitl [P22]
  · iexact P22
  iexact P23

set_option maxHeartbeats 2000000 in
/-- Device 1's share. -/
theorem deal_spec1 (K : GSem nD τ sig → ℕ) : iprop(ctx m K 1 ∗ dealt m 1) ⊢ (iprop(specA m 1 ∗ keepS m 1) : sProp 𝕄) := by
  unfold dealt PS TS CS specA keepS
  iintro ⟨#HC, ⟨P4, P5, P6, P7, P8, P9, P10, P11, P12, P13, P14, P15, P16, P17, P18, P19, P20, P21, P22, P23, P24, P25, P26, P27⟩, ⟨T1_22, T1_23, T2_16, T2_17⟩, ⟨C20, C21, C16, C18, C17, C19⟩, PB, TB, ⟨S00, S01, S10, S11, S20, S21⟩, ⟨R000, R0064, R010, R0164, R100, R1064, R110, R1164⟩, K, V⟩
  isplitl [S00 S01 S10 S11 S20 S21 R000 R010 R0064 R0164 TB T1_22 P22 T2_16 T1_23 P23 T2_17 C20 P20 C21 P21 C16 P16 C18 P18 C17 P17 C19 P19 R100 R110 R1064 R1164]
  · isplitl [S00 S01 S10 S11 S20 S21 R000 R010 R0064 R0164]
    · iapply (show iprop(slotF 1 0 0 16 ∗ slotF 1 0 1 17 ∗ slotF 1 1 0 18 ∗ slotF 1 1 1 19 ∗ slotF 1 2 0 20 ∗ slotF 1 2 1 21 ∗ chunks0 1) ⊢ (barPay 1 : sProp 𝕄) from Entails.refl _)
      isplitl [S00]
      · iapply (slotF_of m K 1 0 0 16 (by decide) _)
        isplitr; · iexact HC
        iexact S00
      isplitl [S01]
      · iapply (slotF_of m K 1 0 1 17 (by decide) _)
        isplitr; · iexact HC
        iexact S01
      isplitl [S10]
      · iapply (slotF_of m K 1 1 0 18 (by decide) _)
        isplitr; · iexact HC
        iexact S10
      isplitl [S11]
      · iapply (slotF_of m K 1 1 1 19 (by decide) _)
        isplitr; · iexact HC
        iexact S11
      isplitl [S20]
      · iapply (slotF_of m K 1 2 0 20 (by decide) _)
        isplitr; · iexact HC
        iexact S20
      isplitl [S21]
      · iapply (slotF_of m K 1 2 1 21 (by decide) _)
        isplitr; · iexact HC
        iexact S21
      iapply (chunks0_of m K 1)
      isplitr; · iexact HC
      isplitl [R000]; · iexact R000
      isplitl [R010]; · iexact R010
      isplitl [R0064]; · iexact R0064
      iexact R0164
    isplitl [TB]
    · iexact TB
    isplitl [T1_22 P22 T2_16]
    · unfold snd
      isplitl [T1_22]; · iexact T1_22
      isplitl [P22]; · iexact P22
      iexact T2_16
    isplitl [T1_23 P23 T2_17]
    · unfold snd
      isplitl [T1_23]; · iexact T1_23
      isplitl [P23]; · iexact P23
      iexact T2_17
    isplitl [C20 P20]
    · unfold wt
      isplitl [C20]; · iexact C20
      iexact P20
    isplitl [C21 P21]
    · unfold wt
      isplitl [C21]; · iexact C21
      iexact P21
    isplitl [C16 P16]
    · unfold wt
      isplitl [C16]; · iexact C16
      iexact P16
    isplitl [C18 P18]
    · unfold wt
      isplitl [C18]; · iexact C18
      iexact P18
    isplitl [C17 P17]
    · unfold wt
      isplitl [C17]; · iexact C17
      iexact P17
    isplitl [C19 P19]
    · unfold wt
      isplitl [C19]; · iexact C19
      iexact P19
    iapply (chunks1_of m K 1)
    isplitr; · iexact HC
    isplitl [R100]; · iexact R100
    isplitl [R110]; · iexact R110
    isplitl [R1064]; · iexact R1064
    iexact R1164
  isplitl [P4]
  · iexact P4
  isplitl [P5]
  · iexact P5
  isplitl [P6]
  · iexact P6
  isplitl [P7]
  · iexact P7
  isplitl [P8]
  · iexact P8
  isplitl [P9]
  · iexact P9
  isplitl [P10]
  · iexact P10
  isplitl [P11]
  · iexact P11
  isplitl [P12]
  · iexact P12
  isplitl [P13]
  · iexact P13
  isplitl [P14]
  · iexact P14
  isplitl [P15]
  · iexact P15
  isplitl [P24]
  · iexact P24
  isplitl [P25]
  · iexact P25
  isplitl [P26]
  · iexact P26
  isplitl [P27]
  · iexact P27
  isplitl [PB]
  · iexact PB
  isplitl [K]
  · iexact K
  iexact V

set_option maxHeartbeats 2000000 in
/-- Device 2's share. -/
theorem deal_spec2 (K : GSem nD τ sig → ℕ) : iprop(ctx m K 2 ∗ dealt m 2) ⊢ (iprop(specA m 2 ∗ keepS m 2) : sProp 𝕄) := by
  unfold dealt PS TS CS specA keepS
  iintro ⟨#HC, ⟨P4, P5, P6, P7, P8, P9, P10, P11, P12, P13, P14, P15, P16, P17, P18, P19, P20, P21, P22, P23, P24, P25, P26, P27⟩, -, ⟨C16, C18, C17, C19⟩, PB, TB, ⟨S00, S01, S10, S11, S20, S21⟩, ⟨R000, R0064, R010, R0164, R100, R1064, R110, R1164⟩, K, V⟩
  isplitl [S00 S01 S10 S11 R000 R010 R0064 R0164 R100 R110 R1064 R1164 TB C16 P16 C18 P18 C17 P17 C19 P19]
  · isplitl [S00 S01 S10 S11 R000 R010 R0064 R0164 R100 R110 R1064 R1164]
    · iapply (show iprop(slotF 2 0 0 16 ∗ slotF 2 0 1 17 ∗ slotF 2 1 0 18 ∗ slotF 2 1 1 19 ∗ chunks0 2 ∗ chunks1 2) ⊢ (barPay 2 : sProp 𝕄) from Entails.refl _)
      isplitl [S00]
      · iapply (slotF_of m K 2 0 0 16 (by decide) _)
        isplitr; · iexact HC
        iexact S00
      isplitl [S01]
      · iapply (slotF_of m K 2 0 1 17 (by decide) _)
        isplitr; · iexact HC
        iexact S01
      isplitl [S10]
      · iapply (slotF_of m K 2 1 0 18 (by decide) _)
        isplitr; · iexact HC
        iexact S10
      isplitl [S11]
      · iapply (slotF_of m K 2 1 1 19 (by decide) _)
        isplitr; · iexact HC
        iexact S11
      isplitl [R000 R010 R0064 R0164]
      · iapply (chunks0_of m K 2)
        isplitr; · iexact HC
        isplitl [R000]; · iexact R000
        isplitl [R010]; · iexact R010
        isplitl [R0064]; · iexact R0064
        iexact R0164
      iapply (chunks1_of m K 2)
      isplitr; · iexact HC
      isplitl [R100]; · iexact R100
      isplitl [R110]; · iexact R110
      isplitl [R1064]; · iexact R1064
      iexact R1164
    isplitl [TB]
    · iexact TB
    isplitl [C16 P16]
    · unfold wt
      isplitl [C16]; · iexact C16
      iexact P16
    isplitl [C18 P18]
    · unfold wt
      isplitl [C18]; · iexact C18
      iexact P18
    isplitl [C17 P17]
    · unfold wt
      isplitl [C17]; · iexact C17
      iexact P17
    unfold wt
    isplitl [C19]; · iexact C19
    iexact P19
  isplitl [S20]
  · iexact S20
  isplitl [S21]
  · iexact S21
  isplitl [P4]
  · iexact P4
  isplitl [P5]
  · iexact P5
  isplitl [P6]
  · iexact P6
  isplitl [P7]
  · iexact P7
  isplitl [P8]
  · iexact P8
  isplitl [P9]
  · iexact P9
  isplitl [P10]
  · iexact P10
  isplitl [P11]
  · iexact P11
  isplitl [P12]
  · iexact P12
  isplitl [P13]
  · iexact P13
  isplitl [P14]
  · iexact P14
  isplitl [P15]
  · iexact P15
  isplitl [P20]
  · iexact P20
  isplitl [P21]
  · iexact P21
  isplitl [P22]
  · iexact P22
  isplitl [P23]
  · iexact P23
  isplitl [P24]
  · iexact P24
  isplitl [P25]
  · iexact P25
  isplitl [P26]
  · iexact P26
  isplitl [P27]
  · iexact P27
  isplitl [PB]
  · iexact PB
  isplitl [K]
  · iexact K
  iexact V

set_option maxHeartbeats 2000000 in
/-- Device 3's share. -/
theorem deal_spec3 (K : GSem nD τ sig → ℕ) : iprop(ctx m K 3 ∗ dealt m 3) ⊢ (iprop(specA m 3 ∗ keepS m 3) : sProp 𝕄) := by
  unfold dealt PS TS CS specA keepS
  iintro ⟨#HC, ⟨P4, P5, P6, P7, P8, P9, P10, P11, P12, P13, P14, P15, P16, P17, P18, P19, P20, P21, P22, P23, P24, P25, P26, P27⟩, ⟨T3_22, T3_23, T2_18, T2_19⟩, ⟨C20, C21, C16, C18, C17, C19⟩, PB, TB, ⟨S00, S01, S10, S11, S20, S21⟩, ⟨R000, R0064, R010, R0164, R100, R1064, R110, R1164⟩, K, V⟩
  isplitl [S00 S01 S10 S11 S20 S21 R100 R110 R1064 R1164 TB T3_22 P22 T2_18 T3_23 P23 T2_19 C20 P20 C21 P21 C16 P16 C18 P18 C17 P17 C19 P19 R000 R010 R0064 R0164]
  · isplitl [S00 S01 S10 S11 S20 S21 R100 R110 R1064 R1164]
    · iapply (show iprop(slotF 3 0 0 16 ∗ slotF 3 0 1 17 ∗ slotF 3 1 0 18 ∗ slotF 3 1 1 19 ∗ slotF 3 2 0 20 ∗ slotF 3 2 1 21 ∗ chunks1 3) ⊢ (barPay 3 : sProp 𝕄) from Entails.refl _)
      isplitl [S00]
      · iapply (slotF_of m K 3 0 0 16 (by decide) _)
        isplitr; · iexact HC
        iexact S00
      isplitl [S01]
      · iapply (slotF_of m K 3 0 1 17 (by decide) _)
        isplitr; · iexact HC
        iexact S01
      isplitl [S10]
      · iapply (slotF_of m K 3 1 0 18 (by decide) _)
        isplitr; · iexact HC
        iexact S10
      isplitl [S11]
      · iapply (slotF_of m K 3 1 1 19 (by decide) _)
        isplitr; · iexact HC
        iexact S11
      isplitl [S20]
      · iapply (slotF_of m K 3 2 0 20 (by decide) _)
        isplitr; · iexact HC
        iexact S20
      isplitl [S21]
      · iapply (slotF_of m K 3 2 1 21 (by decide) _)
        isplitr; · iexact HC
        iexact S21
      iapply (chunks1_of m K 3)
      isplitr; · iexact HC
      isplitl [R100]; · iexact R100
      isplitl [R110]; · iexact R110
      isplitl [R1064]; · iexact R1064
      iexact R1164
    isplitl [TB]
    · iexact TB
    isplitl [T3_22 P22 T2_18]
    · unfold snd
      isplitl [T3_22]; · iexact T3_22
      isplitl [P22]; · iexact P22
      iexact T2_18
    isplitl [T3_23 P23 T2_19]
    · unfold snd
      isplitl [T3_23]; · iexact T3_23
      isplitl [P23]; · iexact P23
      iexact T2_19
    isplitl [C20 P20]
    · unfold wt
      isplitl [C20]; · iexact C20
      iexact P20
    isplitl [C21 P21]
    · unfold wt
      isplitl [C21]; · iexact C21
      iexact P21
    isplitl [C16 P16]
    · unfold wt
      isplitl [C16]; · iexact C16
      iexact P16
    isplitl [C18 P18]
    · unfold wt
      isplitl [C18]; · iexact C18
      iexact P18
    isplitl [C17 P17]
    · unfold wt
      isplitl [C17]; · iexact C17
      iexact P17
    isplitl [C19 P19]
    · unfold wt
      isplitl [C19]; · iexact C19
      iexact P19
    iapply (chunks0_of m K 3)
    isplitr; · iexact HC
    isplitl [R000]; · iexact R000
    isplitl [R010]; · iexact R010
    isplitl [R0064]; · iexact R0064
    iexact R0164
  isplitl [P4]
  · iexact P4
  isplitl [P5]
  · iexact P5
  isplitl [P6]
  · iexact P6
  isplitl [P7]
  · iexact P7
  isplitl [P8]
  · iexact P8
  isplitl [P9]
  · iexact P9
  isplitl [P10]
  · iexact P10
  isplitl [P11]
  · iexact P11
  isplitl [P12]
  · iexact P12
  isplitl [P13]
  · iexact P13
  isplitl [P14]
  · iexact P14
  isplitl [P15]
  · iexact P15
  isplitl [P24]
  · iexact P24
  isplitl [P25]
  · iexact P25
  isplitl [P26]
  · iexact P26
  isplitl [P27]
  · iexact P27
  isplitl [PB]
  · iexact PB
  isplitl [K]
  · iexact K
  iexact V

/-- What a device has over at the end. -/
def over (d : Dev nD) : sProp 𝕄 := iprop(FS m d ∗ finB m d ∗ pcE d (slotM 2 0) ∗ pcE d (slotM 2 1) ∗ (((d : Dev nD) : Thread nD τ).loc main_v2 ↦{fullShare} KTa m d) ∗ (((d : Dev nD) : Thread nD τ).loc main_v4 ↦{fullShare} VTa m d))
/-- A slot with known contents is a slot with some contents. -/
theorem slotP_E (d : Dev nD) (j c : ℕ) (h) : slotP m d j c h ⊢ (pcE d (slotM j c h) : sProp 𝕄) := by
  unfold slotP; exact pc_pcE d _ _

set_option maxHeartbeats 2000000 in
/-- Device 0's share, at the end. -/
theorem gather_spec0 : iprop(lateE m 0 ∗ keepS m 0) ⊢ (over m 0 : sProp 𝕄) := by
  unfold lateE keepS over FS
  iintro ⟨⟨K0, K2, K4, K6, K8, K10, K12, K14, V0, V2, V4, V6, V8, V10, V12, V14, P4, P5, P6, P7, P8, P9, P10, P11, P12, P13, P14, P15, P24, P25, P26, P27, PB⟩, S20, S21, Q16, Q17, Q18, Q19, Q20, Q21, Q22, Q23⟩
  isplitl [P4 P5 P6 P7 P8 P9 P10 P11 P12 P13 P14 P15 Q16 Q17 Q18 Q19 Q20 Q21 Q22 Q23 P24 P25 P26 P27]
  · isplitl [P4]
    · iexact P4
    isplitl [P5]
    · iexact P5
    isplitl [P6]
    · iexact P6
    isplitl [P7]
    · iexact P7
    isplitl [P8]
    · iexact P8
    isplitl [P9]
    · iexact P9
    isplitl [P10]
    · iexact P10
    isplitl [P11]
    · iexact P11
    isplitl [P12]
    · iexact P12
    isplitl [P13]
    · iexact P13
    isplitl [P14]
    · iexact P14
    isplitl [P15]
    · iexact P15
    isplitl [Q16]
    · iapply (fin_idle m 0 16 rfl); iexact Q16
    isplitl [Q17]
    · iapply (fin_idle m 0 17 rfl); iexact Q17
    isplitl [Q18]
    · iapply (fin_idle m 0 18 rfl); iexact Q18
    isplitl [Q19]
    · iapply (fin_idle m 0 19 rfl); iexact Q19
    isplitl [Q20]
    · iapply (fin_idle m 0 20 rfl); iexact Q20
    isplitl [Q21]
    · iapply (fin_idle m 0 21 rfl); iexact Q21
    isplitl [Q22]
    · iapply (fin_idle m 0 22 rfl); iexact Q22
    isplitl [Q23]
    · iapply (fin_idle m 0 23 rfl); iexact Q23
    isplitl [P24]
    · iexact P24
    isplitl [P25]
    · iexact P25
    isplitl [P26]
    · iexact P26
    iexact P27
  isplitl [PB]
  · iapply (finB_later m); iexact PB
  isplitl [S20]
  · iexact S20
  isplitl [S21]
  · iexact S21
  isplitl [K0 K2 K4 K6 K8 K10 K12 K14]
  · iapply (Entails.of_eq (kts_split m 0).symm)
    isplitl [K0]; · iexact K0
    isplitl [K2]; · iexact K2
    isplitl [K4]; · iexact K4
    isplitl [K6]; · iexact K6
    isplitl [K8]; · iexact K8
    isplitl [K10]; · iexact K10
    isplitl [K12]; · iexact K12
    iexact K14
  iapply (Entails.of_eq (vts_split m 0).symm)
  isplitl [V0]; · iexact V0
  isplitl [V2]; · iexact V2
  isplitl [V4]; · iexact V4
  isplitl [V6]; · iexact V6
  isplitl [V8]; · iexact V8
  isplitl [V10]; · iexact V10
  isplitl [V12]; · iexact V12
  iexact V14

set_option maxHeartbeats 2000000 in
/-- Device 1's share, at the end. -/
theorem gather_spec1 : iprop(lateE m 1 ∗ keepS m 1) ⊢ (over m 1 : sProp 𝕄) := by
  unfold lateE keepS over FS
  iintro ⟨⟨S20, S21, P16, P17, P18, P19, P20, P21, P22, P23⟩, Q4, Q5, Q6, Q7, Q8, Q9, Q10, Q11, Q12, Q13, Q14, Q15, Q24, Q25, Q26, Q27, PB, K, V⟩
  isplitl [Q4 Q5 Q6 Q7 Q8 Q9 Q10 Q11 Q12 Q13 Q14 Q15 P16 P17 P18 P19 P20 P21 P22 P23 Q24 Q25 Q26 Q27]
  · isplitl [Q4]
    · iapply (fin_idle m 1 4 rfl); iexact Q4
    isplitl [Q5]
    · iapply (fin_idle m 1 5 rfl); iexact Q5
    isplitl [Q6]
    · iapply (fin_idle m 1 6 rfl); iexact Q6
    isplitl [Q7]
    · iapply (fin_idle m 1 7 rfl); iexact Q7
    isplitl [Q8]
    · iapply (fin_idle m 1 8 rfl); iexact Q8
    isplitl [Q9]
    · iapply (fin_idle m 1 9 rfl); iexact Q9
    isplitl [Q10]
    · iapply (fin_idle m 1 10 rfl); iexact Q10
    isplitl [Q11]
    · iapply (fin_idle m 1 11 rfl); iexact Q11
    isplitl [Q12]
    · iapply (fin_idle m 1 12 rfl); iexact Q12
    isplitl [Q13]
    · iapply (fin_idle m 1 13 rfl); iexact Q13
    isplitl [Q14]
    · iapply (fin_idle m 1 14 rfl); iexact Q14
    isplitl [Q15]
    · iapply (fin_idle m 1 15 rfl); iexact Q15
    isplitl [P16]
    · iexact P16
    isplitl [P17]
    · iexact P17
    isplitl [P18]
    · iexact P18
    isplitl [P19]
    · iexact P19
    isplitl [P20]
    · iexact P20
    isplitl [P21]
    · iexact P21
    isplitl [P22]
    · iexact P22
    isplitl [P23]
    · iexact P23
    isplitl [Q24]
    · iapply (fin_idle m 1 24 rfl); iexact Q24
    isplitl [Q25]
    · iapply (fin_idle m 1 25 rfl); iexact Q25
    isplitl [Q26]
    · iapply (fin_idle m 1 26 rfl); iexact Q26
    iapply (fin_idle m 1 27 rfl); iexact Q27
  isplitl [PB]
  · iapply (finB_idle m 1 (by decide)); iexact PB
  isplitl [S20]
  · iapply (slotP_E m 1 2 0 _); iexact S20
  isplitl [S21]
  · iapply (slotP_E m 1 2 1 _); iexact S21
  isplitl [K]
  · iexact K
  iexact V

set_option maxHeartbeats 2000000 in
/-- Device 2's share, at the end. -/
theorem gather_spec2 : iprop(lateE m 2 ∗ keepS m 2) ⊢ (over m 2 : sProp 𝕄) := by
  unfold lateE keepS over FS
  iintro ⟨⟨P16, P17, P18, P19⟩, S20, S21, Q4, Q5, Q6, Q7, Q8, Q9, Q10, Q11, Q12, Q13, Q14, Q15, Q20, Q21, Q22, Q23, Q24, Q25, Q26, Q27, PB, K, V⟩
  isplitl [Q4 Q5 Q6 Q7 Q8 Q9 Q10 Q11 Q12 Q13 Q14 Q15 P16 P17 P18 P19 Q20 Q21 Q22 Q23 Q24 Q25 Q26 Q27]
  · isplitl [Q4]
    · iapply (fin_idle m 2 4 rfl); iexact Q4
    isplitl [Q5]
    · iapply (fin_idle m 2 5 rfl); iexact Q5
    isplitl [Q6]
    · iapply (fin_idle m 2 6 rfl); iexact Q6
    isplitl [Q7]
    · iapply (fin_idle m 2 7 rfl); iexact Q7
    isplitl [Q8]
    · iapply (fin_idle m 2 8 rfl); iexact Q8
    isplitl [Q9]
    · iapply (fin_idle m 2 9 rfl); iexact Q9
    isplitl [Q10]
    · iapply (fin_idle m 2 10 rfl); iexact Q10
    isplitl [Q11]
    · iapply (fin_idle m 2 11 rfl); iexact Q11
    isplitl [Q12]
    · iapply (fin_idle m 2 12 rfl); iexact Q12
    isplitl [Q13]
    · iapply (fin_idle m 2 13 rfl); iexact Q13
    isplitl [Q14]
    · iapply (fin_idle m 2 14 rfl); iexact Q14
    isplitl [Q15]
    · iapply (fin_idle m 2 15 rfl); iexact Q15
    isplitl [P16]
    · iexact P16
    isplitl [P17]
    · iexact P17
    isplitl [P18]
    · iexact P18
    isplitl [P19]
    · iexact P19
    isplitl [Q20]
    · iapply (fin_idle m 2 20 rfl); iexact Q20
    isplitl [Q21]
    · iapply (fin_idle m 2 21 rfl); iexact Q21
    isplitl [Q22]
    · iapply (fin_idle m 2 22 rfl); iexact Q22
    isplitl [Q23]
    · iapply (fin_idle m 2 23 rfl); iexact Q23
    isplitl [Q24]
    · iapply (fin_idle m 2 24 rfl); iexact Q24
    isplitl [Q25]
    · iapply (fin_idle m 2 25 rfl); iexact Q25
    isplitl [Q26]
    · iapply (fin_idle m 2 26 rfl); iexact Q26
    iapply (fin_idle m 2 27 rfl); iexact Q27
  isplitl [PB]
  · iapply (finB_idle m 2 (by decide)); iexact PB
  isplitl [S20]
  · iexact S20
  isplitl [S21]
  · iexact S21
  isplitl [K]
  · iexact K
  iexact V

set_option maxHeartbeats 2000000 in
/-- Device 3's share, at the end. -/
theorem gather_spec3 : iprop(lateE m 3 ∗ keepS m 3) ⊢ (over m 3 : sProp 𝕄) := by
  unfold lateE keepS over FS
  iintro ⟨⟨S20, S21, P16, P17, P18, P19, P20, P21, P22, P23⟩, Q4, Q5, Q6, Q7, Q8, Q9, Q10, Q11, Q12, Q13, Q14, Q15, Q24, Q25, Q26, Q27, PB, K, V⟩
  isplitl [Q4 Q5 Q6 Q7 Q8 Q9 Q10 Q11 Q12 Q13 Q14 Q15 P16 P17 P18 P19 P20 P21 P22 P23 Q24 Q25 Q26 Q27]
  · isplitl [Q4]
    · iapply (fin_idle m 3 4 rfl); iexact Q4
    isplitl [Q5]
    · iapply (fin_idle m 3 5 rfl); iexact Q5
    isplitl [Q6]
    · iapply (fin_idle m 3 6 rfl); iexact Q6
    isplitl [Q7]
    · iapply (fin_idle m 3 7 rfl); iexact Q7
    isplitl [Q8]
    · iapply (fin_idle m 3 8 rfl); iexact Q8
    isplitl [Q9]
    · iapply (fin_idle m 3 9 rfl); iexact Q9
    isplitl [Q10]
    · iapply (fin_idle m 3 10 rfl); iexact Q10
    isplitl [Q11]
    · iapply (fin_idle m 3 11 rfl); iexact Q11
    isplitl [Q12]
    · iapply (fin_idle m 3 12 rfl); iexact Q12
    isplitl [Q13]
    · iapply (fin_idle m 3 13 rfl); iexact Q13
    isplitl [Q14]
    · iapply (fin_idle m 3 14 rfl); iexact Q14
    isplitl [Q15]
    · iapply (fin_idle m 3 15 rfl); iexact Q15
    isplitl [P16]
    · iexact P16
    isplitl [P17]
    · iexact P17
    isplitl [P18]
    · iexact P18
    isplitl [P19]
    · iexact P19
    isplitl [P20]
    · iexact P20
    isplitl [P21]
    · iexact P21
    isplitl [P22]
    · iexact P22
    isplitl [P23]
    · iexact P23
    isplitl [Q24]
    · iapply (fin_idle m 3 24 rfl); iexact Q24
    isplitl [Q25]
    · iapply (fin_idle m 3 25 rfl); iexact Q25
    isplitl [Q26]
    · iapply (fin_idle m 3 26 rfl); iexact Q26
    iapply (fin_idle m 3 27 rfl); iexact Q27
  isplitl [PB]
  · iapply (finB_idle m 3 (by decide)); iexact PB
  isplitl [S20]
  · iapply (slotP_E m 3 2 0 _); iexact S20
  isplitl [S21]
  · iapply (slotP_E m 3 2 1 _); iexact S21
  isplitl [K]
  · iexact K
  iexact V

/-- Every device's share. -/
theorem deal_spec (K : GSem nD τ sig → ℕ) : ∀ d : Dev nD, iprop(ctx m K d ∗ dealt m d) ⊢ (iprop(specA m d ∗ keepS m d) : sProp 𝕄)
  | 0 => deal_spec0 m K
  | 1 => deal_spec1 m K
  | 2 => deal_spec2 m K
  | 3 => deal_spec3 m K
/-- Every device's share, at the end. -/
theorem gather_spec : ∀ d : Dev nD, iprop(lateE m d ∗ keepS m d) ⊢ (over m d : sProp 𝕄)
  | 0 => gather_spec0 m
  | 1 => gather_spec1 m
  | 2 => gather_spec2 m
  | 3 => gather_spec3 m

end Cert.KernelIdeal.Attn
end
-- ==== Proof.KernelIdeal.Region.lean ====
/- The region: what it is entered with, what each device's body needs of it, and what it is left with. -/
module

public import proofs.«01_k».proof.Proof.KernelIdeal.Deal
public import proofs.«01_k».proof.Proof.Gen.KernelIdeal.Points

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-! ## What the buffers hold -/

/-- What a device's buffers hold at launch. -/
def V₀ (c : Dev nD) : Valuation τ sig (Elt F) := fun b => m (c, b)
/-- What they hold when the region is entered. -/
def V₁ (c : Dev nD) : Valuation τ sig (Elt F) := StableHlo.after hostOps0 (V₀ m c)
/-- What they hold once the region is left. -/
def V₂ (c : Dev nD) : Valuation τ sig (Elt F) := Function.update (V₁ m c) (Proc.devRef .tc main_v5) (O2b m c)

/-- The buffers no region scopes. -/
abbrev bufs : Finset (DevRef τ sig) := Pipeline.ucRefs τ sig
/-- Those among them that are not the result. -/
def rs : Finset (DevRef τ sig) := bufs.erase (Proc.devRef .tc main_v5)

/-- They are the arguments and the host operations' results. -/
theorem held_rs (c : Dev nD) (W : Valuation τ sig (Elt F)) : (StableHlo.held (c : Thread nD τ) rs W : sProp 𝕄) = iprop(((((c : Dev nD) : Thread nD τ).loc main_arg0) ↦{fullShare} W (Proc.devRef .tc main_arg0)) ∗ ((((c : Dev nD) : Thread nD τ).loc main_arg1) ↦{fullShare} W (Proc.devRef .tc main_arg1)) ∗ ((((c : Dev nD) : Thread nD τ).loc main_arg2) ↦{fullShare} W (Proc.devRef .tc main_arg2)) ∗ ((((c : Dev nD) : Thread nD τ).loc main_arg3) ↦{fullShare} W (Proc.devRef .tc main_arg3)) ∗ ((((c : Dev nD) : Thread nD τ).loc main_arg4) ↦{fullShare} W (Proc.devRef .tc main_arg4)) ∗ ((((c : Dev nD) : Thread nD τ).loc main_v1) ↦{fullShare} W (Proc.devRef .tc main_v1)) ∗ ((((c : Dev nD) : Thread nD τ).loc main_v2) ↦{fullShare} W (Proc.devRef .tc main_v2)) ∗ ((((c : Dev nD) : Thread nD τ).loc main_v3) ↦{fullShare} W (Proc.devRef .tc main_v3)) ∗ ((((c : Dev nD) : Thread nD τ).loc main_v4) ↦{fullShare} W (Proc.devRef .tc main_v4))) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v1, Proc.devRef .tc main_v2, Proc.devRef .tc main_v3, Proc.devRef .tc main_v4] (by decide) (by decide)]
  rfl

/-- The result's buffer changes alone. -/
theorem V₂_ne (c : Dev nD) (b : Ref sig .tc) (h : b ≠ main_v5) : V₂ m c (Proc.devRef .tc b) = V₁ m c (Proc.devRef .tc b) :=
  Function.update_of_ne (StableHlo.devRef_ne_of_ne h) _ _
/-- What the result's buffer ends up holding. -/
theorem V₂_out (c : Dev nD) : V₂ m c (Proc.devRef .tc main_v5) = O2b m c := Function.update_self _ _ _

/-- A whole buffer as its memref's elements. -/
theorem whole_pc (c : Dev nD) (b : Ref sig .tc) (f : Buf (Elt F) ((c : Thread nD τ).loc b)) :
    (pc c (Memref.whole b) f : sProp 𝕄) = (((c : Thread nD τ).loc b) ↦{fullShare} f) := by
  show (((c : Thread nD τ).loc b) ↦[(View.whole b).set]{fullShare} f : sProp 𝕄) = _
  rw [View.set_whole]

/-- A whole buffer at some contents. -/
theorem whole_pcE (c : Dev nD) (b : Ref sig .tc) : (pcE c (Memref.whole b) : sProp 𝕄) = iprop(∃ f : Buf (Elt F) ((c : Thread nD τ).loc b), ((c : Thread nD τ).loc b) ↦{fullShare} f) := by
  show iprop(∃ f : Buf (Elt F) ((c : Thread nD τ).loc b), ((c : Thread nD τ).loc b) ↦[(View.whole b).set]{fullShare} f) = _
  rw [View.set_whole]

/-! ## What a device is dealt -/

/-- The duties a device pays, the credits it waits with, and its barrier's position. -/
def toksOf (c : Dev nD) : sProp 𝕄 :=
  iprop(TG c ∗ TS c ∗ dutyTok ER (barC 0) 0 (c : Fin 4) ∗ CG c ∗ CS c ∗ atPos ER (barC c) 0 ∅ 0)
/-- What the launch keeps for the region. -/
def Tk (c : Dev nD) : sProp 𝕄 :=
  iprop(∃ K, invs m K ∗ reached ER (barC 0) 0 ∗ (bigSep Finset.univ fun k : Fin 43 => openTok ER (cell c k.succ)) ∗ toksOf c)
/-- What it becomes once the device has opened its cells. -/
def Xk (c : Dev nD) : sProp 𝕄 :=
  iprop(∃ K, ctx m K c ∗ (bigSep Finset.univ fun k : Fin 43 => atPos ER (cell c k.succ) 0 ∅ 0) ∗ toksOf c)
/-- What the region leaves of it. -/
def Yk (c : Dev nD) : sProp 𝕄 := semVal (barC c) 0

/-- The device opens its cells. -/
theorem hopen (c : Dev nD) : iprop(Tk m c ∗ Pipeline.ownSems0 osem c ∗ levAts L lv) ⊢ (|={Set.univ}=> Xk m c : sProp 𝕄) := by
  unfold Tk Xk Pipeline.ownSems0
  iintro ⟨⟨%K, #HI, #HR, Ho, HT⟩, Hs, #HL⟩
  imod (open_all m K c) $$ [Ho Hs] with ⟨HP, #HRs⟩
  · isplitr; · iexact HI
    isplitl [Ho]; · iexact Ho
    iexact Hs
  imodintro
  iexists K
  isplitr
  · unfold invs ctx
    icases HI with ⟨HI1, HI2⟩
    isplitr; · iexact HI1
    isplitr; · iexact HI2
    isplitr; · iexact HL
    isplitr; · iexact HRs
    iexact HR
  isplitl [HP]; · iexact HP
  iexact HT

/-! ## Into the body and out of it -/

/-- The buffers the body leaves alone. -/
def keepH (c : Dev nD) : sProp 𝕄 := iprop(((((c : Dev nD) : Thread nD τ).loc main_arg2) ↦{fullShare} V₁ m c (Proc.devRef .tc main_arg2)) ∗ ((((c : Dev nD) : Thread nD τ).loc main_arg3) ↦{fullShare} V₁ m c (Proc.devRef .tc main_arg3)) ∗ ((((c : Dev nD) : Thread nD τ).loc main_v1) ↦{fullShare} V₁ m c (Proc.devRef .tc main_v1)) ∗ ((((c : Dev nD) : Thread nD τ).loc main_v3) ↦{fullShare} V₁ m c (Proc.devRef .tc main_v3)))

/-- The rest of what the body starts from. -/
theorem moreA_intro (c : Dev nD) (a5 : Memref sig .tc .vmem S2x128x512 .f32) :
    iprop(pcE c (Memref.whole cc0_scratch5) ∗ pcE c a5 ∗ pcE c (sendM 0 0 0) ∗ pcE c (sendM 0 1 0) ∗ pcE c (sendM 0 0 64) ∗ pcE c (sendM 0 1 64) ∗ pcE c (sendM 1 0 0) ∗ pcE c (sendM 1 1 0) ∗ pcE c (sendM 1 0 64) ∗ pcE c (sendM 1 1 64) ∗ MG c) ⊢ (moreA c a5 : sProp 𝕄) := by
  unfold moreA MG; exact Entails.refl _

set_option maxHeartbeats 1000000 in
/-- What the body starts from, made of what the region holds. -/
theorem enter (c : Dev nD) (K : GSem nD τ sig → ℕ) (a5 : Memref sig .tc .vmem S2x128x512 .f32) :
    iprop(ctx m K c ∗ (bigSep Finset.univ fun k : Fin 43 => atPos ER (cell c k.succ) 0 ∅ 0) ∗ toksOf c
      ∗ Pipeline.scopedRest spec0 c ∗ StableHlo.held (c : Thread nD τ) rs (V₁ m c) ∗ pcE c a5)
    ⊢ (iprop(startA m c ∗ moreA c a5 ∗ keepS m c ∗ keepH m c) : sProp 𝕄) := by
  unfold toksOf keepH startA
  rw [scopedRest0_eq, held_rs]
  rw [whole_pc c main_arg0, whole_pc c main_arg1, whole_pc c main_arg4, whole_pcE, whole_pcE, whole_pcE, whole_pcE]
  iintro ⟨#HC, HP, ⟨TG, TS, TB, CG, CS, PB⟩, ⟨B0, B1, B2, B3, B4, B5, B6, B7⟩, ⟨A0, A1, A2, A3, A4, W1, W2, W3, W4⟩, O⟩
  ihave HP := (pos_dev c) $$ HP
  icases HP with ⟨PS, PG⟩
  ihave G := (deal_gen c) $$ [PG TG CG]
  · isplitl [PG]; · iexact PG
    isplitl [TG]; · iexact TG
    iexact CG
  icases G with ⟨⟨I1, I2, I3⟩, MG⟩
  ihave SL := (slots_split c) $$ [B3]
  · unfold bufE; iexact B3
  ihave CM := (comms_split c) $$ [B6]
  · unfold bufE; iexact B6
  ihave SB := (sends_split c) $$ [B7]
  · unfold bufE; iexact B7
  icases SB with ⟨N000, N0064, N010, N0164, N100, N1064, N110, N1164⟩
  ihave D := (deal_spec m K c) $$ [PS TS CS PB TB SL CM W2 W4]
  · isplitr; · iexact HC
    unfold dealt
    isplitl [PS]; · iexact PS
    isplitl [TS]; · iexact TS
    isplitl [CS]; · iexact CS
    isplitl [PB]; · iexact PB
    isplitl [TB]; · iexact TB
    isplitl [SL]; · iexact SL
    isplitl [CM]; · iexact CM
    isplitl [W2]; · iexact W2
    iexact W4
  icases D with ⟨SA, KS⟩
  isplitl [A0 B0 A1 B1 A4 B2 B4 I1 I2 I3 SA]
  · isplitl [A0]; · iexact A0
    isplitl [B0]; · iexact B0
    isplitl [A1]; · iexact A1
    isplitl [B1]; · iexact B1
    isplitl [A4]; · iexact A4
    isplitl [B2]; · iexact B2
    isplitl [B4]; · iexact B4
    isplitl [I1]; · iexact I1
    isplitl [I2]; · iexact I2
    isplitl [I3]; · iexact I3
    iexact SA
  isplitl [B5 O MG N000 N0064 N010 N0164 N100 N1064 N110 N1164]
  · iapply (moreA_intro c a5)
    isplitl [B5]; · rw [whole_pcE]; iexact B5
    isplitl [O]; · iexact O
    isplitl [N000]; · iexact N000
    isplitl [N010]; · iexact N010
    isplitl [N0064]; · iexact N0064
    isplitl [N0164]; · iexact N0164
    isplitl [N100]; · iexact N100
    isplitl [N110]; · iexact N110
    isplitl [N1064]; · iexact N1064
    isplitl [N1164]; · iexact N1164
    iexact MG
  isplitl [KS]; · iexact KS
  isplitl [A2]; · iexact A2
  isplitl [A3]; · iexact A3
  isplitl [W1]; · iexact W1
  iexact W3

/-- A buffer at some contents. -/
theorem bufE_some (ℓ : Loc nD τ sig) : (bufE (F := F) ℓ : sProp 𝕄) ⊢ iprop(∃ f : Buf (Elt F) ℓ, ℓ ↦{fullShare} f) := Entails.refl _
/-- A chunk of the receive buffer at some contents. -/
theorem commP_E (d : Dev nD) (st b r : ℕ) (h) : commP m d st b r h ⊢ (pcE d (commM st b r h) : sProp 𝕄) := by
  unfold commP; exact pc_pcE d _ _
/-- A chunk of the send buffer at some contents. -/
theorem sendP_E (d : Dev nD) (st b r : ℕ) (h) : sendP m d st b r h ⊢ (pcE d (sendM st b r h) : sProp 𝕄) := by
  unfold sendP; exact pc_pcE d _ _
/-- The inputs, and their copies. -/
theorem inP_eq (c : Dev nD) : iprop(inP m c 1 ∗ inP m c 2 ∗ inP m c 3)
    ⊢ (iprop((((((c : Dev nD) : Thread nD τ).loc cc0_scratch0) ↦{fullShare} Xa m c) ∗ ((((c : Dev nD) : Thread nD τ).loc main_arg0) ↦{fullShare} Xa m c)) ∗ (((((c : Dev nD) : Thread nD τ).loc cc0_scratch1) ↦{fullShare} Wqa m c) ∗ ((((c : Dev nD) : Thread nD τ).loc main_arg1) ↦{fullShare} Wqa m c)) ∗ (((((c : Dev nD) : Thread nD τ).loc cc0_scratch2) ↦{fullShare} Woa m c) ∗ ((((c : Dev nD) : Thread nD τ).loc main_arg4) ↦{fullShare} Woa m c))) : sProp 𝕄) := by
  rw [← whole_pc c cc0_scratch0 (Xa m c), ← whole_pc c main_arg0 (Xa m c), ← whole_pc c cc0_scratch1 (Wqa m c), ← whole_pc c main_arg1 (Wqa m c), ← whole_pc c cc0_scratch2 (Woa m c), ← whole_pc c main_arg4 (Woa m c)]
  exact Entails.refl _

/-- The buffers the region does not change. -/
theorem held_V₂ (c : Dev nD) : (StableHlo.held (c : Thread nD τ) rs (V₂ m c) : sProp 𝕄) = StableHlo.held (c : Thread nD τ) rs (V₁ m c) := by
  unfold StableHlo.held
  exact bigSep_congr fun b hb => by rw [show V₂ m c b = V₁ m c b from Function.update_of_ne (Finset.ne_of_mem_erase hb) _ _]

set_option maxHeartbeats 1000000 in
/-- What the body ends with makes what the region is left with. -/
theorem leave (c : Dev nD) (a5 : Memref sig .tc .vmem S2x128x512 .f32) :
    iprop(endA m c a5 ∗ keepS m c ∗ keepH m c)
    ⊢ (iprop(Pipeline.scopedRest spec0 c ∗ StableHlo.held (c : Thread nD τ) rs (V₂ m c)
        ∗ (bigSep Finset.univ fun k : Fin 43 => fin m c k.succ) ∗ finB m c ∗ oE c a5 (O2b m c)) : sProp 𝕄) := by
  unfold endA keepH
  rw [scopedRest0_eq, held_V₂, held_rs]
  iintro ⟨⟨S00, S01, S10, S11, Q, X, I1, I2, I3, R000, R010, R0064, R0164, R100, R110, R1064, R1164, N000, N010, N0064, N0164, N100, N110, N1064, N1164, F1, F2, F3, F28, F29, F30, F31, F32, F33, F34, F35, F36, F37, F38, F39, F40, F41, F42, F43, O, LE⟩, KS, A2, A3, W1, W3⟩
  ihave OV := (gather_spec m c) $$ [LE KS]
  · isplitl [LE]; · iexact LE
    iexact KS
  unfold over
  icases OV with ⟨FS, FB, S20, S21, W2, W4⟩
  ihave II := (inP_eq m c) $$ [I1 I2 I3]
  · isplitl [I1]; · iexact I1
    isplitl [I2]; · iexact I2
    iexact I3
  icases II with ⟨⟨B0, A0⟩, ⟨B1, A1⟩, B2, A4⟩
  isplitl [B0 B1 B2 Q X S00 S01 S10 S11 S20 S21 R000 R010 R0064 R0164 R100 R110 R1064 R1164 N000 N010 N0064 N0164 N100 N110 N1064 N1164]
  · isplitl [B0]; · iexists _; iexact B0
    isplitl [B1]; · iexists _; iexact B1
    isplitl [B2]; · iexists _; iexact B2
    isplitl [S00 S01 S10 S11 S20 S21]
    · iapply (((slots_join c (KVb m c))).trans (bufE_some _))
      isplitl [S00]; · iapply (slotP_E m c 0 0 _); iexact S00
      isplitl [S01]; · iapply (slotP_E m c 0 1 _); iexact S01
      isplitl [S10]; · iapply (slotP_E m c 1 0 _); iexact S10
      isplitl [S11]; · iapply (slotP_E m c 1 1 _); iexact S11
      isplitl [S20]; · iexact S20
      iexact S21
    isplitl [Q]; · iexists _; rw [← whole_pc c cc0_scratch4 (Qb m c)]; iexact Q
    isplitl [X]; · iexists _; rw [← whole_pc c cc0_scratch5 (Ctxb m c)]; iexact X
    isplitl [R000 R010 R0064 R0164 R100 R110 R1064 R1164]
    · iapply (((comms_join c (CMb m c))).trans (bufE_some _))
      isplitl [R000]; · iapply (commP_E m c 0 0 0 _); iexact R000
      isplitl [R0064]; · iapply (commP_E m c 0 0 64 _); iexact R0064
      isplitl [R010]; · iapply (commP_E m c 0 1 0 _); iexact R010
      isplitl [R0164]; · iapply (commP_E m c 0 1 64 _); iexact R0164
      isplitl [R100]; · iapply (commP_E m c 1 0 0 _); iexact R100
      isplitl [R1064]; · iapply (commP_E m c 1 0 64 _); iexact R1064
      isplitl [R110]; · iapply (commP_E m c 1 1 0 _); iexact R110
      iapply (commP_E m c 1 1 64 _); iexact R1164
    iapply (((sends_join c (SBb m c))).trans (bufE_some _))
    isplitl [N000]; · iapply (sendP_E m c 0 0 0 _); iexact N000
    isplitl [N0064]; · iapply (sendP_E m c 0 0 64 _); iexact N0064
    isplitl [N010]; · iapply (sendP_E m c 0 1 0 _); iexact N010
    isplitl [N0164]; · iapply (sendP_E m c 0 1 64 _); iexact N0164
    isplitl [N100]; · iapply (sendP_E m c 1 0 0 _); iexact N100
    isplitl [N1064]; · iapply (sendP_E m c 1 0 64 _); iexact N1064
    isplitl [N110]; · iapply (sendP_E m c 1 1 0 _); iexact N110
    iapply (sendP_E m c 1 1 64 _); iexact N1164
  isplitl [A0 A1 A2 A3 A4 W1 W2 W3 W4]
  · isplitl [A0]; · iexact A0
    isplitl [A1]; · iexact A1
    isplitl [A2]; · iexact A2
    isplitl [A3]; · iexact A3
    isplitl [A4]; · iexact A4
    isplitl [W1]; · iexact W1
    isplitl [W2]; · iexact W2
    isplitl [W3]; · iexact W3
    iexact W4
  isplitl [FS F1 F2 F3 F28 F29 F30 F31 F32 F33 F34 F35 F36 F37 F38 F39 F40 F41 F42 F43]
  · iapply (fin_dev m c)
    isplitl [FS]; · iexact FS
    unfold FG
    isplitl [F1]; · iexact F1
    isplitl [F2]; · iexact F2
    isplitl [F3]; · iexact F3
    isplitl [F28]; · iexact F28
    isplitl [F29]; · iexact F29
    isplitl [F30]; · iexact F30
    isplitl [F31]; · iexact F31
    isplitl [F32]; · iexact F32
    isplitl [F33]; · iexact F33
    isplitl [F34]; · iexact F34
    isplitl [F35]; · iexact F35
    isplitl [F36]; · iexact F36
    isplitl [F37]; · iexact F37
    isplitl [F38]; · iexact F38
    isplitl [F39]; · iexact F39
    isplitl [F40]; · iexact F40
    isplitl [F41]; · iexact F41
    isplitl [F42]; · iexact F42
    iexact F43
  isplitl [FB]; · iexact FB
  iexact O

/-! ## The proof data and the body's obligation -/

/-- What the body is entered with. -/
def Pin (c : Dev nD) : sProp 𝕄 :=
  iprop(Pipeline.scopedRest spec0 c ∗ (∃ r, prngReg c r) ∗ StableHlo.held (c : Thread nD τ) rs (V₁ m c) ∗ Xk m c)
/-- What the body is left with. -/
def Pout (c : Dev nD) : sProp 𝕄 :=
  iprop(Pipeline.scopedRest spec0 c ∗ (∃ r, prngReg c r) ∗ StableHlo.held (c : Thread nD τ) rs (V₂ m c) ∗ Pipeline.ownSems0 osem c ∗ Yk c)

/-- The region's proof data: the body owes its debts before its one point, and nothing after. -/
def dat (c : Dev nD) : Dat τ (Elt F) Unit ℕ UU ℕ cfg0 c where
  A w := V m c (Pipeline.arrRef spec0 w)
  after w _ := match w with
    | 0 => O2b m c
    | ⟨_ + 1, h⟩ => absurd h (Nat.not_lt.2 (Nat.le_add_left _ _))
  Φ t := if t.val = 0 then Pin m c else Pout m c
  q _ := fullShare
  owed t := if t.val = 0 then due (dA c) else due []

/-- A device's debts are what its body is entered owing. -/
theorem owes_in (c : Dev nD) (t : Fin (cfg0.N + 1)) (l : List Debt) (h : (dat m c).owed t = due l) :
    ow c l ⊢ ((dat m c).owesAt () t : sProp 𝕄) := by
  unfold ow Dat.owesAt Pipeline.owesWithin Dat.bound
  rw [h, show (dat m c).recorded t = Set.univ from rfl]
  iintro ⟨%W, H⟩
  iexists W
  isplitr; · ipureintro; exact fun _ _ => Or.inl trivial
  iexact H
/-- What its body is entered owing are its debts. -/
theorem owes_out (c : Dev nD) (t : Fin (cfg0.N + 1)) (l : List Debt) (h : (dat m c).owed t = due l) :
    ((dat m c).owesAt () t : sProp 𝕄) ⊢ ow c l := by
  unfold ow Dat.owesAt Pipeline.owesWithin
  rw [h]
  iintro ⟨%W, -, H⟩
  iexists W
  iexact H

/-- The body's one point, entered. -/
theorem owed_first (c : Dev nD) : (dat m c).owed t0_0.castSucc = due (dA c) := rfl
/-- The body's one point, left. -/
theorem owed_last (c : Dev nD) : (dat m c).owed t0_0.succ = due [] := rfl

set_option maxHeartbeats 2000000 in
/-- The body's obligation. -/
theorem hbody (c : Dev nD) : BodyObligation (dat m c) (defs₀ (F := F)) 𝒱₀ () Set.univ := fun t => by
  obtain rfl := fin_N0 t
  rw [bigSep_W0, bigSep_W0]
  show iprop(Pin m c ∗ (dat m c).owesAt () t0_0.castSucc ∗ ∃ d, owns (c : Thread nD τ) (win0_0.stage (cfg0.slots t0_0 0)) fullShare ((dat m c).before 0 t0_0 d))
    ⊢ wp frame (wpE (defs₀ (F := F)) 𝒱₀ (c : Thread nD τ) none) Set.univ (bodyAt0 (F := F) t0_0) fun _ =>
      iprop(Pout m c ∗ (dat m c).owesAt () t0_0.succ ∗ owns (c : Thread nD τ) (win0_0.stage (cfg0.slots t0_0 0)) fullShare (O2b m c))
  unfold Pin Xk owns
  iintro ⟨⟨Hs, Hp, Hh, ⟨%K, #HC, HP, HT⟩⟩, HO, ⟨%d, %f, %hf, H5⟩⟩
  ihave HO := (owes_out m c _ _ (owed_first m c)) $$ HO
  ihave HE := (enter m c K (win0_0.stage (cfg0.slots t0_0 0))) $$ [HP HT Hs Hh H5]
  · isplitr; · iexact HC
    isplitl [HP]; · iexact HP
    isplitl [HT]; · iexact HT
    isplitl [Hs]; · iexact Hs
    isplitl [Hh]; · iexact Hh
    unfold pcE; iexists f; iexact H5
  icases HE with ⟨HA, HM, KS, KH⟩
  iapply (body m c K (win0_0.stage (cfg0.slots t0_0 0)) (hstage0_0 0) _)
  isplitr; · iexact HC
  isplitl [HA]; · iexact HA
  isplitl [HM]; · iexact HM
  isplitl [HO]; · iexact HO
  iintro ⟨HE, HO⟩
  rw [wp_ret]
  ihave HL := (leave m c _) $$ [HE KS KH]
  · isplitl [HE]; · iexact HE
    isplitl [KS]; · iexact KS
    iexact KH
  icases HL with ⟨Hs, Hh, HF, HB, H5⟩
  ihave #HI := (ctx_invs m K c) $$ HC
  imod (close_all m K c) $$ [HF] with HF
  · isplitr; · iexact HI
    iexact HF
  imod (close_bar m K c) $$ [HB] with HB
  · isplitr; · iexact HI
    iexact HB
  imodintro
  isplitl [Hs Hp Hh HF HB]
  · unfold Pout Yk Pipeline.ownSems0
    isplitl [Hs]; · iexact Hs
    isplitl [Hp]; · iexact Hp
    isplitl [Hh]; · iexact Hh
    isplitl [HF]; · iexact HF
    iexact HB
  isplitl [HO]; · iapply (owes_in m c _ _ (owed_last m c)); iexact HO
  unfold oE
  icases H5 with ⟨%g, %hg, H5⟩
  iexists g
  isplitr; · ipureintro; exact funext hg
  iexact H5

end Cert.KernelIdeal.Attn
end
-- ==== Proof.KernelIdeal.Launch.lean ====
/- The launch: the tokens and cells dealt to the devices, the region's record, and the run. -/
module

public import proofs.«01_k».proof.Proof.KernelIdeal.Region
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The region's record -/

/-- The pipeline prefetches nothing. -/
abbrev adm : (p : Fin 1) → (pcfgs (F := F) p).Adm := fun p => (cfgs p).toPCfg_adm
/-- The proof data of the one region. -/
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-- The region's array is the result's. -/
theorem arr_eq : Pipeline.arrRefs (τ := τ) (pcfgs (F := F) 0).spec = {Proc.devRef .tc main_v5} :=
  (by decide : Pipeline.arrRefs (τ := τ) spec0 = {Proc.devRef .tc main_v5})

/-- The result's buffer and the rest. -/
theorem held_all (c : Dev nD) (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) rs W) := by
  rw [arr_eq, StableHlo.held_sub_split (T := {Proc.devRef .tc main_v5}) (S := bufs) (c : Thread nD τ) (by decide) W, Finset.sdiff_singleton_eq_erase]
  rfl

/-- The result's buffer, at `W`. -/
theorem held_arr (c : Dev nD) (W : Valuation τ sig (Elt F)) : (StableHlo.held (c : Thread nD τ) (Pipeline.arrRefs (τ := τ) (pcfgs (F := F) 0).spec) W : sProp 𝕄)
    = (((c : Thread nD τ).loc main_v5) ↦{fullShare} W (Proc.devRef .tc main_v5)) := by
  rw [arr_eq]; unfold StableHlo.held; rw [BI.bigSep_singleton]

/-- The array at the end holds what the body left. -/
theorem arr_out (c : Dev nD) : (dat m c).arrAt 0 cfg0.N = V₂ m c (Proc.devRef .tc main_v5) := by
  rw [V₂_out]
  exact (dat m c).arrAt_eq_of_after_last 0 t0_0 (by decide +kernel) _ fun j => rfl

/-- Every debt of a device is above the staging's level. -/
theorem dA_above : ∀ c : Dev nD, above 0 ((dA c).map Prod.snd) = true := by decide
/-- The staging semaphores have level zero. -/
theorem stage_lv : ∀ (c : Dev nD) (s : Fin (win0_0.nbuf)), lv ((c.tc : Thread nD τ), SemLoc.dma (win0_0.sem s)) () ≤ 0 := by decide
/-- What the body owes lies above the pipeline's own waits. -/
theorem owed_pos (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then due (dA c) else due [] := rfl
  rw [e] at h
  split at h
  · exact due_pos 0 (dA c) (dA_above c) g i h
  · exact due_pos 0 [] rfl g i h

/-- The semaphores the region scopes beside its staging. -/
theorem own_sems : Pipeline.OwnSemFacts spec0 osem := by decide +kernel

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_sems
    rs rs (Finset.Subset.refl _) launch0.toP rfl (fun c => (hbody m c).loose)
    (fun _ => 0) (fun c => due (dA c)) (fun c => (zero_add (due (dA c))).symm) (fun _ => rfl) (fun _ => rfl) (fun _ w => match w with
      | 0 => rfl
      | ⟨_ + 1, h⟩ => absurd h (Nat.not_lt.2 (Nat.le_add_left _ _)))
    (V₁ m) (V₂ m) (fun _ b hb => absurd hb (by rw [Finset.sdiff_self]; exact Finset.notMem_empty b))
    (Tk m) Yk (Xk m) Yk (hopen m) (fun c => Entails.refl _) (fun c => Entails.refl _)
    (fun c => by iintro H; imodintro; iexact H)
    (fun _ => 0)
    ⟨fun c w s => by rw [L_tc]; exact Finset.mem_singleton_self _, fun c w s => by
      match w with
      | 0 => exact stage_lv c s
      | ⟨_ + 1, h⟩ => exact absurd h (Nat.not_lt.2 (Nat.le_add_left _ _)), fun c t g i h => owed_pos m c t g i h⟩
    (fun _ => iprop(emp))
    (fun c w => match w with
      | 0 => rfl
      | ⟨_ + 1, h⟩ => absurd h (Nat.not_lt.2 (Nat.le_add_left _ _)))
    (fun c w => match w with
      | 0 => arr_out m c
      | ⟨_ + 1, h⟩ => absurd h (Nat.not_lt.2 (Nat.le_add_left _ _)))

/-- What rides beside the buffers up to the region. -/
def R (c : Dev nD) : sProp 𝕄 := iprop((Tk m c ∗ ∃ r, prngReg c r) ∗ ow c (dA c))

/-- The host operations touch unscoped buffers. -/
theorem ops_sub : ∀ op ∈ (hostOps0 : List (HloOp τ sig (Elt F))), op.bufs ⊆ bufs := fun op h =>
  Pipeline.sub_ucRefs op (List.forall_iff_forall_mem.mp hostOps0_sub op h)
/-- The host operations. -/
def host : Pipeline.HostSeg (Name := ℕ) (U := UU) (pcfgs (F := F)) defs₀ 𝒱₀ L lv :=
  Pipeline.HostSeg.ofOps _ _ _ _ _ bufs hostOps0 ops_sub (fun op h => List.forall_iff_forall_mem.mp hostOps0_fresh op h) (V₀ m) (R m)

/-- The region is entered from what the host operations leave. -/
theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) rs (V₁ m c) ∗ emp) ∗ Tk m c ∗ ∃ Wd, owes (c : Thread nD τ) (0 + due (dA c)) Wd)
  rw [held_all, zero_add]
  unfold R ow
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

/-- What a device ends with. -/
def Tₙ (c : Dev nD) : sProp 𝕄 := iprop(StableHlo.held (c : Thread nD τ) bufs (V₂ m c) ∗ semVal (barC c) 0)

/-- What the region leaves. -/
theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) rs (V₂ m c) ∗ emp) ∗ Yk c ∗ ∃ Wd, owes (c : Thread nD τ) (0 : CellTallies nD τ sig Unit) Wd) ⊢ _
  unfold Tₙ Yk
  rw [held_all]
  iintro ⟨Ha, -, ⟨Hr, -⟩, Hb, HO⟩
  isplitr [HO]
  · isplitl [Ha Hr]
    · isplitl [Ha]; · iexact Ha
      iexact Hr
    iexact Hb
  iexact HO

/-- The program as its segments. -/
def segs : List (Pipeline.Seg (pcfgs (F := F)) adm (pdats m) () defs₀ 𝒱₀ L lv) := [.host (host m), .region (reg m)]
/-- The program is their run. -/
theorem main_eq (c : Dev nD) : main (F := F) c = Pipeline.Seg.run (segs m) := main_segs adm (pdats m) () 𝒱₀ L lv (host m) (reg m) rfl c

/-! ## The launch -/

/-- A device's barrier cell. -/
def barEmb : Dev nD ↪ GSem nD τ sig := ⟨fun c => barC c, fun _ _ h => congrArg (fun g : GSem nD τ sig => g.1.1) h⟩
/-- The DMA semaphores differ. -/
theorem osem_inj : Function.Injective osem := fun _ _ h => Fin.succ_injective _ (SemLoc.dma.inj h)
/-- A device's scoped cell. -/
def scEmb : Dev nD × Fin 43 ↪ GSem nD τ sig :=
  ⟨fun p => cell p.1 p.2.succ, fun _ _ h => Prod.ext (congrArg (fun g : GSem nD τ sig => g.1.1) h) (osem_inj (congrArg Prod.snd h))⟩
/-- The barrier cells. -/
abbrev barCells : Finset (GSem nD τ sig) := Finset.univ.map barEmb
/-- The scoped cells. -/
abbrev scCells : Finset (GSem nD τ sig) := Finset.univ.map scEmb
/-- The scoped cells' tokens. -/
def tokA : Dev nD × Fin 43 ↪ GSem nD τ sig × ℕ × Fin 4 :=
  ⟨fun p => (cell p.1 p.2.succ, 0, 0), fun _ _ h => scEmb.injective (congrArg Prod.fst h)⟩
/-- The barrier's tokens. -/
def tokB : Fin 4 ↪ GSem nD τ sig × ℕ × Fin 4 :=
  ⟨fun j => (barC 0, 0, j), fun _ _ h => congrArg (fun t : GSem nD τ sig × ℕ × Fin 4 => t.2.2) h⟩
/-- Every token. -/
def toks : Finset (GSem nD τ sig × ℕ × Fin 4) := Finset.univ.map tokA ∪ Finset.univ.map tokB

/-- No scoped cell is a barrier. -/
theorem ne_bar (c d : Dev nD) (k : Fin 44) : cell c k ≠ barC d := fun h => nomatch (congrArg Prod.snd h : SemLoc.dma k = SemLoc.reg barS)
/-- The two kinds of cell. -/
theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact ne_bar _ _ _ h
/-- The two kinds of token. -/
theorem disjoint_toks : Disjoint (Finset.univ.map tokA) (Finset.univ.map tokB) := by
  rw [Finset.disjoint_left]
  rintro g h₁ h₂
  obtain ⟨p, -, rfl⟩ := Finset.mem_map.mp h₁
  obtain ⟨j, -, h⟩ := Finset.mem_map.mp h₂
  exact ne_bar p.1 0 p.2.succ (congrArg Prod.fst h).symm

/-- The ghost state at launch. -/
def u₀ : UU :=
  (initOf (Pipeline.cells (Pipeline.pin (pcfgs (F := F)) adm) cellOf_inj) (Pipeline.launchToks (Pipeline.pin (pcfgs (F := F)) adm) cellOf_inj),
    launchOf barCells scCells toks)

/-- Something held by device `0` alone. -/
def at0 (X : sProp 𝕄) (c : Dev nD) : sProp 𝕄 := if c = 0 then X else iprop(emp)
/-- It is all there is. -/
theorem at0_all (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp
/-- The protocol's ghost state, kept by device `0` until all of them are there. -/
def G : Dev nD → sProp 𝕄 := at0 (BI.own (ER (launchOf barCells scCells toks)))

/-- The records. -/
def rec (κ : GSem nD τ sig → ℕ) : sProp 𝕄 := iprop(invs m κ ∗ reached ER (barC 0) 0)
/-- The records may be used again and again. -/
instance rec_persistent (κ : GSem nD τ sig → ℕ) : BI.Persistent (rec m κ) := by unfold rec; infer_instance
/-- The records, of what the launch makes. -/
theorem rec_intro (κ : GSem nD τ sig → ℕ) :
    iprop((bigSep (barCells ∪ scCells) fun g => cellInv ER (Rd m) (κ g) g) ∗ bigSep barCells fun g => reached ER g 0) ⊢ rec m κ := by
  unfold rec invs
  rw [BI.bigSep_union disjoint_cells, bigSep_map, bigSep_map, bigSep_map]
  show iprop(((bigSep Finset.univ fun c : Dev nD => cellInv ER (Rd m) (κ (barC c)) (barC c)) ∗ bigSep Finset.univ fun p : Dev nD × Fin 43 => cellInv ER (Rd m) (κ (cell p.1 p.2.succ)) (cell p.1 p.2.succ))
    ∗ bigSep Finset.univ fun c : Dev nD => reached ER (barC c) 0) ⊢ _
  iintro ⟨⟨HB, HS⟩, HR⟩
  isplitl [HB HS]
  · isplitl [HS]; · iexact HS
    iexact HB
  have h : (bigSep Finset.univ (fun c : Dev nD => (reached ER (barC c) 0 : sProp 𝕄))) ⊢ (fun c : Dev nD => (reached ER (barC c) 0 : sProp 𝕄)) 0 := bigSep_elim (Finset.mem_univ _)
  iapply h
  iexact HR

/-- What a device alone is dealt. -/
def lin (c : Dev nD) : sProp 𝕄 :=
  iprop((bigSep Finset.univ fun k : Fin 43 => openTok ER (cell c k.succ)) ∗ (TG c ∗ TS c) ∗ dutyTok ER (barC 0) 0 (c : Fin 4) ∗ atPos ER (barC c) 0 ∅ 0)
/-- What of its launch holdings is not the protocol's ghost state. -/
def bundle (c : Dev nD) : sProp 𝕄 :=
  iprop(StableHlo.held (c : Thread nD τ) bufs (V₀ m c) ∗ (CG c ∗ CS c) ∗ owes (c : Thread nD τ) (due (dA c)) ∅ ∗ ∃ r, prngReg c r)
/-- What a device starts with. -/
def T₀ (c : Dev nD) : sProp 𝕄 := iprop(StableHlo.held (c : Thread nD τ) bufs (V₀ m c) ∗ R m c)

/-- What a device starts with, made of what it is dealt. -/
theorem T₀_intro (κ : GSem nD τ sig → ℕ) (c : Dev nD) : iprop(rec m κ ∗ (lin c ∗ bundle m c)) ⊢ (T₀ m c : sProp 𝕄) := by
  unfold rec lin bundle T₀ R Tk toksOf ow
  iintro ⟨⟨#HI, #HR⟩, ⟨Ho, ⟨HTG, HTS⟩, HTB, HP⟩, Hh, ⟨HCG, HCS⟩, HO, Hp⟩
  isplitl [Hh]; · iexact Hh
  isplitr [HO]
  · isplitr [Hp]
    · iexists κ
      isplitr; · iexact HI
      isplitr; · iexact HR
      isplitl [Ho]; · iexact Ho
      isplitl [HTG]; · iexact HTG
      isplitl [HTS]; · iexact HTS
      isplitl [HTB]; · iexact HTB
      isplitl [HCG]; · iexact HCG
      isplitl [HCS]; · iexact HCS
      iexact HP
    iexact Hp
  iexists ∅; iexact HO

/-- The semaphore no region scopes. -/
theorem unscoped_eq : ∀ sm : SemLoc sig, sm.isScoped .tc = false → sm = .reg barS := by decide
/-- It is all a device holds of them. -/
theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- The tokens, by who pays. -/
theorem toks_all : (bigSep toks fun x => (dutyTok ER x.1 x.2.1 x.2.2 : sProp 𝕄))
    ⊢ (iprop((bigSep Finset.univ fun c : Dev nD => iprop(TG c ∗ TS c)) ∗ bigSep Finset.univ fun c : Dev nD => dutyTok ER (barC 0) 0 (c : Fin 4)) : sProp 𝕄) := by
  unfold toks
  rw [BI.bigSep_union disjoint_toks, bigSep_map, bigSep_map]
  exact BI.sep_mono (toks_deal.trans (bigSep_mono fun c _ => toks_dev c)) (Entails.refl _)

/-- A device's launch holdings. -/
theorem launch_dev (c : Dev nD) : iprop(unscopedBufs c (fun b => m ((c : Thread nD τ).loc b)) ∗ unscopedSems0 c
      ∗ owes (c : Thread nD τ) (due (dA c)) ∅ ∗ Pipeline.launchCred (fun c => due (dA c)) c ∗ prngReg c (ρ c) ∗ G c)
    ⊢ (iprop(bundle m c ∗ (semVal (barC c) 0 ∗ G c)) : sProp 𝕄) := by
  rw [show unscopedBufs c (fun b => m ((c : Thread nD τ).loc b)) = StableHlo.held (c : Thread nD τ) bufs (V₀ m c) from Pipeline.unscopedBufs_held c (V₀ m c),
    unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

/-- The barriers' counters as their cells'. -/
theorem bar_vals : bigSep Finset.univ (fun c : Dev nD => (semVal (barC c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
/-- The barriers' positions. -/
theorem bar_pos : bigSep barCells (fun g => (atPos ER g 0 ∅ 0 : sProp 𝕄)) ⊢ bigSep Finset.univ (fun c : Dev nD => (atPos ER (barC c) 0 ∅ 0 : sProp 𝕄)) :=
  Entails.of_eq (bigSep_map (s := Finset.univ) barEmb (Φ := fun g : GSem nD τ sig => (atPos ER g 0 ∅ 0 : sProp 𝕄)))
/-- The rights to open, by device. -/
theorem open_toks : bigSep scCells (fun g => (openTok ER g : sProp 𝕄))
    ⊢ bigSep Finset.univ (fun c : Dev nD => bigSep Finset.univ fun k : Fin 43 => (openTok ER (cell c k.succ) : sProp 𝕄)) :=
  Entails.of_eq (by rw [bigSep_map, bigSep_univ_prod]; rfl)

/-- Pairs held are two families held. -/
theorem pair_out {A B : Dev nD → sProp 𝕄} : (bigSep Finset.univ fun c => iprop(A c ∗ B c)) ⊢ iprop(bigSep Finset.univ A ∗ bigSep Finset.univ B) :=
  Entails.of_eq (bigSep_sep' _ _ _)
/-- Two families held are pairs held. -/
theorem pair_in {A B : Dev nD → sProp 𝕄} : iprop(bigSep Finset.univ A ∗ bigSep Finset.univ B) ⊢ (bigSep Finset.univ fun c => iprop(A c ∗ B c)) :=
  Entails.of_eq (bigSep_sep' _ _ _).symm
/-- Every device's start, of every device's launch holdings. -/
theorem init :
    iprop((bigSep Finset.univ fun c : Dev nD => iprop(unscopedBufs c (fun b => m ((c : Thread nD τ).loc b)) ∗ unscopedSems0 c
          ∗ owes (c : Thread nD τ) (due (dA c)) ∅ ∗ Pipeline.launchCred (fun c => due (dA c)) c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (due (dA c)) ∅ ∗ Pipeline.launchCred (fun c => due (dA c)) c ∗ prngReg c (ρ c) ∗ G c))
      ⊢ (bigSep Finset.univ fun c : Dev nD => iprop(bundle m c ∗ (semVal (barC c) 0 ∗ G c)) : sProp 𝕄) from bigSep_mono fun c _ => launch_dev m ρ c) $$ H
  ihave H2 := pair_out $$ H'; icases H2 with ⟨HB, H3⟩
  ihave H4 := pair_out $$ H3; icases H4 with ⟨Hv, HG⟩
  ihave Hu := (show bigSep Finset.univ (G (F := F)) ⊢ BI.own (ER (launchOf barCells scCells toks)) from
    Entails.of_eq (at0_all (F := F) (BI.own (ER (launchOf barCells scCells toks))))) $$ HG
  imod (Rounds.fund_launch ER (Rd m) disjoint_cells (fun g _ h => h) toks) $$ [Hv Hu] with ⟨%κ, -, #Hinv, #Hr, Hat, Hopen, Htok⟩
  · isplitl [Hv]
    · iapply bar_vals $$ Hv
    · iexact Hu
  imodintro
  ihave HT := (toks_all (F := F)) $$ Htok
  icases HT with ⟨HT1, HT2⟩
  iapply (bigSep_with_persistent (R := rec m κ) (Φ := fun c => iprop(lin c ∗ bundle m c)) fun c _ => T₀_intro m κ c)
  isplitr
  · iapply (rec_intro m κ)
    isplitr; · iexact Hinv
    iexact Hr
  iapply pair_in
  isplitr [HB]
  · unfold lin
    iapply pair_in; isplitl [Hopen]; · iapply open_toks $$ Hopen
    iapply pair_in; isplitl [HT1]; · iexact HT1
    iapply pair_in; isplitl [HT2]; · iexact HT2
    iapply bar_pos $$ Hat
  · iexact HB

/-! ## The run -/

/-- What a device's final memory holds. -/
def Ends (c : Dev nD) (s : MemSt nD τ sig (Elt F)) : Prop :=
  (s.mem ((c : Thread nD τ).loc main_v5) = O2b m c
    ∧ s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_arg4) = V m c main_arg4) ∧ s.sem (barC c) = 0

/-- What a device ends with says what its memory holds. -/
theorem ends_of (c : Dev nD) (s' : Phys nD τ sig (Elt F)) : iprop(Tₙ m c ∗ SI s') ⊢ (|={Set.univ}=> iprop(⌜Ends m c s'.mem⌝ ∗ SI s') : sProp 𝕄) := by
  unfold Tₙ
  rw [held_all, held_arr, V₂_out, held_V₂, held_rs]
  iintro ⟨⟨⟨H5, H0, H1, H2, H3, H4, -⟩, Hb⟩, HSI⟩
  icombine HSI H5 gives %h5
  icombine HSI H0 gives %h0
  icombine HSI H1 gives %h1
  icombine HSI H2 gives %h2
  icombine HSI H3 gives %h3
  icombine HSI H4 gives %h4
  icombine HSI Hb gives %hb
  imodintro
  isplitr
  · ipureintro
    exact ⟨⟨Buf.eq_of_forall_mem_univ h5, Buf.eq_of_forall_mem_univ h0, Buf.eq_of_forall_mem_univ h1, Buf.eq_of_forall_mem_univ h2,
      Buf.eq_of_forall_mem_univ h3, Buf.eq_of_forall_mem_univ h4⟩, by simpa using hb⟩
  iexact HSI

/-- What a run ends with: the result on every device, the arguments as they were, every counter at zero. -/
def Final (r : PUnit × MemSt nD τ sig (Elt F)) : Prop :=
  (∀ c : Dev nD, r.2.mem ((c.tc : Thread nD τ).loc main_v5) = O2b m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0

set_option backward.isDefEq.respectTransparency.types false in
/-- THE RUN: from any memory with zero counters every fair execution on the four devices ends, and ends so. -/
theorem run_main : θ_run defs (onTc (τ := τ) (main (F := F))) ⟨m, fun _ => 0, ρ⟩ (Final m) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => due (dA c)) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [at0_all]; iexact HX)
    (T₀ := T₀ m) (Tₙ := Tₙ m)
    (hch := ⟨fun c => .rfl, fun c => reg_pre m c, fun c => reg_post m c⟩)
    (hinit := init m ρ)
    (QY := Ends m)
    (hfin := ends_of m)
    (hQ := fun s h hs => ⟨fun c => by
        obtain ⟨⟨h5, h0, h1, h2, h3, h4⟩, -⟩ := h c
        exact ⟨h5, h0.trans (V_main_arg0 m c), h1.trans (V_main_arg1 m c), h2.trans (V_main_arg2 m c), h3.trans (V_main_arg3 m c), h4.trans (V_main_arg4 m c)⟩,
      sem_eq_zero hs fun c sm hsm => by
        obtain rfl := unscoped_eq sm hsm
        exact (h c).2⟩)

end Cert.KernelIdeal.Attn

end
-- ==== Proof.KernelIdeal.Kernel.lean ====
/- The printed kernel and its idealization are one text, so the run of the one is the run of the other. -/
module

public import proofs.«01_k».proof.Proof.KernelIdeal.Launch
public import proofs.«01_k».proof.Proof.Gen.Kernel.Frame

@[expose] public section

set_option maxRecDepth 16384

noncomputable section

namespace Cert.Kernel.Attn

open Idealize.ShloMosaic Idealize.ShloMosaic.TcCoe Idealize.ShloMosaic.Tactic Idealize.SL.Sem

variable {F : FTy → Type} [FloatOps F]

/-- The two programs declare the same buffers and semaphores. -/
theorem sig_eq : Cert.Kernel.sig = Cert.KernelIdeal.sig := by rfl

/-- What a run of the kernel ends with: the arguments as they were, every counter at zero. -/
def Final (m : (ℓ : Loc Cert.Kernel.nD Cert.Kernel.τ Cert.Kernel.sig) → Buf (Elt F) ℓ) (r : PUnit × MemSt Cert.Kernel.nD Cert.Kernel.τ Cert.Kernel.sig (Elt F)) : Prop :=
  (∀ c : Dev Cert.Kernel.nD, r.2.mem ((c.tc : Thread Cert.Kernel.nD Cert.Kernel.τ).loc Cert.Kernel.main_v5) = Cert.KernelIdeal.Attn.O2b (F := F) m c
    ∧ r.2.mem ((c.tc : Thread Cert.Kernel.nD Cert.Kernel.τ).loc Cert.Kernel.main_arg0) = m ((c.tc : Thread Cert.Kernel.nD Cert.Kernel.τ).loc Cert.Kernel.main_arg0)
    ∧ r.2.mem ((c.tc : Thread Cert.Kernel.nD Cert.Kernel.τ).loc Cert.Kernel.main_arg1) = m ((c.tc : Thread Cert.Kernel.nD Cert.Kernel.τ).loc Cert.Kernel.main_arg1)
    ∧ r.2.mem ((c.tc : Thread Cert.Kernel.nD Cert.Kernel.τ).loc Cert.Kernel.main_arg2) = m ((c.tc : Thread Cert.Kernel.nD Cert.Kernel.τ).loc Cert.Kernel.main_arg2)
    ∧ r.2.mem ((c.tc : Thread Cert.Kernel.nD Cert.Kernel.τ).loc Cert.Kernel.main_arg3) = m ((c.tc : Thread Cert.Kernel.nD Cert.Kernel.τ).loc Cert.Kernel.main_arg3)
    ∧ r.2.mem ((c.tc : Thread Cert.Kernel.nD Cert.Kernel.τ).loc Cert.Kernel.main_arg4) = m ((c.tc : Thread Cert.Kernel.nD Cert.Kernel.τ).loc Cert.Kernel.main_arg4)) ∧ r.2.sem = fun _ => 0

/-- The statement of the one run is that of the other, by definition. -/
theorem run_eq (m : (ℓ : Loc Cert.Kernel.nD Cert.Kernel.τ Cert.Kernel.sig) → Buf (Elt F) ℓ) (ρ : Dev Cert.Kernel.nD → PrngReg) :
    (θ_run Cert.Kernel.defs (onTc (τ := Cert.Kernel.τ) (Cert.Kernel.main (F := F))) ⟨m, fun _ => 0, ρ⟩ (Final m))
      = (θ_run Cert.KernelIdeal.defs (onTc (τ := Cert.KernelIdeal.τ) (Cert.KernelIdeal.main (F := F))) ⟨m, fun _ => 0, ρ⟩ (Cert.KernelIdeal.Attn.Final m)) := by
  chain_rfl

/-- THE RUN of the kernel. -/
theorem run_main (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (Final m) :=
  (run_eq m ρ).mpr (Cert.KernelIdeal.Attn.run_main m ρ)

end Cert.Kernel.Attn

end
-- ==== Proof.ReferenceIdeal.Run.lean ====
/- The run of the reference: its operations in order, and what each array holds after them. -/
module

public import Idealize.ShloMosaic.Lib.StableHlo.Run
public import Idealize.ShloMosaic.Lib.Quiescent
public import Idealize.ShloMosaic.Lib.Pipeline.Regions
public import proofs.«01_k».proof.Proof.Gen.ReferenceIdeal

@[expose] public section

set_option maxRecDepth 16384

noncomputable section

namespace Cert.ReferenceIdeal.Attn

open Cert.ReferenceIdeal Cert.ReferenceIdeal.Gen
open Idealize.ShloMosaic Idealize.ShloMosaic.TcCoe Idealize.ShloMosaic.Tactic Idealize.ShloMosaic.StableHlo Idealize.SL.Sem

variable {F : FTy → Type} [FloatOps F]

/-- The quotient by the block length, rounded down, as the integer operations compute it. -/
def fdiv {s : Shape} (b : S_.BroadcastsInDim s ![]) (n : IVec s 32) (k : IVec S_ 32) : IVec s 32 :=
  select (andi (cmpi .ne (signi n) (broadcastInDim s ![] b (signi k)))
      (cmpi .ne (Host.remsi n (broadcastInDim s ![] b k)) (broadcastInDim s ![] b (constantI S_ 32 0#32))))
    (subi (Host.divsi n (broadcastInDim s ![] b k)) (broadcastInDim s ![] b (constantI S_ 32 1#32)))
    (Host.divsi n (broadcastInDim s ![] b k))
/-- Which keys a row sees. -/
def mask : IVec S128x512 1 :=
  cmpi .sle
    (broadcastInDim S128x512 ![0, 1] bcast_S1x512_S128x512_0_1 (broadcastInDim S1x512 ![1] bcast_S512_S1x512_1 (fdiv bcast_S_S512 (iotaInDim S512 32 0) (constantI S_ 32 64#32))))
    (broadcastInDim S128x512 ![0, 1] bcast_S128x1_S128x512_0_1 (broadcastInDim S128x1 ![0] bcast_S128_S128x1_0 (fdiv bcast_S_S128 (iotaInDim S128 32 0) (constantI S_ 32 64#32))))
/-- Which rows see a key. -/
def keep : IVec S128 1 := Host.reduce IntOp.ori mask (constantI S_ 1 0#1) reducesTo_S128x512_S128_d1 h_S_
/-- The queries, by head. -/
def queries (x : FVec F S2x128x512 .f32) (wq : FVec F S512x1024 .f32) : FVec F S2x128x16x64 .f32 :=
  shapeCast S2x128x16x64 (Host.dotGeneral dot_S2x128x512_S512x1024_S2x128x1024_2_0_01_1_n_n none x wq) shapeCasts_S2x128x1024_S2x128x16x64
/-- The masked scores. -/
def scores (q : FVec F S2x128x16x64 .f32) (k : FVec F S2x512x16x64 .f32) : FVec F S2x16x128x512 .f32 :=
  select (broadcastInDim S2x16x128x512 ![0, 1, 2, 3] bcast_S1x1x128x512_S2x16x128x512_0_1_2_3 (broadcastInDim S1x1x128x512 ![2, 3] bcast_S128x512_S1x1x128x512_2_3 mask))
    (mulf (Host.dotGeneral dot_S2x128x16x64_S2x512x16x64_S2x16x128x512_3_3_1_1_02_02 none q k) (broadcastInDim S2x16x128x512 ![] bcast_S_S2x16x128x512 (constant S_ .f32 0x3E000000#32)))
    (broadcastInDim S2x16x128x512 ![] bcast_S_S2x16x128x512 (constant S_ .f32 0xFF800000#32))
/-- The exponentials of the scores, less the row's greatest. -/
def expo (s : FVec F S2x16x128x512 .f32) : FVec F S2x16x128x512 .f32 :=
  Host.exp (subf s (broadcastInDim S2x16x128x512 ![0, 1, 2, 3] bcast_S2x16x128x1_S2x16x128x512_0_1_2_3
    (broadcastInDim S2x16x128x1 ![0, 1, 2] bcast_S2x16x128_S2x16x128x1_0_1_2
      (Host.reduce FloatOps.maximumf s (constant S_ .f32 0xFF800000#32) reducesTo_S2x16x128x512_S2x16x128_d3 h_S_))))
/-- The rows' sums, one where a row sees no key. -/
def rowSum (w : FVec F S2x16x128x512 .f32) : FVec F S2x16x128x1 .f32 :=
  select (broadcastInDim S2x16x128x1 ![0, 1, 2, 3] bcast_S1x1x128x1_S2x16x128x1_0_1_2_3 (broadcastInDim S1x1x128x1 ![2] bcast_S128_S1x1x128x1_2 keep))
    (broadcastInDim S2x16x128x1 ![0, 1, 2] bcast_S2x16x128_S2x16x128x1_0_1_2
      (Host.reduceAdd w (constant S_ .f32 0x00000000#32) reducesTo_S2x16x128x512_S2x16x128_d3 h_S_))
    (broadcastInDim S2x16x128x1 ![] bcast_S_S2x16x128x1 (constant S_ .f32 0x3F800000#32))
/-- The weights, zero where a row sees no key. -/
def weights (w : FVec F S2x16x128x512 .f32) : FVec F S2x16x128x512 .f32 :=
  select (broadcastInDim S2x16x128x512 ![0, 1, 2, 3] bcast_S1x1x128x1_S2x16x128x512_0_1_2_3 (broadcastInDim S1x1x128x1 ![2] bcast_S128_S1x1x128x1_2 keep))
    (Host.divf w (broadcastInDim S2x16x128x512 ![0, 1, 2, 3] bcast_S2x16x128x1_S2x16x128x512_0_1_2_3 (rowSum w)))
    (broadcastInDim S2x16x128x512 ![] bcast_S_S2x16x128x512 (constant S_ .f32 0x00000000#32))
/-- The attention. -/
def context (w : FVec F S2x16x128x512 .f32) (v : FVec F S2x512x16x64 .f32) : FVec F S2x128x1024 .f32 :=
  shapeCast S2x128x1024 (transpose S2x128x16x64 [0, 3, 1, 2]
    (Host.dotGeneral dot_S2x512x16x64_S2x16x128x512_S2x16x64x128_1_3_3_2_02_01 none v w) transposes_S2x16x64x128_S2x128x16x64_0_3_1_2) shapeCasts_S2x128x16x64_S2x128x1024
/-- The result. -/
def out (x : FVec F S2x128x512 .f32) (wq : FVec F S512x1024 .f32) (k v : FVec F S2x512x16x64 .f32) (wo : FVec F S1024x512 .f32) : FVec F S2x128x512 .f32 :=
  Host.dotGeneral dot_S2x128x1024_S1024x512_S2x128x512_2_0_01_1_n_n none (context (weights (expo (scores (queries x wq) k))) v) wo

/-- The operations, in order. -/
abbrev ops : List (HloOp τ sig (Elt F)) :=
  [ binary main_arg0 main_arg1 main_v0 ((fun l r => Host.dotGeneral dot_S2x128x512_S512x1024_S2x128x1024_2_0_01_1_n_n none l r) : (⟨S2x128x512, .f32⟩ : BufTy).Contents (Elt F) → (⟨S512x1024, .f32⟩ : BufTy).Contents (Elt F) → (⟨S2x128x1024, .f32⟩ : BufTy).Contents (Elt F)),
    reshape main_v0 main_v1 (rfl : (.f32 : EltTy) = .f32) shapeCasts_S2x128x1024_S2x128x16x64,
    nullary main_v2 (iotaInDim S128 32 0),
    nullary main_c (constantI S_ 32 64#32),
    unary main_c main_call0_v0 id,
    unary main_call0_v0 main_call0_v1 (broadcastInDim S128 ![] bcast_S_S128),
    binary main_v2 main_call0_v1 main_call0_v2 Host.divsi,
    unary main_v2 main_call0_v3 signi,
    unary main_call0_v0 main_call0_v4 signi,
    unary main_call0_v4 main_call0_v5 (broadcastInDim S128 ![] bcast_S_S128),
    binary main_call0_v3 main_call0_v5 main_call0_v6 (cmpi .ne),
    unary main_call0_v0 main_call0_v7 (broadcastInDim S128 ![] bcast_S_S128),
    binary main_v2 main_call0_v7 main_call0_v8 Host.remsi,
    nullary main_call0_c (constantI S_ 32 0#32),
    unary main_call0_c main_call0_v9 (broadcastInDim S128 ![] bcast_S_S128),
    binary main_call0_v8 main_call0_v9 main_call0_v10 (cmpi .ne),
    binary main_call0_v6 main_call0_v10 main_call0_v11 andi,
    nullary main_call0_c_0 (constantI S_ 32 1#32),
    unary main_call0_c_0 main_call0_v12 (broadcastInDim S128 ![] bcast_S_S128),
    binary main_call0_v2 main_call0_v12 main_call0_v13 subi,
    ternary main_call0_v11 main_call0_v13 main_call0_v2 main_v3 select,
    unary main_v3 main_v4 (broadcastInDim S128x1 ![0] bcast_S128_S128x1_0 : (⟨S128, .i32⟩ : BufTy).Contents (Elt F) → (⟨S128x1, .i32⟩ : BufTy).Contents (Elt F)),
    nullary main_v5 (iotaInDim S512 32 0),
    nullary main_c_0 (constantI S_ 32 64#32),
    unary main_c_0 main_call1_v0 id,
    unary main_call1_v0 main_call1_v1 (broadcastInDim S512 ![] bcast_S_S512),
    binary main_v5 main_call1_v1 main_call1_v2 Host.divsi,
    unary main_v5 main_call1_v3 signi,
    unary main_call1_v0 main_call1_v4 signi,
    unary main_call1_v4 main_call1_v5 (broadcastInDim S512 ![] bcast_S_S512),
    binary main_call1_v3 main_call1_v5 main_call1_v6 (cmpi .ne),
    unary main_call1_v0 main_call1_v7 (broadcastInDim S512 ![] bcast_S_S512),
    binary main_v5 main_call1_v7 main_call1_v8 Host.remsi,
    nullary main_call1_c (constantI S_ 32 0#32),
    unary main_call1_c main_call1_v9 (broadcastInDim S512 ![] bcast_S_S512),
    binary main_call1_v8 main_call1_v9 main_call1_v10 (cmpi .ne),
    binary main_call1_v6 main_call1_v10 main_call1_v11 andi,
    nullary main_call1_c_0 (constantI S_ 32 1#32),
    unary main_call1_c_0 main_call1_v12 (broadcastInDim S512 ![] bcast_S_S512),
    binary main_call1_v2 main_call1_v12 main_call1_v13 subi,
    ternary main_call1_v11 main_call1_v13 main_call1_v2 main_v6 select,
    unary main_v6 main_v7 (broadcastInDim S1x512 ![1] bcast_S512_S1x512_1 : (⟨S512, .i32⟩ : BufTy).Contents (Elt F) → (⟨S1x512, .i32⟩ : BufTy).Contents (Elt F)),
    unary main_v7 main_v8 (broadcastInDim S128x512 ![0, 1] bcast_S1x512_S128x512_0_1 : (⟨S1x512, .i32⟩ : BufTy).Contents (Elt F) → (⟨S128x512, .i32⟩ : BufTy).Contents (Elt F)),
    unary main_v4 main_v9 (broadcastInDim S128x512 ![0, 1] bcast_S128x1_S128x512_0_1 : (⟨S128x1, .i32⟩ : BufTy).Contents (Elt F) → (⟨S128x512, .i32⟩ : BufTy).Contents (Elt F)),
    binary main_v8 main_v9 main_v10 (cmpi .sle : (⟨S128x512, .i32⟩ : BufTy).Contents (Elt F) → (⟨S128x512, .i32⟩ : BufTy).Contents (Elt F) → (⟨S128x512, .i1⟩ : BufTy).Contents (Elt F)),
    binary main_v1 main_arg2 main_v11 ((fun l r => Host.dotGeneral dot_S2x128x16x64_S2x512x16x64_S2x16x128x512_3_3_1_1_02_02 none l r) : (⟨S2x128x16x64, .f32⟩ : BufTy).Contents (Elt F) → (⟨S2x512x16x64, .f32⟩ : BufTy).Contents (Elt F) → (⟨S2x16x128x512, .f32⟩ : BufTy).Contents (Elt F)),
    nullary main_cst (constant S_ .f32 0x3E000000#32),
    unary main_cst main_v12 (broadcastInDim S2x16x128x512 ![] bcast_S_S2x16x128x512 : (⟨S_, .f32⟩ : BufTy).Contents (Elt F) → (⟨S2x16x128x512, .f32⟩ : BufTy).Contents (Elt F)),
    binary main_v11 main_v12 main_v13 (mulf : (⟨S2x16x128x512, .f32⟩ : BufTy).Contents (Elt F) → (⟨S2x16x128x512, .f32⟩ : BufTy).Contents (Elt F) → (⟨S2x16x128x512, .f32⟩ : BufTy).Contents (Elt F)),
    unary main_v10 main_v14 (broadcastInDim S1x1x128x512 ![2, 3] bcast_S128x512_S1x1x128x512_2_3 : (⟨S128x512, .i1⟩ : BufTy).Contents (Elt F) → (⟨S1x1x128x512, .i1⟩ : BufTy).Contents (Elt F)),
    nullary main_cst_1 (constant S_ .f32 0xFF800000#32),
    unary main_cst_1 main_call2_v0 id,
    unary main_v14 main_call2_v1 (broadcastInDim S2x16x128x512 ![0, 1, 2, 3] bcast_S1x1x128x512_S2x16x128x512_0_1_2_3),
    unary main_call2_v0 main_call2_v2 (broadcastInDim S2x16x128x512 ![] bcast_S_S2x16x128x512),
    ternary main_call2_v1 main_v13 main_call2_v2 main_v15 select,
    nullary main_cst_2 (constant S_ .f32 0xFF800000#32),
    binary main_v15 main_cst_2 main_v16 ((fun x v => Host.reduce FloatOps.maximumf x v reducesTo_S2x16x128x512_S2x16x128_d3 h_S_) : (⟨S2x16x128x512, .f32⟩ : BufTy).Contents (Elt F) → (⟨S_, .f32⟩ : BufTy).Contents (Elt F) → (⟨S2x16x128, .f32⟩ : BufTy).Contents (Elt F)),
    unary main_v16 main_v17 (broadcastInDim S2x16x128x1 ![0, 1, 2] bcast_S2x16x128_S2x16x128x1_0_1_2 : (⟨S2x16x128, .f32⟩ : BufTy).Contents (Elt F) → (⟨S2x16x128x1, .f32⟩ : BufTy).Contents (Elt F)),
    unary main_v17 main_v18 (broadcastInDim S2x16x128x512 ![0, 1, 2, 3] bcast_S2x16x128x1_S2x16x128x512_0_1_2_3 : (⟨S2x16x128x1, .f32⟩ : BufTy).Contents (Elt F) → (⟨S2x16x128x512, .f32⟩ : BufTy).Contents (Elt F)),
    binary main_v15 main_v18 main_v19 (subf : (⟨S2x16x128x512, .f32⟩ : BufTy).Contents (Elt F) → (⟨S2x16x128x512, .f32⟩ : BufTy).Contents (Elt F) → (⟨S2x16x128x512, .f32⟩ : BufTy).Contents (Elt F)),
    unary main_v19 main_v20 (Host.exp : (⟨S2x16x128x512, .f32⟩ : BufTy).Contents (Elt F) → (⟨S2x16x128x512, .f32⟩ : BufTy).Contents (Elt F)),
    nullary main_c_3 (constantI S_ 1 0#1),
    binary main_v10 main_c_3 main_v21 ((fun x v => Host.reduce IntOp.ori x v reducesTo_S128x512_S128_d1 h_S_) : (⟨S128x512, .i1⟩ : BufTy).Contents (Elt F) → (⟨S_, .i1⟩ : BufTy).Contents (Elt F) → (⟨S128, .i1⟩ : BufTy).Contents (Elt F)),
    unary main_v21 main_v22 (broadcastInDim S1x1x128x1 ![2] bcast_S128_S1x1x128x1_2 : (⟨S128, .i1⟩ : BufTy).Contents (Elt F) → (⟨S1x1x128x1, .i1⟩ : BufTy).Contents (Elt F)),
    nullary main_cst_4 (constant S_ .f32 0x00000000#32),
    binary main_v20 main_cst_4 main_v23 ((fun x v => Host.reduceAdd x v reducesTo_S2x16x128x512_S2x16x128_d3 h_S_) : (⟨S2x16x128x512, .f32⟩ : BufTy).Contents (Elt F) → (⟨S_, .f32⟩ : BufTy).Contents (Elt F) → (⟨S2x16x128, .f32⟩ : BufTy).Contents (Elt F)),
    unary main_v23 main_v24 (broadcastInDim S2x16x128x1 ![0, 1, 2] bcast_S2x16x128_S2x16x128x1_0_1_2 : (⟨S2x16x128, .f32⟩ : BufTy).Contents (Elt F) → (⟨S2x16x128x1, .f32⟩ : BufTy).Contents (Elt F)),
    nullary main_cst_5 (constant S_ .f32 0x3F800000#32),
    unary main_cst_5 main_call3_v0 id,
    unary main_v22 main_call3_v1 (broadcastInDim S2x16x128x1 ![0, 1, 2, 3] bcast_S1x1x128x1_S2x16x128x1_0_1_2_3),
    unary main_call3_v0 main_call3_v2 (broadcastInDim S2x16x128x1 ![] bcast_S_S2x16x128x1),
    ternary main_call3_v1 main_v24 main_call3_v2 main_v25 select,
    unary main_v25 main_v26 (broadcastInDim S2x16x128x512 ![0, 1, 2, 3] bcast_S2x16x128x1_S2x16x128x512_0_1_2_3 : (⟨S2x16x128x1, .f32⟩ : BufTy).Contents (Elt F) → (⟨S2x16x128x512, .f32⟩ : BufTy).Contents (Elt F)),
    binary main_v20 main_v26 main_v27 (Host.divf : (⟨S2x16x128x512, .f32⟩ : BufTy).Contents (Elt F) → (⟨S2x16x128x512, .f32⟩ : BufTy).Contents (Elt F) → (⟨S2x16x128x512, .f32⟩ : BufTy).Contents (Elt F)),
    unary main_v21 main_v28 (broadcastInDim S1x1x128x1 ![2] bcast_S128_S1x1x128x1_2 : (⟨S128, .i1⟩ : BufTy).Contents (Elt F) → (⟨S1x1x128x1, .i1⟩ : BufTy).Contents (Elt F)),
    nullary main_cst_6 (constant S_ .f32 0x00000000#32),
    unary main_cst_6 main_call4_v0 id,
    unary main_v28 main_call4_v1 (broadcastInDim S2x16x128x512 ![0, 1, 2, 3] bcast_S1x1x128x1_S2x16x128x512_0_1_2_3),
    unary main_call4_v0 main_call4_v2 (broadcastInDim S2x16x128x512 ![] bcast_S_S2x16x128x512),
    ternary main_call4_v1 main_v27 main_call4_v2 main_v29 select,
    binary main_arg3 main_v29 main_v30 ((fun l r => Host.dotGeneral dot_S2x512x16x64_S2x16x128x512_S2x16x64x128_1_3_3_2_02_01 none l r) : (⟨S2x512x16x64, .f32⟩ : BufTy).Contents (Elt F) → (⟨S2x16x128x512, .f32⟩ : BufTy).Contents (Elt F) → (⟨S2x16x64x128, .f32⟩ : BufTy).Contents (Elt F)),
    unary main_v30 main_v31 ((transpose S2x128x16x64 [0, 3, 1, 2] · transposes_S2x16x64x128_S2x128x16x64_0_3_1_2) : (⟨S2x16x64x128, .f32⟩ : BufTy).Contents (Elt F) → (⟨S2x128x16x64, .f32⟩ : BufTy).Contents (Elt F)),
    reshape main_v31 main_v32 (rfl : (.f32 : EltTy) = .f32) shapeCasts_S2x128x16x64_S2x128x1024,
    binary main_v32 main_arg4 main_v33 ((fun l r => Host.dotGeneral dot_S2x128x1024_S1024x512_S2x128x512_2_0_01_1_n_n none l r) : (⟨S2x128x1024, .f32⟩ : BufTy).Contents (Elt F) → (⟨S1024x512, .f32⟩ : BufTy).Contents (Elt F) → (⟨S2x128x512, .f32⟩ : BufTy).Contents (Elt F)) ]

/-- The program is that straight line. -/
theorem main_eq (c : Dev nD) : main (F := F) c = seq ops := by chain_rfl

/-- The result after the operations. -/
theorem out_eq (V : Valuation τ sig (Elt F)) :
    after ops V (main_v33 : DevRef τ sig) = out (V (main_arg0 : DevRef τ sig)) (V (main_arg1 : DevRef τ sig)) (V (main_arg2 : DevRef τ sig)) (V (main_arg3 : DevRef τ sig)) (V (main_arg4 : DevRef τ sig)) := by
  after_results
  rfl
/-- Argument 0 is not written. -/
theorem arg0_eq (V : Valuation τ sig (Elt F)) : after ops V (main_arg0 : DevRef τ sig) = V (main_arg0 : DevRef τ sig) := by
  after_results
/-- Argument 1 is not written. -/
theorem arg1_eq (V : Valuation τ sig (Elt F)) : after ops V (main_arg1 : DevRef τ sig) = V (main_arg1 : DevRef τ sig) := by
  after_results
/-- Argument 2 is not written. -/
theorem arg2_eq (V : Valuation τ sig (Elt F)) : after ops V (main_arg2 : DevRef τ sig) = V (main_arg2 : DevRef τ sig) := by
  after_results
/-- Argument 3 is not written. -/
theorem arg3_eq (V : Valuation τ sig (Elt F)) : after ops V (main_arg3 : DevRef τ sig) = V (main_arg3 : DevRef τ sig) := by
  after_results
/-- Argument 4 is not written. -/
theorem arg4_eq (V : Valuation τ sig (Elt F)) : after ops V (main_arg4 : DevRef τ sig) = V (main_arg4 : DevRef τ sig) := by
  after_results

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
/-- Every operation touches the device's buffers only. -/
theorem ops_sub : (ops : List (HloOp τ sig (Elt F))).Forall fun op => op.bufs ⊆ tcRefs τ sig :=
  ⟨binary_bufs_sub .., reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., unary_bufs_sub .., binary_bufs_sub .., unary_bufs_sub .., nullary_bufs_sub .., binary_bufs_sub .., unary_bufs_sub .., nullary_bufs_sub .., binary_bufs_sub .., unary_bufs_sub .., nullary_bufs_sub .., unary_bufs_sub .., unary_bufs_sub .., unary_bufs_sub .., ternary_bufs_sub .., unary_bufs_sub .., binary_bufs_sub .., unary_bufs_sub .., nullary_bufs_sub .., unary_bufs_sub .., unary_bufs_sub .., unary_bufs_sub .., ternary_bufs_sub .., binary_bufs_sub .., unary_bufs_sub .., reshape_bufs_sub .., binary_bufs_sub ..⟩

/-- What a run ends with: the result, the arguments as they were, every counter at zero. -/
def Final (m : (ℓ : Loc nD τ sig) → Buf (Elt F) ℓ) (r : PUnit × MemSt nD τ sig (Elt F)) : Prop :=
  (∀ c : Dev nD, r.2.mem ((c.tc : Thread nD τ).loc main_v33)
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0

/-- THE RUN: from any memory with zero counters every fair execution ends, and ends so. -/
theorem run_main (m : (ℓ : Loc nD τ sig) → Buf (Elt F) ℓ) (ρ : Dev nD → PrngReg) :
    θ_run defs (onTc (τ := τ) (main (F := F))) ⟨m, fun _ => 0, ρ⟩ (Final m) :=
  (θ_run defs _ _).mono (fun r h => ⟨fun c => ⟨(h c main_v33).trans (out_eq _), (h c main_arg0).trans (arg0_eq _), (h c main_arg1).trans (arg1_eq _),
      (h c main_arg2).trans (arg2_eq _), (h c main_arg3).trans (arg3_eq _), (h c main_arg4).trans (arg4_eq _)⟩,
      Idealize.ShloMosaic.sem_eq_zero_of_no_sems (by decide) r.2⟩)
    (run_seq scopedRefs_eq scopedSems_eq defs main (fun _ => ops) main_eq (fun _ => ops_sub) m ρ)

end Cert.ReferenceIdeal.Attn

end
-- ==== Proof.Math.Soft.lean ====
/- Attention over a set of keys, in the extended reals: leaving the keys out, or giving them the score −∞, is the same. -/
module

public import Idealize.ShloMosaic.Lib.Pointwise

@[expose] public section

noncomputable section

namespace Cert.Math

open Idealize.ShloMosaic

/-- An extended real that is a real number. -/
def IsReal (x : EReal) : Prop := ∃ r : ℝ, x = (r : EReal)

/-- The product of two real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih fun i hi => h i (Finset.mem_insert_of_mem hi)
    exact ⟨x + y, by rw [hx, hy, EReal.coe_add]⟩

/-- A nonnegative real factor comes out of a sum of extended reals. -/
theorem sum_mul_coe {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

/-- Attention over the keys `J`: the values `v` averaged with the exponentials of the scores `s`. -/
def attend {ι : Type} (J : Finset ι) (s v : ι → EReal) : EReal :=
  Ideal.div (∑ j ∈ J, Ideal.exp (s j - J.sup s) * v j) (∑ j ∈ J, Ideal.exp (s j - J.sup s))

/-- It depends on the scores and values of these keys alone. -/
theorem attend_congr {ι : Type} (J : Finset ι) (s s' v v' : ι → EReal) (hs : ∀ j ∈ J, s j = s' j) (hv : ∀ j ∈ J, v j = v' j) :
    attend J s v = attend J s' v' := by
  have e : J.sup s = J.sup s' := Finset.sup_congr rfl hs
  unfold attend
  rw [e]
  exact congrArg₂ _ (Finset.sum_congr rfl fun j hj => by rw [hs j hj, hv j hj]) (Finset.sum_congr rfl fun j hj => by rw [hs j hj])

/-- The greatest score is real, and the exponentials' sum is a positive real. -/
theorem exp_sum_pos {ι : Type} (J : Finset ι) (hJ : J.Nonempty) (s : ι → EReal) (hs : ∀ j ∈ J, IsReal (s j)) :
    IsReal (J.sup s) ∧ ∃ S : ℝ, 0 < S ∧ ∑ j ∈ J, Ideal.exp (s j - J.sup s) = (S : EReal) := by
  classical
  obtain ⟨j₀, hj₀, e⟩ := Finset.exists_mem_eq_sup J hJ s
  obtain ⟨M, hM⟩ := hs j₀ hj₀
  refine ⟨⟨M, e.trans hM⟩, ∑ j ∈ J, Real.exp ((s j).toReal - M), Finset.sum_pos (fun j _ => Real.exp_pos _) hJ, ?_⟩
  rw [e, hM]
  have h : ∀ j ∈ J, Ideal.exp (s j - (M : EReal)) = ((Real.exp ((s j).toReal - M) : ℝ) : EReal) := fun j hj => by
    obtain ⟨r, hr⟩ := hs j hj
    rw [hr, EReal.toReal_coe, ← EReal.coe_sub, Ideal.exp_coe]
  rw [Finset.sum_congr rfl h]
  clear h hJ hs hj₀ e
  induction J using Finset.induction_on with
  | empty => simp
  | insert a s ha ih => rw [Finset.sum_insert ha, Finset.sum_insert ha, ih, EReal.coe_add]

/-- Attention over all keys, the scores of those out of sight −∞ and each weight divided by the sum first. -/
theorem attend_masked {ι : Type} [Fintype ι] (J : Finset ι) (hJ : J.Nonempty) (s s' v : ι → EReal) (hs : ∀ j ∈ J, IsReal (s j))
    (hin : ∀ j ∈ J, s' j = s j) (hout : ∀ j ∉ J, s' j = ⊥) :
    ∑ j, v j * Ideal.div (Ideal.exp (s' j - Finset.univ.sup s')) (∑ i, Ideal.exp (s' i - Finset.univ.sup s')) = attend J s v := by
  classical
  have hsup : Finset.univ.sup s' = J.sup s := by
    refine le_antisymm (Finset.sup_le fun j _ => ?_) (Finset.sup_le fun j hj => ?_)
    · by_cases hj : j ∈ J
      · rw [hin j hj]; exact Finset.le_sup hj
      · rw [hout j hj]; exact bot_le
    · rw [← hin j hj]; exact Finset.le_sup (Finset.mem_univ j)
  obtain ⟨⟨M, hM⟩, S, hS, hSe⟩ := exp_sum_pos J hJ s hs
  have hzero : ∀ j ∉ J, Ideal.exp (s' j - (M : EReal)) = 0 := fun j hj => by rw [hout j hj, EReal.bot_sub]; rfl
  have hsum : ∑ i, Ideal.exp (s' i - (M : EReal)) = (S : EReal) := by
    rw [← hSe, hM]
    refine (Finset.sum_subset (Finset.subset_univ J) fun j _ hj => hzero j hj).symm.trans (Finset.sum_congr rfl fun j hj => by rw [hin j hj])
  have hne : S ≠ 0 := hS.ne'
  rw [hsup, hM, hsum]
  unfold attend
  rw [hSe, hM, Ideal.div_coe hne, ← sum_mul_coe _ _ _ (by positivity)]
  refine (Finset.sum_subset (Finset.subset_univ J) fun j _ hj => ?_).symm.trans (Finset.sum_congr rfl fun j hj => ?_)
  · rw [hzero j hj, Ideal.div_coe hne, zero_mul, mul_zero]
  · rw [hin j hj, Ideal.div_coe hne, ← mul_assoc, mul_comm (v j)]

/-- Attention over keys that are numbered. -/
theorem attend_map {κ ι : Type} [Fintype κ] (e : κ ↪ ι) (s v : ι → EReal) :
    attend (Finset.univ.map e) s v
      = Ideal.div (∑ k, Ideal.exp (s (e k) - Finset.univ.fold max ⊥ fun k => s (e k)) * v (e k))
          (∑ k, Ideal.exp (s (e k) - Finset.univ.fold max ⊥ fun k => s (e k))) := by
  unfold attend
  rw [Finset.sum_map, Finset.sum_map, Finset.sup_map]
  rfl

/-- Attention over two ranges of keys, one maximum and one sum. -/
theorem attend_union {κ ι : Type} [Fintype κ] [DecidableEq ι] (e e' : κ ↪ ι) (h : ∀ k k', e k ≠ e' k') (s v : ι → EReal) :
    attend (Finset.univ.map e ∪ Finset.univ.map e') s v
      = Ideal.div
          (∑ k, Ideal.exp (s (e k) - max (Finset.univ.fold max ⊥ fun k => s (e k)) (Finset.univ.fold max ⊥ fun k => s (e' k))) * v (e k)
            + ∑ k, Ideal.exp (s (e' k) - max (Finset.univ.fold max ⊥ fun k => s (e k)) (Finset.univ.fold max ⊥ fun k => s (e' k))) * v (e' k))
          (∑ k, Ideal.exp (s (e k) - max (Finset.univ.fold max ⊥ fun k => s (e k)) (Finset.univ.fold max ⊥ fun k => s (e' k)))
            + ∑ k, Ideal.exp (s (e' k) - max (Finset.univ.fold max ⊥ fun k => s (e k)) (Finset.univ.fold max ⊥ fun k => s (e' k)))) := by
  have hd : Disjoint (Finset.univ.map e) (Finset.univ.map e') := by
    rw [Finset.disjoint_left]
    intro x hx hx'
    obtain ⟨k, -, rfl⟩ := Finset.mem_map.mp hx
    obtain ⟨k', -, hk⟩ := Finset.mem_map.mp hx'
    exact h k k' hk.symm
  unfold attend
  rw [Finset.sum_union hd, Finset.sum_union hd, Finset.sup_union, Finset.sum_map, Finset.sum_map, Finset.sum_map, Finset.sum_map, Finset.sup_map, Finset.sup_map]
  rfl

/-- The word of −∞. -/
theorem ofBits_neg_inf : Ideal.ofBits .f32 0xFF800000#32 = ⊥ := by simp [Ideal.ofBits, Ideal.ieee]

/-- The word of +∞. -/
theorem ofBits_pos_inf : Ideal.ofBits .f32 0x7F800000#32 = ⊤ := by simp [Ideal.ofBits, Ideal.ieee]

/-- The word of an eighth is a real number. -/
theorem ofBits_eighth : IsReal (Ideal.ofBits .f32 0x3E000000#32) := by
  unfold IsReal
  simp only [Ideal.ofBits, Ideal.ieee]
  rw [if_neg (by decide), if_neg (by decide)]
  exact ⟨_, rfl⟩

/-- What lies strictly within the infinities is a real number. -/
theorem isReal_of_abs_lt {x : EReal} (h : Ideal.cmp .olt (max x (-x)) ⊤ = 1#1) : IsReal x := by
  have hlt : max x (-x) < ⊤ := by
    by_contra hn
    simp [Ideal.cmp, hn] at h
  induction x with
  | bot => simp at hlt
  | top => simp at hlt
  | coe r => exact ⟨r, rfl⟩

end Cert.Math
end
-- ==== Proof.Math.Spec.lean ====
/- What both programs compute, as one function of the whole arrays. -/
module

public import proofs.«01_k».proof.Proof.Math.Soft

@[expose] public section

noncomputable section

namespace Cert.Math

open Idealize.ShloMosaic

variable (X : (⟨3, ![2, 128, 512]⟩ : Shape).Idx → EReal) (WQ : (⟨2, ![512, 1024]⟩ : Shape).Idx → EReal)
  (K V : (⟨4, ![2, 512, 16, 64]⟩ : Shape).Idx → EReal) (WO : (⟨2, ![1024, 512]⟩ : Shape).Idx → EReal)

/-- The queries: row `i` of batch row `b`, head `h`, component `x`. -/
def qv (b : Fin 2) (i : Fin 128) (h : Fin 16) (x : Fin 64) : EReal :=
  ∑ k : Fin 512, X (ix3 b i k) * WQ (ix2 k ⟨64 * h.val + x.val, by have := h.isLt; have := x.isLt; omega⟩)

/-- The scores of the keys. -/
def sc (b : Fin 2) (h : Fin 16) (i : Fin 128) (j : Fin 512) : EReal :=
  (∑ x : Fin 64, qv X WQ b i h x * K (ix4 b j h x)) * Ideal.ofBits .f32 0x3E000000#32

/-- The keys a row sees: those of its own block of 64 positions and of the blocks before it. -/
def vis (i : Fin 128) : Finset (Fin 512) := Finset.univ.filter fun j => j.val / 64 ≤ i.val / 64

/-- The attention. -/
def ctx (b : Fin 2) (i : Fin 128) (h : Fin 16) (x : Fin 64) : EReal :=
  attend (vis i) (sc X WQ K b h i) fun j => V (ix4 b j h x)

/-- The result. -/
def res (b : Fin 2) (i : Fin 128) (e : Fin 512) : EReal :=
  ∑ c : Fin 1024, ctx X WQ K V b i ⟨c.val / 64, by have := c.isLt; omega⟩ ⟨c.val % 64, Nat.mod_lt _ (by decide)⟩ * WO (ix2 c e)

/-- What device `d`'s heads contribute to the result. -/
def part (d : Fin 4) (b : Fin 2) (i : Fin 128) (e : Fin 512) : EReal :=
  ∑ k : Fin 256, ctx X WQ K V b i ⟨4 * d.val + k.val / 64, by have := d.isLt; have := k.isLt; omega⟩ ⟨k.val % 64, Nat.mod_lt _ (by decide)⟩
    * WO (ix2 ⟨256 * d.val + k.val, by have := d.isLt; have := k.isLt; omega⟩ e)

/-- Membership in it. -/
theorem mem_vis {i : Fin 128} {j : Fin 512} : j ∈ vis i ↔ j.val / 64 ≤ i.val / 64 := by simp [vis]

/-- A row sees a key. -/
theorem vis_nonempty (i : Fin 128) : (vis i).Nonempty :=
  ⟨⟨0, by decide⟩, Finset.mem_filter.mpr ⟨Finset.mem_univ _, by simp⟩⟩

/-- Of finite inputs the scores are real numbers. -/
theorem sc_isReal (hX : ∀ i, IsReal (X i)) (hW : ∀ i, IsReal (WQ i)) (hK : ∀ i, IsReal (K i)) (b : Fin 2) (h : Fin 16) (i : Fin 128) (j : Fin 512) :
    IsReal (sc X WQ K b h i j) :=
  (IsReal.sum _ _ fun x _ => (IsReal.sum _ _ fun k _ => (hX _).mul (hW _)).mul (hK _)).mul ofBits_eighth

/-- The result is the sum of the four devices' contributions. -/
theorem res_eq_parts (b : Fin 2) (i : Fin 128) (e : Fin 512) : res X WQ K V WO b i e = ∑ d : Fin 4, part X WQ K V WO d b i e := by
  unfold res part
  rw [← Finset.sum_product' (s := Finset.univ) (t := Finset.univ)
    (f := fun (d : Fin 4) (k : Fin 256) => ctx X WQ K V b i ⟨4 * d.val + k.val / 64, by have := d.isLt; have := k.isLt; omega⟩ ⟨k.val % 64, Nat.mod_lt _ (by decide)⟩
      * WO (ix2 ⟨256 * d.val + k.val, by have := d.isLt; have := k.isLt; omega⟩ e))]
  refine (Fintype.sum_equiv (finProdFinEquiv (m := 4) (n := 256)) _ _ fun p => ?_).symm
  obtain ⟨d, k⟩ := p
  have hv : (finProdFinEquiv (d, k) : Fin (4 * 256)).val = k.val + 256 * d.val := rfl
  have hd := d.isLt
  have hk := k.isLt
  refine congrArg₂ _ (congrArg₂ _ (Fin.ext ?_) (Fin.ext ?_)) (congrArg _ (congrArg (ix2 · e) (Fin.ext ?_)))
  · show 4 * d.val + k.val / 64 = (finProdFinEquiv (d, k) : Fin (4 * 256)).val / 64
    rw [hv]; omega
  · show k.val % 64 = (finProdFinEquiv (d, k) : Fin (4 * 256)).val % 64
    rw [hv]; omega
  · show 256 * d.val + k.val = (finProdFinEquiv (d, k) : Fin (4 * 256)).val
    rw [hv]; omega

/-- Keys 0 to 63. -/
def low : Fin 64 ↪ Fin 512 := ⟨fun j => ⟨j.val, by have := j.isLt; omega⟩, fun a b h => Fin.ext (by simpa using h)⟩
/-- Keys 64 to 127. -/
def high : Fin 64 ↪ Fin 512 := ⟨fun j => ⟨64 + j.val, by have := j.isLt; omega⟩, fun a b h => Fin.ext (by simpa using h)⟩

/-- A row of the first block sees the first block of keys. -/
theorem vis_low (i : Fin 128) (hi : i.val < 64) : vis i = Finset.univ.map low := by
  ext j
  simp only [vis, Finset.mem_filter, Finset.mem_univ, true_and, Finset.mem_map]
  constructor
  · intro h; exact ⟨⟨j.val, by omega⟩, rfl⟩
  · rintro ⟨k, rfl⟩; show k.val / 64 ≤ _; have := k.isLt; omega

/-- A row of the second block sees both blocks of keys. -/
theorem vis_high (i : Fin 128) (hi : 64 ≤ i.val) : vis i = Finset.univ.map low ∪ Finset.univ.map high := by
  ext j
  have := i.isLt
  simp only [vis, Finset.mem_filter, Finset.mem_univ, true_and, Finset.mem_map, Finset.mem_union]
  constructor
  · intro h
    by_cases hj : j.val < 64
    · exact .inl ⟨⟨j.val, hj⟩, rfl⟩
    · exact .inr ⟨⟨j.val - 64, by omega⟩, Fin.ext (by show 64 + (j.val - 64) = j.val; omega)⟩
  · rintro (⟨k, rfl⟩ | ⟨k, rfl⟩)
    · show k.val / 64 ≤ _; have := k.isLt; omega
    · show (64 + k.val) / 64 ≤ _; have := k.isLt; omega

/-- The two blocks have no key in common. -/
theorem low_ne_high (k k' : Fin 64) : low k ≠ high k' := fun h => by
  have h' : k.val = 64 + k'.val := congrArg Fin.val h
  have := k.isLt; omega

end Cert.Math
end
-- ==== Proof.Math.Heads.lean ====
/- What one device of the kernel computes: its heads' attention at an index. -/
module

public import proofs.«01_k».proof.Proof.KernelIdeal.Vals
public import proofs.«01_k».proof.Proof.Math.Spec

@[expose] public section

set_option maxRecDepth 16384

noncomputable section

namespace Cert.KernelIdeal.Attn

open Idealize.ShloMosaic Cert.Math
open Cert.KernelIdeal.Gen

/-- The arrays of the four devices, as the region finds them, are their parts of the whole arrays. -/
structure Holds (m : (ℓ : Loc nD τ sig) → Buf (Elt Ideal) ℓ)
    (X : (⟨3, ![2, 128, 512]⟩ : Shape).Idx → EReal) (WQ : (⟨2, ![512, 1024]⟩ : Shape).Idx → EReal)
    (K V : (⟨4, ![2, 512, 16, 64]⟩ : Shape).Idx → EReal) (WO : (⟨2, ![1024, 512]⟩ : Shape).Idx → EReal) : Prop where
  x : ∀ (d : Fin 4) (b : Fin 2) (i : Fin 128) (k : Fin 512), Xa m d (ix3 b i k) = X (ix3 b i k)
  wq : ∀ (d : Fin 4) (k : Fin 512) (e : Fin 256), Wqa m d (ix2 k e) = WQ (ix2 k ⟨256 * d.val + e.val, by have := d.isLt; have := e.isLt; omega⟩)
  k : ∀ (b : Fin 2) (h : Fin 16) (x : Fin 64) (j : Fin 128), KTa m 0 (ix4 b h x j) = K (ix4 b ⟨j.val, by have := j.isLt; omega⟩ h x)
  v : ∀ (b : Fin 2) (h : Fin 16) (x : Fin 64) (j : Fin 128), VTa m 0 (ix4 b h x j) = V (ix4 b ⟨j.val, by have := j.isLt; omega⟩ h x)
  wo : ∀ (d : Fin 4) (k : Fin 256) (e : Fin 512), Woa m d (ix2 k e) = WO (ix2 ⟨256 * d.val + k.val, by have := d.isLt; have := k.isLt; omega⟩ e)

/-- One block of keys: attention over keys 0 to 63. -/
theorem attn1_eq (q : Vec Ideal S1x64x64 .bf16) (k v : Vec Ideal S1x1x1x1x64x64 .bf16) (r x : Fin 64) (s u : Fin 512 → EReal)
    (hs : ∀ j, (∑ y : Fin 64, q (ix3 0 r y) * k (ix6 0 0 0 0 y j)) * Ideal.ofBits .f32 0x3E000000#32 = s (low j))
    (hu : ∀ j, v (ix6 0 0 0 0 x j) = u (low j)) :
    attn1 q k v (ix3 0 r x) = attend (Finset.univ.map low) s u := by
  rw [attend_map]
  pointwise [attn1, k0_pay6, k0_pay5]
  simp only [hs, hu, ofBits_neg_inf]

/-- Two blocks of keys: attention over keys 0 to 127. -/
theorem attn2_eq (q : Vec Ideal S1x64x64 .bf16) (k v k' v' : Vec Ideal S1x1x1x1x64x64 .bf16) (r x : Fin 64) (s u : Fin 512 → EReal)
    (hs : ∀ j, (∑ y : Fin 64, q (ix3 0 r y) * k (ix6 0 0 0 0 y j)) * Ideal.ofBits .f32 0x3E000000#32 = s (low j))
    (hu : ∀ j, v (ix6 0 0 0 0 x j) = u (low j))
    (hs' : ∀ j, (∑ y : Fin 64, q (ix3 0 r y) * k' (ix6 0 0 0 0 y j)) * Ideal.ofBits .f32 0x3E000000#32 = s (high j))
    (hu' : ∀ j, v' (ix6 0 0 0 0 x j) = u (high j)) :
    attn2 q k v k' v' (ix3 0 r x) = attend (Finset.univ.map low ∪ Finset.univ.map high) s u := by
  rw [attend_union _ _ low_ne_high]
  pointwise [attn2, k0_pay7, k0_pay8, k0_pay9, k0_pay10]
  simp only [hs, hu, hs', hu', ofBits_neg_inf]

variable (m : (ℓ : Loc nD τ sig) → Buf (Elt Ideal) ℓ)

/-- The queries at an index. -/
theorem Qb_apply (d : Dev nD) (b : Fin 2) (i : Fin 128) (e : Fin 256) :
    Qb m d (ix3 b i e) = ∑ k : Fin 512, Xa m d (ix3 b i k) * Wqa m d (ix2 k e) := by
  unfold Qb
  pointwise [k0_pay3, k0_pay2, xBlk]

variable {m} {X : (⟨3, ![2, 128, 512]⟩ : Shape).Idx → EReal} {WQ : (⟨2, ![512, 1024]⟩ : Shape).Idx → EReal}
  {K V : (⟨4, ![2, 512, 16, 64]⟩ : Shape).Idx → EReal} {WO : (⟨2, ![1024, 512]⟩ : Shape).Idx → EReal}

/-- Head `hh` of device `d` is head `4 d + hh` of all. -/
theorem qBlk_apply (H : Holds m X WQ K V WO) (d : Fin 4) (b qb : Fin 2) (hh : Fin 4) (r y : Fin 64) :
    qBlk (Qb m d) b qb hh (ix3 0 r y) = qv X WQ b ⟨64 * qb.val + r.val, by have := qb.isLt; have := r.isLt; omega⟩ ⟨4 * d.val + hh.val, by have := d.isLt; have := hh.isLt; omega⟩ y := by
  show Qb m d (ix3 b ⟨64 * qb.val + r.val, _⟩ ⟨64 * hh.val + y.val, _⟩) = _
  rw [Qb_apply]
  refine Finset.sum_congr rfl fun k _ => ?_
  rw [H.x, H.wq]
  exact congrArg (_ * ·) (congrArg WQ (congrArg (ix2 k) (Fin.ext (by show 256 * d.val + (64 * hh.val + y.val) = 64 * (4 * d.val + hh.val) + y.val; omega))))

/-- The keys of a head. -/
theorem kBlk_apply (H : Holds m X WQ K V WO) (d : Fin 4) (c b h kb : Fin 2) (y j : Fin 64) :
    kvBlk (KVb m d) 0 c b h kb (ix6 0 0 0 0 y j)
      = K (ix4 b ⟨64 * kb.val + j.val, by have := kb.isLt; have := j.isLt; omega⟩ ⟨4 * d.val + (2 * c.val + h.val), by have := d.isLt; have := c.isLt; have := h.isLt; omega⟩ y) := by
  show KTa m 0 (ix4 b ⟨(4 * d.val + 2 * c.val + h.val) % 16, _⟩ y ⟨64 * kb.val + j.val, _⟩) = _
  rw [H.k]
  exact congrArg K (congrArg (ix4 b _ · y) (Fin.ext (by show (4 * d.val + 2 * c.val + h.val) % 16 = 4 * d.val + (2 * c.val + h.val); have := d.isLt; have := c.isLt; have := h.isLt; omega)))

/-- The values of a head. -/
theorem vBlk_apply (H : Holds m X WQ K V WO) (d : Fin 4) (c b h kb : Fin 2) (y j : Fin 64) :
    kvBlk (KVb m d) 1 c b h kb (ix6 0 0 0 0 y j)
      = V (ix4 b ⟨64 * kb.val + j.val, by have := kb.isLt; have := j.isLt; omega⟩ ⟨4 * d.val + (2 * c.val + h.val), by have := d.isLt; have := c.isLt; have := h.isLt; omega⟩ y) := by
  show VTa m 0 (ix4 b ⟨(4 * d.val + 2 * c.val + h.val) % 16, _⟩ y ⟨64 * kb.val + j.val, _⟩) = _
  rw [H.v]
  exact congrArg V (congrArg (ix4 b _ · y) (Fin.ext (by show (4 * d.val + 2 * c.val + h.val) % 16 = 4 * d.val + (2 * c.val + h.val); have := d.isLt; have := c.isLt; have := h.isLt; omega)))

/-- One block of a head's attention. -/
theorem attn_apply (H : Holds m X WQ K V WO) (d : Fin 4) (b qb c h : Fin 2) (r x : Fin 64) :
    attn m d b qb c h (ix3 0 r x)
      = ctx X WQ K V b ⟨64 * qb.val + r.val, by have := qb.isLt; have := r.isLt; omega⟩ ⟨4 * d.val + (2 * c.val + h.val), by have := d.isLt; have := c.isLt; have := h.isLt; omega⟩ x := by
  have hs : ∀ kb j, (∑ y : Fin 64, qBlk (Qb m d) b qb ⟨2 * c.val + h.val, by have := c.isLt; have := h.isLt; omega⟩ (ix3 0 r y) * kvBlk (KVb m d) 0 c b h kb (ix6 0 0 0 0 y j)) * Ideal.ofBits .f32 0x3E000000#32
      = sc X WQ K b ⟨4 * d.val + (2 * c.val + h.val), by have := d.isLt; have := c.isLt; have := h.isLt; omega⟩ ⟨64 * qb.val + r.val, by have := qb.isLt; have := r.isLt; omega⟩
        ⟨64 * kb.val + j.val, by have := kb.isLt; have := j.isLt; omega⟩ := fun kb j =>
    congrArg (· * _) (Finset.sum_congr rfl fun y _ => by rw [qBlk_apply H, kBlk_apply H])
  have e0 : ∀ j : Fin 64, (⟨64 * (0 : Fin 2).val + j.val, by have := j.isLt; simp; omega⟩ : Fin 512) = low j := fun j => Fin.ext (by show 64 * 0 + j.val = j.val; omega)
  have e1 : ∀ j : Fin 64, (⟨64 * (1 : Fin 2).val + j.val, by have := j.isLt; simp; omega⟩ : Fin 512) = high j := fun j => Fin.ext (by show 64 * 1 + j.val = 64 + j.val; omega)
  have hr := r.isLt
  unfold attn ctx
  by_cases hq : qb.val = 0
  · rw [if_pos hq, vis_low _ (by show 64 * qb.val + r.val < 64; omega)]
    exact attn1_eq _ _ _ r x _ _ (fun j => by rw [hs 0 j, e0]) (fun j => by rw [vBlk_apply H, e0])
  · have h1 := qb.isLt
    rw [if_neg hq, vis_high _ (by show 64 ≤ 64 * qb.val + r.val; omega)]
    exact attn2_eq _ _ _ _ _ r x _ _ (fun j => by rw [hs 0 j, e0]) (fun j => by rw [vBlk_apply H, e0])
      (fun j => by rw [hs 1 j, e1]) (fun j => by rw [vBlk_apply H, e1])

/-- The attention of a device's heads. -/
theorem Ctxb_apply (H : Holds m X WQ K V WO) (d : Fin 4) (b : Fin 2) (i : Fin 128) (e : Fin 256) :
    Ctxb m d (ix3 b i e)
      = ctx X WQ K V b i ⟨4 * d.val + e.val / 64, by have := d.isLt; have := e.isLt; omega⟩ ⟨e.val % 64, Nat.mod_lt _ (by decide)⟩ := by
  have hi := i.isLt
  have he := e.isLt
  refine (attn_apply H d b ⟨i.val / 64 % 2, Nat.mod_lt _ (by decide)⟩ ⟨e.val / 128 % 2, Nat.mod_lt _ (by decide)⟩ ⟨e.val / 64 % 2, Nat.mod_lt _ (by decide)⟩ ⟨i.val % 64, Nat.mod_lt _ (by decide)⟩ ⟨e.val % 64, Nat.mod_lt _ (by decide)⟩).trans ?_
  refine congrArg₂ (fun a h => ctx X WQ K V b a h _) (Fin.ext ?_) (Fin.ext ?_)
  · show 64 * (i.val / 64 % 2) + i.val % 64 = i.val; omega
  · show 4 * d.val + (2 * (e.val / 128 % 2) + e.val / 64 % 2) = 4 * d.val + e.val / 64; omega

end Cert.KernelIdeal.Attn
end
-- ==== Proof.Math.Arrays.lean ====
/- The devices' arrays as parts of the whole arrays, and what the precondition says of the whole arrays. -/
module

public import proofs.«01_k».proof.Defs
public import proofs.«01_k».proof.Proof.Math.Heads
public import Idealize.ShloMosaic.Lib.ReduceAll
public import Idealize.ShloMosaic.Lib.LayoutAt

@[expose] public section

set_option maxRecDepth 16384

noncomputable section

namespace Cert.KernelIdeal.Attn

open Idealize.ShloMosaic Idealize.ShloMosaic.TcCoe Idealize.ShloMosaic.StableHlo Cert.Math
open Cert.KernelIdeal.Gen

section
variable {F : FTy → Type} [FloatOps F] (W : Valuation τ sig (Elt F))

/-- The keys, transposed and rounded. -/
theorem keys_eq : after hostOps0 W (main_v2 : DevRef τ sig)
    = (truncf .bf16 (transpose S2x16x64x128 [0, 2, 3, 1] (W (main_arg2 : DevRef τ sig)) transposes_S2x128x16x64_S2x16x64x128_0_2_3_1) bitsLt_bf16_f32 : FVec F S2x16x64x128 .bf16) := by
  unfold hostOps0
  after_results
/-- The values, transposed and rounded. -/
theorem values_eq : after hostOps0 W (main_v4 : DevRef τ sig)
    = (truncf .bf16 (transpose S2x16x64x128 [0, 2, 3, 1] (W (main_arg3 : DevRef τ sig)) transposes_S2x128x16x64_S2x16x64x128_0_2_3_1) bitsLt_bf16_f32 : FVec F S2x16x64x128 .bf16) := by
  unfold hostOps0
  after_results
end

/-- Device `c`'s columns of a weight. -/
theorem block_cols (T : (⟨2, ![512, 1024]⟩ : Shape).Idx → EReal) (c : Fin 4) (k : Fin 512) (e : Fin 256) :
    Layout.block ⟨2, ![512, 256]⟩ ⟨2, ![512, 1024]⟩ 1 4 c T (by decide) (ix2 k e) = T (ix2 k ⟨256 * c.val + e.val, by have := c.isLt; have := e.isLt; omega⟩) := by
  rw [Layout.block_apply]
  congr 1; funext a; apply Fin.ext; rw [Layout.Tiles.idx_val]
  fin_cases a
  · rfl
  · exact congrArg (· + e.val) (Nat.mul_comm c.val 256)

/-- Device `c`'s rows of a weight. -/
theorem block_rows (T : (⟨2, ![1024, 512]⟩ : Shape).Idx → EReal) (c : Fin 4) (k : Fin 256) (e : Fin 512) :
    Layout.block ⟨2, ![256, 512]⟩ ⟨2, ![1024, 512]⟩ 0 4 c T (by decide) (ix2 k e) = T (ix2 ⟨256 * c.val + k.val, by have := c.isLt; have := k.isLt; omega⟩ e) := by
  rw [Layout.block_apply]
  congr 1; funext a; apply Fin.ext; rw [Layout.Tiles.idx_val]
  fin_cases a
  · exact congrArg (· + k.val) (Nat.mul_comm c.val 256)
  · rfl

/-- Device `c`'s positions of the keys or values. -/
theorem block_keys (T : (⟨4, ![2, 512, 16, 64]⟩ : Shape).Idx → EReal) (c : Fin 4) (b : Fin 2) (j : Fin 128) (h : Fin 16) (x : Fin 64) :
    Layout.block ⟨4, ![2, 128, 16, 64]⟩ ⟨4, ![2, 512, 16, 64]⟩ 1 4 c T (by decide) (ix4 b j h x) = T (ix4 b ⟨128 * c.val + j.val, by have := c.isLt; have := j.isLt; omega⟩ h x) := by
  rw [Layout.block_apply]
  congr 1; funext a; apply Fin.ext; rw [Layout.Tiles.idx_val]
  fin_cases a
  · rfl
  · exact congrArg (· + j.val) (Nat.mul_comm c.val 128)
  · rfl
  · rfl

variable {m : (ℓ : Loc nD τ sig) → Buf (Elt Ideal) ℓ} {X : (⟨3, ![2, 128, 512]⟩ : Shape).Idx → EReal} {WQ : (⟨2, ![512, 1024]⟩ : Shape).Idx → EReal}
  {K V : (⟨4, ![2, 512, 16, 64]⟩ : Shape).Idx → EReal} {WO : (⟨2, ![1024, 512]⟩ : Shape).Idx → EReal}

/-- The devices' argument arrays are their parts of the whole arrays. -/
structure Parts (m : (ℓ : Loc nD τ sig) → Buf (Elt Ideal) ℓ)
    (X : (⟨3, ![2, 128, 512]⟩ : Shape).Idx → EReal) (WQ : (⟨2, ![512, 1024]⟩ : Shape).Idx → EReal)
    (K V : (⟨4, ![2, 512, 16, 64]⟩ : Shape).Idx → EReal) (WO : (⟨2, ![1024, 512]⟩ : Shape).Idx → EReal) : Prop where
  x : ∀ c : Dev nD, m ((c.tc : Thread nD τ).loc main_arg0) = X
  wq : ∀ c : Dev nD, m ((c.tc : Thread nD τ).loc main_arg1) = Layout.block ⟨2, ![512, 256]⟩ ⟨2, ![512, 1024]⟩ 1 4 c WQ
  k : ∀ c : Dev nD, m ((c.tc : Thread nD τ).loc main_arg2) = Layout.block ⟨4, ![2, 128, 16, 64]⟩ ⟨4, ![2, 512, 16, 64]⟩ 1 4 c K
  v : ∀ c : Dev nD, m ((c.tc : Thread nD τ).loc main_arg3) = Layout.block ⟨4, ![2, 128, 16, 64]⟩ ⟨4, ![2, 512, 16, 64]⟩ 1 4 c V
  wo : ∀ c : Dev nD, m ((c.tc : Thread nD τ).loc main_arg4) = Layout.block ⟨2, ![256, 512]⟩ ⟨2, ![1024, 512]⟩ 0 4 c WO

/-- A transposed block, read at an index. -/
theorem transposed_apply (f : FVec Ideal S2x128x16x64 .f32) (b : Fin 2) (h : Fin 16) (x : Fin 64) (j : Fin 128) :
    (truncf .bf16 (transpose S2x16x64x128 [0, 2, 3, 1] f transposes_S2x128x16x64_S2x16x64x128_0_2_3_1) bitsLt_bf16_f32 : FVec Ideal S2x16x64x128 .bf16) (ix4 b h x j)
      = f (ix4 b j h x) := by
  pointwise

/-- So the region finds its arrays as parts of the whole arrays. -/
theorem Parts.holds (P : Parts m X WQ K V WO) : Holds m X WQ K V WO where
  x d b i k := (congrFun (V_main_arg0 m d) (ix3 b i k)).trans (congrFun (P.x d) (ix3 b i k))
  wq d k e := ((congrFun (V_main_arg1 m d) (ix2 k e)).trans (congrFun (P.wq d) (ix2 k e))).trans (block_cols WQ d k e)
  k b h x j := ((congrFun (keys_eq fun b => m ((0 : Dev nD), b)) (ix4 b h x j)).trans (transposed_apply _ b h x j)).trans
    (((congrFun (P.k 0) (ix4 b j h x)).trans (block_keys K 0 b j h x)).trans
      (congrArg K (congrArg (ix4 b · h x) (Fin.ext (by show 128 * 0 + j.val = j.val; omega)))))
  v b h x j := ((congrFun (values_eq fun b => m ((0 : Dev nD), b)) (ix4 b h x j)).trans (transposed_apply _ b h x j)).trans
    (((congrFun (P.v 0) (ix4 b j h x)).trans (block_keys V 0 b j h x)).trans
      (congrArg V (congrArg (ix4 b · h x) (Fin.ext (by show 128 * 0 + j.val = j.val; omega)))))
  wo d k e := ((congrFun (V_main_arg4 m d) (ix2 k e)).trans (congrFun (P.wo d) (ix2 k e))).trans (block_rows WO d k e)

/-- Two bits whose conjunction is one are one. -/
theorem and_one : ∀ a b : BitVec 1, IntOp.andi a b = 1#1 → a = 1#1 ∧ b = 1#1 := by decide

/-- There is one index of rank zero. -/
instance : Subsingleton Cert.Pre_finite_KernelIdeal.S_.Idx := ⟨fun a b => funext fun i => i.elim0⟩

/-- The precondition on one device: its input, query weight and keys are real numbers. -/
theorem finite_real [Cert.Pre_finite_KernelIdeal.Facts] (x : FVec Ideal S2x128x512 .f32) (wq : FVec Ideal S512x256 .f32) (k v : FVec Ideal S2x128x16x64 .f32) (wo : FVec Ideal S256x512 .f32)
    (h : Cert.Pre_finite_KernelIdeal.fn x wq k v wo = fun _ => 1#1) : (∀ i, IsReal (x i)) ∧ (∀ i, IsReal (wq i)) ∧ ∀ i, IsReal (k i) := by
  have h0 := congrFun h ix0
  unfold Cert.Pre_finite_KernelIdeal.fn at h0
  obtain ⟨h1, hk⟩ := and_one _ _ h0
  obtain ⟨hx, hw⟩ := and_one _ _ h1
  refine ⟨fun i => isReal_of_abs_lt ?_, fun i => isReal_of_abs_lt ?_, fun i => isReal_of_abs_lt ?_⟩
  · have e := Host.reduce_andi_all _ _ _ _ _ hx i
    rw [← ofBits_pos_inf]; exact e
  · have e := Host.reduce_andi_all _ _ _ _ _ hw i
    rw [← ofBits_pos_inf]; exact e
  · have e := Host.reduce_andi_all _ _ _ _ _ hk i
    rw [← ofBits_pos_inf]; exact e

/-- The precondition on all devices: the whole input, query weight and keys are real numbers. -/
theorem Parts.real [Cert.Pre_finite_KernelIdeal.Facts] (P : Parts m X WQ K V WO) (h : Cert.Pre_KernelIdeal_finite_KernelIdeal m) :
    (∀ i, IsReal (X i)) ∧ (∀ i, IsReal (WQ i)) ∧ ∀ i, IsReal (K i) := by
  refine ⟨fun i => ?_, fun i => ?_, fun i => ?_⟩
  · have e := (finite_real _ _ _ _ _ (h 0)).1 i
    rw [P.x 0] at e; exact e
  · obtain ⟨k, e, rfl⟩ : ∃ (k : Fin 512) (e : Fin 1024), i = ix2 k e := ⟨i 0, i 1, eq_ix2 i⟩
    have he := e.isLt
    have r := (finite_real _ _ _ _ _ (h (⟨e.val / 256, by omega⟩ : Fin 4))).2.1 (ix2 k ⟨e.val % 256, Nat.mod_lt _ (by decide)⟩)
    rw [P.wq] at r
    rw [block_cols] at r
    have e' : (⟨256 * (e.val / 256) + e.val % 256, by omega⟩ : Fin 1024) = e := Fin.ext (by show 256 * (e.val / 256) + e.val % 256 = e.val; omega)
    rw [e'] at r; exact r
  · obtain ⟨b, j, h', x, rfl⟩ : ∃ (b : Fin 2) (j : Fin 512) (h' : Fin 16) (x : Fin 64), i = ix4 b j h' x := ⟨i 0, i 1, i 2, i 3, eq_ix4 i⟩
    have hj := j.isLt
    have r := (finite_real _ _ _ _ _ (h (⟨j.val / 128, by omega⟩ : Fin 4))).2.2 (ix4 b ⟨j.val % 128, Nat.mod_lt _ (by decide)⟩ h' x)
    rw [P.k] at r
    rw [block_keys] at r
    have e' : (⟨128 * (j.val / 128) + j.val % 128, by omega⟩ : Fin 512) = j := Fin.ext (by show 128 * (j.val / 128) + j.val % 128 = j.val; omega)
    rw [e'] at r; exact r

end Cert.KernelIdeal.Attn
end
-- ==== Proof.Math.Devices.lean ====
/- What the devices of the kernel end with: the sum of all their contributions. -/
module

public import proofs.«01_k».proof.Proof.Math.Heads

@[expose] public section

set_option maxRecDepth 16384

noncomputable section

namespace Cert.KernelIdeal.Attn

open Idealize.ShloMosaic Cert.Math
open Cert.KernelIdeal.Gen

/-- The product of a block of rows with the output weights. -/
theorem pay80_apply (x : Vec Ideal S1x64x256 .f32) (w : Vec Ideal S256x512 .f32) (r : Fin 64) (e : Fin 512) :
    k0_pay80 (F := Ideal) x w (ix3 0 r e) = ∑ k : Fin 256, x (ix3 0 r k) * w (ix2 k e) := by
  pointwise [k0_pay80, k0_pay79]

/-- The same product, as it is sent. -/
theorem pay82_apply (x : Vec Ideal S1x64x256 .f32) (w : Vec Ideal S256x512 .f32) (r : Fin 64) (e : Fin 512) :
    k0_pay82 (F := Ideal) (k0_pay81 x w) (ix4 0 0 r e) = ∑ k : Fin 256, x (ix3 0 r k) * w (ix2 k e) := by
  pointwise [k0_pay82, k0_pay81, k0_pay79]

/-- A received chunk is added. -/
theorem pay93_apply (x : Vec Ideal S1x64x512 .f32) (w : Vec Ideal S1x1x64x512 .bf16) (r : Fin 64) (e : Fin 512) :
    k0_pay93 (F := Ideal) x w (ix3 0 r e) = x (ix3 0 r e) + w (ix4 0 0 r e) := by
  pointwise [k0_pay93, k0_pay92]

/-- The sum, as it is sent on. -/
theorem pay94_apply (x : Vec Ideal S1x64x512 .f32) (w : Vec Ideal S1x1x64x512 .bf16) (r : Fin 64) (e : Fin 512) :
    k0_pay94 (F := Ideal) x w (ix4 0 0 r e) = x (ix3 0 r e) + w (ix4 0 0 r e) := by
  pointwise [k0_pay94, k0_pay92]

/-- The chunk of the second exchange is added. -/
theorem pay104_apply (x : Vec Ideal S1x64x512 .f32) (w : Vec Ideal S1x1x64x512 .bf16) (r : Fin 64) (e : Fin 512) :
    k0_pay104 (F := Ideal) x w (ix3 0 r e) = x (ix3 0 r e) + w (ix4 0 0 r e) := by
  pointwise [k0_pay104]

variable {m : (ℓ : Loc nD τ sig) → Buf (Elt Ideal) ℓ} {X : (⟨3, ![2, 128, 512]⟩ : Shape).Idx → EReal} {WQ : (⟨2, ![512, 1024]⟩ : Shape).Idx → EReal}
  {K V : (⟨4, ![2, 512, 16, 64]⟩ : Shape).Idx → EReal} {WO : (⟨2, ![1024, 512]⟩ : Shape).Idx → EReal}

/-- Row `r` of block `qb`. -/
def row (qb : Fin 2) (r : Fin 64) : Fin 128 := ⟨64 * qb.val + r.val, by have := qb.isLt; have := r.isLt; omega⟩

/-- Every row is a row of its block. -/
theorem row_eq (i : Fin 128) : row ⟨i.val / 64 % 2, Nat.mod_lt _ (by decide)⟩ ⟨i.val % 64, Nat.mod_lt _ (by decide)⟩ = i :=
  Fin.ext (by have := i.isLt; show 64 * (i.val / 64 % 2) + i.val % 64 = i.val; omega)

/-- An array given by its blocks, read at a row. -/
theorem outOf_apply (p : Fin 2 → Fin 2 → FVec Ideal S1x64x512 .f32) (f : Fin 2 → Fin 128 → Fin 512 → EReal)
    (h : ∀ b qb r e, p b qb (ix3 0 r e) = f b (row qb r) e) (b : Fin 2) (i : Fin 128) (e : Fin 512) : outOf p (ix3 b i e) = f b i e :=
  (h b _ _ e).trans (congrArg (f b · e) (row_eq i))

/-- The product of the heads' attention with the output weights is the device's contribution. -/
theorem contribution (H : Holds m X WQ K V WO) (d : Fin 4) (b qb : Fin 2) (r : Fin 64) (e : Fin 512) :
    ∑ k : Fin 256, ctxRow (Ctxb m d) b qb (ix3 0 r k) * Woa m d (ix2 k e) = part X WQ K V WO d b (row qb r) e :=
  Finset.sum_congr rfl fun k _ => by rw [H.wo]; exact congrArg (· * _) (Ctxb_apply H d b (row qb r) k)

/-- A device's own contribution. -/
theorem Ob_apply (H : Holds m X WQ K V WO) (d : Fin 4) (b : Fin 2) (i : Fin 128) (e : Fin 512) : Ob m d (ix3 b i e) = part X WQ K V WO d b i e :=
  outOf_apply _ (part X WQ K V WO d) (fun b qb r e => (pay80_apply _ _ r e).trans (contribution H d b qb r e)) b i e

/-- What it sends in the first exchange. -/
theorem SC0_apply (H : Holds m X WQ K V WO) (d : Fin 4) (b qb : Fin 2) (r : Fin 64) (e : Fin 512) :
    SC0 m d b qb (ix4 0 0 r e) = part X WQ K V WO d b (row qb r) e :=
  (pay82_apply _ _ r e).trans (contribution H d b qb r e)

/-- Its sum after the first exchange. -/
theorem O1b_apply (H : Holds m X WQ K V WO) (d : Fin 4) (b : Fin 2) (i : Fin 128) (e : Fin 512) :
    O1b m d (ix3 b i e) = part X WQ K V WO d b i e + part X WQ K V WO (pa d) b i e :=
  outOf_apply _ (fun b i e => part X WQ K V WO d b i e + part X WQ K V WO (pa d) b i e)
    (fun b qb r e => (pay93_apply _ _ r e).trans (congrArg₂ (· + ·) (Ob_apply H d b (row qb r) e) (SC0_apply H (pa d) b qb r e))) b i e

/-- What it sends in the second exchange. -/
theorem SC1_apply (H : Holds m X WQ K V WO) (d : Fin 4) (b qb : Fin 2) (r : Fin 64) (e : Fin 512) :
    SC1 m d b qb (ix4 0 0 r e) = part X WQ K V WO d b (row qb r) e + part X WQ K V WO (pa d) b (row qb r) e :=
  (pay94_apply _ _ r e).trans (congrArg₂ (· + ·) (Ob_apply H d b (row qb r) e) (SC0_apply H (pa d) b qb r e))

/-- Its result. -/
theorem O2b_parts (H : Holds m X WQ K V WO) (d : Fin 4) (b : Fin 2) (i : Fin 128) (e : Fin 512) :
    O2b m d (ix3 b i e) = (part X WQ K V WO d b i e + part X WQ K V WO (pa d) b i e) + (part X WQ K V WO (pb d) b i e + part X WQ K V WO (pa (pb d)) b i e) :=
  outOf_apply _ (fun b i e => (part X WQ K V WO d b i e + part X WQ K V WO (pa d) b i e) + (part X WQ K V WO (pb d) b i e + part X WQ K V WO (pa (pb d)) b i e))
    (fun b qb r e => (pay104_apply _ _ r e).trans (congrArg₂ (· + ·) (O1b_apply H d b (row qb r) e) (SC1_apply H (pb d) b qb r e))) b i e

/-- Every device's partners, and theirs, are all four devices. -/
theorem sum_partners (f : Fin 4 → EReal) (d : Fin 4) : (f d + f (pa d)) + (f (pb d) + f (pa (pb d))) = ∑ c : Fin 4, f c := by
  rw [Fin.sum_univ_four]
  fin_cases d
  · show (f 0 + f 1) + (f 3 + f 2) = _; ac_rfl
  · show (f 1 + f 0) + (f 2 + f 3) = _; ac_rfl
  · show (f 2 + f 3) + (f 1 + f 0) = _; ac_rfl
  · show (f 3 + f 2) + (f 0 + f 1) = _; ac_rfl

/-- Every device ends with the whole result. -/
theorem O2b_apply (H : Holds m X WQ K V WO) (d : Fin 4) (b : Fin 2) (i : Fin 128) (e : Fin 512) : O2b m d (ix3 b i e) = res X WQ K V WO b i e := by
  rw [O2b_parts H, res_eq_parts]
  exact sum_partners (fun c => part X WQ K V WO c b i e) d

end Cert.KernelIdeal.Attn
end
-- ==== Proof.Math.Reference.lean ====
/- The reference's result at an index. -/
module

public import proofs.«01_k».proof.Proof.ReferenceIdeal.Run
public import proofs.«01_k».proof.Proof.Math.Spec

@[expose] public section

set_option maxRecDepth 16384

noncomputable section

namespace Cert.ReferenceIdeal.Attn

open Cert.ReferenceIdeal Cert.ReferenceIdeal.Gen
open Idealize.ShloMosaic Cert.Math

/-- The rows' block numbers. -/
theorem fdiv_128 : ∀ i : Fin 128, fdiv bcast_S_S128 (iotaInDim S128 32 0) (constantI S_ 32 64#32) (ix1 i) = BitVec.ofNat 32 (i.val / 64) := by decide +kernel
/-- The keys' block numbers. -/
theorem fdiv_512 : ∀ j : Fin 512, fdiv bcast_S_S512 (iotaInDim S512 32 0) (constantI S_ 32 64#32) (ix1 j) = BitVec.ofNat 32 (j.val / 64) := by decide +kernel
/-- Block numbers compare as the numbers they hold. -/
theorem sle_blocks : ∀ (i : Fin 2) (j : Fin 8), IntOp.cmpi .sle (BitVec.ofNat 32 j.val) (BitVec.ofNat 32 i.val) = BitVec.ofBool (decide (j.val ≤ i.val)) := by decide +kernel

/-- A key is seen by the rows whose block is not before its own. -/
theorem mask_apply (i : Fin 128) (j : Fin 512) : mask (ix2 i j) = BitVec.ofBool (decide (j.val / 64 ≤ i.val / 64)) := by
  unfold mask
  pointwise
  rw [fdiv_128, fdiv_512]
  exact sle_blocks ⟨i.val / 64, by have := i.isLt; omega⟩ ⟨j.val / 64, by have := j.isLt; omega⟩

/-- Every row sees a key. -/
theorem keep_apply (i : Fin 128) : keep (ix1 i) = 1#1 := by
  unfold keep
  pointwise
  have h : (Finset.univ : Finset (Fin 512)) = insert 0 (Finset.univ.erase 0) := (Finset.insert_erase (Finset.mem_univ _)).symm
  rw [h, Finset.fold_insert (Finset.notMem_erase _ _), mask_apply]
  generalize Finset.fold IntOp.ori (0#1) (fun x => mask (ix2 i x)) (Finset.univ.erase 0) = y
  have h0 : decide ((0 : Fin 512).val / 64 ≤ i.val / 64) = true := by simp
  rw [h0]
  revert y; decide

/-- The queries at an index. -/
theorem queries_apply (x : FVec Ideal S2x128x512 .f32) (wq : FVec Ideal S512x1024 .f32) (b : Fin 2) (i : Fin 128) (h : Fin 16) (d : Fin 64) :
    queries x wq (ix4 b i h d) = qv x wq b i h d := by
  unfold queries qv
  pointwise
  exact Finset.sum_congr rfl fun k _ => congrArg (x (ix3 b i k) * ·) (congrArg wq (congrArg (ix2 k) (Fin.ext (by show h.val * 64 + d.val = 64 * h.val + d.val; omega))))

/-- The masked scores at an index. -/
theorem scores_apply (x : FVec Ideal S2x128x512 .f32) (wq : FVec Ideal S512x1024 .f32) (k : FVec Ideal S2x512x16x64 .f32) (b : Fin 2) (h : Fin 16) (i : Fin 128) (j : Fin 512) :
    scores (queries x wq) k (ix4 b h i j) = if j ∈ vis i then sc x wq k b h i j else ⊥ := by
  unfold scores
  generalize hq : queries x wq = q
  pointwise
  subst hq
  rw [mask_apply, ofBits_neg_inf]
  by_cases hj : j.val / 64 ≤ i.val / 64
  · rw [if_pos (mem_vis.mpr hj), decide_eq_true hj]
    show _ * _ = _
    unfold sc
    rw [Finset.sum_congr rfl fun d _ => by rw [queries_apply]]
  · rw [if_neg (mt mem_vis.mp hj), decide_eq_false hj]
    rfl

/-- The exponentials at an index. -/
theorem expo_apply (s : FVec Ideal S2x16x128x512 .f32) (b : Fin 2) (h : Fin 16) (i : Fin 128) (j : Fin 512) :
    expo s (ix4 b h i j) = Ideal.exp (s (ix4 b h i j) - Finset.univ.sup fun j => s (ix4 b h i j)) := by
  unfold expo
  pointwise
  rw [ofBits_neg_inf]
  rfl

/-- The weights at an index. -/
theorem weights_apply (w : FVec Ideal S2x16x128x512 .f32) (b : Fin 2) (h : Fin 16) (i : Fin 128) (j : Fin 512) :
    weights w (ix4 b h i j) = Ideal.div (w (ix4 b h i j)) (∑ j, w (ix4 b h i j)) := by
  unfold weights rowSum
  pointwise
  rw [keep_apply]
  rfl

/-- The attention at an index. -/
theorem context_apply (x : FVec Ideal S2x128x512 .f32) (wq : FVec Ideal S512x1024 .f32) (k v : FVec Ideal S2x512x16x64 .f32)
    (hX : ∀ i, IsReal (x i)) (hW : ∀ i, IsReal (wq i)) (hK : ∀ i, IsReal (k i)) (b : Fin 2) (i : Fin 128) (e : Fin 1024) :
    context (weights (expo (scores (queries x wq) k))) v (ix3 b i e)
      = ctx x wq k v b i ⟨e.val / 64, by have := e.isLt; omega⟩ ⟨e.val % 64, Nat.mod_lt _ (by decide)⟩ := by
  unfold context
  generalize hs : scores (queries x wq) k = s
  generalize hw : weights (expo s) = w
  pointwise
  subst hw
  rw [Finset.sum_congr rfl fun j _ => by rw [weights_apply, expo_apply, Finset.sum_congr rfl fun j _ => expo_apply s b _ i j]]
  subst hs
  exact attend_masked (vis i) (vis_nonempty i) (sc x wq k b ⟨e.val / 64, by have := e.isLt; omega⟩ i) (fun j => scores (queries x wq) k (ix4 b ⟨e.val / 64, by have := e.isLt; omega⟩ i j)) _
    (fun j _ => sc_isReal x wq k hX hW hK b _ i j) (fun j hj => by rw [scores_apply, if_pos hj]) (fun j hj => by rw [scores_apply, if_neg hj])

/-- The result at an index. -/
theorem out_apply (x : FVec Ideal S2x128x512 .f32) (wq : FVec Ideal S512x1024 .f32) (k v : FVec Ideal S2x512x16x64 .f32) (wo : FVec Ideal S1024x512 .f32)
    (hX : ∀ i, IsReal (x i)) (hW : ∀ i, IsReal (wq i)) (hK : ∀ i, IsReal (k i)) (b : Fin 2) (i : Fin 128) (e : Fin 512) :
    out x wq k v wo (ix3 b i e) = res x wq k v wo b i e := by
  unfold out res
  generalize hy : context (weights (expo (scores (queries x wq) k))) v = y
  pointwise
  subst hy
  exact Finset.sum_congr rfl fun c _ => by rw [context_apply x wq k v hX hW hK]

end Cert.ReferenceIdeal.Attn
end
-- ==== Proof.Math.Equation.lean ====
/- The equation: every device of the kernel ends with the reference's result. -/
module

public import proofs.«01_k».proof.Proof.Math.Arrays
public import proofs.«01_k».proof.Proof.Math.Devices
public import proofs.«01_k».proof.Proof.Math.Reference

@[expose] public section

noncomputable section

namespace Cert.Math

open Idealize.ShloMosaic
open Cert.KernelIdeal.Attn (Parts O2b O2b_apply)

variable {m : (ℓ : Loc Cert.KernelIdeal.nD Cert.KernelIdeal.τ Cert.KernelIdeal.sig) → Buf (Elt Ideal) ℓ}
  {X : (⟨3, ![2, 128, 512]⟩ : Shape).Idx → EReal} {WQ : (⟨2, ![512, 1024]⟩ : Shape).Idx → EReal}
  {K V : (⟨4, ![2, 512, 16, 64]⟩ : Shape).Idx → EReal} {WO : (⟨2, ![1024, 512]⟩ : Shape).Idx → EReal}

/-- Every device of the kernel ends with the reference's result. -/
theorem result_eq [Cert.Pre_finite_KernelIdeal.Facts] (P : Parts m X WQ K V WO) (h : Cert.Pre_KernelIdeal_finite_KernelIdeal m) (c : Fin 4) :
    O2b m c = Cert.ReferenceIdeal.Attn.out (F := Ideal) X WQ K V WO := by
  obtain ⟨hX, hW, hK⟩ := P.real h
  funext j
  idx_vars j
  rw [O2b_apply P.holds, Cert.ReferenceIdeal.Attn.out_apply X WQ K V WO hX hW hK]

end Cert.Math
end
-- ==== Proof.lean ====
/- The claims, assembled from the runs. -/
module

public import proofs.«01_k».proof.Defs
public import proofs.«01_k».proof.Proof.KernelIdeal.Launch
public import proofs.«01_k».proof.Proof.KernelIdeal.Kernel
public import proofs.«01_k».proof.Proof.ReferenceIdeal.Run
public import proofs.«01_k».proof.Proof.Math.Equation

@[expose] public section

noncomputable section

namespace Cert.Proof

open Idealize.ShloMosaic Idealize.SL.Sem

/-- The kernel runs, its arguments end as they were, its counters at zero. -/
theorem frame_kernel : Cert.quiescent_Kernel := fun m g _ =>
  (θ_run Cert.Kernel.defs _ _).mono (fun _ h => ⟨fun c => (h.1 c).2, h.2⟩) (Cert.Kernel.Attn.run_main m g)

/-- So does the idealized kernel. -/
theorem frame_kernelIdeal : Cert.quiescent_KernelIdeal := fun m g _ =>
  (θ_run Cert.KernelIdeal.defs _ _).mono (fun _ h => ⟨fun c => (h.1 c).2, h.2⟩) (Cert.KernelIdeal.Attn.run_main m g)

/-- So does the reference. -/
theorem frame_referenceIdeal : Cert.quiescent_ReferenceIdeal := fun m g _ =>
  (θ_run Cert.ReferenceIdeal.defs _ _).mono (fun _ h => ⟨fun c => (h.1 c).2, h.2⟩) (Cert.ReferenceIdeal.Attn.run_main m g)

/-- The idealized kernel on finite inputs: a case of all inputs. -/
theorem frame_kernelIdeal_finite [h : Cert.Pre_finite_KernelIdeal.Facts] : Cert.quiescent_KernelIdeal_pre_finite_KernelIdeal := fun m g _ =>
  frame_kernelIdeal m g trivial

/-- The reference on finite inputs: a case of all inputs. -/
theorem frame_referenceIdeal_finite [h : Cert.Pre_finite_ReferenceIdeal.Facts] : Cert.quiescent_ReferenceIdeal_pre_finite_ReferenceIdeal := fun m g _ =>
  frame_referenceIdeal m g trivial

/-- Both run, and every device of the idealized kernel ends with the reference's result. -/
theorem algebraic [h : Cert.Pre_finite_KernelIdeal.Facts] : Cert.algebraic_KernelIdeal_ReferenceIdeal_pre_finite_KernelIdeal := fun m g m' g' hpre hargs =>
  have P : Cert.KernelIdeal.Attn.Parts m _ _ _ _ _ :=
    { x := fun c => (hargs c).1, wq := fun c => (hargs c).2.1, k := fun c => (hargs c).2.2.1, v := fun c => (hargs c).2.2.2.1, wo := fun c => (hargs c).2.2.2.2 }
  ⟨_, (θ_run Cert.KernelIdeal.defs _ _).mono (fun _ h c => ⟨(h.1 c).1.trans (Cert.Math.result_eq P hpre c), (h.1 c).2⟩) (Cert.KernelIdeal.Attn.run_main m g),
    (θ_run Cert.ReferenceIdeal.defs _ _).mono (fun _ h => h.1 0) (Cert.ReferenceIdeal.Attn.run_main m' g')⟩

/-- The shapes of the precondition's operations fit, at one device's arrays, -/
theorem facts_device : Cert.Pre_finite_KernelIdeal.Facts := by constructor <;> decide
/-- and at the whole arrays. -/
theorem facts_whole : Cert.Pre_finite_ReferenceIdeal.Facts := by constructor <;> decide

/-- Everything claimed. -/
theorem claim : Cert.Claim :=
  ⟨Cert.Kernel.Gen.facts, Cert.KernelIdeal.Gen.facts, Cert.ReferenceIdeal.Gen.facts, facts_device, facts_whole,
    frame_kernel, frame_kernelIdeal, frame_kernelIdeal_finite (h := facts_device), frame_referenceIdeal, frame_referenceIdeal_finite (h := facts_whole), trivial, algebraic (h := facts_device)⟩

end Cert.Proof

end
